-- ==== Defs.lean ====
def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel4_Kernel4Ideal : Prop :=
  IdealRules.named_const.Statement Cert.Kernel4Ideal.κ "mask" .f32 0xF149F2CA#32 ⊥
  ∧ IdealRules.named_const.Statement Cert.Kernel4Ideal.κ "per_log_two" .f32 0x3FB8AA3B#32 (((Real.log 2)⁻¹ : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v76)) (v1 : (c : Dev Cert.Kernel2Ideal.nD) → Buf (Elt Ideal) ((c.tc : Thread Cert.Kernel2Ideal.nD Cert.Kernel2Ideal.τ).loc Cert.Kernel2Ideal.main_v79)) (v2 : (c : Dev Cert.Kernel2Ideal.nD) → Buf (Elt Ideal) ((c.tc : Thread Cert.Kernel2Ideal.nD Cert.Kernel2Ideal.τ).loc Cert.Kernel2Ideal.main_v74_2)) (v3 : (c : Dev Cert.Kernel2Ideal.nD) → Buf (Elt Ideal) ((c.tc : Thread Cert.Kernel2Ideal.nD Cert.Kernel2Ideal.τ).loc Cert.Kernel2Ideal.main_v82)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v76) = v0 c
          ∧ r.2.mem ((c.tc : Thread Cert.Kernel2Ideal.nD Cert.Kernel2Ideal.τ).loc Cert.Kernel2Ideal.main_v79) = v1 c
          ∧ r.2.mem ((c.tc : Thread Cert.Kernel2Ideal.nD Cert.Kernel2Ideal.τ).loc Cert.Kernel2Ideal.main_v74_2) = v2 c
          ∧ r.2.mem ((c.tc : Thread Cert.Kernel2Ideal.nD Cert.Kernel2Ideal.τ).loc Cert.Kernel2Ideal.main_v82) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_v86) = v1 c
          ∧ r.2.mem ((c.tc : Thread Cert.Reference2Ideal.nD Cert.Reference2Ideal.τ).loc Cert.Reference2Ideal.main_v89) = v2 c
          ∧ r.2.mem ((c.tc : Thread Cert.Reference2Ideal.nD Cert.Reference2Ideal.τ).loc Cert.Reference2Ideal.main_v78) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)) (v4 : (c : Dev Cert.Kernel3Ideal.nD) → Buf (Elt Ideal) ((c.tc : Thread Cert.Kernel3Ideal.nD Cert.Kernel3Ideal.τ).loc Cert.Kernel3Ideal.main_v3_4)) (v5 : (c : Dev Cert.Kernel3Ideal.nD) → Buf (Elt Ideal) ((c.tc : Thread Cert.Kernel3Ideal.nD Cert.Kernel3Ideal.τ).loc Cert.Kernel3Ideal.main_v3_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_v3_4) = v4 c
          ∧ r.2.mem ((c.tc : Thread Cert.Kernel3Ideal.nD Cert.Kernel3Ideal.τ).loc Cert.Kernel3Ideal.main_v3_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_v68) = v2 c
          ∧ r.2.mem ((c.tc : Thread Cert.Reference3Ideal.nD Cert.Reference3Ideal.τ).loc Cert.Reference3Ideal.main_v69) = v3 c
          ∧ r.2.mem ((c.tc : Thread Cert.Reference3Ideal.nD Cert.Reference3Ideal.τ).loc Cert.Reference3Ideal.main_v62) = v4 c
          ∧ r.2.mem ((c.tc : Thread Cert.Reference3Ideal.nD Cert.Reference3Ideal.τ).loc Cert.Reference3Ideal.main_v70) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)) (v4 : (c : Dev Cert.Kernel5Ideal.nD) → Buf (Elt Ideal) ((c.tc : Thread Cert.Kernel5Ideal.nD Cert.Kernel5Ideal.τ).loc Cert.Kernel5Ideal.main_v5_4)) (v5 : (c : Dev Cert.Kernel5Ideal.nD) → Buf (Elt Ideal) ((c.tc : Thread Cert.Kernel5Ideal.nD Cert.Kernel5Ideal.τ).loc Cert.Kernel5Ideal.main_v5_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_v5_4) = v4 c
          ∧ r.2.mem ((c.tc : Thread Cert.Kernel5Ideal.nD Cert.Kernel5Ideal.τ).loc Cert.Kernel5Ideal.main_v5_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_v69) = v1 c
          ∧ r.2.mem ((c.tc : Thread Cert.Reference5Ideal.nD Cert.Reference5Ideal.τ).loc Cert.Reference5Ideal.main_v71) = v2 c
          ∧ r.2.mem ((c.tc : Thread Cert.Reference5Ideal.nD Cert.Reference5Ideal.τ).loc Cert.Reference5Ideal.main_v72) = v3 c
          ∧ r.2.mem ((c.tc : Thread Cert.Reference5Ideal.nD Cert.Reference5Ideal.τ).loc Cert.Reference5Ideal.main_v73) = v4 c
          ∧ r.2.mem ((c.tc : Thread Cert.Reference5Ideal.nD Cert.Reference5Ideal.τ).loc Cert.Reference5Ideal.main_v66) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v10)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v10) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_v13) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel : Cert.Kernel.Facts) (hKernelIdeal : Cert.KernelIdeal.Facts) (hReferenceIdeal : Cert.ReferenceIdeal.Facts) (hPre_finite4 : Cert.Pre_finite4.Facts) (hPre_finite2 : Cert.Pre_finite2.Facts) (hPre_finite3 : Cert.Pre_finite3.Facts) (hPre_finite5 : Cert.Pre_finite5.Facts) (hPre_finite : Cert.Pre_finite.Facts),
    quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x2048 : Shape := ⟨2, ![8192, 2048]⟩
abbrev S1x8192x2048 : Shape := ⟨3, ![1, 8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x8192x2048 : S_.BroadcastsInDim S1x8192x2048 (![] : Fin 0 → Fin S1x8192x2048.rank)
  reducesTo_S1x8192x2048_S_d0_1_2 : S1x8192x2048.ReducesTo [0, 1, 2] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S8192x2048 .f32) (main_arg1 : FVec F S1x8192x2048 .f32) (main_arg2 : FVec F S8192x2048 .f32) (main_arg3 : FVec F S1x2048 .f32) (main_arg4 : FVec F S1x2048 .f32) (main_arg5 : FVec F S1x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S1x8192x2048 .f32 := Host.absf main_arg1
  let main_cst_0 : FVec F S_ .f32 := constant S_ .f32 0x7F800000#32
  let main_v5 : FVec F S1x8192x2048 .f32 := broadcastInDim S1x8192x2048 ![] bcast_S_S1x8192x2048 main_cst_0
  let main_v6 : IVec S1x8192x2048 1 := cmpf .olt main_v4 main_v5
  let main_c_1 : IVec S_ 1 := constantI S_ 1 1#1
  let main_v7 : IVec S_ 1 := (fun x v => Host.reduce IntOp.andi x v reducesTo_S1x8192x2048_S_d0_1_2 h_S_) main_v6 main_c_1
  let main_v8 : IVec S_ 1 := andi main_v3 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg4
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Pre_finite2.lean ====
abbrev S8192x1024 : Shape := ⟨2, ![8192, 1024]⟩
abbrev S8x8192 : Shape := ⟨2, ![8, 8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn_part1 {F : FTy → Type} [FloatOps F] (main_arg4 : FVec F S8192x1024 .f32) (main_v13 : IVec S_ 1) (main_v16 : IVec S8x8192 1) : IVec S_ 1 :=
  let main_c_5 : IVec S_ 1 := constantI S_ 1 1#1
  let main_v17 : IVec S_ 1 := (fun x v => Host.reduce IntOp.andi x v reducesTo_S8x8192_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S8x8192 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8x8192 .f32 := Host.absf main_arg3
  let main_cst_4 : FVec F S_ .f32 := constant S_ .f32 0x7F800000#32
  let main_v15 : FVec F S8x8192 .f32 := broadcastInDim S8x8192 ![] bcast_S_S8x8192 main_cst_4
  let main_v16 : IVec S8x8192 1 := cmpf .olt main_v14 main_v15
  fn_part1 (F := F) main_arg4 main_v13 main_v16
-- ==== Pre_finite3.lean ====
abbrev S8192x2048 : Shape := ⟨2, ![8192, 2048]⟩
abbrev S8192x1024 : Shape := ⟨2, ![8192, 1024]⟩
abbrev S8192x8216 : Shape := ⟨2, ![8192, 8216]⟩
abbrev S1x128 : Shape := ⟨2, ![1, 128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  slices_S8192x8216_S8192x1024_0_3072 : S8192x8216.Slices ![0, 3072] S8192x1024
  slices_S8192x8216_S8192x1024_0_7176 : S8192x8216.Slices ![0, 7176] S8192x1024
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg3 : FVec F S8192x8216 .f32) (main_arg4 : FVec F S1x128 .f32) (main_v13 : IVec S_ 1) (main_v15 : FVec F S8192x1024 .f32) (main_v16 : FVec F S8192x1024 .f32) : IVec S_ 1 :=
  let main_v17 : IVec S8192x1024 1 := cmpf .olt main_v15 main_v16
  let main_c_5 : IVec S_ 1 := constantI S_ 1 1#1
  let main_v18 : IVec S_ 1 := (fun x v => Host.reduce IntOp.andi x v reducesTo_S8192x1024_S_d0_1 h_S_) main_v17 main_c_5
  let main_v19 : IVec S_ 1 := andi main_v13 main_v18
  let main_v20 : FVec F S8192x1024 .f32 := (extractStridedSlice S8192x1024 ![0, 7176] · slices_S8192x8216_S8192x1024_0_7176) main_arg3
  let main_v21 : FVec F S8192x1024 .f32 := Host.absf main_v20
  let main_cst_6 : FVec F S_ .f32 := constant S_ .f32 0x7F800000#32
  let main_v22 : FVec F S8192x1024 .f32 := broadcastInDim S8192x1024 ![] bcast_S_S8192x1024 main_cst_6
  let main_v23 : IVec S8192x1024 1 := cmpf .olt main_v21 main_v22
  let main_c_7 : IVec S_ 1 := constantI S_ 1 1#1
  let main_v24 : IVec S_ 1 := (fun x v => Host.reduce IntOp.andi x v reducesTo_S8192x1024_S_d0_1 h_S_) main_v23 main_c_7
  let main_v25 : IVec S_ 1 := andi main_v19 main_v24
  let main_v26 : FVec F S1x128 .f32 := Host.absf main_arg4
  let main_cst_8 : FVec F S_ .f32 := constant S_ .f32 0x7F800000#32
  let main_v27 : FVec F S1x128 .f32 := broadcastInDim S1x128 ![] bcast_S_S1x128 main_cst_8
  let main_v28 : IVec S1x128 1 := cmpf .olt main_v26 main_v27
  let main_c_9 : IVec S_ 1 := constantI S_ 1 1#1
  let main_v29 : IVec S_ 1 := (fun x v => Host.reduce IntOp.andi x v reducesTo_S1x128_S_d0_1 h_S_) main_v28 main_c_9
  let main_v30 : IVec S_ 1 := andi main_v25 main_v29
  main_v30

def fn {F : FTy → Type} [FloatOps F] (main_arg0 : FVec F S8192x2048 .f32) (main_arg1 : FVec F S8192x1024 .f32) (main_arg2 : FVec F S8192x1024 .f32) (main_arg3 : FVec F S8192x8216 .f32) (main_arg4 : FVec F S1x128 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := (extractStridedSlice S8192x1024 ![0, 3072] · slices_S8192x8216_S8192x1024_0_3072) main_arg3
  let main_v15 : FVec F S8192x1024 .f32 := Host.absf main_v14
  let main_cst_4 : FVec F S_ .f32 := constant S_ .f32 0x7F800000#32
  let main_v16 : FVec F S8192x1024 .f32 := broadcastInDim S8192x1024 ![] bcast_S_S8192x1024 main_cst_4
  fn_part1 (F := F) main_arg3 main_arg4 main_v13 main_v15 main_v16
-- ==== Pre_finite4.lean ====
abbrev S8192x1024 : Shape := ⟨2, ![8192, 1024]⟩
abbrev S8x8192 : Shape := ⟨2, ![8, 8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn_part1 {F : FTy → Type} [FloatOps F] (main_v13 : IVec S_ 1) (main_v16 : IVec S8x8192 1) : IVec S_ 1 :=
  let main_c_5 : IVec S_ 1 := constantI S_ 1 1#1
  let main_v17 : IVec S_ 1 := (fun x v => Host.reduce IntOp.andi x v reducesTo_S8x8192_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S8192x1024 .f32) (main_arg3 : FVec F S8x8192 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8x8192 .f32 := Host.absf main_arg3
  let main_cst_4 : FVec F S_ .f32 := constant S_ .f32 0x7F800000#32
  let main_v15 : FVec F S8x8192 .f32 := broadcastInDim S8x8192 ![] bcast_S_S8x8192 main_cst_4
  let main_v16 : IVec S8x8192 1 := cmpf .olt main_v14 main_v15
  fn_part1 (F := F) main_v13 main_v16
-- ==== Pre_finite5.lean ====
abbrev S8192x2048 : Shape := ⟨2, ![8192, 2048]⟩
abbrev S1x2048x2048 : Shape := ⟨3, ![1, 2048, 2048]⟩
abbrev S1x8192x2048 : Shape := ⟨3, ![1, 8192, 2048]⟩
abbrev S1x2048 : Shape := ⟨2, ![1, 2048]⟩
abbrev S2048 : Shape := ⟨1, ![2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x8192x2048 : S_.BroadcastsInDim S1x8192x2048 (![] : Fin 0 → Fin S1x8192x2048.rank)
  reducesTo_S1x8192x2048_S_d0_1_2 : S1x8192x2048.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S1x2048 .f32) (main_arg5 : FVec F S2048 .f32) (main_v14 : IVec S_ 1) (main_v15 : FVec F S1x8192x2048 .f32) (main_v16 : FVec F S1x8192x2048 .f32) : IVec S_ 1 :=
  let main_v17 : IVec S1x8192x2048 1 := cmpf .olt main_v15 main_v16
  let main_c_5 : IVec S_ 1 := constantI S_ 1 1#1
  let main_v18 : IVec S_ 1 := (fun x v => Host.reduce IntOp.andi x v reducesTo_S1x8192x2048_S_d0_1_2 h_S_) main_v17 main_c_5
  let main_v19 : IVec S_ 1 := andi main_v14 main_v18
  let main_v20 : FVec F S1x2048 .f32 := Host.absf main_arg4
  let main_cst_6 : FVec F S_ .f32 := constant S_ .f32 0x7F800000#32
  let main_v21 : FVec F S1x2048 .f32 := broadcastInDim S1x2048 ![] bcast_S_S1x2048 main_cst_6
  let main_v22 : IVec S1x2048 1 := cmpf .olt main_v20 main_v21
  let main_c_7 : IVec S_ 1 := constantI S_ 1 1#1
  let main_v23 : IVec S_ 1 := (fun x v => Host.reduce IntOp.andi x v reducesTo_S1x2048_S_d0_1 h_S_) main_v22 main_c_7
  let main_v24 : IVec S_ 1 := andi main_v19 main_v23
  let main_v25 : FVec F S2048 .f32 := Host.absf main_arg5
  let main_cst_8 : FVec F S_ .f32 := constant S_ .f32 0x7F800000#32
  let main_v26 : FVec F S2048 .f32 := broadcastInDim S2048 ![] bcast_S_S2048 main_cst_8
  let main_v27 : IVec S2048 1 := cmpf .olt main_v25 main_v26
  let main_c_9 : IVec S_ 1 := constantI S_ 1 1#1
  let main_v28 : IVec S_ 1 := (fun x v => Host.reduce IntOp.andi x v reducesTo_S2048_S_d0 h_S_) main_v27 main_c_9
  let main_v29 : IVec S_ 1 := andi main_v24 main_v28
  main_v29

def fn {F : FTy → Type} [FloatOps F] (main_arg0 : FVec F S8192x2048 .bf16) (main_arg1 : FVec F S1x2048x2048 .f32) (main_arg2 : FVec F S1x8192x2048 .f32) (main_arg3 : FVec F S1x8192x2048 .f32) (main_arg4 : FVec F S1x2048 .f32) (main_arg5 : FVec F S2048 .f32) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S1x2048x2048 .f32 := Host.absf main_arg1
  let main_cst_0 : FVec F S_ .f32 := constant S_ .f32 0x7F800000#32
  let main_v6 : FVec F S1x2048x2048 .f32 := broadcastInDim S1x2048x2048 ![] bcast_S_S1x2048x2048 main_cst_0
  let main_v7 : IVec S1x2048x2048 1 := cmpf .olt main_v5 main_v6
  let main_c_1 : IVec S_ 1 := constantI S_ 1 1#1
  let main_v8 : IVec S_ 1 := (fun x v => Host.reduce IntOp.andi x v reducesTo_S1x2048x2048_S_d0_1_2 h_S_) main_v7 main_c_1
  let main_v9 : IVec S_ 1 := andi main_v4 main_v8
  let main_v10 : FVec F S1x8192x2048 .f32 := Host.absf main_arg2
  let main_cst_2 : FVec F S_ .f32 := constant S_ .f32 0x7F800000#32
  let main_v11 : FVec F S1x8192x2048 .f32 := broadcastInDim S1x8192x2048 ![] bcast_S_S1x8192x2048 main_cst_2
  let main_v12 : IVec S1x8192x2048 1 := cmpf .olt main_v10 main_v11
  let main_c_3 : IVec S_ 1 := constantI S_ 1 1#1
  let main_v13 : IVec S_ 1 := (fun x v => Host.reduce IntOp.andi x v reducesTo_S1x8192x2048_S_d0_1_2 h_S_) main_v12 main_c_3
  let main_v14 : IVec S_ 1 := andi main_v9 main_v13
  let main_v15 : FVec F S1x8192x2048 .f32 := Host.absf main_arg3
  let main_cst_4 : FVec F S_ .f32 := constant S_ .f32 0x7F800000#32
  let main_v16 : FVec F S1x8192x2048 .f32 := broadcastInDim S1x8192x2048 ![] bcast_S_S1x8192x2048 main_cst_4
  fn_part1 (F := F) main_arg4 main_arg5 main_v14 main_v15 main_v16
-- ==== Kernel4.lean ====
abbrev S8192x1024 : Shape := ⟨2, ![8192, 1024]⟩
abbrev S8x8192 : Shape := ⟨2, ![8, 8192]⟩
abbrev S8192x8 : Shape := ⟨2, ![8192, 8]⟩
abbrev S8192x8x1 : Shape := ⟨3, ![8192, 8, 1]⟩
abbrev S_ : Shape := ⟨0, ![]⟩
abbrev S8192x8x122 : Shape := ⟨3, ![8192, 8, 122]⟩
abbrev S8192x8x128 : Shape := ⟨3, ![8192, 8, 128]⟩
abbrev S8192x8x256 : Shape := ⟨3, ![8192, 8, 256]⟩
abbrev S8192x2048 : Shape := ⟨2, ![8192, 2048]⟩
abbrev S8x8192x1 : Shape := ⟨3, ![8, 8192, 1]⟩
abbrev S1024x256 : Shape := ⟨2, ![1024, 256]⟩
abbrev S8192x256 : Shape := ⟨2, ![8192, 256]⟩
abbrev S8192x128 : Shape := ⟨2, ![8192, 128]⟩
abbrev S1024x128 : Shape := ⟨2, ![1024, 128]⟩
abbrev S1x1024x1 : Shape := ⟨3, ![1, 1024, 1]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 41
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x8192, .f32⟩
  | .hbm, ⟨4, _⟩ => ⟨S8192x8, .f32⟩
  | .hbm, ⟨5, _⟩ => ⟨S8192x8x1, .f32⟩
  | .hbm, ⟨6, _⟩ => ⟨S_, .f32⟩
  | .hbm, ⟨7, _⟩ => ⟨S_, .f32⟩
  | .hbm, ⟨8, _⟩ => ⟨S8192x8x1, .f32⟩
  | .hbm, ⟨9, _⟩ => ⟨S8192x8x1, .f32⟩
  | .hbm, ⟨10, _⟩ => ⟨S8192x8x1, .bf16⟩
  | .hbm, ⟨11, _⟩ => ⟨S8192x8x1, .f32⟩
  | .hbm, ⟨12, _⟩ => ⟨S8192x8x1, .f32⟩
  | .hbm, ⟨13, _⟩ => ⟨S8192x8x1, .bf16⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S_, .f32⟩
  | .hbm, ⟨20, _⟩ => ⟨S8192x8x122, .f32⟩
  | .hbm, ⟨21, _⟩ => ⟨S8192x8x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192x8x128, .f32⟩
  | .hbm, ⟨27, _⟩ => ⟨S8192x8x128, .f32⟩
  | .hbm, ⟨28, _⟩ => ⟨S8192x8x256, .f32⟩
  | .hbm, ⟨29, _⟩ => ⟨S8192x8x128, .f32⟩
  | .hbm, ⟨30, _⟩ => ⟨S8192x8x1, .f32⟩
  | .hbm, ⟨31, _⟩ => ⟨S8192x8x1, .f32⟩
  | .hbm, ⟨32, _⟩ => ⟨S8192x8x1, .f32⟩
  | .hbm, ⟨33, _⟩ => ⟨S8192x8x256, .f32⟩
  | .hbm, ⟨34, _⟩ => ⟨S8192x2048, .f32⟩
  | .hbm, ⟨35, _⟩ => ⟨S8192x2048, .bf16⟩
  | .hbm, ⟨36, _⟩ => ⟨S8192x2048, .f32⟩
  | .hbm, ⟨37, _⟩ => ⟨S8192x2048, .bf16⟩
  | .hbm, ⟨38, _⟩ => ⟨S8192x1024, .bf16⟩
  | .hbm, ⟨39, _⟩ => ⟨S8192x1024, .f32⟩
  | .hbm, ⟨40, _⟩ => ⟨S8x8192x1, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_3 : BitVec 32 := 1#32
  ⟨c0_i32, v12, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c1024_i32_18 : BitVec 32 := 1024#32
  let v53 : BitVec 32 := Scalar.muli arg7 c1024_i32_18
  v53
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c1024_i32_18 : BitVec 32 := 1024#32
  let v53 : BitVec 32 := Scalar.muli arg7 c1024_i32_18
  let v54 : BitVec 32 := v53
  let v55 : Index := Scalar.indexCast v54
  let c0_19 : Index := 0#32
  ![v55.toNat, 0]
def k0_off2 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c1024_i32_18 : BitVec 32 := 1024#32
  let v53 : BitVec 32 := Scalar.muli arg7 c1024_i32_18
  let v54 : BitVec 32 := v53
  let v74 : Index := Scalar.indexCast v54
  let c0_23 : Index := 0#32
  ![v74.toNat, 0]
@[reducible] def k0_t2_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_4 : BitVec 32 := 1#32
  ⟨v12, v9, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  let arg7 : BitVec 32 := Scf.iv v12 c1_i32_4 k0_t2
  let c1024_i32_18 : BitVec 32 := 1024#32
  let v53 : BitVec 32 := Scalar.muli arg7 c1024_i32_18
  v53
def k0_off3 (i : grid0.Coords) (k0_t2 : Fin (k0_t2_loop i).trips) : Fin 2 → Nat :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  let arg7 : BitVec 32 := Scf.iv v12 c1_i32_4 k0_t2
  let c1024_i32_18 : BitVec 32 := 1024#32
  let v53 : BitVec 32 := Scalar.muli arg7 c1024_i32_18
  let v54 : BitVec 32 := v53
  let v55 : Index := Scalar.indexCast v54
  let c0_19 : Index := 0#32
  ![v55.toNat, 0]
def k0_off4 (i : grid0.Coords) (k0_t2 : Fin (k0_t2_loop i).trips) : Fin 2 → Nat :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  let arg7 : BitVec 32 := Scf.iv v12 c1_i32_4 k0_t2
  let c1024_i32_18 : BitVec 32 := 1024#32
  let v53 : BitVec 32 := Scalar.muli arg7 c1024_i32_18
  let v54 : BitVec 32 := v53
  let v74 : Index := Scalar.indexCast v54
  let c0_23 : Index := 0#32
  ![v74.toNat, 0]
def k0_mult3 (i : grid0.Coords) : BitVec 32 :=
  let arg1 : BitVec 32 := BitVec.ofNat 32 (i 1).val
  let c1024_i32 : BitVec 32 := 1024#32
  let v15 : BitVec 32 := Scalar.muli arg1 c1024_i32
  v15
def k0_off5 (i : grid0.Coords) : Fin 2 → Nat :=
  let arg1 : BitVec 32 := BitVec.ofNat 32 (i 1).val
  let c1024_i32 : BitVec 32 := 1024#32
  let v15 : BitVec 32 := Scalar.muli arg1 c1024_i32
  let v16 : BitVec 32 := v15
  let v17 : Index := Scalar.indexCast v16
  let c0_5 : Index := 0#32
  ![v17.toNat, 0]
def k0_off6 (i : grid0.Coords) : Fin 2 → Nat :=
  let arg1 : BitVec 32 := BitVec.ofNat 32 (i 1).val
  let c1024_i32 : BitVec 32 := 1024#32
  let v15 : BitVec 32 := Scalar.muli arg1 c1024_i32
  let v16 : BitVec 32 := v15
  let v38 : Index := Scalar.indexCast v16
  let c0_10 : Index := 0#32
  ![v38.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel4Ideal.lean ====
variable {F : FTy → Type} [FloatOps F] [Named F]
def κ : String → Option EReal := fun
  | "mask" => some ⊥
  | "per_log_two" => some (((Real.log 2)⁻¹ : ℝ) : EReal)
  | _ => none
-- ==== Reference4Ideal.lean ====
abbrev S8192x1024 : Shape := ⟨2, ![8192, 1024]⟩
abbrev S8x8192 : Shape := ⟨2, ![8, 8192]⟩
abbrev S8192x8x128 : Shape := ⟨3, ![8192, 8, 128]⟩
abbrev S8x8192x128 : Shape := ⟨3, ![8, 8192, 128]⟩
abbrev S8192 : Shape := ⟨1, ![8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x8192, .f32⟩
  | .hbm, ⟨4, _⟩ => ⟨S8192x8x128, .f32⟩
  | .hbm, ⟨5, _⟩ => ⟨S8x8192x128, .f32⟩
  | .hbm, ⟨6, _⟩ => ⟨S8192x8x128, .f32⟩
  | .hbm, ⟨7, _⟩ => ⟨S8x8192x128, .f32⟩
  | .hbm, ⟨8, _⟩ => ⟨S8192x8x128, .f32⟩
  | .hbm, ⟨9, _⟩ => ⟨S8x8192x128, .f32⟩
  | .hbm, ⟨10, _⟩ => ⟨S8192, .i32⟩
  | .hbm, ⟨11, _⟩ => ⟨S8x8192x8192, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S8x8192x1, .f32⟩
  | .hbm, ⟨16, _⟩ => ⟨S8x1x8192, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S8x8192x1, .f32⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x1, .f32⟩
  | .hbm, ⟨55, _⟩ => ⟨S8x8192x1, .f32⟩
  | .hbm, ⟨56, _⟩ => ⟨S8x8192x128, .f32⟩
  | .hbm, ⟨57, _⟩ => ⟨S8192x8x128, .f32⟩
  | .hbm, ⟨58, _⟩ => ⟨S8192x1024, .f32⟩
  | .hbm, ⟨59, _⟩ => ⟨S_, .f32⟩
  | .hbm, ⟨60, _⟩ => ⟨S_, .f32⟩
  | .hbm, ⟨61, _⟩ => ⟨S8x8192x1, .f32⟩
  | .hbm, ⟨62, _⟩ => ⟨S8x8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel2.lean ====
abbrev S8192x1024 : Shape := ⟨2, ![8192, 1024]⟩
abbrev S8x8192 : Shape := ⟨2, ![8, 8192]⟩
abbrev S8192x8 : Shape := ⟨2, ![8192, 8]⟩
abbrev S8192x8x1 : Shape := ⟨3, ![8192, 8, 1]⟩
abbrev S_ : Shape := ⟨0, ![]⟩
abbrev S8192x8x122 : Shape := ⟨3, ![8192, 8, 122]⟩
abbrev S8192x8x128 : Shape := ⟨3, ![8192, 8, 128]⟩
abbrev S8192x8x256 : Shape := ⟨3, ![8192, 8, 256]⟩
abbrev S8192x2048 : Shape := ⟨2, ![8192, 2048]⟩
abbrev S8x8192x128 : Shape := ⟨3, ![8, 8192, 128]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S8192x128 : Shape := ⟨2, ![8192, 128]⟩
abbrev S8x8x1x1024 : Shape := ⟨4, ![8, 8, 1, 1024]⟩
abbrev S1024x256 : Shape := ⟨2, ![1024, 256]⟩
abbrev S1024x128 : Shape := ⟨2, ![1024, 128]⟩
abbrev S1x1024x1 : Shape := ⟨3, ![1, 1024, 1]⟩
abbrev S8192x256 : Shape := ⟨2, ![8192, 256]⟩
abbrev S1x8x1x1024 : Shape := ⟨4, ![1, 8, 1, 1024]⟩
abbrev S1024x1 : Shape := ⟨2, ![1024, 1]⟩
abbrev S1024 : Shape := ⟨1, ![1024]⟩
abbrev S1024x1024 : Shape := ⟨2, ![1024, 1024]⟩
abbrev S1x1x1x1024 : Shape := ⟨4, ![1, 1, 1, 1024]⟩
abbrev S1x1024 : Shape := ⟨2, ![1, 1024]⟩
abbrev S1024x512 : Shape := ⟨2, ![1024, 512]⟩
abbrev S512x256 : Shape := ⟨2, ![512, 256]⟩
abbrev S512x128 : Shape := ⟨2, ![512, 128]⟩
abbrev S1x1x1x512 : Shape := ⟨4, ![1, 1, 1, 512]⟩
abbrev S1x512 : Shape := ⟨2, ![1, 512]⟩
abbrev S512 : Shape := ⟨1, ![512]⟩
abbrev S512x1 : Shape := ⟨2, ![512, 1]⟩
abbrev S512x512 : Shape := ⟨2, ![512, 512]⟩

abbrev nBuf : Space → Nat
  | .hbm => 110
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x8192, .f32⟩
  | .hbm, ⟨4, _⟩ => ⟨S8192x1024, .f32⟩
  | .hbm, ⟨5, _⟩ => ⟨S8192x8, .f32⟩
  | .hbm, ⟨6, _⟩ => ⟨S8192x8x1, .f32⟩
  | .hbm, ⟨7, _⟩ => ⟨S_, .f32⟩
  | .hbm, ⟨8, _⟩ => ⟨S_, .f32⟩
  | .hbm, ⟨9, _⟩ => ⟨S8192x8x1, .f32⟩
  | .hbm, ⟨10, _⟩ => ⟨S8192x8x1, .f32⟩
  | .hbm, ⟨11, _⟩ => ⟨S8192x8x1, .bf16⟩
  | .hbm, ⟨12, _⟩ => ⟨S8192x8x1, .f32⟩
  | .hbm, ⟨13, _⟩ => ⟨S8192x8x1, .f32⟩
  | .hbm, ⟨14, _⟩ => ⟨S8192x8x1, .bf16⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S_, .f32⟩
  | .hbm, ⟨19, _⟩ => ⟨S8192x8x1, .f32⟩
  | .hbm, ⟨20, _⟩ => ⟨S_, .f32⟩
  | .hbm, ⟨21, _⟩ => ⟨S8192x8x122, .f32⟩
  | .hbm, ⟨22, _⟩ => ⟨S8192x8x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8192x8x128, .f32⟩
  | .hbm, ⟨28, _⟩ => ⟨S8192x8x128, .f32⟩
  | .hbm, ⟨29, _⟩ => ⟨S8192x8x256, .f32⟩
  | .hbm, ⟨30, _⟩ => ⟨S8192x8x128, .f32⟩
  | .hbm, ⟨31, _⟩ => ⟨S8192x8x1, .f32⟩
  | .hbm, ⟨32, _⟩ => ⟨S8192x8x1, .f32⟩
  | .hbm, ⟨33, _⟩ => ⟨S8192x8x1, .f32⟩
  | .hbm, ⟨34, _⟩ => ⟨S8192x8x256, .f32⟩
  | .hbm, ⟨35, _⟩ => ⟨S8192x2048, .f32⟩
  | .hbm, ⟨36, _⟩ => ⟨S8192x2048, .bf16⟩
  | .hbm, ⟨37, _⟩ => ⟨S8192x2048, .f32⟩
  | .hbm, ⟨38, _⟩ => ⟨S8192x2048, .bf16⟩
  | .hbm, ⟨39, _⟩ => ⟨S8192x8x128, .f32⟩
  | .hbm, ⟨40, _⟩ => ⟨S8x8192x128, .f32⟩
  | .hbm, ⟨41, _⟩ => ⟨S8192x8x128, .f32⟩
  | .hbm, ⟨42, _⟩ => ⟨S8x8192x128, .f32⟩
  | .hbm, ⟨43, _⟩ => ⟨S8192x8x128, .f32⟩
  | .hbm, ⟨44, _⟩ => ⟨S8x8192x128, .f32⟩
  | .hbm, ⟨45, _⟩ => ⟨S8192x8x128, .f32⟩
  | .hbm, ⟨46, _⟩ => ⟨S8x8192x128, .f32⟩
  | .hbm, ⟨47, _⟩ => ⟨S8x8192x8192, .f32⟩
  | .hbm, ⟨48, _⟩ => ⟨S_, .f32⟩
  | .hbm, ⟨49, _⟩ => ⟨S8x8192x8192, .f32⟩
  | .hbm, ⟨50, _⟩ => ⟨S8x8192x8192, .f32⟩
  | .hbm, ⟨51, _⟩ => ⟨S8x8192x1, .f32⟩
  | .hbm, ⟨52, _⟩ => ⟨S8x1x8192, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8192, .i32⟩
  | .hbm, ⟨58, _⟩ => ⟨S1x1x8192, .i32⟩
  | .hbm, ⟨59, _⟩ => ⟨S1x8192x1, .i32⟩
  | .hbm, ⟨60, _⟩ => ⟨S1x8192x8192, .i32⟩
  | .hbm, ⟨61, _⟩ => ⟨S1x8192x8192, .i32⟩
  | .hbm, ⟨62, _⟩ => ⟨S1x8192x8192, .i1⟩
  | .hbm, ⟨63, _⟩ => ⟨S_, .f32⟩
  | .hbm, ⟨64, _⟩ => ⟨S_, .f32⟩
  | .hbm, ⟨65, _⟩ => ⟨S8x8192x8192, .i1⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192, .f32⟩
  | .hbm, ⟨70, _⟩ => ⟨S8x8192x1, .f32⟩
  | .hbm, ⟨71, _⟩ => ⟨S8x8192x8192, .f32⟩
  | .hbm, ⟨72, _⟩ => ⟨S8x8192x8192, .f32⟩
  | .hbm, ⟨73, _⟩ => ⟨S8x8192x8192, .f32⟩
  | .hbm, ⟨74, _⟩ => ⟨S_, .f32⟩
  | .hbm, ⟨75, _⟩ => ⟨S8x8192, .f32⟩
  | .hbm, ⟨76, _⟩ => ⟨S8x8192x1, .f32⟩
  | .hbm, ⟨77, _⟩ => ⟨S8x8192x8192, .f32⟩
  | .hbm, ⟨78, _⟩ => ⟨S8x8192x8192, .f32⟩
  | .hbm, ⟨79, _⟩ => ⟨S8x8192x128, .f32⟩
  | .hbm, ⟨80, _⟩ => ⟨S8x8192x128, .f32⟩
  | .hbm, ⟨81, _⟩ => ⟨S_, .f32⟩
  | .hbm, ⟨82, _⟩ => ⟨S8x8192, .f32⟩
  | .hbm, ⟨83, _⟩ => ⟨S8192x8, .f32⟩
  | .hbm, ⟨84, _⟩ => ⟨S_, .i32⟩
  | .hbm, ⟨85, _⟩ => ⟨S_, .f32⟩
  | .hbm, ⟨86, _⟩ => ⟨S8192x128, .f32⟩
  | .hbm, ⟨87, _⟩ => ⟨S8x8192x1, .f32⟩
  | .hbm, ⟨88, _⟩ => ⟨S8x8192x1, .f32⟩
  | .hbm, ⟨89, _⟩ => ⟨S_, .f32⟩
  | .hbm, ⟨90, _⟩ => ⟨S_, .f32⟩
  | .hbm, ⟨91, _⟩ => ⟨S8x8192x1, .f32⟩
  | .hbm, ⟨92, _⟩ => ⟨S8x8192x1, .f32⟩
  | .hbm, ⟨93, _⟩ => ⟨S8192x1024, .bf16⟩
  | .hbm, ⟨94, _⟩ => ⟨S8192x1024, .bf16⟩
  | .hbm, ⟨95, _⟩ => ⟨S8192x1024, .f32⟩
  | .hbm, ⟨96, _⟩ => ⟨S8192x1024, .f32⟩
  | .hbm, ⟨97, _⟩ => ⟨S8192x1024, .bf16⟩
  | .hbm, ⟨98, _⟩ => ⟨S8x8x1x1024, .f32⟩
  | .hbm, ⟨99, _⟩ => ⟨S8x8192x1, .f32⟩
  | .hbm, ⟨100, _⟩ => ⟨S_, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S_, .f32⟩
  | .hbm, ⟨105, _⟩ => ⟨S8192x1024, .f32⟩
  | .hbm, ⟨106, _⟩ => ⟨S8192x1024, .f32⟩
  | .hbm, ⟨107, _⟩ => ⟨S8x8192, .f32⟩
  | .hbm, ⟨108, _⟩ => ⟨S8x8192, .f32⟩
  | .hbm, ⟨109, _⟩ => ⟨S8x8192, .f32⟩
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S1x1024x1, .f32⟩
  | .local _ .vmem, ⟨5, _⟩ => ⟨S1x1024x1, .f32⟩
  | .local _ .vmem, ⟨6, _⟩ => ⟨S1024x128, .f32⟩
  | .local _ .vmem, ⟨7, _⟩ => ⟨S1024x128, .f32⟩
  | .local _ .vmem, ⟨8, _⟩ => ⟨S8192x256, .bf16⟩
  | .local _ .vmem, ⟨9, _⟩ => ⟨S8192x256, .bf16⟩
  | .local _ .vmem, ⟨10, _⟩ => ⟨S8192x128, .bf16⟩
  | .local _ .vmem, ⟨11, _⟩ => ⟨S8192x128, .bf16⟩
  | .local _ .vmem, ⟨12, _⟩ => ⟨S1024x128, .f32⟩
  | .local _ .vmem, ⟨13, _⟩ => ⟨S1024x128, .f32⟩
  | .local _ .vmem, ⟨14, _⟩ => ⟨S8192x128, .f32⟩
  | .local _ .vmem, ⟨15, _⟩ => ⟨S8192x128, .f32⟩
  | .local _ .vmem, ⟨16, _⟩ => ⟨S8192x128, .bf16⟩
  | .local _ .vmem, ⟨17, _⟩ => ⟨S8192x128, .bf16⟩
  | .local _ .vmem, ⟨18, _⟩ => ⟨S1x8x1x1024, .f32⟩
  | .local _ .vmem, ⟨19, _⟩ => ⟨S1x8x1x1024, .f32⟩
  | .local _ .vmem, ⟨20, _⟩ => ⟨S1x1024x1, .f32⟩
  | .local _ .vmem, ⟨21, _⟩ => ⟨S1x1024x1, .f32⟩
  | .local _ .vmem, ⟨22, _⟩ => ⟨S8192x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_5 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_c : Ref sig .tc := ⟨.hbm, 84, rfl⟩
abbrev main_call1_v0 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74_0 : Ref sig .tc := ⟨.hbm, 95, rfl⟩
abbrev main_v74_1 : Ref sig .tc := ⟨.hbm, 96, rfl⟩
abbrev main_v74_2 : Ref sig .tc := ⟨.hbm, 97, rfl⟩
abbrev main_v74_3 : Ref sig .tc := ⟨.hbm, 98, rfl⟩
abbrev main_v74_4 : Ref sig .tc := ⟨.hbm, 99, rfl⟩
abbrev main_cst_10 : Ref sig .tc := ⟨.hbm, 100, rfl⟩
abbrev main_v75 : Ref sig .tc := ⟨.hbm, 101, rfl⟩
abbrev main_v76 : Ref sig .tc := ⟨.hbm, 102, rfl⟩
abbrev main_cst_11 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_9 : BitVec 32 := 1#32
  ⟨c0_i32_8, v20, c1_i32_9⟩
def k0_mult1 (i : grid0.Coords) (k0_t1 : Fin (k0_t1_loop i).trips) : BitVec 32 :=
  let c0_i32_8 : BitVec 32 := 0#32
  let c1_i32_9 : BitVec 32 := 1#32
  let arg14 : BitVec 32 := Scf.iv c0_i32_8 c1_i32_9 k0_t1
  let c1024_i32_73 : BitVec 32 := 1024#32
  let v167 : BitVec 32 := Scalar.muli arg14 c1024_i32_73
  v167
def k0_off1 (i : grid0.Coords) (k0_t1 : Fin (k0_t1_loop i).trips) : Fin 2 → Nat :=
  let c0_i32_8 : BitVec 32 := 0#32
  let c1_i32_9 : BitVec 32 := 1#32
  let arg14 : BitVec 32 := Scf.iv c0_i32_8 c1_i32_9 k0_t1
  let c1024_i32_73 : BitVec 32 := 1024#32
  let v167 : BitVec 32 := Scalar.muli arg14 c1024_i32_73
  let v168 : BitVec 32 := v167
  let v173 : Index := Scalar.indexCast v168
  let c0_78 : Index := 0#32
  ![v173.toNat, 0]
def k0_off2 (i : grid0.Coords) (k0_t1 : Fin (k0_t1_loop i).trips) : Fin 2 → Nat :=
  let c0_i32_8 : BitVec 32 := 0#32
  let c1_i32_9 : BitVec 32 := 1#32
  let arg14 : BitVec 32 := Scf.iv c0_i32_8 c1_i32_9 k0_t1
  let c1024_i32_73 : BitVec 32 := 1024#32
  let v167 : BitVec 32 := Scalar.muli arg14 c1024_i32_73
  let v168 : BitVec 32 := v167
  let v180 : Index := Scalar.indexCast v168
  let c0_80 : Index := 0#32
  ![v180.toNat, 0]
def k0_off3 (i : grid0.Coords) (k0_t1 : Fin (k0_t1_loop i).trips) : Fin 4 → Nat :=
  let c0_90 : Index := 0#32
  let c0_i32_8 : BitVec 32 := 0#32
  let c1_i32_9 : BitVec 32 := 1#32
  let arg14 : BitVec 32 := Scf.iv c0_i32_8 c1_i32_9 k0_t1
  let v206 : Index := Scalar.indexCast arg14
  let c0_91 : Index := 0#32
  let c0_92 : Index := 0#32
  ![0, v206.toNat, 0, 0]
def k0_off4 (i : grid0.Coords) (k0_t1 : Fin (k0_t1_loop i).trips) : Fin 2 → Nat :=
  let c0_i32_8 : BitVec 32 := 0#32
  let c1_i32_9 : BitVec 32 := 1#32
  let arg14 : BitVec 32 := Scf.iv c0_i32_8 c1_i32_9 k0_t1
  let c1024_i32_73 : BitVec 32 := 1024#32
  let v167 : BitVec 32 := Scalar.muli arg14 c1024_i32_73
  let v168 : BitVec 32 := v167
  let v218 : Index := Scalar.indexCast v168
  let c0_98 : Index := 0#32
  ![v218.toNat, 0]
@[reducible] def k0_t2_loop (i : grid0.Coords) : Scf.Loop 32 :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let v17 : BitVec 32 := Scalar.addi c0_i32_8 v16
  let c1_i32_10 : BitVec 32 := 1#32
  ⟨v20, v17, c1_i32_10⟩
def k0_mult2 (i : grid0.Coords) (k0_t2 : Fin (k0_t2_loop i).trips) : BitVec 32 :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_10 : BitVec 32 := 1#32
  let arg14 : BitVec 32 := Scf.iv v20 c1_i32_10 k0_t2
  let c1024_i32_73 : BitVec 32 := 1024#32
  let v167 : BitVec 32 := Scalar.muli arg14 c1024_i32_73
  v167
def k0_off5 (i : grid0.Coords) (k0_t2 : Fin (k0_t2_loop i).trips) : Fin 2 → Nat :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_10 : BitVec 32 := 1#32
  let arg14 : BitVec 32 := Scf.iv v20 c1_i32_10 k0_t2
  let c1024_i32_73 : BitVec 32 := 1024#32
  let v167 : BitVec 32 := Scalar.muli arg14 c1024_i32_73
  let v168 : BitVec 32 := v167
  let v173 : Index := Scalar.indexCast v168
  let c0_78 : Index := 0#32
  ![v173.toNat, 0]
def k0_off6 (i : grid0.Coords) (k0_t2 : Fin (k0_t2_loop i).trips) : Fin 2 → Nat :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_10 : BitVec 32 := 1#32
  let arg14 : BitVec 32 := Scf.iv v20 c1_i32_10 k0_t2
  let c1024_i32_73 : BitVec 32 := 1024#32
  let v167 : BitVec 32 := Scalar.muli arg14 c1024_i32_73
  let v168 : BitVec 32 := v167
  let v180 : Index := Scalar.indexCast v168
  let c0_80 : Index := 0#32
  ![v180.toNat, 0]
def k0_off7 (i : grid0.Coords) (k0_t2 : Fin (k0_t2_loop i).trips) : Fin 4 → Nat :=
  let c0_90 : Index := 0#32
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_10 : BitVec 32 := 1#32
  let arg14 : BitVec 32 := Scf.iv v20 c1_i32_10 k0_t2
  let v206 : Index := Scalar.indexCast arg14
  let c0_91 : Index := 0#32
  let c0_92 : Index := 0#32
  ![0, v206.toNat, 0, 0]
def k0_off8 (i : grid0.Coords) (k0_t2 : Fin (k0_t2_loop i).trips) : Fin 2 → Nat :=
  let c0_i32_8 : BitVec 32 := 0#32
  let arg1 : BitVec 32 := BitVec.ofNat 32 (i 1).val
  let v16 : BitVec 32 := Scalar.subi arg1 c0_i32_8
  let c1_i32 : BitVec 32 := 1#32
  let v18 : BitVec 32 := Scalar.divsi v16 c1_i32
  let v19 : BitVec 32 := Scalar.muli v18 c1_i32
  let v20 : BitVec 32 := Scalar.addi c0_i32_8 v19
  let c1_i32_10 : BitVec 32 := 1#32
  let arg14 : BitVec 32 := Scf.iv v20 c1_i32_10 k0_t2
  let c1024_i32_73 : BitVec 32 := 1024#32
  let v167 : BitVec 32 := Scalar.muli arg14 c1024_i32_73
  let v168 : BitVec 32 := v167
  let v218 : Index := Scalar.indexCast v168
  let c0_98 : Index := 0#32
  ![v218.toNat, 0]
def k0_mult3 (i : grid0.Coords) : BitVec 32 :=
  let arg1 : BitVec 32 := BitVec.ofNat 32 (i 1).val
  let c1024_i32 : BitVec 32 := 1024#32
  let v23 : BitVec 32 := Scalar.muli arg1 c1024_i32
  v23
def k0_off9 (i : grid0.Coords) : Fin 2 → Nat :=
  let arg1 : BitVec 32 := BitVec.ofNat 32 (i 1).val
  let c1024_i32 : BitVec 32 := 1024#32
  let v23 : BitVec 32 := Scalar.muli arg1 c1024_i32
  let v24 : BitVec 32 := v23
  let v32 : Index := Scalar.indexCast v24
  let c0_15 : Index := 0#32
  ![v32.toNat, 0]
def k0_off10 (i : grid0.Coords) : Fin 2 → Nat :=
  let arg1 : BitVec 32 := BitVec.ofNat 32 (i 1).val
  let c1024_i32 : BitVec 32 := 1024#32
  let v23 : BitVec 32 := Scalar.muli arg1 c1024_i32
  let v24 : BitVec 32 := v23
  let v41 : Index := Scalar.indexCast v24
  let c0_18 : Index := 0#32
  ![v41.toNat, 0]
def k0_off11 (i : grid0.Coords) : Fin 4 → Nat :=
  let c0_28 : Index := 0#32
  let arg1 : BitVec 32 := BitVec.ofNat 32 (i 1).val
  let v67 : Index := Scalar.indexCast arg1
  let c0_29 : Index := 0#32
  let c0_30 : Index := 0#32
  ![0, v67.toNat, 0, 0]
def k0_off12 (i : grid0.Coords) : Fin 2 → Nat :=
  let arg1 : BitVec 32 := BitVec.ofNat 32 (i 1).val
  let c1024_i32 : BitVec 32 := 1024#32
  let v23 : BitVec 32 := Scalar.muli arg1 c1024_i32
  let v24 : BitVec 32 := v23
  let v79 : Index := Scalar.indexCast v24
  let c0_36 : Index := 0#32
  ![v79.toNat, 0]
def k0_mult4 (i : grid0.Coords) : BitVec 32 :=
  let arg1 : BitVec 32 := BitVec.ofNat 32 (i 1).val
  let c1024_i32_39 : BitVec 32 := 1024#32
  let v87 : BitVec 32 := Scalar.muli arg1 c1024_i32_39
  let c512_i32 : BitVec 32 := 512#32
  let v88 : BitVec 32 := Scalar.addi v87 c512_i32
  v88
def k0_off13 (i : grid0.Coords) : Fin 2 → Nat :=
  let arg1 : BitVec 32 := BitVec.ofNat 32 (i 1).val
  let c1024_i32_39 : BitVec 32 := 1024#32
  let v87 : BitVec 32 := Scalar.muli arg1 c1024_i32_39
  let c512_i32 : BitVec 32 := 512#32
  let v88 : BitVec 32 := Scalar.addi v87 c512_i32
  let v89 : BitVec 32 := v88
  let v99 : Index := Scalar.indexCast v89
  let c0_43 : Index := 0#32
  ![v99.toNat, 0]
def k0_off14 (i : grid0.Coords) : Fin 2 → Nat :=
  let arg1 : BitVec 32 := BitVec.ofNat 32 (i 1).val
  let c1024_i32_39 : BitVec 32 := 1024#32
  let v87 : BitVec 32 := Scalar.muli arg1 c1024_i32_39
  let c512_i32 : BitVec 32 := 512#32
  let v88 : BitVec 32 := Scalar.addi v87 c512_i32
  let v89 : BitVec 32 := v88
  let v109 : Index := Scalar.indexCast v89
  let c0_46 : Index := 0#32
  ![v109.toNat, 0]
def k0_off15 (i : grid0.Coords) : Fin 4 → Nat :=
  let c0_56 : Index := 0#32
  let arg1 : BitVec 32 := BitVec.ofNat 32 (i 1).val
  let v136 : Index := Scalar.indexCast arg1
  let c0_57 : Index := 0#32
  let c512_58 : Index := 512#32
  ![0, v136.toNat, 0, 512]
def k0_off16 (i : grid0.Coords) : Fin 2 → Nat :=
  let arg1 : BitVec 32 := BitVec.ofNat 32 (i 1).val
  let c1024_i32_39 : BitVec 32 := 1024#32
  let v87 : BitVec 32 := Scalar.muli arg1 c1024_i32_39
  let c512_i32 : BitVec 32 := 512#32
  let v88 : BitVec 32 := Scalar.addi v87 c512_i32
  let v89 : BitVec 32 := v88
  let v148 : Index := Scalar.indexCast v89
  let c0_64 : Index := 0#32
  ![v148.toNat, 0]
def k0_cond2 (i : grid0.Coords) : BitVec 1 :=
  let arg1 : BitVec 32 := BitVec.ofNat 32 (i 1).val
  let c7_i32 : BitVec 32 := 7#32
  let v164 : BitVec 1 := Scalar.cmpi .eq arg1 c7_i32
  let v165 : BitVec 32 := Scalar.extui v164
  let c0_i32_72 : BitVec 32 := 0#32
  let v166 : BitVec 1 := Scalar.cmpi .ne v165 c0_i32_72
  v166

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S8192x1024 : Shape := ⟨2, ![8192, 1024]⟩
abbrev S8x8192 : Shape := ⟨2, ![8, 8192]⟩
abbrev S8192x8x128 : Shape := ⟨3, ![8192, 8, 128]⟩
abbrev S8x8192x128 : Shape := ⟨3, ![8, 8192, 128]⟩
abbrev S8192 : Shape := ⟨1, ![8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x8192, .f32⟩
  | .hbm, ⟨4, _⟩ => ⟨S8192x1024, .f32⟩
  | .hbm, ⟨5, _⟩ => ⟨S8192x8x128, .f32⟩
  | .hbm, ⟨6, _⟩ => ⟨S8x8192x128, .f32⟩
  | .hbm, ⟨7, _⟩ => ⟨S8192x8x128, .f32⟩
  | .hbm, ⟨8, _⟩ => ⟨S8x8192x128, .f32⟩
  | .hbm, ⟨9, _⟩ => ⟨S8192x8x128, .f32⟩
  | .hbm, ⟨10, _⟩ => ⟨S8x8192x128, .f32⟩
  | .hbm, ⟨11, _⟩ => ⟨S8192, .i32⟩
  | .hbm, ⟨12, _⟩ => ⟨S8x8192x8192, .f32⟩
  | .hbm, ⟨13, _⟩ => ⟨S_, .f32⟩
  | .hbm, ⟨14, _⟩ => ⟨S8x8192x8192, .f32⟩
  | .hbm, ⟨15, _⟩ => ⟨S8x8192x8192, .f32⟩
  | .hbm, ⟨16, _⟩ => ⟨S8x8192x1, .f32⟩
  | .hbm, ⟨17, _⟩ => ⟨S8x1x8192, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S8x8192x8192, .i1⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8192, .f32⟩
  | .hbm, ⟨38, _⟩ => ⟨S8x8192x8192, .i1⟩
  | .hbm, ⟨39, _⟩ => ⟨S8x8192x8192, .f32⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .i1⟩
  | .hbm, ⟨48, _⟩ => ⟨S_, .f32⟩
  | .hbm, ⟨49, _⟩ => ⟨S8x8192, .f32⟩
  | .hbm, ⟨50, _⟩ => ⟨S8x8192, .i1⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S_, .f32⟩
  | .hbm, ⟨56, _⟩ => ⟨S8x8192, .f32⟩
  | .hbm, ⟨57, _⟩ => ⟨S8x8192, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S8x8192x8192, .f32⟩
  | .hbm, ⟨67, _⟩ => ⟨S8x8192x8192, .f32⟩
  | .hbm, ⟨68, _⟩ => ⟨S8x8192x1, .f32⟩
  | .hbm, ⟨69, _⟩ => ⟨S_, .f32⟩
  | .hbm, ⟨70, _⟩ => ⟨S8x8192x1, .f32⟩
  | .hbm, ⟨71, _⟩ => ⟨S8x8192x1, .f32⟩
  | .hbm, ⟨72, _⟩ => ⟨S8x8192x128, .f32⟩
  | .hbm, ⟨73, _⟩ => ⟨S8192x8x128, .f32⟩
  | .hbm, ⟨74, _⟩ => ⟨S8192x1024, .f32⟩
  | .hbm, ⟨75, _⟩ => ⟨S8192x8x128, .f32⟩
  | .hbm, ⟨76, _⟩ => ⟨S8x8192x128, .f32⟩
  | .hbm, ⟨77, _⟩ => ⟨S8x128x8192, .f32⟩
  | .hbm, ⟨78, _⟩ => ⟨S8x8192x128, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192, .f32⟩
  | .hbm, ⟨85, _⟩ => ⟨S8x8192x1, .f32⟩
  | .hbm, ⟨86, _⟩ => ⟨S8x8192x1, .f32⟩
  | .hbm, ⟨87, _⟩ => ⟨S8x8192x8192, .f32⟩
  | .hbm, ⟨88, _⟩ => ⟨S8x8192x8192, .f32⟩
  | .hbm, ⟨89, _⟩ => ⟨S_, .f32⟩
  | .hbm, ⟨90, _⟩ => ⟨S8x8192, .f32⟩
  | .hbm, ⟨91, _⟩ => ⟨S8x8192x8192, .f32⟩
  | .hbm, ⟨92, _⟩ => ⟨S8x8192x8192, .f32⟩
  | .hbm, ⟨93, _⟩ => ⟨S8x8192x8192, .f32⟩
  | .hbm, ⟨94, _⟩ => ⟨S_, .f32⟩
  | .hbm, ⟨95, _⟩ => ⟨S8x8192x8192, .f32⟩
  | .hbm, ⟨96, _⟩ => ⟨S8x8192x8192, .f32⟩
  | .hbm, ⟨97, _⟩ => ⟨S_, .f32⟩
  | .hbm, ⟨98, _⟩ => ⟨S8x8192, .f32⟩
  | .hbm, ⟨99, _⟩ => ⟨S8x8192x1, .f32⟩
  | .hbm, ⟨100, _⟩ => ⟨S8x8192x8192, .f32⟩
  | .hbm, ⟨101, _⟩ => ⟨S_, .f32⟩
  | .hbm, ⟨102, _⟩ => ⟨S8x8192, .f32⟩
  | .hbm, ⟨103, _⟩ => ⟨S8x1x8192, .f32⟩
  | .hbm, ⟨104, _⟩ => ⟨S_, .f32⟩
  | .hbm, ⟨105, _⟩ => ⟨S8x8192, .f32⟩
  | .hbm, ⟨106, _⟩ => ⟨S_, .f32⟩
  | .hbm, ⟨107, _⟩ => ⟨S8x8192, .f32⟩
  | .hbm, ⟨108, _⟩ => ⟨S8x8192, .f32⟩
  | .hbm, ⟨109, _⟩ => ⟨S_, .f32⟩
  | .hbm, ⟨110, _⟩ => ⟨S8x8192x8192, .f32⟩
  | .hbm, ⟨111, _⟩ => ⟨S8x8192x8192, .f32⟩
  | .hbm, ⟨112, _⟩ => ⟨S8x8192x128, .f32⟩
  | .hbm, ⟨113, _⟩ => ⟨S8x8192x128, .f32⟩
  | .hbm, ⟨114, _⟩ => ⟨S8192x8x128, .f32⟩
  | .hbm, ⟨115, _⟩ => ⟨S8192x1024, .f32⟩
  | .hbm, ⟨116, _⟩ => ⟨S8192x8x128, .f32⟩
  | .hbm, ⟨117, _⟩ => ⟨S8192x1024, .f32⟩
  | .hbm, ⟨118, _⟩ => ⟨S8192x8x128, .f32⟩
  | .hbm, ⟨119, _⟩ => ⟨S8192x1024, .f32⟩
  | .hbm, ⟨120, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_call0_v0 : Ref sig .tc := ⟨.hbm, 28, rfl⟩
abbrev main_v21_1 : Ref sig .tc := ⟨.hbm, 29, rfl⟩
abbrev main_call0_v2 : Ref sig .tc := ⟨.hbm, 30, rfl⟩
abbrev main_v21_0 : Ref sig .tc := ⟨.hbm, 31, rfl⟩
abbrev main_call0_cst : Ref sig .tc := ⟨.hbm, 32, rfl⟩
abbrev main_v21_2 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call1_cst : Ref sig .tc := ⟨.hbm, 94, rfl⟩
abbrev main_call1_v0 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_cst_16 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S8192x8216 : Shape := ⟨2, ![8192, 8216]⟩
abbrev S1x128 : Shape := ⟨2, ![1, 128]⟩
abbrev S8192x4096 : Shape := ⟨2, ![8192, 4096]⟩
abbrev S8192x8192 : Shape := ⟨2, ![8192, 8192]⟩
abbrev S8192x128 : Shape := ⟨2, ![8192, 128]⟩
abbrev S512x2048 : Shape := ⟨2, ![512, 2048]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 14
  | .vmem => 22
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x8216, .f32⟩
  | .hbm, ⟨4, _⟩ => ⟨S1x128, .f32⟩
  | .hbm, ⟨5, _⟩ => ⟨S8192x4096, .f32⟩
  | .hbm, ⟨6, _⟩ => ⟨S8192x4096, .f32⟩
  | .hbm, ⟨7, _⟩ => ⟨S8192x8192, .f32⟩
  | .hbm, ⟨8, _⟩ => ⟨S8192x1024, .bf16⟩
  | .hbm, ⟨9, _⟩ => ⟨S8192x128, .f32⟩
  | .hbm, ⟨10, _⟩ => ⟨S8192x1024, .bf16⟩
  | .hbm, ⟨11, _⟩ => ⟨S8192x1024, .bf16⟩
  | .hbm, ⟨12, _⟩ => ⟨S8192x1024, .f32⟩
  | .hbm, ⟨13, _⟩ => ⟨S1x128, .f32⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S8192x2048 : Shape := ⟨2, ![8192, 2048]⟩
abbrev S8192x1024 : Shape := ⟨2, ![8192, 1024]⟩
abbrev S8192x8216 : Shape := ⟨2, ![8192, 8216]⟩
abbrev S1x128 : Shape := ⟨2, ![1, 128]⟩
abbrev S128 : Shape := ⟨1, ![128]⟩
abbrev S8192x8x128 : Shape := ⟨3, ![8192, 8, 128]⟩
abbrev S8x8192x128 : Shape := ⟨3, ![8, 8192, 128]⟩
abbrev S_ : Shape := ⟨0, ![]⟩
abbrev S8x8192 : Shape := ⟨2, ![8, 8192]⟩
abbrev S8x8192x1 : Shape := ⟨3, ![8, 8192, 1]⟩
abbrev S1x1x128 : Shape := ⟨3, ![1, 1, 128]⟩
abbrev S8192x8 : Shape := ⟨2, ![8192, 8]⟩
abbrev S8192x128 : Shape := ⟨2, ![8192, 128]⟩

abbrev nBuf : Space → Nat
  | .hbm => 119
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x8216, .f32⟩
  | .hbm, ⟨4, _⟩ => ⟨S1x128, .f32⟩
  | .hbm, ⟨5, _⟩ => ⟨S8192x1024, .f32⟩
  | .hbm, ⟨6, _⟩ => ⟨S8192x1024, .f32⟩
  | .hbm, ⟨7, _⟩ => ⟨S128, .f32⟩
  | .hbm, ⟨8, _⟩ => ⟨S8192x8x128, .f32⟩
  | .hbm, ⟨9, _⟩ => ⟨S8x8192x128, .f32⟩
  | .hbm, ⟨10, _⟩ => ⟨S8x8192x128, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x128, .f32⟩
  | .hbm, ⟨26, _⟩ => ⟨S8x8192x128, .f32⟩
  | .hbm, ⟨27, _⟩ => ⟨S1x128, .f32⟩
  | .hbm, ⟨28, _⟩ => ⟨S1x1x128, .f32⟩
  | .hbm, ⟨29, _⟩ => ⟨S8x8192x128, .f32⟩
  | .hbm, ⟨30, _⟩ => ⟨S8x8192x128, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x8x128, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x2048, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x8x128, .f32⟩
  | .hbm, ⟨71, _⟩ => ⟨S8x8192x128, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8x8192x128, .f32⟩
  | .hbm, ⟨79, _⟩ => ⟨S_, .f32⟩
  | .hbm, ⟨80, _⟩ => ⟨S128, .f32⟩
  | .hbm, ⟨81, _⟩ => ⟨S1x1x128, .f32⟩
  | .hbm, ⟨82, _⟩ => ⟨S8x8192x128, .f32⟩
  | .hbm, ⟨83, _⟩ => ⟨S8x8192x128, .f32⟩
  | .hbm, ⟨84, _⟩ => ⟨S_, .f32⟩
  | .hbm, ⟨85, _⟩ => ⟨S128, .f32⟩
  | .hbm, ⟨86, _⟩ => ⟨S1x128, .f32⟩
  | .hbm, ⟨87, _⟩ => ⟨S_, .f32⟩
  | .hbm, ⟨88, _⟩ => ⟨S128, .f32⟩
  | .hbm, ⟨89, _⟩ => ⟨S8x8192x128, .f32⟩
  | .hbm, ⟨90, _⟩ => ⟨S_, .f32⟩
  | .hbm, ⟨91, _⟩ => ⟨S8x8192, .f32⟩
  | .hbm, ⟨92, _⟩ => ⟨S8x8192x1, .f32⟩
  | .hbm, ⟨93, _⟩ => ⟨S8x8192x128, .f32⟩
  | .hbm, ⟨94, _⟩ => ⟨S8x8192x128, .f32⟩
  | .hbm, ⟨95, _⟩ => ⟨S8x8192x1, .f32⟩
  | .hbm, ⟨96, _⟩ => ⟨S_, .f32⟩
  | .hbm, ⟨97, _⟩ => ⟨S8x8192x1, .f32⟩
  | .hbm, ⟨98, _⟩ => ⟨S8x8192x1, .f32⟩
  | .hbm, ⟨99, _⟩ => ⟨S_, .f32⟩
  | .hbm, ⟨100, _⟩ => ⟨S8x8192, .f32⟩
  | .hbm, ⟨101, _⟩ => ⟨S8x8192x128, .f32⟩
  | .hbm, ⟨102, _⟩ => ⟨S8x8192x128, .f32⟩
  | .hbm, ⟨103, _⟩ => ⟨S8x8192x128, .f32⟩
  | .hbm, ⟨104, _⟩ => ⟨S8x8192x128, .f32⟩
  | .hbm, ⟨105, _⟩ => ⟨S8x8192x128, .f32⟩
  | .hbm, ⟨106, _⟩ => ⟨S8192x8x128, .f32⟩
  | .hbm, ⟨107, _⟩ => ⟨S8192x1024, .f32⟩
  | .hbm, ⟨108, _⟩ => ⟨S8192x1024, .f32⟩
  | .hbm, ⟨109, _⟩ => ⟨S8192x8x128, .f32⟩
  | .hbm, ⟨110, _⟩ => ⟨S_, .f32⟩
  | .hbm, ⟨111, _⟩ => ⟨S8192x8, .f32⟩
  | .hbm, ⟨112, _⟩ => ⟨S8192x1024, .bf16⟩
  | .hbm, ⟨113, _⟩ => ⟨S_, .i32⟩
  | .hbm, ⟨114, _⟩ => ⟨S_, .f32⟩
  | .hbm, ⟨115, _⟩ => ⟨S8192x128, .f32⟩
  | .hbm, ⟨116, _⟩ => ⟨S8192x1024, .bf16⟩
  | .hbm, ⟨117, _⟩ => ⟨S8192x1024, .bf16⟩
  | .hbm, ⟨118, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v22_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v22_1 : Ref sig .tc := ⟨.hbm, 42, rfl⟩
abbrev main_v22_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_v26_2 : Ref sig .tc := ⟨.hbm, 54, rfl⟩
abbrev main_call1_cst_1 : Ref sig .tc := ⟨.hbm, 55, rfl⟩
abbrev main_call1_v6 : Ref sig .tc := ⟨.hbm, 56, rfl⟩
abbrev main_call1_v7 : Ref sig .tc := ⟨.hbm, 57, rfl⟩
abbrev main_v26_1 : Ref sig .tc := ⟨.hbm, 58, rfl⟩
abbrev main_v26_0 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v38 : Ref sig .tc := ⟨.hbm, 77, rfl⟩
abbrev main_v39 : Ref sig .tc := ⟨.hbm, 78, rfl⟩
abbrev main_cst_3 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_4 : Ref sig .tc := ⟨.hbm, 84, rfl⟩
abbrev main_v44 : Ref sig .tc := ⟨.hbm, 85, rfl⟩
abbrev main_v45 : Ref sig .tc := ⟨.hbm, 86, rfl⟩
abbrev main_cst_5 : Ref sig .tc := ⟨.hbm, 87, rfl⟩
abbrev main_v46 : Ref sig .tc := ⟨.hbm, 88, rfl⟩
abbrev main_v47 : Ref sig .tc := ⟨.hbm, 89, rfl⟩
abbrev main_cst_6 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_7 : Ref sig .tc := ⟨.hbm, 96, rfl⟩
abbrev main_v53 : Ref sig .tc := ⟨.hbm, 97, rfl⟩
abbrev main_v54 : Ref sig .tc := ⟨.hbm, 98, rfl⟩
abbrev main_cst_8 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_9 : Ref sig .tc := ⟨.hbm, 110, rfl⟩
abbrev main_v65 : Ref sig .tc := ⟨.hbm, 111, rfl⟩
abbrev main_v66 : Ref sig .tc := ⟨.hbm, 112, rfl⟩
abbrev main_c : Ref sig .tc := ⟨.hbm, 113, rfl⟩
abbrev main_call4_v0 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩

abbrev nD : Nat := 1
abbrev τ : Topo := Topo.v7x

variable {F : FTy → Type} [FloatOps F]
-- ==== Kernel5.lean ====
abbrev S8192x2048 : Shape := ⟨2, ![8192, 2048]⟩
abbrev S1x2048x2048 : Shape := ⟨3, ![1, 2048, 2048]⟩
abbrev S1x8192x2048 : Shape := ⟨3, ![1, 8192, 2048]⟩
abbrev S1x2048 : Shape := ⟨2, ![1, 2048]⟩
abbrev S2048 : Shape := ⟨1, ![2048]⟩
abbrev S2048x2048 : Shape := ⟨2, ![2048, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 17
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S1x8192x2048, .f32⟩
  | .hbm, ⟨3, _⟩ => ⟨S1x8192x2048, .f32⟩
  | .hbm, ⟨4, _⟩ => ⟨S1x2048, .f32⟩
  | .hbm, ⟨5, _⟩ => ⟨S2048, .f32⟩
  | .hbm, ⟨6, _⟩ => ⟨S2048x2048, .f32⟩
  | .hbm, ⟨7, _⟩ => ⟨S2048x2048, .bf16⟩
  | .hbm, ⟨8, _⟩ => ⟨S8192x2048, .f32⟩
  | .hbm, ⟨9, _⟩ => ⟨S8192x2048, .f32⟩
  | .hbm, ⟨10, _⟩ => ⟨S1x2048, .f32⟩
  | .hbm, ⟨11, _⟩ => ⟨S1x128, .f32⟩
  | .hbm, ⟨12, _⟩ => ⟨S8192x2048, .f32⟩
  | .hbm, ⟨13, _⟩ => ⟨S8192x2048, .bf16⟩
  | .hbm, ⟨14, _⟩ => ⟨S8192x2048, .f32⟩
  | .hbm, ⟨15, _⟩ => ⟨S1x2048, .f32⟩
  | .hbm, ⟨16, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S1x128, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S8192x2048 : Shape := ⟨2, ![8192, 2048]⟩
abbrev S1x2048x2048 : Shape := ⟨3, ![1, 2048, 2048]⟩
abbrev S1x8192x2048 : Shape := ⟨3, ![1, 8192, 2048]⟩
abbrev S1x2048 : Shape := ⟨2, ![1, 2048]⟩
abbrev S2048 : Shape := ⟨1, ![2048]⟩
abbrev S2048x2048 : Shape := ⟨2, ![2048, 2048]⟩
abbrev S1x1x2048 : Shape := ⟨3, ![1, 1, 2048]⟩
abbrev S_ : Shape := ⟨0, ![]⟩
abbrev S1x8192 : Shape := ⟨2, ![1, 8192]⟩
abbrev S1x8192x1 : Shape := ⟨3, ![1, 8192, 1]⟩
abbrev S8192 : Shape := ⟨1, ![8192]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S1x8192x2048, .f32⟩
  | .hbm, ⟨3, _⟩ => ⟨S1x8192x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S1x8192x2048, .f32⟩
  | .hbm, ⟨8, _⟩ => ⟨S2048x2048, .f32⟩
  | .hbm, ⟨9, _⟩ => ⟨S1x8192x2048, .f32⟩
  | .hbm, ⟨10, _⟩ => ⟨S1x1x2048, .f32⟩
  | .hbm, ⟨11, _⟩ => ⟨S1x8192x2048, .f32⟩
  | .hbm, ⟨12, _⟩ => ⟨S1x8192x2048, .f32⟩
  | .hbm, ⟨13, _⟩ => ⟨S1x8192x2048, .f32⟩
  | .hbm, ⟨14, _⟩ => ⟨S1x8192x2048, .f32⟩
  | .hbm, ⟨15, _⟩ => ⟨S_, .f32⟩
  | .hbm, ⟨16, _⟩ => ⟨S1x8192, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x2048, .f32⟩
  | .hbm, ⟨30, _⟩ => ⟨S1x8192x2048, .f32⟩
  | .hbm, ⟨31, _⟩ => ⟨S1x1x2048, .f32⟩
  | .hbm, ⟨32, _⟩ => ⟨S1x8192x2048, .f32⟩
  | .hbm, ⟨33, _⟩ => ⟨S1x8192x2048, .f32⟩
  | .hbm, ⟨34, _⟩ => ⟨S1x8192x2048, .f32⟩
  | .hbm, ⟨35, _⟩ => ⟨S1x8192x2048, .f32⟩
  | .hbm, ⟨36, _⟩ => ⟨S_, .f32⟩
  | .hbm, ⟨37, _⟩ => ⟨S1x8192x2048, .f32⟩
  | .hbm, ⟨38, _⟩ => ⟨S1x8192x2048, .f32⟩
  | .hbm, ⟨39, _⟩ => ⟨S_, .f32⟩
  | .hbm, ⟨40, _⟩ => ⟨S1x8192, .f32⟩
  | .hbm, ⟨41, _⟩ => ⟨S_, .f32⟩
  | .hbm, ⟨42, _⟩ => ⟨S1x8192, .f32⟩
  | .hbm, ⟨43, _⟩ => ⟨S1x8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x8192, .f32⟩
  | .hbm, ⟨52, _⟩ => ⟨S_, .f32⟩
  | .hbm, ⟨53, _⟩ => ⟨S1x8192, .f32⟩
  | .hbm, ⟨54, _⟩ => ⟨S1x8192, .f32⟩
  | .hbm, ⟨55, _⟩ => ⟨S1x8192x2048, .f32⟩
  | .hbm, ⟨56, _⟩ => ⟨S1x8192x2048, .f32⟩
  | .hbm, ⟨57, _⟩ => ⟨S1x8192x2048, .f32⟩
  | .hbm, ⟨58, _⟩ => ⟨S_, .f32⟩
  | .hbm, ⟨59, _⟩ => ⟨S1x2048, .f32⟩
  | .hbm, ⟨60, _⟩ => ⟨S1x1x2048, .f32⟩
  | .hbm, ⟨61, _⟩ => ⟨S1x8192x2048, .f32⟩
  | .hbm, ⟨62, _⟩ => ⟨S1x8192x2048, .f32⟩
  | .hbm, ⟨63, _⟩ => ⟨S_, .f32⟩
  | .hbm, ⟨64, _⟩ => ⟨S2048, .f32⟩
  | .hbm, ⟨65, _⟩ => ⟨S1x8192x2048, .f32⟩
  | .hbm, ⟨66, _⟩ => ⟨S_, .f32⟩
  | .hbm, ⟨67, _⟩ => ⟨S1x8192, .f32⟩
  | .hbm, ⟨68, _⟩ => ⟨S1x8192x1, .f32⟩
  | .hbm, ⟨69, _⟩ => ⟨S1x8192x2048, .f32⟩
  | .hbm, ⟨70, _⟩ => ⟨S1x8192x2048, .f32⟩
  | .hbm, ⟨71, _⟩ => ⟨S1x8192x1, .f32⟩
  | .hbm, ⟨72, _⟩ => ⟨S_, .f32⟩
  | .hbm, ⟨73, _⟩ => ⟨S1x8192x1, .f32⟩
  | .hbm, ⟨74, _⟩ => ⟨S1x8192x1, .f32⟩
  | .hbm, ⟨75, _⟩ => ⟨S_, .f32⟩
  | .hbm, ⟨76, _⟩ => ⟨S8192, .f32⟩
  | .hbm, ⟨77, _⟩ => ⟨S1x8192, .f32⟩
  | .hbm, ⟨78, _⟩ => ⟨S1x8192x2048, .f32⟩
  | .hbm, ⟨79, _⟩ => ⟨S1x8192x2048, .f32⟩
  | .hbm, ⟨80, _⟩ => ⟨S1x8192x2048, .f32⟩
  | .hbm, ⟨81, _⟩ => ⟨S1x8192x2048, .f32⟩
  | .hbm, ⟨82, _⟩ => ⟨S1x8192x2048, .f32⟩
  | .hbm, ⟨83, _⟩ => ⟨S1x8192x2048, .f32⟩
  | .hbm, ⟨84, _⟩ => ⟨S1x8192x2048, .f32⟩
  | .hbm, ⟨85, _⟩ => ⟨S1x8192x2048, .f32⟩
  | .hbm, ⟨86, _⟩ => ⟨S_, .f32⟩
  | .hbm, ⟨87, _⟩ => ⟨S1x2048, .f32⟩
  | .hbm, ⟨88, _⟩ => ⟨S1x1x2048, .f32⟩
  | .hbm, ⟨89, _⟩ => ⟨S_, .f32⟩
  | .hbm, ⟨90, _⟩ => ⟨S2048, .f32⟩
  | .hbm, ⟨91, _⟩ => ⟨S1x2048, .f32⟩
  | .hbm, ⟨92, _⟩ => ⟨S1x8192x2048, .f32⟩
  | .hbm, ⟨93, _⟩ => ⟨S1x128, .f32⟩
  | .hbm, ⟨94, _⟩ => ⟨S8192x2048, .f32⟩
  | .hbm, ⟨95, _⟩ => ⟨S8192x2048, .f32⟩
  | .hbm, ⟨96, _⟩ => ⟨S8192x2048, .bf16⟩
  | .hbm, ⟨97, _⟩ => ⟨S8192x2048, .f32⟩
  | .hbm, ⟨98, _⟩ => ⟨S1x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_cst_8 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Kernel6.lean ====
abbrev S8192x1024 : Shape := ⟨2, ![8192, 1024]⟩
abbrev S8192x8216 : Shape := ⟨2, ![8192, 8216]⟩
abbrev S1x128 : Shape := ⟨2, ![1, 128]⟩
abbrev S8192x4096 : Shape := ⟨2, ![8192, 4096]⟩
abbrev S8192x8192 : Shape := ⟨2, ![8192, 8192]⟩
abbrev S8192x2048 : Shape := ⟨2, ![8192, 2048]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8216, .f32⟩
  | .hbm, ⟨3, _⟩ => ⟨S1x128, .f32⟩
  | .hbm, ⟨4, _⟩ => ⟨S8192x4096, .f32⟩
  | .hbm, ⟨5, _⟩ => ⟨S8192x4096, .f32⟩
  | .hbm, ⟨6, _⟩ => ⟨S8192x8192, .f32⟩
  | .hbm, ⟨7, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x2048, .bf16⟩
  | .local _ .vmem, ⟨10, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x1024 : Shape := ⟨2, ![8192, 1024]⟩
abbrev S8192x8216 : Shape := ⟨2, ![8192, 8216]⟩
abbrev S1x128 : Shape := ⟨2, ![1, 128]⟩
abbrev S8192x8x128 : Shape := ⟨3, ![8192, 8, 128]⟩
abbrev S8x8192x128 : Shape := ⟨3, ![8, 8192, 128]⟩
abbrev S128 : Shape := ⟨1, ![128]⟩
abbrev S_ : Shape := ⟨0, ![]⟩
abbrev S8x8192 : Shape := ⟨2, ![8, 8192]⟩
abbrev S8x8192x1 : Shape := ⟨3, ![8, 8192, 1]⟩
abbrev S1x1x128 : Shape := ⟨3, ![1, 1, 128]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8216, .f32⟩
  | .hbm, ⟨3, _⟩ => ⟨S1x128, .f32⟩
  | .hbm, ⟨4, _⟩ => ⟨S8192x8x128, .f32⟩
  | .hbm, ⟨5, _⟩ => ⟨S8x8192x128, .f32⟩
  | .hbm, ⟨6, _⟩ => ⟨S128, .f32⟩
  | .hbm, ⟨7, _⟩ => ⟨S8x8192x128, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S8x8192x1, .f32⟩
  | .hbm, ⟨18, _⟩ => ⟨S8x8192x128, .f32⟩
  | .hbm, ⟨19, _⟩ => ⟨S8x8192x128, .f32⟩
  | .hbm, ⟨20, _⟩ => ⟨S1x1x128, .f32⟩
  | .hbm, ⟨21, _⟩ => ⟨S8x8192x128, .f32⟩
  | .hbm, ⟨22, _⟩ => ⟨S8x8192x128, .f32⟩
  | .hbm, ⟨23, _⟩ => ⟨S8192x8x128, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x2048, .f32⟩
  | .hbm, ⟨48, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Kernel7.lean ====
abbrev S1x8192x2048 : Shape := ⟨3, ![1, 8192, 2048]⟩
abbrev S1x2048 : Shape := ⟨2, ![1, 2048]⟩
abbrev S8192x2048 : Shape := ⟨2, ![8192, 2048]⟩
abbrev S_ : Shape := ⟨0, ![]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S1x8192x2048 : Shape := ⟨3, ![1, 8192, 2048]⟩
abbrev S1x2048 : Shape := ⟨2, ![1, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S8192x2048 : Shape := ⟨2, ![8192, 2048]⟩

abbrev nBuf : Space → Nat
  | .hbm => 32
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S1x8192x2048, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x2048, .f32⟩
  | .hbm, ⟨17, _⟩ => ⟨S1x8192x2048, .f32⟩
  | .hbm, ⟨18, _⟩ => ⟨S1x1x2048, .f32⟩
  | .hbm, ⟨19, _⟩ => ⟨S1x8192x2048, .f32⟩
  | .hbm, ⟨20, _⟩ => ⟨S1x8192x2048, .f32⟩
  | .hbm, ⟨21, _⟩ => ⟨S1x1x2048, .f32⟩
  | .hbm, ⟨22, _⟩ => ⟨S_, .f32⟩
  | .hbm, ⟨23, _⟩ => ⟨S1x1x2048, .f32⟩
  | .hbm, ⟨24, _⟩ => ⟨S1x1x2048, .f32⟩
  | .hbm, ⟨25, _⟩ => ⟨S1x8192x2048, .f32⟩
  | .hbm, ⟨26, _⟩ => ⟨S1x8192x2048, .f32⟩
  | .hbm, ⟨27, _⟩ => ⟨S1x1x2048, .f32⟩
  | .hbm, ⟨28, _⟩ => ⟨S1x8192x2048, .f32⟩
  | .hbm, ⟨29, _⟩ => ⟨S1x8192x2048, .f32⟩
  | .hbm, ⟨30, _⟩ => ⟨S8192x2048, .f32⟩
  | .hbm, ⟨31, _⟩ => ⟨S8192x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel11.lean ====
abbrev S8x2048 : Shape := ⟨2, ![8, 2048]⟩
abbrev S1x2048x768 : Shape := ⟨3, ![1, 2048, 768]⟩
abbrev S1x768 : Shape := ⟨2, ![1, 768]⟩
abbrev S2048x768 : Shape := ⟨2, ![2048, 768]⟩
abbrev S8x768 : Shape := ⟨2, ![8, 768]⟩

abbrev nBuf : Space → Nat
  | .hbm => 5
  | .vmem => 4
  | .smem => 0
  | _ => 0

abbrev bufTy : (tb : Table) → Fin (tcTables nBuf tb) → BufTy
  | .hbm, ⟨0, _⟩ => ⟨S8x2048, .f32⟩
  | .hbm, ⟨1, _⟩ => ⟨S1x2048x768, .f32⟩
  | .hbm, ⟨2, _⟩ => ⟨S1x768, .f32⟩
  | .hbm, ⟨3, _⟩ => ⟨S2048x768, .f32⟩
  | .hbm, ⟨4, _⟩ => ⟨S8x768, .f32⟩
  | .local _ .vmem, ⟨0, _⟩ => ⟨S8x2048, .f32⟩
  | .local _ .vmem, ⟨1, _⟩ => ⟨S2048x768, .f32⟩
  | .local _ .vmem, ⟨2, _⟩ => ⟨S1x768, .f32⟩
  | .local _ .vmem, ⟨3, _⟩ => ⟨S8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference11Ideal.lean ====
abbrev S8x2048 : Shape := ⟨2, ![8, 2048]⟩
abbrev S1x2048x768 : Shape := ⟨3, ![1, 2048, 768]⟩
abbrev S1x768 : Shape := ⟨2, ![1, 768]⟩
abbrev S_ : Shape := ⟨0, ![]⟩
abbrev S2048x768 : Shape := ⟨2, ![2048, 768]⟩
abbrev S8x768 : Shape := ⟨2, ![8, 768]⟩
abbrev S768 : Shape := ⟨1, ![768]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x768, .f32⟩
  | .hbm, ⟨2, _⟩ => ⟨S1x768, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x768, .f32⟩
  | .hbm, ⟨13, _⟩ => ⟨S8x768, .f32⟩
  | .hbm, ⟨14, _⟩ => ⟨S768, .f32⟩
  | .hbm, ⟨15, _⟩ => ⟨S1x768, .f32⟩
  | .hbm, ⟨16, _⟩ => ⟨S8x768, .f32⟩
  | .hbm, ⟨17, _⟩ => ⟨S8x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x1024 : Shape := ⟨2, ![8192, 1024]⟩
abbrev S8192x3072 : Shape := ⟨2, ![8192, 3072]⟩
abbrev S8192x128 : Shape := ⟨2, ![8192, 128]⟩
abbrev S1x2048x8216 : Shape := ⟨3, ![1, 2048, 8216]⟩
abbrev S2048x8216 : Shape := ⟨2, ![2048, 8216]⟩
abbrev S8216x2048 : Shape := ⟨2, ![8216, 2048]⟩
abbrev S4096x2048 : Shape := ⟨2, ![4096, 2048]⟩
abbrev S8192x2048 : Shape := ⟨2, ![8192, 2048]⟩
abbrev S8x2048 : Shape := ⟨2, ![8, 2048]⟩
abbrev S16x2048 : Shape := ⟨2, ![16, 2048]⟩
abbrev S_ : Shape := ⟨0, ![]⟩
abbrev S104x2048 : Shape := ⟨2, ![104, 2048]⟩
abbrev S128x2048 : Shape := ⟨2, ![128, 2048]⟩
abbrev S1024x1024 : Shape := ⟨2, ![1024, 1024]⟩
abbrev S1024x128 : Shape := ⟨2, ![1024, 128]⟩
abbrev S1024x2048 : Shape := ⟨2, ![1024, 2048]⟩

abbrev nBuf : Space → Nat
  | .hbm => 20
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x3072, .bf16⟩
  | .hbm, ⟨5, _⟩ => ⟨S8192x1024, .bf16⟩
  | .hbm, ⟨6, _⟩ => ⟨S8192x128, .bf16⟩
  | .hbm, ⟨7, _⟩ => ⟨S1x2048x8216, .f32⟩
  | .hbm, ⟨8, _⟩ => ⟨S2048x8216, .f32⟩
  | .hbm, ⟨9, _⟩ => ⟨S8216x2048, .f32⟩
  | .hbm, ⟨10, _⟩ => ⟨S8216x2048, .bf16⟩
  | .hbm, ⟨11, _⟩ => ⟨S4096x2048, .bf16⟩
  | .hbm, ⟨12, _⟩ => ⟨S4096x2048, .bf16⟩
  | .hbm, ⟨13, _⟩ => ⟨S8192x2048, .bf16⟩
  | .hbm, ⟨14, _⟩ => ⟨S8x2048, .bf16⟩
  | .hbm, ⟨15, _⟩ => ⟨S16x2048, .bf16⟩
  | .hbm, ⟨16, _⟩ => ⟨S_, .bf16⟩
  | .hbm, ⟨17, _⟩ => ⟨S104x2048, .bf16⟩
  | .hbm, ⟨18, _⟩ => ⟨S128x2048, .bf16⟩
  | .hbm, ⟨19, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x128, .bf16⟩
  | .local _ .vmem, ⟨13, _⟩ => ⟨S1024x128, .bf16⟩
  | .local _ .vmem, ⟨14, _⟩ => ⟨S1024x2048, .bf16⟩
  | .local _ .vmem, ⟨15, _⟩ => ⟨S1024x2048, .bf16⟩
  | .local _ .vmem, ⟨16, _⟩ => ⟨S128x2048, .bf16⟩
  | .local _ .vmem, ⟨17, _⟩ => ⟨S1024x2048, .f32⟩
  | .local _ .vmem, ⟨18, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .sge arg1 c1_i32_3
  let c2_i32 : BitVec 32 := 2#32
  let v9 : BitVec 1 := Scalar.cmpi .slt arg1 c2_i32
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c2_i32_5 : BitVec 32 := 2#32
  let v13 : BitVec 1 := Scalar.cmpi .sge arg1 c2_i32_5
  let c3_i32 : BitVec 32 := 3#32
  let v14 : BitVec 1 := Scalar.cmpi .slt arg1 c3_i32
  let v15 : BitVec 1 := Scalar.andi v13 v14
  let v16 : BitVec 32 := Scalar.extui v15
  let c0_i32_6 : BitVec 32 := 0#32
  let v17 : BitVec 1 := Scalar.cmpi .ne v16 c0_i32_6
  v17

def k0_cond5 (i : grid0.Coords) : BitVec 1 :=
  let arg1 : BitVec 32 := BitVec.ofNat 32 (i 1).val
  let c3_i32_7 : BitVec 32 := 3#32
  let v18 : BitVec 1 := Scalar.cmpi .sge arg1 c3_i32_7
  let c4_i32 : BitVec 32 := 4#32
  let v19 : BitVec 1 := Scalar.cmpi .slt arg1 c4_i32
  let v20 : BitVec 1 := Scalar.andi v18 v19
  let v21 : BitVec 32 := Scalar.extui v20
  let c0_i32_8 : BitVec 32 := 0#32
  let v22 : BitVec 1 := Scalar.cmpi .ne v21 c0_i32_8
  v22

def k0_cond6 (i : grid0.Coords) : BitVec 1 :=
  let arg1 : BitVec 32 := BitVec.ofNat 32 (i 1).val
  let c4_i32_9 : BitVec 32 := 4#32
  let v23 : BitVec 1 := Scalar.cmpi .sge arg1 c4_i32_9
  let c7_i32 : BitVec 32 := 7#32
  let v24 : BitVec 1 := Scalar.cmpi .slt arg1 c7_i32
  let v25 : BitVec 1 := Scalar.andi v23 v24
  let v26 : BitVec 32 := Scalar.extui v25
  let c0_i32_10 : BitVec 32 := 0#32
  let v27 : BitVec 1 := Scalar.cmpi .ne v26 c0_i32_10
  v27

def k0_cond7 (i : grid0.Coords) : BitVec 1 :=
  let arg1 : BitVec 32 := BitVec.ofNat 32 (i 1).val
  let c7_i32_11 : BitVec 32 := 7#32
  let v28 : BitVec 1 := Scalar.cmpi .sge arg1 c7_i32_11
  let c8_i32 : BitVec 32 := 8#32
  let v29 : BitVec 1 := Scalar.cmpi .slt arg1 c8_i32
  let v30 : BitVec 1 := Scalar.andi v28 v29
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference15Ideal.lean ====
abbrev S8192x1024 : Shape := ⟨2, ![8192, 1024]⟩
abbrev S8192x3072 : Shape := ⟨2, ![8192, 3072]⟩
abbrev S8192x128 : Shape := ⟨2, ![8192, 128]⟩
abbrev S1x2048x8216 : Shape := ⟨3, ![1, 2048, 8216]⟩
abbrev S8192x8 : Shape := ⟨2, ![8192, 8]⟩
abbrev S8192x16 : Shape := ⟨2, ![8192, 16]⟩
abbrev S8192x8216 : Shape := ⟨2, ![8192, 8216]⟩
abbrev S_ : Shape := ⟨0, ![]⟩
abbrev S8192x2048 : Shape := ⟨2, ![8192, 2048]⟩
abbrev S2048x8216 : Shape := ⟨2, ![2048, 8216]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x3072, .bf16⟩
  | .hbm, ⟨5, _⟩ => ⟨S8192x1024, .bf16⟩
  | .hbm, ⟨6, _⟩ => ⟨S8192x128, .bf16⟩
  | .hbm, ⟨7, _⟩ => ⟨S1x2048x8216, .f32⟩
  | .hbm, ⟨8, _⟩ => ⟨S8192x8, .bf16⟩
  | .hbm, ⟨9, _⟩ => ⟨S8192x16, .bf16⟩
  | .hbm, ⟨10, _⟩ => ⟨S8192x8216, .bf16⟩
  | .hbm, ⟨11, _⟩ => ⟨S8192x8216, .f32⟩
  | .hbm, ⟨12, _⟩ => ⟨S_, .f32⟩
  | .hbm, ⟨13, _⟩ => ⟨S8192x2048, .f32⟩
  | .hbm, ⟨14, _⟩ => ⟨S2048x8216, .f32⟩
  | .hbm, ⟨15, _⟩ => ⟨S8192x8216, .f32⟩
  | .hbm, ⟨16, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]
-- ==== Kernel16.lean ====
abbrev S1x256x2048 : Shape := ⟨3, ![1, 256, 2048]⟩
abbrev S8x256x2048 : Shape := ⟨3, ![8, 256, 2048]⟩
abbrev S1x128x2048 : Shape := ⟨3, ![1, 128, 2048]⟩
abbrev S8x128x2048 : Shape := ⟨3, ![8, 128, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x256x2048, .f32⟩
  | .hbm, ⟨1, _⟩ => ⟨S8x256x2048, .bf16⟩
  | .hbm, ⟨2, _⟩ => ⟨S1x256x2048, .f32⟩
  | .hbm, ⟨3, _⟩ => ⟨S1x256x2048, .f32⟩
  | .hbm, ⟨4, _⟩ => ⟨S1x256x2048, .f32⟩
  | .hbm, ⟨5, _⟩ => ⟨S1x256x2048, .f32⟩
  | .hbm, ⟨6, _⟩ => ⟨S1x256x2048, .f32⟩
  | .hbm, ⟨7, _⟩ => ⟨S1x256x2048, .f32⟩
  | .local _ .vmem, ⟨0, _⟩ => ⟨S1x128x2048, .f32⟩
  | .local _ .vmem, ⟨1, _⟩ => ⟨S1x128x2048, .f32⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S1x256x2048 : Shape := ⟨3, ![1, 256, 2048]⟩
abbrev S8x256x2048 : Shape := ⟨3, ![8, 256, 2048]⟩
abbrev S_ : Shape := ⟨0, ![]⟩
abbrev S256x2048 : Shape := ⟨2, ![256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S8x256x2048, .bf16⟩
  | .hbm, ⟨2, _⟩ => ⟨S1x256x2048, .f32⟩
  | .hbm, ⟨3, _⟩ => ⟨S1x256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S1x256x2048, .f32⟩
  | .hbm, ⟨8, _⟩ => ⟨S_, .f32⟩
  | .hbm, ⟨9, _⟩ => ⟨S1x256x2048, .f32⟩
  | .hbm, ⟨10, _⟩ => ⟨S1x256x2048, .f32⟩
  | .hbm, ⟨11, _⟩ => ⟨S_, .f32⟩
  | .hbm, ⟨12, _⟩ => ⟨S1x256x2048, .f32⟩
  | .hbm, ⟨13, _⟩ => ⟨S1x256x2048, .f32⟩
  | .hbm, ⟨14, _⟩ => ⟨S1x256x2048, .f32⟩
  | .hbm, ⟨15, _⟩ => ⟨S_, .f32⟩
  | .hbm, ⟨16, _⟩ => ⟨S1x256x2048, .f32⟩
  | .hbm, ⟨17, _⟩ => ⟨S1x256x2048, .f32⟩
  | .hbm, ⟨18, _⟩ => ⟨S1x256x2048, .f32⟩
  | .hbm, ⟨19, _⟩ => ⟨S_, .f32⟩
  | .hbm, ⟨20, _⟩ => ⟨S1x256x2048, .f32⟩
  | .hbm, ⟨21, _⟩ => ⟨S1x256x2048, .f32⟩
  | .hbm, ⟨22, _⟩ => ⟨S1x256x2048, .f32⟩
  | .hbm, ⟨23, _⟩ => ⟨S_, .f32⟩
  | .hbm, ⟨24, _⟩ => ⟨S1x256x2048, .f32⟩
  | .hbm, ⟨25, _⟩ => ⟨S1x256x2048, .f32⟩
  | .hbm, ⟨26, _⟩ => ⟨S_, .f32⟩
  | .hbm, ⟨27, _⟩ => ⟨S1x256x2048, .f32⟩
  | .hbm, ⟨28, _⟩ => ⟨S1x256x2048, .f32⟩
  | .hbm, ⟨29, _⟩ => ⟨S1x256x2048, .f32⟩
  | .hbm, ⟨30, _⟩ => ⟨S_, .f32⟩
  | .hbm, ⟨31, _⟩ => ⟨S1x256x2048, .f32⟩
  | .hbm, ⟨32, _⟩ => ⟨S1x256x2048, .f32⟩
  | .hbm, ⟨33, _⟩ => ⟨S1x256x2048, .f32⟩
  | .hbm, ⟨34, _⟩ => ⟨S_, .f32⟩
  | .hbm, ⟨35, _⟩ => ⟨S1x256x2048, .f32⟩
  | .hbm, ⟨36, _⟩ => ⟨S1x256x2048, .f32⟩
  | .hbm, ⟨37, _⟩ => ⟨S1x256x2048, .f32⟩
  | .hbm, ⟨38, _⟩ => ⟨S_, .f32⟩
  | .hbm, ⟨39, _⟩ => ⟨S1x256x2048, .f32⟩
  | .hbm, ⟨40, _⟩ => ⟨S1x256x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel17.lean ====
abbrev S8x2048 : Shape := ⟨2, ![8, 2048]⟩
abbrev S8x768 : Shape := ⟨2, ![8, 768]⟩
abbrev S2048x8 : Shape := ⟨2, ![2048, 8]⟩
abbrev S_ : Shape := ⟨0, ![]⟩
abbrev S2048x128 : Shape := ⟨2, ![2048, 128]⟩
abbrev S128x768 : Shape := ⟨2, ![128, 768]⟩
abbrev S2048x768 : Shape := ⟨2, ![2048, 768]⟩

abbrev nBuf : Space → Nat
  | .hbm => 10
  | .vmem => 3
  | .smem => 0
  | _ => 0

abbrev bufTy : (tb : Table) → Fin (tcTables nBuf tb) → BufTy
  | .hbm, ⟨0, _⟩ => ⟨S8x2048, .f32⟩
  | .hbm, ⟨1, _⟩ => ⟨S8x768, .f32⟩
  | .hbm, ⟨2, _⟩ => ⟨S2048x8, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S_, .i32⟩
  | .hbm, ⟨7, _⟩ => ⟨S_, .f32⟩
  | .hbm, ⟨8, _⟩ => ⟨S128x768, .f32⟩
  | .hbm, ⟨9, _⟩ => ⟨S2048x768, .f32⟩
  | .local _ .vmem, ⟨0, _⟩ => ⟨S2048x128, .f32⟩
  | .local _ .vmem, ⟨1, _⟩ => ⟨S128x768, .f32⟩
  | .local _ .vmem, ⟨2, _⟩ => ⟨S2048x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference17Ideal.lean ====
abbrev S8x2048 : Shape := ⟨2, ![8, 2048]⟩
abbrev S8x768 : Shape := ⟨2, ![8, 768]⟩
abbrev S_ : Shape := ⟨0, ![]⟩
abbrev S2048x768 : Shape := ⟨2, ![2048, 768]⟩
abbrev S768x2048 : Shape := ⟨2, ![768, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x768, .f32⟩
  | .hbm, ⟨2, _⟩ => ⟨S_, .f32⟩
  | .hbm, ⟨3, _⟩ => ⟨S2048x768, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x768, .f32⟩
  | .hbm, ⟨14, _⟩ => ⟨S768x2048, .f32⟩
  | .hbm, ⟨15, _⟩ => ⟨S2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel.lean ====
abbrev S8192x2048 : Shape := ⟨2, ![8192, 2048]⟩
abbrev S1x8192x2048 : Shape := ⟨3, ![1, 8192, 2048]⟩
abbrev S1x2048 : Shape := ⟨2, ![1, 2048]⟩
abbrev S_ : Shape := ⟨0, ![]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x2048 : Shape := ⟨2, ![8192, 2048]⟩
abbrev S1x8192x2048 : Shape := ⟨3, ![1, 8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x8192x2048, .f32⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S8192x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S8192x2048, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x2048, .f32⟩
  | .hbm, ⟨72, _⟩ => ⟨S1x8192x2048, .f32⟩
  | .hbm, ⟨73, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Proof.RowNorm.lean ====
/- Hand-written, untrusted. The gradient of an RMS normalisation along one row, by hand and by the chain rule. -/
module

public import Idealize.ShloMosaic.PureOps.Ideal
public import Idealize.ShloMosaic.Lib.IdealHost

@[expose] public section

noncomputable section

open Idealize.ShloMosaic
open scoped BigOperators

namespace Cert.RowNorm

/-- An extended real that is a real number. -/
def Fin' (x : EReal) : Prop := ∃ r : ℝ, x = (r : EReal)

/-- A finite absolute value is a real number. -/
theorem fin_of_abs {x : EReal} (h : max x (-x) < ⊤) : Fin' x := by
  induction x with
  | bot => simp at h
  | top => simp at h
  | coe r => exact ⟨r, rfl⟩

variable {n : ℕ}

/-- The mean of the squares of a row plus the guard `e`. -/
def msq (N e : EReal) (x : Fin n → EReal) : EReal := Ideal.div (∑ k, x k * x k) N + e

/-- The reciprocal root mean square of a row. -/
def rrms (N e : EReal) (x : Fin n → EReal) : EReal := Ideal.rsqrt (msq N e x)

/-- The gradient as one writes it by hand: `r (t - x r · mean(t · x r))`. -/
def byHand (N e : EReal) (x t : Fin n → EReal) (j : Fin n) : EReal :=
  rrms N e x * (t j - x j * rrms N e x * Ideal.div (∑ k, t k * (x k * rrms N e x)) N)

/-- What the chain rule sends back through the mean of the squares. -/
def pull (N e h : EReal) (x t : Fin n → EReal) : EReal :=
  Ideal.div ((∑ k, x k * t k) * (h * Ideal.div (rrms N e x) (msq N e x))) N

/-- The f32 word of `-0.5`. -/
theorem ofBits_neg_half : Ideal.ofBits .f32 0xBF000000#32 = ((-(1 / 2) : ℝ) : EReal) := by
  simp [Ideal.ofBits, Ideal.ieee, -EReal.coe_mul, -EReal.coe_neg]; norm_num

/-- The f32 word of 2048. -/
theorem ofBits_2048 : Ideal.ofBits .f32 0x45000000#32 = ((2048 : ℝ) : EReal) := by
  simp [Ideal.ofBits, Ideal.ieee, -EReal.coe_mul]; norm_num

/-- The f32 word of 128. -/
theorem ofBits_128 : Ideal.ofBits .f32 0x43000000#32 = ((128 : ℝ) : EReal) := by
  simp [Ideal.ofBits, Ideal.ieee, -EReal.coe_mul]; norm_num

/-- The f32 word nearest to `1e-6` is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- A finite sum of real numbers, read in the extended reals. -/
theorem coe_sum (f : Fin n → ℝ) : ∑ k, ((f k : ℝ) : EReal) = ((∑ k, f k : ℝ) : EReal) := by
  classical
  induction (Finset.univ : Finset (Fin n)) using Finset.induction_on with
  | empty => simp
  | insert a s ha ih => rw [Finset.sum_insert ha, Finset.sum_insert ha, ih, EReal.coe_add]

/-- The row's mean square plus a positive guard, at real entries. -/
theorem msq_coe (N e : ℝ) (hN : N ≠ 0) (x : Fin n → ℝ) :
    msq (N : EReal) e (fun k => (x k : EReal)) = (((∑ k, x k * x k) / N + e : ℝ) : EReal) := by
  unfold msq
  rw [Ideal.div_coe hN]
  simp only [← EReal.coe_mul, coe_sum, ← EReal.coe_add]
  congr 1; ring

/-- The row's reciprocal root mean square at real entries. -/
theorem rrms_coe (N e : ℝ) (hN : 0 < N) (he : 0 < e) (x : Fin n → ℝ) :
    rrms (N : EReal) e (fun k => (x k : EReal)) = (((Real.sqrt ((∑ k, x k * x k) / N + e))⁻¹ : ℝ) : EReal) := by
  unfold rrms
  have h0 : 0 < (∑ k, x k * x k) / N + e :=
    add_pos_of_nonneg_of_pos (div_nonneg (Finset.sum_nonneg fun k _ => mul_self_nonneg _) hN.le) he
  rw [msq_coe N e hN.ne', Ideal.rsqrt_coe, if_neg (not_lt.mpr h0.le), if_neg h0.ne']

/-- The hand-written gradient of the normalisation is the chain rule's, on a row of real numbers. -/
theorem byHand_eq (N e : ℝ) (hN : 0 < N) (he : 0 < e) (x t : Fin n → EReal)
    (hx : ∀ k, Fin' (x k)) (ht : ∀ k, Fin' (t k)) (j : Fin n) :
    byHand (N : EReal) e x t j = t j * rrms (N : EReal) e x
      + x j * pull (N : EReal) e ((-(1 / 2) : ℝ) : EReal) x t
      + pull (N : EReal) e ((-(1 / 2) : ℝ) : EReal) x t * x j := by
  choose xr hxr using hx
  choose tr htr using ht
  obtain rfl : x = fun k => (xr k : EReal) := funext hxr
  obtain rfl : t = fun k => (tr k : EReal) := funext htr
  have h0 : 0 < (∑ k, xr k * xr k) / N + e :=
    add_pos_of_nonneg_of_pos (div_nonneg (Finset.sum_nonneg fun k _ => mul_self_nonneg _) hN.le) he
  unfold byHand pull
  simp only [rrms_coe N e hN he, msq_coe N e hN.ne', Ideal.div_coe hN.ne', Ideal.div_coe h0.ne', ← EReal.coe_mul, coe_sum,
    ← EReal.coe_add, ← EReal.coe_sub]
  congr 1
  generalize hs : (∑ k, xr k * xr k) / N + e = s at h0
  have hr : (Real.sqrt s)⁻¹ * (Real.sqrt s)⁻¹ = 1 / s := by
    rw [← mul_inv, Real.mul_self_sqrt h0.le, one_div]
  generalize (Real.sqrt s)⁻¹ = r at hr
  have e1 : ∑ k, tr k * (xr k * r) = (∑ k, xr k * tr k) * r := by
    rw [Finset.sum_mul]; exact Finset.sum_congr rfl fun k _ => by ring
  rw [e1, ← hr]; ring

end Cert.RowNorm

end
-- ==== Proof.FoxScore.lean ====
/- Hand-written, untrusted. The forgetting attention's scores, row by row, as both programs compute them. -/
module

public import proofs.«01_k».proof.Proof.RowNorm
public import Idealize.ShloMosaic.Lib.Pipeline.ValueKit
public import Idealize.ShloMosaic.Lib.Pointwise

@[expose] public section

noncomputable section

open Idealize.ShloMosaic
open scoped BigOperators

namespace Cert.Fox

/-- The words of two and of the attention's scale. -/
abbrev wTwo : EReal := Ideal.ofBits .f32 0x40000000#32
abbrev wScale : EReal := Ideal.ofBits .f32 0x3DB504F3#32

/-- The word of minus infinity reads as the least extended real. -/
theorem ofBits_low : Ideal.ofBits .f32 0xFF800000#32 = (⊥ : EReal) := by simp [Ideal.ofBits, Ideal.ieee]

/-- Column `x` of head `h` among the 1024. -/
def col (h : Fin 8) (x : Fin 128) : Fin 1024 := ⟨h.val * 128 + x.val, by omega⟩

/-- Per head, per row, per column. -/
abbrev Rows := Fin 8 → Fin 8192 → Fin 128 → EReal
/-- Per head, per row. -/
abbrev Gate := Fin 8 → Fin 8192 → EReal

variable (q k : Rows) (g : Gate) (h : Fin 8) (i j : Fin 8192)

/-- The score of a query row against a key row, with the gate's decay. -/
def score : EReal := (∑ x, q h i x * k h j x) * wScale + (g h i - g h j)
/-- The score under the causal mask. -/
def masked : EReal := if j.val ≤ i.val then score q k g h i j else ⊥
/-- A row's greatest score. -/
def top : EReal := Finset.univ.fold max ⊥ (masked q k g h i)
/-- The row's exponentials and their sum. -/
def weight : EReal := Ideal.exp (masked q k g h i j - top q k g h i)
def total : EReal := ∑ j, weight q k g h i j

end Cert.Fox

end
-- ==== Proof.FoxRef.lean ====
/- Hand-written, untrusted. The forgetting attention's gradient: the reference's four results, entry by entry. -/
module

public import proofs.«01_k».proof.Proof.FoxScore
public import proofs.«01_k».proof.Proof.Gen.Reference2Ideal.Run
public import Idealize.ShloMosaic.Lib.WordCmp
public import Idealize.ShloMosaic.Lib.Pointwise

@[expose] public section

set_option maxRecDepth 16384

noncomputable section

open Idealize.ShloMosaic Idealize.ShloMosaic.TcCoe Idealize.SL.Sem
open scoped BigOperators

namespace Cert.Fox

variable (q k v d : Rows) (g : Gate) (h : Fin 8) (i j : Fin 8192)

/-- The incoming gradient against a value row. -/
def outer : EReal := ∑ x, d h i x * v h j x
/-- The part of the scores' gradient that comes through a row's total. -/
def back : EReal := ∑ j, outer v d h i j * Ideal.div 1 (total q k g h i * total q k g h i) * weight q k g h i j
/-- The scores' gradient. -/
def grad : EReal := if j.val ≤ i.val then (Ideal.div (outer v d h i j) (total q k g h i) + -back q k v d g h i) * weight q k g h i j else 0

end Cert.Fox

namespace Cert.Reference2Ideal.Value

open Cert.Reference2Ideal Cert.Reference2Ideal.Gen
open Cert.Fox

/-- An array of rows by head, and the gate by head. -/
def rows (t : FVec Ideal S8192x1024 .f32) (h : Fin 8) (i : Fin 8192) (x : Fin 128) : EReal := t (ix2 i (col h x))
def gate (g : FVec Ideal S8x8192 .f32) (h : Fin 8) (i : Fin 8192) : EReal := g (ix2 h i)

section Pieces

variable (q k v d : FVec Ideal S8192x1024 .f32) (g : FVec Ideal S8x8192 .f32)

def HD (t : FVec Ideal S8192x1024 .f32) : FVec Ideal S8x8192x128 .f32 :=
  transpose S8x8192x128 [1, 0, 2] (shapeCast S8192x8x128 t shapeCasts_S8192x1024_S8192x8x128) transposes_S8192x8x128_S8x8192x128_1_0_2
theorem HD_at (t : FVec Ideal S8192x1024 .f32) (h : Fin 8) (i : Fin 8192) (x : Fin 128) : HD t (ix3 h i x) = rows t h i x := by
  pointwise [HD]
  rfl

def FLAT (t : FVec Ideal S8x8192x128 .f32) : FVec Ideal S8192x1024 .f32 :=
  shapeCast S8192x1024 (transpose S8192x8x128 [1, 0, 2] t transposes_S8x8192x128_S8192x8x128_1_0_2) shapeCasts_S8192x8x128_S8192x1024
theorem FLAT_at (t : FVec Ideal S8x8192x128 .f32) (i : Fin 8192) (h : Fin 8) (x : Fin 128) : FLAT t (ix2 i (col h x)) = t (ix3 h i x) := by
  pointwise [FLAT, col]

def RAW : FVec Ideal S8x8192x8192 .f32 :=
  addf (mulf (Host.dotGeneral dot_S8x8192x128_S8x8192x128_S8x8192x8192_2_2_1_1_0_0 none (HD q) (HD k))
      (broadcastInDim S8x8192x8192 ![] bcast_S_S8x8192x8192 (constant S_ .f32 0x3DB504F3#32)))
    (subf (broadcastInDim S8x8192x8192 ![0, 1, 2] bcast_S8x8192x1_S8x8192x8192_0_1_2 (broadcastInDim S8x8192x1 ![0, 1] bcast_S8x8192_S8x8192x1_0_1 g))
      (broadcastInDim S8x8192x8192 ![0, 1, 2] bcast_S8x1x8192_S8x8192x8192_0_1_2 (broadcastInDim S8x1x8192 ![0, 2] bcast_S8x8192_S8x1x8192_0_2 g)))
theorem RAW_at (h : Fin 8) (i j : Fin 8192) : RAW q k g (ix3 h i j) = score (rows q) (rows k) (gate g) h i j := by
  pointwise [RAW, HD_at]
  rfl

def KEEP : IVec S8x8192x8192 1 :=
  broadcastInDim S8x8192x8192 ![1, 2] bcast_S8192x8192_S8x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))
theorem KEEP_at (h : Fin 8) (i j : Fin 8192) : KEEP (ix3 h i j) = BitVec.ofBool (decide (j.val ≤ i.val)) := by
  pointwise [KEEP]
  exact WordCmp.cmpi_sle_ofNat (by omega) (by omega)

def Z : FVec Ideal S8x8192x8192 .f32 :=
  select KEEP (RAW q k g) (broadcastInDim S8x8192x8192 ![] bcast_S_S8x8192x8192 (constant S_ .f32 0xFF800000#32))
theorem Z_at (h : Fin 8) (i j : Fin 8192) : Z q k g (ix3 h i j) = masked (rows q) (rows k) (gate g) h i j := by
  pointwise [Z, KEEP_at, RAW_at]
  rw [Cert.Fox.ofBits_low]
  rfl

def ROWMAX : FVec Ideal S8x8192 .f32 :=
  Host.reduce FloatOps.maximumf (Z q k g) (constant S_ .f32 0xFF800000#32) reducesTo_S8x8192x8192_S8x8192_d2 h_S_
theorem ROWMAX_at (h : Fin 8) (i : Fin 8192) : ROWMAX q k g (ix2 h i) = top (rows q) (rows k) (gate g) h i := by
  pointwise [ROWMAX, Z_at]
  rw [Cert.Fox.ofBits_low]
  rfl
def ATLEAST (t : FVec Ideal S8x8192 .f32) : FVec Ideal S8x8192 .f32 :=
  maximumf (broadcastInDim S8x8192 ![] bcast_S_S8x8192 (constant S_ .f32 0xFF800000#32)) t
theorem ATLEAST_at (t : FVec Ideal S8x8192 .f32) (h : Fin 8) (i : Fin 8192) : ATLEAST t (ix2 h i) = t (ix2 h i) := by
  pointwise [ATLEAST]
  rw [Cert.Fox.ofBits_low]
  exact max_eq_right bot_le
def TOP : FVec Ideal S8x8192 .f32 := ATLEAST (ROWMAX q k g)
theorem TOP_at (h : Fin 8) (i : Fin 8192) : TOP q k g (ix2 h i) = top (rows q) (rows k) (gate g) h i :=
  (ATLEAST_at _ h i).trans (ROWMAX_at q k g h i)
def TOP3 : FVec Ideal S8x8192x1 .f32 := broadcastInDim S8x8192x1 ![0, 1] bcast_S8x8192_S8x8192x1_0_1 (TOP q k g)
theorem TOP3_at (h : Fin 8) (i : Fin 8192) (u : Fin 1) : TOP3 q k g (ix3 h i u) = top (rows q) (rows k) (gate g) h i := by
  pointwise [TOP3, TOP_at]

def EXP : FVec Ideal S8x8192x8192 .f32 :=
  Host.exp (subf (Z q k g) (broadcastInDim S8x8192x8192 ![0, 1, 2] bcast_S8x8192x1_S8x8192x8192_0_1_2 (TOP3 q k g)))
theorem EXP_at (h : Fin 8) (i j : Fin 8192) : EXP q k g (ix3 h i j) = weight (rows q) (rows k) (gate g) h i j := by
  pointwise [EXP, TOP3_at, Z_at]
  rfl

def TOT : FVec Ideal S8x8192x1 .f32 :=
  broadcastInDim S8x8192x1 ![0, 1] bcast_S8x8192_S8x8192x1_0_1
    (Host.reduceAdd (EXP q k g) (constant S_ .f32 0x00000000#32) reducesTo_S8x8192x8192_S8x8192_d2 h_S_)
theorem TOT_at (h : Fin 8) (i : Fin 8192) (u : Fin 1) : TOT q k g (ix3 h i u) = total (rows q) (rows k) (gate g) h i := by
  pointwise [TOT, EXP_at]
  rfl

/-- The probabilities, the incoming gradient against the values, and what comes through the totals. -/
def PROB : FVec Ideal S8x8192x8192 .f32 :=
  Host.divf (EXP q k g) (broadcastInDim S8x8192x8192 ![0, 1, 2] bcast_S8x8192x1_S8x8192x8192_0_1_2 (TOT q k g))
theorem PROB_at (h : Fin 8) (i j : Fin 8192) : PROB q k g (ix3 h i j)
    = Ideal.div (weight (rows q) (rows k) (gate g) h i j) (total (rows q) (rows k) (gate g) h i) := by
  pointwise [PROB, EXP_at, TOT_at]
def OUTER : FVec Ideal S8x8192x8192 .f32 := Host.dotGeneral dot_S8x8192x128_S8x8192x128_S8x8192x8192_2_2_1_1_0_0 none (HD d) (HD v)
theorem OUTER_at (h : Fin 8) (i j : Fin 8192) : OUTER v d (ix3 h i j) = outer (rows v) (rows d) h i j := by
  pointwise [OUTER, HD_at]
  rfl
def INV : FVec Ideal S8x8192x1 .f32 :=
  Host.divf (broadcastInDim S8x8192x1 ![] bcast_S_S8x8192x1 (constant S_ .f32 0x3F800000#32)) (mulf (TOT q k g) (TOT q k g))
theorem INV_at (h : Fin 8) (i : Fin 8192) (u : Fin 1) : INV q k g (ix3 h i u)
    = Ideal.div 1 (total (rows q) (rows k) (gate g) h i * total (rows q) (rows k) (gate g) h i) := by
  pointwise [INV, TOT_at]
def SUMS : FVec Ideal S8x8192 .f32 :=
  Host.reduceAdd (mulf (mulf (OUTER v d) (broadcastInDim S8x8192x8192 ![0, 1, 2] bcast_S8x8192x1_S8x8192x8192_0_1_2 (INV q k g))) (EXP q k g))
    (constant S_ .f32 0x00000000#32) reducesTo_S8x8192x8192_S8x8192_d2 h_S_
theorem SUMS_at (h : Fin 8) (i : Fin 8192) : SUMS q k v d g (ix2 h i) = back (rows q) (rows k) (rows v) (rows d) (gate g) h i := by
  pointwise [SUMS, OUTER_at, INV_at, EXP_at]
  rfl
def BACK : FVec Ideal S8x8192 .f32 :=
  Host.reduceAdd (Host.negf (shapeCast S8x8192x1 (SUMS q k v d g) shapeCasts_S8x8192_S8x8192x1))
    (constant S_ .f32 0x00000000#32) reducesTo_S8x8192x1_S8x8192_d2 h_S_
theorem BACK_at (h : Fin 8) (i : Fin 8192) : BACK q k v d g (ix2 h i) = -back (rows q) (rows k) (rows v) (rows d) (gate g) h i := by
  pointwise [BACK, SUMS_at]
  exact Fin.sum_univ_one _
def ALL : FVec Ideal S8x8192x8192 .f32 :=
  mulf (addf (Host.divf (OUTER v d) (broadcastInDim S8x8192x8192 ![0, 1, 2] bcast_S8x8192x1_S8x8192x8192_0_1_2 (TOT q k g)))
    (broadcastInDim S8x8192x8192 ![0, 1] bcast_S8x8192_S8x8192x8192_0_1 (BACK q k v d g))) (EXP q k g)
theorem ALL_at (h : Fin 8) (i j : Fin 8192) : ALL q k v d g (ix3 h i j)
    = (Ideal.div (outer (rows v) (rows d) h i j) (total (rows q) (rows k) (gate g) h i) + -back (rows q) (rows k) (rows v) (rows d) (gate g) h i)
      * weight (rows q) (rows k) (gate g) h i j := by
  pointwise [ALL, OUTER_at, TOT_at, BACK_at, EXP_at]
def GRAD : FVec Ideal S8x8192x8192 .f32 :=
  select KEEP (ALL q k v d g) (broadcastInDim S8x8192x8192 ![] bcast_S_S8x8192x8192 (constant S_ .f32 0x00000000#32))
theorem GRAD_at (h : Fin 8) (i j : Fin 8192) : GRAD q k v d g (ix3 h i j) = grad (rows q) (rows k) (rows v) (rows d) (gate g) h i j := by
  pointwise [GRAD, KEEP_at, ALL_at]
  rfl
def SCALED : FVec Ideal S8x8192x8192 .f32 :=
  mulf (GRAD q k v d g) (broadcastInDim S8x8192x8192 ![] bcast_S_S8x8192x8192 (constant S_ .f32 0x3DB504F3#32))
theorem SCALED_at (h : Fin 8) (i j : Fin 8192) : SCALED q k v d g (ix3 h i j) = grad (rows q) (rows k) (rows v) (rows d) (gate g) h i j * wScale := by
  pointwise [SCALED, GRAD_at]

def DQ : FVec Ideal S8192x1024 .f32 := FLAT (Host.dotGeneral dot_S8x8192x8192_S8x8192x128_S8x8192x128_2_1_1_2_0_0 none (SCALED q k v d g) (HD k))
theorem DQ_at (i : Fin 8192) (h : Fin 8) (x : Fin 128) : DQ q k v d g (ix2 i (col h x))
    = ∑ j, grad (rows q) (rows k) (rows v) (rows d) (gate g) h i j * wScale * rows k h j x := by
  pointwise [DQ, FLAT_at, SCALED_at, HD_at]
def DK : FVec Ideal S8192x1024 .f32 := FLAT (Host.dotGeneral dot_S8x8192x8192_S8x8192x128_S8x8192x128_1_1_2_2_0_0 none (SCALED q k v d g) (HD q))
theorem DK_at (j : Fin 8192) (h : Fin 8) (x : Fin 128) : DK q k v d g (ix2 j (col h x))
    = ∑ i, grad (rows q) (rows k) (rows v) (rows d) (gate g) h i j * wScale * rows q h i x := by
  pointwise [DK, FLAT_at, SCALED_at, HD_at]
def DV : FVec Ideal S8192x1024 .bf16 := truncf .bf16 (FLAT (transpose S8x8192x128 [0, 2, 1]
  (Host.dotGeneral dot_S8x8192x128_S8x8192x8192_S8x128x8192_1_1_2_2_0_0 none (HD d) (PROB q k g)) transposes_S8x128x8192_S8x8192x128_0_2_1)) bitsLt_bf16_f32
theorem DV_at (j : Fin 8192) (h : Fin 8) (x : Fin 128) : DV q k d g (ix2 j (col h x))
    = ∑ i, rows d h i x * Ideal.div (weight (rows q) (rows k) (gate g) h i j) (total (rows q) (rows k) (gate g) h i) := by
  pointwise [DV, FLAT_at, PROB_at, HD_at]
def BYROW : FVec Ideal S8x8192 .f32 :=
  Host.reduceAdd (shapeCast S8x8192x1 (Host.reduceAdd (GRAD q k v d g) (constant S_ .f32 0x00000000#32) reducesTo_S8x8192x8192_S8x8192_d2 h_S_)
    shapeCasts_S8x8192_S8x8192x1) (constant S_ .f32 0x00000000#32) reducesTo_S8x8192x1_S8x8192_d2 h_S_
theorem BYROW_at (h : Fin 8) (i : Fin 8192) : BYROW q k v d g (ix2 h i) = ∑ j, grad (rows q) (rows k) (rows v) (rows d) (gate g) h i j := by
  pointwise [BYROW, GRAD_at]
  exact Fin.sum_univ_one _
def BYCOL : FVec Ideal S8x8192 .f32 :=
  Host.reduceAdd (shapeCast S8x1x8192 (Host.reduceAdd (Host.negf (GRAD q k v d g)) (constant S_ .f32 0x00000000#32) reducesTo_S8x8192x8192_S8x8192_d1 h_S_)
    shapeCasts_S8x8192_S8x1x8192) (constant S_ .f32 0x00000000#32) reducesTo_S8x1x8192_S8x8192_d1 h_S_
theorem BYCOL_at (h : Fin 8) (j : Fin 8192) : BYCOL q k v d g (ix2 h j) = ∑ i, -grad (rows q) (rows k) (rows v) (rows d) (gate g) h i j := by
  pointwise [BYCOL, GRAD_at]
  exact Fin.sum_univ_one _
def DG : FVec Ideal S8x8192 .f32 := addf (BYCOL q k v d g) (BYROW q k v d g)
theorem DG_at (h : Fin 8) (i : Fin 8192) : DG q k v d g (ix2 h i) = (∑ i', -grad (rows q) (rows k) (rows v) (rows d) (gate g) h i' i)
    + ∑ j, grad (rows q) (rows k) (rows v) (rows d) (gate g) h i j := by
  pointwise [DG, BYCOL_at, BYROW_at]

end Pieces

end Cert.Reference2Ideal.Value

end
-- ==== Proof.FoxHost.lean ====
/- Hand-written, untrusted. The forgetting attention's gradient: the operands the host lines prepare, at coordinates. -/
module

public import proofs.«01_k».proof.Proof.Gen.Kernel2Ideal.Frame
public import proofs.«01_k».proof.Proof.FoxScore
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen
open Cert.Fox (wTwo wScale col score masked top weight total)

section Pieces

variable (q k v d : FVec Ideal S8192x1024 .f32) (g : FVec Ideal S8x8192 .f32)

def LN : FVec Ideal S_ .f32 := Host.log (constant S_ .f32 0x40000000#32)
def GATE : FVec Ideal S8192x8x1 .f32 :=
  Host.divf (broadcastInDim S8192x8x1 ![0, 1] bcast_S8192x8_S8192x8x1_0_1 (transpose S8192x8 [1, 0] g transposes_S8x8192_S8192x8_1_0))
    (broadcastInDim S8192x8x1 ![] bcast_S_S8192x8x1 LN)
def HI : FVec Ideal S8192x8x1 .f32 := extf .f32 (truncf .bf16 (GATE g) bitsLt_bf16_f32) bitsLt_bf16_f32
def REST : FVec Ideal S8192x8x1 .f32 := subf (GATE g) (HI g)
def MID : FVec Ideal S8192x8x1 .f32 := extf .f32 (truncf .bf16 (REST g) bitsLt_bf16_f32) bitsLt_bf16_f32
def LO : FVec Ideal S8192x8x1 .f32 := subf (REST g) (MID g)
def ONE : FVec Ideal S8192x8x1 .f32 := broadcastInDim S8192x8x1 ![] bcast_S_S8192x8x1 (constant S_ .f32 0x3F800000#32)
def NIL : FVec Ideal S8192x8x122 .f32 := broadcastInDim S8192x8x122 ![] bcast_S_S8192x8x122 (constant S_ .f32 0x00000000#32)
def QSC : FVec Ideal S8192x8x128 .f32 :=
  mulf (shapeCast S8192x8x128 q shapeCasts_S8192x1024_S8192x8x128)
    (broadcastInDim S8192x8x128 ![] bcast_S_S8192x8x128 (Host.divf (constant S_ .f32 0x3DB504F3#32) LN))

theorem LN_at (j : S_.Idx) : LN j = Ideal.log wTwo := by pointwise [LN]
theorem GATE_at (i : Fin 8192) (h : Fin 8) (u : Fin 1) : GATE g (ix3 i h u) = Ideal.div (g (ix2 h i)) (Ideal.log wTwo) := by
  pointwise [GATE, LN_at]
theorem HI_at (i : Fin 8192) (h : Fin 8) (u : Fin 1) : HI g (ix3 i h u) = Ideal.div (g (ix2 h i)) (Ideal.log wTwo) := by
  pointwise [HI, GATE_at]
theorem REST_at (i : Fin 8192) (h : Fin 8) (u : Fin 1) : REST g (ix3 i h u)
    = Ideal.div (g (ix2 h i)) (Ideal.log wTwo) - Ideal.div (g (ix2 h i)) (Ideal.log wTwo) := by
  pointwise [REST, HI_at, GATE_at]
theorem MID_at (i : Fin 8192) (h : Fin 8) (u : Fin 1) : MID g (ix3 i h u) = REST g (ix3 i h u) := by
  pointwise [MID]
theorem LO_at (i : Fin 8192) (h : Fin 8) (u : Fin 1) : LO g (ix3 i h u) = REST g (ix3 i h u) - REST g (ix3 i h u) := by
  pointwise [LO, MID_at]
theorem ONE_at (j : S8192x8x1.Idx) : ONE j = 1 := by pointwise! [ONE]
theorem NIL_at (j : S8192x8x122.Idx) : NIL j = 0 := by pointwise! [NIL]

/-- Column `x` of head `h` among the 2048 of the packed layout. -/
def wcol (h : Fin 8) (x : Fin 256) : Fin 2048 := ⟨h.val * 256 + x.val, by omega⟩

theorem QSC_at (i : Fin 8192) (h : Fin 8) (x : Fin 128) :
    QSC q (ix3 i h x) = q (ix2 i (col h x)) * Ideal.div wScale (Ideal.log wTwo) := by
  pointwise [QSC, LN_at]
  rfl

theorem wcol_mod (h : Fin 8) (x : Fin 256) : (wcol h x).val % 256 = x.val := by simp only [wcol]; omega
theorem wcol_div (h : Fin 8) (x : Fin 256) : (wcol h x).val / 256 = h.val := by simp only [wcol]; omega

def QW : FVec Ideal S8192x2048 .bf16 :=
  truncf .bf16 (shapeCast S8192x2048 (concatenate S8192x8x256 2 [⟨S8192x8x128, QSC q⟩, ⟨S8192x8x1, HI g⟩, ⟨S8192x8x1, MID g⟩, ⟨S8192x8x1, LO g⟩, ⟨S8192x8x1, ONE⟩, ⟨S8192x8x1, ONE⟩, ⟨S8192x8x1, ONE⟩, ⟨S8192x8x122, NIL⟩] concatenates_S8192x8x128_S8192x8x1_S8192x8x1_S8192x8x1_S8192x8x1_S8192x8x1_S8192x8x1_S8192x8x122_S8192x8x256_d2) shapeCasts_S8192x8x256_S8192x2048) bitsLt_bf16_f32

def KW : FVec Ideal S8192x2048 .bf16 :=
  truncf .bf16 (shapeCast S8192x2048 (concatenate S8192x8x256 2 [⟨S8192x8x128, shapeCast S8192x8x128 k shapeCasts_S8192x1024_S8192x8x128⟩, ⟨S8192x8x1, ONE⟩, ⟨S8192x8x1, ONE⟩, ⟨S8192x8x1, ONE⟩, ⟨S8192x8x1, Host.negf (HI g)⟩, ⟨S8192x8x1, Host.negf (MID g)⟩, ⟨S8192x8x1, Host.negf (LO g)⟩, ⟨S8192x8x122, NIL⟩] concatenates_S8192x8x128_S8192x8x1_S8192x8x1_S8192x8x1_S8192x8x1_S8192x8x1_S8192x8x1_S8192x8x122_S8192x8x256_d2) shapeCasts_S8192x8x256_S8192x2048) bitsLt_bf16_f32

/-- The first 128 columns of a head, its six gate columns, and the columns of zeros. -/
def lead (x : Fin 128) : Fin 256 := Fin.castAdd 128 x
def gate (x : Fin 6) : Fin 256 := Fin.natAdd 128 (Fin.castAdd 122 x)
def rest (x : Fin 122) : Fin 256 := Fin.natAdd 128 (Fin.natAdd 6 x)

/-- A sum over a head's 256 columns, part by part. -/
theorem sum_wide (f : Fin 256 → EReal) : ∑ x, f x = ∑ x, f (lead x)
    + ((f (gate 0) + f (gate 1) + f (gate 2) + f (gate 3) + f (gate 4) + f (gate 5)) + ∑ x, f (rest x)) := by
  rw [show (∑ x : Fin 256, f x) = ∑ x : Fin (128 + 128), f x from rfl, Fin.sum_univ_add]
  refine congrArg (_ + ·) ?_
  rw [show (∑ x : Fin 128, f (Fin.natAdd 128 x)) = ∑ x : Fin (6 + 122), f (Fin.natAdd 128 x) from rfl, Fin.sum_univ_add, Fin.sum_univ_six]
  rfl

/-- What a head's 256 columns hold: `lead`'s own value, three gate parts, three ones (the order swapped for `k`), zeros. -/
def packed (own : Fin 128 → EReal) (a0 a1 a2 a3 a4 a5 : EReal) (x : Fin 256) : EReal :=
  if h1 : x.val < 128 then own ⟨x.val, h1⟩ else if x.val - 128 < 1 then a0 else if x.val - 128 - 1 < 1 then a1
    else if x.val - 128 - 1 - 1 < 1 then a2 else if x.val - 128 - 1 - 1 - 1 < 1 then a3
    else if x.val - 128 - 1 - 1 - 1 - 1 < 1 then a4 else if x.val - 128 - 1 - 1 - 1 - 1 - 1 < 1 then a5 else 0

theorem packed_lead (own : Fin 128 → EReal) (a0 a1 a2 a3 a4 a5 : EReal) (x : Fin 128) :
    packed own a0 a1 a2 a3 a4 a5 (lead x) = own x := dif_pos x.isLt
theorem packed_rest (own : Fin 128 → EReal) (a0 a1 a2 a3 a4 a5 : EReal) (x : Fin 122) :
    packed own a0 a1 a2 a3 a4 a5 (rest x) = 0 := by
  have hx : (rest x).val = 128 + (6 + x.val) := rfl
  simp only [packed, hx]
  rw [dif_neg (by omega), if_neg (by omega), if_neg (by omega), if_neg (by omega), if_neg (by omega), if_neg (by omega), if_neg (by omega)]

/-- The product of two packed rows, with `own` products first and the six gate products after. -/
theorem sum_packed (o o' : Fin 128 → EReal) (a0 a1 a2 a3 a4 a5 b0 b1 b2 b3 b4 b5 : EReal) :
    ∑ x, packed o a0 a1 a2 a3 a4 a5 x * packed o' b0 b1 b2 b3 b4 b5 x
      = ∑ x, o x * o' x + (a0 * b0 + a1 * b1 + a2 * b2 + a3 * b3 + a4 * b4 + a5 * b5) := by
  rw [sum_wide]
  simp only [packed_lead, packed_rest, mul_zero, Finset.sum_const_zero, add_zero]
  rfl

theorem QW_at (i : Fin 8192) (h : Fin 8) (x : Fin 256) :
    QW q g (ix2 i (wcol h x)) = packed (fun x => QSC q (ix3 i h x)) (HI g (ix3 i h 0)) (MID g (ix3 i h 0)) (LO g (ix3 i h 0)) 1 1 1 x := by
  pointwise [QW, ONE_at, NIL_at]
  simp only [wcol_mod, wcol_div]
  unfold packed
  repeat' first | rfl | (split <;> try simp only [Nat.lt_one_iff] at *)
  · exact congrArg (HI g) (congrArg (ix3 i h) (Subsingleton.elim _ _))
  · exact congrArg (MID g) (congrArg (ix3 i h) (Subsingleton.elim _ _))
  · exact congrArg (LO g) (congrArg (ix3 i h) (Subsingleton.elim _ _))

theorem KW_at (i : Fin 8192) (h : Fin 8) (x : Fin 256) :
    KW k g (ix2 i (wcol h x)) = packed (fun x => k (ix2 i (col h x))) 1 1 1 (-HI g (ix3 i h 0)) (-MID g (ix3 i h 0)) (-LO g (ix3 i h 0)) x := by
  pointwise [KW, ONE_at, NIL_at]
  simp only [wcol_mod, wcol_div]
  unfold packed
  repeat' first | rfl | (split <;> try simp only [Nat.lt_one_iff] at *)
  · exact congrArg (fun y => -HI g y) (congrArg (ix3 i h) (Subsingleton.elim _ _))
  · exact congrArg (fun y => -MID g y) (congrArg (ix3 i h) (Subsingleton.elim _ _))
  · exact congrArg (fun y => -LO g y) (congrArg (ix3 i h) (Subsingleton.elim _ _))

/-- An array of rows by head, and the gate by head. -/
def rowsOf (t : FVec Ideal S8192x1024 .f32) (h : Fin 8) (i : Fin 8192) (x : Fin 128) : EReal := t (ix2 i (col h x))
def gateOf (g : FVec Ideal S8x8192 .f32) (h : Fin 8) (i : Fin 8192) : EReal := g (ix2 h i)

def HD (t : FVec Ideal S8192x1024 .f32) : FVec Ideal S8x8192x128 .f32 :=
  transpose S8x8192x128 [1, 0, 2] (shapeCast S8192x8x128 t shapeCasts_S8192x1024_S8192x8x128) transposes_S8192x8x128_S8x8192x128_1_0_2
theorem HD_at (t : FVec Ideal S8192x1024 .f32) (h : Fin 8) (i : Fin 8192) (x : Fin 128) : HD t (ix3 h i x) = rowsOf t h i x := by
  pointwise [HD]
  rfl

def RAW : FVec Ideal S8x8192x8192 .f32 :=
  addf (mulf (Host.dotGeneral dot_S8x8192x128_S8x8192x128_S8x8192x8192_2_2_1_1_0_0 none (HD q) (HD k))
      (broadcastInDim S8x8192x8192 ![] bcast_S_S8x8192x8192 (constant S_ .f32 0x3DB504F3#32)))
    (subf (broadcastInDim S8x8192x8192 ![0, 1, 2] bcast_S8x8192x1_S8x8192x8192_0_1_2 (broadcastInDim S8x8192x1 ![0, 1] bcast_S8x8192_S8x8192x1_0_1 g))
      (broadcastInDim S8x8192x8192 ![0, 1, 2] bcast_S8x1x8192_S8x8192x8192_0_1_2 (broadcastInDim S8x1x8192 ![0, 2] bcast_S8x8192_S8x1x8192_0_2 g)))
theorem RAW_at (h : Fin 8) (i j : Fin 8192) : RAW q k g (ix3 h i j) = score (rowsOf q) (rowsOf k) (gateOf g) h i j := by
  pointwise [RAW, HD_at]
  rfl

def KEEP : IVec S8x8192x8192 1 :=
  broadcastInDim S8x8192x8192 ![0, 1, 2] bcast_S1x8192x8192_S8x8192x8192_0_1_2
    (cmpi .sle (broadcastInDim S1x8192x8192 ![0, 1, 2] bcast_S1x1x8192_S1x8192x8192_0_1_2 (broadcastInDim S1x1x8192 ![2] bcast_S8192_S1x1x8192_2 (iotaInDim S8192 32 0)))
      (broadcastInDim S1x8192x8192 ![0, 1, 2] bcast_S1x8192x1_S1x8192x8192_0_1_2 (broadcastInDim S1x8192x1 ![1] bcast_S8192_S1x8192x1_1 (iotaInDim S8192 32 0))))
theorem KEEP_at (h : Fin 8) (i j : Fin 8192) : KEEP (ix3 h i j) = BitVec.ofBool (decide (j.val ≤ i.val)) := by
  pointwise [KEEP]
  exact WordCmp.cmpi_sle_ofNat (by omega) (by omega)

def Z : FVec Ideal S8x8192x8192 .f32 :=
  select KEEP (RAW q k g) (broadcastInDim S8x8192x8192 ![] bcast_S_S8x8192x8192 (constant S_ .f32 0xFF800000#32))
theorem Z_at (h : Fin 8) (i j : Fin 8192) : Z q k g (ix3 h i j) = masked (rowsOf q) (rowsOf k) (gateOf g) h i j := by
  pointwise [Z, KEEP_at, RAW_at]
  rw [Cert.Fox.ofBits_low]
  rfl

def TOP : FVec Ideal S8x8192 .f32 :=
  Host.reduce FloatOps.maximumf (Z q k g) (constant S_ .f32 0xFF800000#32) reducesTo_S8x8192x8192_S8x8192_d2 h_S_
theorem TOP_at (h : Fin 8) (i : Fin 8192) : TOP q k g (ix2 h i) = top (rowsOf q) (rowsOf k) (gateOf g) h i := by
  pointwise [TOP, Z_at]
  rw [Cert.Fox.ofBits_low]
  rfl
def TOP3 : FVec Ideal S8x8192x1 .f32 := broadcastInDim S8x8192x1 ![0, 1] bcast_S8x8192_S8x8192x1_0_1 (TOP q k g)
theorem TOP3_at (h : Fin 8) (i : Fin 8192) (u : Fin 1) : TOP3 q k g (ix3 h i u) = top (rowsOf q) (rowsOf k) (gateOf g) h i := by
  pointwise [TOP3, TOP_at]

def EXP : FVec Ideal S8x8192x8192 .f32 :=
  Host.exp (subf (Z q k g) (broadcastInDim S8x8192x8192 ![0, 1, 2] bcast_S8x8192x1_S8x8192x8192_0_1_2 (TOP3 q k g)))
theorem EXP_at (h : Fin 8) (i j : Fin 8192) : EXP q k g (ix3 h i j) = weight (rowsOf q) (rowsOf k) (gateOf g) h i j := by
  pointwise [EXP, TOP3_at, Z_at]
  rfl

def TOT : FVec Ideal S8x8192x1 .f32 :=
  broadcastInDim S8x8192x1 ![0, 1] bcast_S8x8192_S8x8192x1_0_1
    (Host.reduceAdd (EXP q k g) (constant S_ .f32 0x00000000#32) reducesTo_S8x8192x8192_S8x8192_d2 h_S_)
theorem TOT_at (h : Fin 8) (i : Fin 8192) (u : Fin 1) : TOT q k g (ix3 h i u) = total (rowsOf q) (rowsOf k) (gateOf g) h i := by
  pointwise [TOT, EXP_at]
  rfl

/-- The attention's output, and each row's sum of the incoming gradient times it. -/
def OUT : FVec Ideal S8x8192x128 .f32 :=
  Host.dotGeneral dot_S8x8192x8192_S8x8192x128_S8x8192x128_2_1_1_2_0_0 none
    (Host.divf (EXP q k g) (broadcastInDim S8x8192x8192 ![0, 1, 2] bcast_S8x8192x1_S8x8192x8192_0_1_2 (TOT q k g))) (HD v)
def DELTA : FVec Ideal S8192x128 .f32 :=
  pad S8192x128 ![0, 0] ![0, 120] ![0, 0] (transpose S8192x8 [1, 0]
    (Host.reduceAdd (mulf (HD d) (OUT q k v g)) (constant S_ .f32 0x00000000#32) reducesTo_S8x8192x128_S8x8192_d2 h_S_)
    transposes_S8x8192_S8192x8_1_0) (sitofp .f32 (constantI S_ 32 0#32)) pads_S8192x8_S8192x128_000_01200 h_S_
/-- The column of the padded array that head `h` has. -/
def lane (h : Fin 8) : Fin 128 := ⟨h.val, by omega⟩
theorem DELTA_at (i : Fin 8192) (h : Fin 8) : DELTA q k v d g (ix2 i (lane h))
    = ∑ x, rowsOf d h i x * ∑ j, Ideal.div (weight (rowsOf q) (rowsOf k) (gateOf g) h i j) (total (rowsOf q) (rowsOf k) (gateOf g) h i) * rowsOf v h j x := by
  pointwise [DELTA, OUT, HD_at, EXP_at, TOT_at]
  exact dif_pos h.isLt

/-- A log-sum, in base two, of a greatest score and a sum. -/
def LOGSUM (t u : FVec Ideal S8x8192x1 .f32) : FVec Ideal S8x8192x1 .f32 :=
  Host.divf (addf t (Host.log u)) (broadcastInDim S8x8192x1 ![] bcast_S_S8x8192x1 LN)
theorem LOGSUM_at (t u : FVec Ideal S8x8192x1 .f32) (h : Fin 8) (i : Fin 8192) (w : Fin 1) :
    LOGSUM t u (ix3 h i w) = Ideal.div (t (ix3 h i w) + Ideal.log (u (ix3 h i w))) (Ideal.log wTwo) := by
  pointwise [LOGSUM, LN_at]
def LSE : FVec Ideal S8x8192x1 .f32 := LOGSUM (TOP3 q k g) (TOT q k g)
theorem LSE_at (h : Fin 8) (i : Fin 8192) (u : Fin 1) : LSE q k g (ix3 h i u)
    = Ideal.div (top (rowsOf q) (rowsOf k) (gateOf g) h i + Ideal.log (total (rowsOf q) (rowsOf k) (gateOf g) h i)) (Ideal.log wTwo) :=
  (LOGSUM_at _ _ h i u).trans (congrArg (fun y => Ideal.div y (Ideal.log wTwo))
    (congrArg₂ (· + ·) (TOP3_at q k g h i u) (congrArg Ideal.log (TOT_at q k g h i u))))

end Pieces

end Cert.Kernel2Ideal.Value

end
-- ==== Proof.FoxPay.lean ====
/- Hand-written, untrusted. The forgetting attention's gradient: the kernel's tile values, entry by entry. -/
module

public import proofs.«01_k».proof.Proof.Gen.Kernel2Ideal.Skeleton
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen

/-- A choice by comparing two small positions. -/
theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat (by simpa using ha) (by simpa using hb)]
  by_cases h : b ≤ a <;> simp [Scalar.select, h]

/-- A choice by two small positions being the same. -/
theorem select_eq {α : Type} {a b : ℕ} (ha : a < 2 ^ 32) (hb : b < 2 ^ 32) (x y : α) :
    Scalar.select (IntOp.cmpi .eq (BitVec.ofNat 32 a) (BitVec.ofNat 32 b)) x y = if a = b then x else y := by
  rw [WordCmp.cmpi_eq_ofNat ha hb]
  by_cases h : a = b <;> simp [Scalar.select, h]

/-- The lower half of a block's rows. -/
abbrev low (a : Fin 512) : Fin 1024 := ⟨512 + a.val, by omega⟩

/-! ## Key blocks wholly in the past -/

section Full

variable (v4 v13 : FVec Ideal S1024x1 .f32) (q k : Vec Ideal S1024x256 .bf16) (d v : Vec Ideal S1024x128 .bf16)
  (old : Vec Ideal S1024x128 .f32) (q' k' : Vec Ideal S1024x128 .bf16)

/-- The weight of query row `a` at key row `b`. -/
theorem pay5_at (a b : Fin 1024) :
    k0_pay5 v4 q k (ix2 a b) = Ideal.exp2 ((∑ x : Fin 256, q (ix2 a x) * k (ix2 b x)) - v4 (ix2 a 0)) := by
  pointwise [k0_pay5]
  rfl

/-- The gradient of the logit of query row `a` at key row `b`. -/
theorem pay6_at (a b : Fin 1024) :
    k0_pay6 v4 v13 q d k v (ix2 a b)
      = k0_pay5 v4 q k (ix2 a b) * ((∑ x : Fin 128, d (ix2 a x) * v (ix2 b x)) - v13 (ix2 a 0)) := by
  pointwise [k0_pay6, k0_pay4]

theorem pay8_at (b : Fin 1024) (x : Fin 128) :
    k0_pay8 v4 v13 q d k v old q' (ix2 b x)
      = old (ix2 b x) + ∑ a : Fin 1024, k0_pay6 v4 v13 q d k v (ix2 a b) * q' (ix2 a x) := by
  pointwise [k0_pay8, k0_pay7]

theorem pay9_at (b : Fin 1024) (x : Fin 128) :
    k0_pay9 v4 q d k old (ix2 b x) = old (ix2 b x) + ∑ a : Fin 1024, k0_pay5 v4 q k (ix2 a b) * d (ix2 a x) := by
  pointwise [k0_pay9, k0_pay4]

theorem pay23_at (s : FVec Ideal S1024x1024 .f32) (row : Vec Ideal S1x1x1x1024 .f32) (b : Fin 1024) :
    k0_pay23 s row (ix4 0 0 0 b) = row (ix4 0 0 0 b) + (0 - ∑ a : Fin 1024, s (ix2 a b)) := by
  pointwise [k0_pay23]

theorem pay24_at (acc : FVec Ideal S1024x128 .f32) (a : Fin 1024) (x : Fin 128) :
    k0_pay24 acc (k0_pay7 v4 v13 q d k v) k' (ix2 a x)
      = acc (ix2 a x) + ∑ b : Fin 1024, k0_pay6 v4 v13 q d k v (ix2 a b) * k' (ix2 b x) := by
  pointwise [k0_pay24, k0_pay7]

theorem pay25_at (acc : FVec Ideal S1024x1 .f32) (s : FVec Ideal S1024x1024 .f32) (a : Fin 1024) :
    k0_pay25 acc s (ix2 a 0) = acc (ix2 a 0) + ∑ b : Fin 1024, s (ix2 a b) := by
  pointwise [k0_pay25]

theorem pay19_at (v3 : Vec Ideal S1x1024x1 .f32) (a : Fin 1024) : k0_pay19 v3 (ix2 a 0) = v3 (ix3 0 a 0) := by
  pointwise [k0_pay19]

theorem pay21_at (a : Fin 1024) (x : Fin 128) : (k0_pay21 : FVec Ideal S1024x128 .f32) (ix2 a x) = 0 := by
  pointwise [k0_pay21]

theorem pay22_at (a : Fin 1024) : (k0_pay22 : FVec Ideal S1024x1 .f32) (ix2 a 0) = 0 := by
  pointwise [k0_pay22]

theorem pay16_at (a : Fin 8192) (x : Fin 128) : (k0_pay16 : FVec Ideal S8192x128 .f32) (ix2 a x) = 0 := by
  pointwise [k0_pay16]

theorem pay17_at (a : Fin 8192) (x : Fin 128) : (k0_pay17 : FVec Ideal S8192x128 .f32) (ix2 a x) = 0 := by
  pointwise [k0_pay17]

theorem pay18_at (a : Fin 8) (x : Fin 1024) : (k0_pay18 : FVec Ideal S1x8x1x1024 .f32) (ix4 0 a 0 x) = 0 := by
  pointwise [k0_pay18]

theorem pay3_at (o : Vec Ideal S8192x128 .f32) (a : Fin 8192) (x : Fin 128) : k0_pay3 o (ix2 a x) = o (ix2 a x) := by
  pointwise [k0_pay3]

end Full

/-! ## The block on the diagonal: its first half of keys against every row -/

section Upper

variable (v4 v13 : FVec Ideal S1024x1 .f32) (q : Vec Ideal S1024x256 .bf16) (k : Vec Ideal S512x256 .bf16)
  (d : Vec Ideal S1024x128 .bf16) (v : Vec Ideal S512x128 .bf16)
  (old : Vec Ideal S512x128 .f32) (q' : Vec Ideal S1024x128 .bf16) (k' : Vec Ideal S512x128 .bf16)

/-- The zero the products start from. -/
abbrev zz : FVec Ideal S1024x512 .f32 := constant S1024x512 .f32 0x00000000#32

abbrev upP : FVec Ideal S1024x512 .f32 := k0_pay33 v4 k0_pay29 (k0_pay30 q) (k0_pay32 k) zz
abbrev upS : FVec Ideal S1024x512 .f32 := k0_pay34 v4 v13 k0_pay29 (k0_pay30 q) (k0_pay31 d) (k0_pay32 k) zz v

theorem pay33_at (a : Fin 1024) (b : Fin 512) :
    upP v4 q k (ix2 a b)
      = if b.val ≤ a.val then Ideal.exp2 ((∑ x : Fin 256, q (ix2 a x) * k (ix2 b x)) - v4 (ix2 a 0)) else 0 := by
  pointwise [upP, zz, k0_pay33, k0_pay29, k0_pay30, k0_pay32]
  exact select_sge (by omega) (by omega) _ _

theorem pay34_at (a : Fin 1024) (b : Fin 512) :
    upS v4 v13 q k d v (ix2 a b)
      = upP v4 q k (ix2 a b) * ((∑ x : Fin 128, d (ix2 a x) * v (ix2 b x)) - v13 (ix2 a 0)) := by
  pointwise [upS, k0_pay34, k0_pay31]

theorem pay36_at (b : Fin 512) (x : Fin 128) :
    k0_pay36 v4 v13 k0_pay29 (k0_pay30 q) (k0_pay31 d) (k0_pay32 k) zz v old q' (ix2 b x)
      = old (ix2 b x) + ∑ a : Fin 1024, upS v4 v13 q k d v (ix2 a b) * q' (ix2 a x) := by
  pointwise [k0_pay36, k0_pay35]

theorem pay37_at (b : Fin 512) (x : Fin 128) :
    k0_pay37 v4 k0_pay29 (k0_pay30 q) (k0_pay31 d) (k0_pay32 k) zz old (ix2 b x)
      = old (ix2 b x) + ∑ a : Fin 1024, upP v4 q k (ix2 a b) * d (ix2 a x) := by
  pointwise [k0_pay37, k0_pay31]

theorem pay39_at (row : Vec Ideal S1x1x1x512 .f32) (b : Fin 512) :
    k0_pay39 (k0_pay38 v4 v13 k0_pay29 (k0_pay30 q) (k0_pay31 d) (k0_pay32 k) zz v row) (ix4 0 0 0 b)
      = row (ix4 0 0 0 b) + (0 - ∑ a : Fin 1024, upS v4 v13 q k d v (ix2 a b)) := by
  pointwise [k0_pay39, k0_pay38]

theorem pay40_at (acc : FVec Ideal S1024x128 .f32) (a : Fin 1024) (x : Fin 128) :
    k0_pay40 acc (k0_pay35 v4 v13 k0_pay29 (k0_pay30 q) (k0_pay31 d) (k0_pay32 k) zz v) k' (ix2 a x)
      = acc (ix2 a x) + ∑ b : Fin 512, upS v4 v13 q k d v (ix2 a b) * k' (ix2 b x) := by
  pointwise [k0_pay40, k0_pay35]

theorem pay41_at (acc : FVec Ideal S1024x1 .f32) (s : FVec Ideal S1024x512 .f32) (a : Fin 1024) :
    k0_pay41 acc s (ix2 a 0) = acc (ix2 a 0) + ∑ b : Fin 512, s (ix2 a b) := by
  pointwise [k0_pay41]

theorem pay42_at (acc : FVec Ideal S1024x128 .f32) (s : FVec Ideal S1024x512 .bf16) (a : Fin 512) (x : Fin 128) :
    k0_pay42 acc s k' (ix2 a x) = k0_pay40 acc s k' (ix2 (low a) x) := by
  pointwise [k0_pay42]

theorem pay43_at (acc : FVec Ideal S1024x1 .f32) (s : FVec Ideal S1024x512 .f32) (a : Fin 512) :
    k0_pay43 acc s (ix2 a 0) = k0_pay41 acc s (ix2 (low a) 0) := by
  pointwise [k0_pay43]

end Upper

/-! ## The block on the diagonal: its second half of keys against the lower half of the rows -/

section Lower

variable (v4 v13 : FVec Ideal S1024x1 .f32) (q k : Vec Ideal S512x256 .bf16) (d v : Vec Ideal S512x128 .bf16)
  (old : Vec Ideal S512x128 .f32) (q' k' : Vec Ideal S512x128 .bf16)

theorem pay45_at (a b : Fin 512) :
    k0_pay45 v4 q k (ix2 a b)
      = if b.val ≤ a.val then Ideal.exp2 ((∑ x : Fin 256, q (ix2 a x) * k (ix2 b x)) - v4 (ix2 (low a) 0)) else 0 := by
  pointwise [k0_pay45]
  exact select_sge (by omega) (by omega) _ _

theorem pay46_at (a b : Fin 512) :
    k0_pay46 v4 v13 q d k v (ix2 a b)
      = k0_pay45 v4 q k (ix2 a b) * ((∑ x : Fin 128, d (ix2 a x) * v (ix2 b x)) - v13 (ix2 (low a) 0)) := by
  pointwise [k0_pay46, k0_pay44]

theorem pay48_at (b : Fin 512) (x : Fin 128) :
    k0_pay48 (k0_pay47 v4 v13 q d k v) old q' (ix2 b x)
      = old (ix2 b x) + ∑ a : Fin 512, k0_pay46 v4 v13 q d k v (ix2 a b) * q' (ix2 a x) := by
  pointwise [k0_pay48, k0_pay47]

theorem pay49_at (b : Fin 512) (x : Fin 128) (p : FVec Ideal S512x512 .f32) :
    k0_pay49 (k0_pay44 d) p old (ix2 b x) = old (ix2 b x) + ∑ a : Fin 512, p (ix2 a b) * d (ix2 a x) := by
  pointwise [k0_pay49, k0_pay44]

theorem pay50_at (s : FVec Ideal S512x512 .f32) (row : Vec Ideal S1x1x1x512 .f32) (b : Fin 512) :
    k0_pay50 s row (ix4 0 0 0 b) = row (ix4 0 0 0 b) + (0 - ∑ a : Fin 512, s (ix2 a b)) := by
  pointwise [k0_pay50]

theorem pay51_at (acc : FVec Ideal S512x128 .f32) (a : Fin 512) (x : Fin 128) :
    k0_pay51 acc (k0_pay47 v4 v13 q d k v) k' (ix2 a x)
      = acc (ix2 a x) + ∑ b : Fin 512, k0_pay46 v4 v13 q d k v (ix2 a b) * k' (ix2 b x) := by
  pointwise [k0_pay51, k0_pay47]

theorem pay52_at (acc : FVec Ideal S512x1 .f32) (s : FVec Ideal S512x512 .f32) (a : Fin 512) :
    k0_pay52 acc s (ix2 a 0) = acc (ix2 a 0) + ∑ b : Fin 512, s (ix2 a b) := by
  pointwise [k0_pay52]

end Lower

/-! ## The two halves of the rows put together -/

theorem pay1_at (lo hi : FVec Ideal S512x128 .f32) (a : Fin 1024) (x : Fin 128) :
    k0_pay1 lo hi (ix2 a x)
      = if h : a.val < 512 then hi (ix2 ⟨a.val, h⟩ x) else lo (ix2 ⟨a.val - 512, by omega⟩ x) := by
  pointwise [k0_pay1]

theorem pay2_at (up : FVec Ideal S1024x1 .f32) (lo : FVec Ideal S512x1 .f32) (a : Fin 1024) :
    k0_pay2 up lo (ix3 0 a 0)
      = if h : a.val < 512 then up (ix2 a 0) else lo (ix2 ⟨a.val - 512, by omega⟩ 0) := by
  pointwise [k0_pay2]

theorem pay53_at (o : FVec Ideal S1024x128 .f32) (a : Fin 512) (x : Fin 128) :
    k0_pay53 o (ix2 a x) = o (ix2 ⟨a.val, by omega⟩ x) := by
  pointwise [k0_pay53]

/-- The column of a head out of the lanes that hold one column per head. -/
theorem pay20_at (i : grid0.Coords) (v5 : Vec Ideal S1024x128 .f32) (a : Fin 1024) (h : Fin 128)
    (hh : (i 0).val = h.val) : k0_pay20 i v5 (ix2 a 0) = v5 (ix2 a h) := by
  pointwise [k0_pay20]
  refine (Finset.sum_congr rfl fun x _ => (select_eq (by omega) (by omega) _ _).trans
    (if_congr (show x.val = (i 0).val ↔ x = h by rw [hh]; exact Fin.val_inj) rfl rfl)).trans ?_
  rw [Finset.sum_ite_eq' Finset.univ h]
  exact if_pos (Finset.mem_univ _)

end Cert.Kernel2Ideal.Value
-- ==== Proof.FoxTrip.lean ====
/- Hand-written, untrusted. The forgetting attention's gradient: the kernel's loop over the key blocks before the
   diagonal. -/
module

public import proofs.«01_k».proof.Proof.FoxPay
public import proofs.«01_k».proof.Proof.Gen.Kernel2Ideal.Loops
public import Idealize.ShloMosaic.Lib.WritesUnit

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen

/-! ## How often the loop runs and where it reads and writes -/

theorem trips1 (i : grid0.Coords) : (k0_t1_loop i).trips = (i 1).val :=
  (by decide +kernel : ∀ n : Fin 8, Scf.Loop.trips ⟨0#32, Scalar.addi 0#32 (Scalar.muli (Scalar.divsi (Scalar.subi (BitVec.ofNat 32 n.val) 0#32) 1#32) 1#32), 1#32⟩ = n.val) (i 1)

theorem trips2 (i : grid0.Coords) : (k0_t2_loop i).trips = 0 :=
  (by decide +kernel : ∀ n : Fin 8, Scf.Loop.trips ⟨Scalar.addi 0#32 (Scalar.muli (Scalar.divsi (Scalar.subi (BitVec.ofNat 32 n.val) 0#32) 1#32) 1#32), Scalar.addi 0#32 (Scalar.subi (BitVec.ofNat 32 n.val) 0#32), 1#32⟩ = 0) (i 1)

theorem trip_lt (i : grid0.Coords) (k : Fin (k0_t1_loop i).trips) : k.val < 8 :=
  lt_of_lt_of_le k.isLt ((trips1 i).le.trans (show (i 1).val ≤ 8 from (show (i 1).val < 8 from (i 1).isLt).le))

theorem word_mul : ∀ n : Fin 8, (Scalar.indexCast (Scalar.muli (Scf.iv 0#32 1#32 n.val) 1024#32)).toNat = n.val * 1024 := by
  decide +kernel

theorem word_iv : ∀ n : Fin 8, (Scalar.indexCast (Scf.iv 0#32 1#32 n.val)).toNat = n.val := by
  decide +kernel

theorem off1_eq (i : grid0.Coords) (k : Fin (k0_t1_loop i).trips) : k0_off1 i k = ![k.val * 1024, 0] :=
  congrArg (fun z => ![z, 0]) (word_mul ⟨k.val, trip_lt i k⟩)
theorem off2_eq (i : grid0.Coords) (k : Fin (k0_t1_loop i).trips) : k0_off2 i k = ![k.val * 1024, 0] :=
  congrArg (fun z => ![z, 0]) (word_mul ⟨k.val, trip_lt i k⟩)
theorem off3_eq (i : grid0.Coords) (k : Fin (k0_t1_loop i).trips) : k0_off3 i k = ![0, k.val, 0, 0] :=
  congrArg (fun z => ![0, z, 0, 0]) (word_iv ⟨k.val, trip_lt i k⟩)
theorem off4_eq (i : grid0.Coords) (k : Fin (k0_t1_loop i).trips) : k0_off4 i k = ![k.val * 1024, 0] :=
  congrArg (fun z => ![z, 0]) (word_mul ⟨k.val, trip_lt i k⟩)

/-! ## One trip -/

section Trip

variable (𝒱 : Variants) (c : Dev nD) (bd : Option 𝒱.V) (i : grid0.Coords)
  (arg2 : Memref sig .tc .vmem S1024x256 .bf16) (harg2 : arg2.IsWhole) (arg3 : Memref sig .tc .vmem S1024x128 .bf16) (harg3 : arg3.IsWhole) (arg4 : Memref sig .tc .vmem S1x1024x1 .f32) (harg4 : arg4.IsWhole) (arg5 : Memref sig .tc .vmem S1024x128 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1024x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1x1024x1 .f32) (harg12 : arg12.IsWhole) (arg13 : Memref sig .tc .vmem S8192x128 .f32) (harg13 : arg13.IsWhole)
  (v3 : Vec Ideal S1x1024x1 .f32) (v5 : Vec Ideal S1024x128 .f32)
  (X2 : BufTy.Contents (Elt Ideal) arg2.view.ty) (X3 : BufTy.Contents (Elt Ideal) arg3.view.ty)
  (X6 : BufTy.Contents (Elt Ideal) arg6.view.ty) (X7 : BufTy.Contents (Elt Ideal) arg7.view.ty)
  (k : Fin (k0_t1_loop i).trips) (acc : FVec Ideal S1024x128 .f32 × FVec Ideal S1024x1 .f32)
  (f9 : BufTy.Contents (Elt Ideal) arg9.view.ty) (f11 : BufTy.Contents (Elt Ideal) arg11.view.ty)
  (f13 : BufTy.Contents (Elt Ideal) arg13.view.ty)

/-- The blocks a trip reads. -/
abbrev tq : Vec Ideal S1024x256 .bf16 := arg2.view.readAt (Elt Ideal) (Rect.unit (s := S1024x256) ![0, 0] S1024x256.size inb_S1024x256_S1024x256_0_0).toLoadRect X2
abbrev tqn : Vec Ideal S1024x128 .bf16 := arg2.view.readAt (Elt Ideal) (Rect.unit (s := S1024x256) ![0, 0] S1024x128.size inb_S1024x256_S1024x128_0_0).toLoadRect X2
abbrev td : Vec Ideal S1024x128 .bf16 := arg3.view.readAt (Elt Ideal) (Rect.unit (s := S1024x128) ![0, 0] S1024x128.size inb_S1024x128_S1024x128_0_0).toLoadRect X3
abbrev tk : Vec Ideal S1024x256 .bf16 := arg6.view.readAt (Elt Ideal) (Rect.unit (s := S8192x256) (k0_off1 i k) S1024x256.size (k0_off1_inb i k)).toLoadRect X6
abbrev tkn : Vec Ideal S1024x128 .bf16 := arg6.view.readAt (Elt Ideal) (Rect.unit (s := S8192x256) (k0_off4 i k) S1024x128.size (k0_off4_inb i k)).toLoadRect X6
abbrev tv : Vec Ideal S1024x128 .bf16 := arg7.view.readAt (Elt Ideal) (Rect.unit (s := S8192x128) (k0_off2 i k) S1024x128.size (k0_off2_inb i k)).toLoadRect X7
abbrev t9 : Vec Ideal S1024x128 .f32 := arg9.view.readAt (Elt Ideal) (Rect.unit (s := S8192x128) (k0_off2 i k) S1024x128.size (k0_off2_inb i k)).toLoadRect f9
abbrev t13 : Vec Ideal S1024x128 .f32 := arg13.view.readAt (Elt Ideal) (Rect.unit (s := S8192x128) (k0_off2 i k) S1024x128.size (k0_off2_inb i k)).toLoadRect f13
abbrev t11 : Vec Ideal S1x1x1x1024 .f32 := arg11.view.readAt (Elt Ideal) (Rect.unit (s := S1x8x1x1024) (k0_off3 i k) S1x1x1x1024.size (k0_off3_inb i k)).toLoadRect f11

theorem tripR_eq :
    tripR_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 X2 X3 X6 X7 k acc f9 f11 f13
      = (k0_pay24 acc.1 (k0_pay7 (k0_pay19 v3) (k0_pay20 i v5) (tq arg2 X2) (td arg3 X3) (tk i arg6 X6 k) (tv i arg7 X7 k))
            (tkn i arg6 X6 k),
          k0_pay25 acc.2 (k0_pay6 (k0_pay19 v3) (k0_pay20 i v5) (tq arg2 X2) (td arg3 X3) (tk i arg6 X6 k) (tv i arg7 X7 k))) := by
  unfold tripR_k0_t1 trip_k0_t1
  rfl

theorem tripL_eq :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 X2 X3 X6 X7 k acc f9 f11 f13
      = ([⟨Rect.unit (s := S8192x128) (k0_off2 i k) S1024x128.size (k0_off2_inb i k),
            k0_pay8 (k0_pay19 v3) (k0_pay20 i v5) (tq arg2 X2) (td arg3 X3) (tk i arg6 X6 k) (tv i arg7 X7 k)
              (t9 i arg9 k f9) (tqn arg2 X2)⟩],
         [⟨Rect.unit (s := S1x8x1x1024) (k0_off3 i k) S1x1x1x1024.size (k0_off3_inb i k),
            k0_pay23 (k0_pay6 (k0_pay19 v3) (k0_pay20 i v5) (tq arg2 X2) (td arg3 X3) (tk i arg6 X6 k) (tv i arg7 X7 k))
              (t11 i arg11 k f11)⟩],
         [⟨Rect.unit (s := S8192x128) (k0_off2 i k) S1024x128.size (k0_off2_inb i k),
            k0_pay9 (k0_pay19 v3) (tq arg2 X2) (td arg3 X3) (tk i arg6 X6 k) (t13 i arg13 k f13)⟩]) := by
  unfold tripL_k0_t1 trip_k0_t1
  rfl

end Trip

end Cert.Kernel2Ideal.Value
-- ==== Proof.FoxGrow.lean ====
/- Hand-written, untrusted. The forgetting attention's gradient: sums and buffers that grow block by block. -/
module

public import proofs.«01_k».proof.Proof.FoxTrip

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen

/-! ## Sums over the first positions -/

/-- The sum of `g` over the positions below `o`. -/
def below (g : Fin 8192 → EReal) (o : ℕ) : EReal := ∑ j : Fin 8192, if j.val < o then g j else 0

theorem below_zero (g : Fin 8192 → EReal) : below g 0 = 0 :=
  Finset.sum_eq_zero fun j _ => if_neg (Nat.not_lt_zero _)

/-- The next `W` positions added. -/
theorem below_add (g : Fin 8192 → EReal) (o W : ℕ) (h : o + W ≤ 8192) :
    below g (o + W) = below g o + ∑ b : Fin W, g ⟨o + b.val, by omega⟩ := by
  have e : (∑ b : Fin W, g ⟨o + b.val, by omega⟩) = ∑ j : Fin 8192, if o ≤ j.val ∧ j.val < o + W then g j else 0 := by
    rw [← Finset.sum_filter]
    refine Finset.sum_bij (fun b _ => (⟨o + b.val, by omega⟩ : Fin 8192)) ?_ ?_ ?_ ?_
    · intro b _
      simp only [Finset.mem_filter, Finset.mem_univ, true_and]
      omega
    · intro b _ b' _ hb
      have := congrArg Fin.val hb
      simp only at this
      exact Fin.ext (by omega)
    · intro j hj
      simp only [Finset.mem_filter, Finset.mem_univ, true_and] at hj
      exact ⟨⟨j.val - o, by omega⟩, Finset.mem_univ _, Fin.ext (by simp only; omega)⟩
    · intro b _
      rfl
  rw [e, below, below, ← Finset.sum_add_distrib]
  refine Finset.sum_congr rfl fun j _ => ?_
  by_cases h1 : j.val < o
  · rw [if_pos (by omega), if_pos h1, if_neg (by omega), add_zero]
  · by_cases h2 : j.val < o + W
    · rw [if_pos h2, if_neg h1, if_pos (by omega), zero_add]
    · rw [if_neg h2, if_neg h1, if_neg (by omega), add_zero]

/-- Nothing is left out when the rest is zero. -/
theorem below_all (g : Fin 8192 → EReal) (o : ℕ) (h : ∀ j : Fin 8192, o ≤ j.val → g j = 0) : below g o = ∑ j, g j :=
  Finset.sum_congr rfl fun j _ => by
    by_cases hj : j.val < o
    · rw [if_pos hj]
    · rw [if_neg hj, h j (by omega)]

/-- Of a sum over a block's rows only the lower half is left when the upper half is zero. -/
theorem sum_low (f : Fin 1024 → EReal) (h : ∀ a : Fin 1024, a.val < 512 → f a = 0) : (∑ a : Fin 512, f (low a)) = ∑ a, f a := by
  have e := Fin.sum_univ_add (a := 512) (b := 512) (fun a : Fin (512 + 512) => f a)
  rw [Finset.sum_eq_zero (fun (a : Fin 512) _ => h (Fin.castAdd 512 a) a.isLt), zero_add] at e
  exact e.symm

/-! ## Buffers whose first rows have been added to -/

section Grow

variable {e : EltTy} {κ : Kind} {sp : Space}

/-- A block of whole rows of a view, read at once. -/
theorem readAt_rows {m w n w' : ℕ} (v : View sig κ sp (⟨2, ![m, w]⟩ : Shape) e) (X : v.ty.Contents (Elt Ideal))
    {off : Fin 2 → ℕ} (inb : ∀ a : Fin 2, off a + (![n, w'] : Fin 2 → ℕ) a ≤ (![m, w] : Fin 2 → ℕ) a) {o : ℕ} (hoff : off = ![o, 0])
    (b : Fin n) (x : Fin w') (hb : o + b.val < m) (hx : x.val < w) :
    v.readAt (Elt Ideal) (Rect.unit (s := ⟨2, ![m, w]⟩) off ![n, w'] inb).toLoadRect X (ix2 b x)
      = v.read (Elt Ideal) X (ix2 ⟨o + b.val, hb⟩ ⟨x.val, hx⟩) := by
  subst hoff
  refine congrArg (v.read (Elt Ideal) X) (funext fun a => Fin.ext ?_)
  fin_cases a
  · show o + 1 * b.val = o + b.val
    omega
  · show 0 + 1 * x.val = x.val
    omega

variable (v : View sig κ sp (⟨2, ![8192, 128]⟩ : Shape) .f32)

/-- The buffer holds `old`, with `g` added in the rows below `o`. -/
def Rows (f : v.ty.Contents (Elt Ideal)) (old : Vec Ideal S8192x128 .f32) (g : Fin 8192 → Fin 128 → EReal) (o : ℕ) : Prop :=
  ∀ (r : Fin 8192) (x : Fin 128), v.read (Elt Ideal) f (ix2 r x) = if r.val < o then old (ix2 r x) + g r x else old (ix2 r x)

/-- Storing over the next `W` rows what they held with `g` added. -/
theorem Rows.step {f : v.ty.Contents (Elt Ideal)} {L : List (View.Piece (Elt Ideal) (⟨2, ![8192, 128]⟩ : Shape) .f32)}
    {old : Vec Ideal S8192x128 .f32} {g : Fin 8192 → Fin 128 → EReal} {o W : ℕ}
    (h : Rows v (v.writes (Elt Ideal) f L) old g o) {off : Fin 2 → ℕ} (hoff : off = ![o, 0]) (hW : o + W ≤ 8192)
    (inb : ∀ a : Fin 2, off a + (![W, 128] : Fin 2 → ℕ) a ≤ (![8192, 128] : Fin 2 → ℕ) a)
    (pay : (⟨2, ![W, 128]⟩ : Shape).Idx → EReal)
    (hp : ∀ (b : Fin W) (x : Fin 128), pay (ix2 b x)
      = v.readAt (Elt Ideal) (Rect.unit (s := ⟨2, ![8192, 128]⟩) off ![W, 128] inb).toLoadRect (v.writes (Elt Ideal) f L) (ix2 b x)
        + g ⟨o + b.val, by omega⟩ x) :
    Rows v (v.writes (Elt Ideal) f ((⟨Rect.unit (s := ⟨2, ![8192, 128]⟩) off ![W, 128] inb, pay⟩ : View.Piece (Elt Ideal) (⟨2, ![8192, 128]⟩ : Shape) .f32) :: L)) old g (o + W) := by
  intro r x
  by_cases hr : o ≤ r.val ∧ r.val < o + W
  · have hb : r.val - o < W := by omega
    refine (View.read_writes_cons_rows_of_mem v f inb pay L (ix2 r x) (ix2 (⟨r.val - o, hb⟩ : Fin W) x) hoff ?_ rfl).trans ?_
    · show r.val = o + (r.val - o)
      omega
    · have hi : (⟨o + (r.val - o), by omega⟩ : Fin 8192) = r := Fin.ext (by simp only; omega)
      rw [hp, readAt_rows v _ inb hoff _ _ (by simp only; omega) x.isLt]
      simp only [hi, Fin.eta]
      rw [h r x, if_neg (by omega), if_pos hr.2]
  · refine (View.read_writes_cons_rows_of_not_mem v f inb pay L (ix2 r x) (W := W) hoff rfl ?_).trans ?_
    · show r.val < o ∨ o + W ≤ r.val
      omega
    · rw [h r x]
      exact if_congr (by omega) rfl rfl

variable (u : View sig κ sp (⟨4, ![1, 8, 1, 1024]⟩ : Shape) .f32)

/-- The same for a row of sums kept as 8 rows of 1024: `g` added at the positions below `o`. -/
def Cells (f : u.ty.Contents (Elt Ideal)) (old : Vec Ideal S1x8x1x1024 .f32) (g : Fin 8192 → EReal) (o : ℕ) : Prop :=
  ∀ (r : Fin 8) (b : Fin 1024), u.read (Elt Ideal) f (ix4 0 r 0 b)
    = if r.val * 1024 + b.val < o then old (ix4 0 r 0 b) + g ⟨r.val * 1024 + b.val, by omega⟩ else old (ix4 0 r 0 b)

theorem Cells.step {f : u.ty.Contents (Elt Ideal)} {L : List (View.Piece (Elt Ideal) (⟨4, ![1, 8, 1, 1024]⟩ : Shape) .f32)}
    {old : Vec Ideal S1x8x1x1024 .f32} {g : Fin 8192 → EReal} {r₀ s W : ℕ}
    (h : Cells u (u.writes (Elt Ideal) f L) old g (r₀ * 1024 + s)) {off : Fin 4 → ℕ} (hoff : off = ![0, r₀, 0, s])
    (hr₀ : r₀ < 8) (hW : s + W ≤ 1024)
    (inb : ∀ a : Fin 4, off a + (![1, 1, 1, W] : Fin 4 → ℕ) a ≤ (![1, 8, 1, 1024] : Fin 4 → ℕ) a)
    (pay : (⟨4, ![1, 1, 1, W]⟩ : Shape).Idx → EReal)
    (hp : ∀ b : Fin W, pay (ix4 0 0 0 b)
      = u.readAt (Elt Ideal) (Rect.unit (s := ⟨4, ![1, 8, 1, 1024]⟩) off ![1, 1, 1, W] inb).toLoadRect (u.writes (Elt Ideal) f L) (ix4 0 0 0 b)
        + g ⟨r₀ * 1024 + s + b.val, by omega⟩) :
    Cells u (u.writes (Elt Ideal) f ((⟨Rect.unit (s := ⟨4, ![1, 8, 1, 1024]⟩) off ![1, 1, 1, W] inb, pay⟩ : View.Piece (Elt Ideal) (⟨4, ![1, 8, 1, 1024]⟩ : Shape) .f32) :: L)) old g
      (r₀ * 1024 + s + W) := by
  intro r b
  by_cases hr : r.val = r₀ ∧ s ≤ b.val ∧ b.val < s + W
  · have hb : b.val - s < W := by omega
    refine (View.read_writes_cons_unit_of_mem u f inb pay L (ix4 0 r 0 b) (ix4 0 0 0 (⟨b.val - s, hb⟩ : Fin W)) hoff ?_).trans ?_
    · intro a
      fin_cases a
      · rfl
      · exact hr.1
      · rfl
      · show b.val = s + (b.val - s)
        omega
    · have hi : (⟨r₀ * 1024 + s + (b.val - s), by omega⟩ : Fin 8192) = ⟨r.val * 1024 + b.val, by omega⟩ :=
        Fin.ext (by simp only; omega)
      rw [hp]
      refine (congrArg₂ (· + ·) (?_ : _ = u.read (Elt Ideal) (u.writes (Elt Ideal) f L) (ix4 0 r 0 b)) (congrArg g hi)).trans ?_
      · refine congrArg (u.read (Elt Ideal) (u.writes (Elt Ideal) f L)) (funext fun a => Fin.ext ?_)
        subst hoff
        fin_cases a
        · rfl
        · exact (Nat.add_zero r₀).trans hr.1.symm
        · rfl
        · show s + 1 * (b.val - s) = b.val
          omega
      · rw [h r b, if_neg (by omega), if_pos (by omega)]
  · refine Eq.trans ?_ ((h r b).trans (if_congr (by omega) rfl rfl))
    by_cases h1 : r.val = r₀
    · exact View.read_writes_cons_unit_of_not_mem u f inb pay L (ix4 0 r 0 b) hoff 3
        (show b.val < s ∨ s + W ≤ b.val by omega)
    · exact View.read_writes_cons_unit_of_not_mem u f inb pay L (ix4 0 r 0 b) hoff 1
        (show r.val < r₀ ∨ r₀ + 1 ≤ r.val by omega)

end Grow

end Cert.Kernel2Ideal.Value
-- ==== Proof.FoxLoop.lean ====
/- Hand-written, untrusted. The forgetting attention's gradient: what the kernel's loop over the key blocks before the
   diagonal leaves behind. -/
module

public import proofs.«01_k».proof.Proof.FoxGrow

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen

/-! ## The weights and logit gradients of one block of query rows -/

/-- A column of the narrow operands among the columns of the wide ones. -/
abbrev wide (x : Fin 128) : Fin 256 := ⟨x.val, by omega⟩

section Weights

variable (qi : ℕ) (x0 : Vec Ideal S1024x256 .bf16) (x1 : Vec Ideal S1024x128 .bf16) (v4 v13 : FVec Ideal S1024x1 .f32)
  (x4 : Vec Ideal S8192x256 .bf16) (x5 : Vec Ideal S8192x128 .bf16)

/-- The weight of query row `a` of block `qi` at key row `j`, zero at later keys. -/
def pM (a : Fin 1024) (j : Fin 8192) : EReal :=
  if j.val ≤ qi * 1024 + a.val then Ideal.exp2 ((∑ x : Fin 256, x0 (ix2 a x) * x4 (ix2 j x)) - v4 (ix2 a 0)) else 0

/-- The gradient of that logit. -/
def sM (a : Fin 1024) (j : Fin 8192) : EReal :=
  pM qi x0 v4 x4 a j * ((∑ x : Fin 128, x1 (ix2 a x) * x5 (ix2 j x)) - v13 (ix2 a 0))

/-- What key row `j` adds to the query gradient. -/
def gQ (a : Fin 1024) (x : Fin 128) (j : Fin 8192) : EReal := sM qi x0 x1 v4 v13 x4 x5 a j * x4 (ix2 j (wide x))

/-- What the block adds to the key gradient. -/
def gK (r : Fin 8192) (x : Fin 128) : EReal := ∑ a : Fin 1024, sM qi x0 x1 v4 v13 x4 x5 a r * x0 (ix2 a (wide x))

/-- What the block adds to the value gradient. -/
def gV (r : Fin 8192) (x : Fin 128) : EReal := ∑ a : Fin 1024, pM qi x0 v4 x4 a r * x1 (ix2 a x)

/-- What the block adds to the key part of the gate's gradient. -/
def gF (r : Fin 8192) : EReal := 0 - ∑ a : Fin 1024, sM qi x0 x1 v4 v13 x4 x5 a r

variable {qi x0 x1 v4 v13 x4 x5}

theorem pM_past {a : Fin 1024} {j : Fin 8192} (h : qi * 1024 + a.val < j.val) : pM qi x0 v4 x4 a j = 0 :=
  if_neg (by omega)

theorem sM_past {a : Fin 1024} {j : Fin 8192} (h : qi * 1024 + a.val < j.val) : sM qi x0 x1 v4 v13 x4 x5 a j = 0 := by
  rw [sM, pM_past h, zero_mul]

end Weights

/-! ## The state after some trips -/

section State

variable (𝒱 : Variants) (c : Dev nD) (bd : Option 𝒱.V) (i : grid0.Coords)
  (arg2 : Memref sig .tc .vmem S1024x256 .bf16) (harg2 : arg2.IsWhole) (arg3 : Memref sig .tc .vmem S1024x128 .bf16) (harg3 : arg3.IsWhole) (arg4 : Memref sig .tc .vmem S1x1024x1 .f32) (harg4 : arg4.IsWhole) (arg5 : Memref sig .tc .vmem S1024x128 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1024x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1x1024x1 .f32) (harg12 : arg12.IsWhole) (arg13 : Memref sig .tc .vmem S8192x128 .f32) (harg13 : arg13.IsWhole)
  (v3 : Vec Ideal S1x1024x1 .f32) (v5 : Vec Ideal S1024x128 .f32)
  (X2 : BufTy.Contents (Elt Ideal) arg2.view.ty) (X3 : BufTy.Contents (Elt Ideal) arg3.view.ty)
  (X6 : BufTy.Contents (Elt Ideal) arg6.view.ty) (X7 : BufTy.Contents (Elt Ideal) arg7.view.ty)
  (G9 : BufTy.Contents (Elt Ideal) arg9.view.ty) (G11 : BufTy.Contents (Elt Ideal) arg11.view.ty)
  (G13 : BufTy.Contents (Elt Ideal) arg13.view.ty)
  (old9 : Vec Ideal S8192x128 .f32) (old11 : Vec Ideal S1x8x1x1024 .f32) (old13 : Vec Ideal S8192x128 .f32)

/-- The blocks of a launch point as the body reads them. -/
abbrev qB : Vec Ideal S1024x256 .bf16 := arg2.view.read (Elt Ideal) X2
abbrev dB : Vec Ideal S1024x128 .bf16 := arg3.view.read (Elt Ideal) X3
abbrev kB : Vec Ideal S8192x256 .bf16 := arg6.view.read (Elt Ideal) X6
abbrev vB : Vec Ideal S8192x128 .bf16 := arg7.view.read (Elt Ideal) X7

abbrev pB : Fin 1024 → Fin 8192 → EReal := pM (i 1).val (qB arg2 X2) (k0_pay19 v3) (kB arg6 X6)
abbrev sB : Fin 1024 → Fin 8192 → EReal :=
  sM (i 1).val (qB arg2 X2) (dB arg3 X3) (k0_pay19 v3) (k0_pay20 i v5) (kB arg6 X6) (vB arg7 X7)
abbrev gQB : Fin 1024 → Fin 128 → Fin 8192 → EReal :=
  gQ (i 1).val (qB arg2 X2) (dB arg3 X3) (k0_pay19 v3) (k0_pay20 i v5) (kB arg6 X6) (vB arg7 X7)
abbrev gKB : Fin 8192 → Fin 128 → EReal :=
  gK (i 1).val (qB arg2 X2) (dB arg3 X3) (k0_pay19 v3) (k0_pay20 i v5) (kB arg6 X6) (vB arg7 X7)
abbrev gVB : Fin 8192 → Fin 128 → EReal :=
  gV (i 1).val (qB arg2 X2) (dB arg3 X3) (k0_pay19 v3) (kB arg6 X6)
abbrev gFB : Fin 8192 → EReal :=
  gF (i 1).val (qB arg2 X2) (dB arg3 X3) (k0_pay19 v3) (k0_pay20 i v5) (kB arg6 X6) (vB arg7 X7)

/-- The carried sums and the buffers with the keys below `o` taken in. -/
structure Taken (accQ : FVec Ideal S1024x128 .f32) (accR : FVec Ideal S1024x1 .f32)
    (f9 : BufTy.Contents (Elt Ideal) arg9.view.ty) (f11 : BufTy.Contents (Elt Ideal) arg11.view.ty)
    (f13 : BufTy.Contents (Elt Ideal) arg13.view.ty) (o : ℕ) : Prop where
  query : ∀ (a : Fin 1024) (x : Fin 128), accQ (ix2 a x) = below (gQB i arg2 arg3 arg6 arg7 v3 v5 X2 X3 X6 X7 a x) o
  row : ∀ a : Fin 1024, accR (ix2 a 0) = below (sB i arg2 arg3 arg6 arg7 v3 v5 X2 X3 X6 X7 a) o
  key : Rows arg9.view f9 old9 (gKB i arg2 arg3 arg6 arg7 v3 v5 X2 X3 X6 X7) o
  cell : Cells arg11.view f11 old11 (gFB i arg2 arg3 arg6 arg7 v3 v5 X2 X3 X6 X7) o
  value : Rows arg13.view f13 old13 (gVB i arg2 arg3 arg6 v3 X2 X3 X6) o

variable (k : Fin (k0_t1_loop i).trips)

theorem trip_bd (b : Fin 1024) : k.val * 1024 + b.val < 8192 := by
  have := trip_lt i k
  omega

theorem tq_at (a : Fin 1024) (x : Fin 256) : tq arg2 X2 (ix2 a x) = qB arg2 X2 (ix2 a x) :=
  (readAt_rows (m := 1024) (w := 256) arg2.view X2 _ (o := 0) rfl a x (by omega) x.isLt).trans
    (congrArg (qB arg2 X2) (congrArg₂ ix2 (Fin.ext (Nat.zero_add _)) rfl))

theorem tqn_at (a : Fin 1024) (x : Fin 128) : tqn arg2 X2 (ix2 a x) = qB arg2 X2 (ix2 a (wide x)) :=
  (readAt_rows (m := 1024) (w := 256) arg2.view X2 _ (o := 0) rfl a x (by omega) (by omega)).trans
    (congrArg (qB arg2 X2) (congrArg₂ ix2 (Fin.ext (Nat.zero_add _)) rfl))

theorem td_at (a : Fin 1024) (x : Fin 128) : td arg3 X3 (ix2 a x) = dB arg3 X3 (ix2 a x) :=
  (readAt_rows (m := 1024) (w := 128) arg3.view X3 _ (o := 0) rfl a x (by omega) x.isLt).trans
    (congrArg (dB arg3 X3) (congrArg₂ ix2 (Fin.ext (Nat.zero_add _)) rfl))

theorem tk_at (b : Fin 1024) (x : Fin 256) : tk i arg6 X6 k (ix2 b x) = kB arg6 X6 (ix2 ⟨k.val * 1024 + b.val, trip_bd i k b⟩ x) :=
  readAt_rows (m := 8192) (w := 256) arg6.view X6 _ (off1_eq i k) b x (trip_bd i k b) x.isLt

theorem tkn_at (b : Fin 1024) (x : Fin 128) : tkn i arg6 X6 k (ix2 b x) = kB arg6 X6 (ix2 ⟨k.val * 1024 + b.val, trip_bd i k b⟩ (wide x)) :=
  readAt_rows (m := 8192) (w := 256) arg6.view X6 _ (off4_eq i k) b x (trip_bd i k b) (by omega)

theorem tv_at (b : Fin 1024) (x : Fin 128) : tv i arg7 X7 k (ix2 b x) = vB arg7 X7 (ix2 ⟨k.val * 1024 + b.val, trip_bd i k b⟩ x) :=
  readAt_rows (m := 8192) (w := 128) arg7.view X7 _ (off2_eq i k) b x (trip_bd i k b) x.isLt

/-- A trip's weights. -/
theorem trip_p (a b : Fin 1024) :
    k0_pay5 (k0_pay19 v3) (tq arg2 X2) (tk i arg6 X6 k) (ix2 a b)
      = pB i arg2 arg6 v3 X2 X6 a ⟨k.val * 1024 + b.val, trip_bd i k b⟩ := by
  have hk : k.val < (i 1).val := k.isLt.trans_eq (trips1 i)
  rw [pay5_at]
  refine Eq.trans ?_ (if_pos (show k.val * 1024 + b.val ≤ (i 1).val * 1024 + a.val by omega)).symm
  refine congrArg (fun z => Ideal.exp2 (z - k0_pay19 v3 (ix2 a 0))) (Finset.sum_congr rfl fun x _ => ?_)
  rw [tq_at, tk_at]

/-- A trip's logit gradients. -/
theorem trip_s (a b : Fin 1024) :
    k0_pay6 (k0_pay19 v3) (k0_pay20 i v5) (tq arg2 X2) (td arg3 X3) (tk i arg6 X6 k) (tv i arg7 X7 k) (ix2 a b)
      = sB i arg2 arg3 arg6 arg7 v3 v5 X2 X3 X6 X7 a ⟨k.val * 1024 + b.val, trip_bd i k b⟩ := by
  rw [pay6_at, trip_p]
  refine congrArg (fun z => pB i arg2 arg6 v3 X2 X6 a _ * (z - k0_pay20 i v5 (ix2 a 0))) (Finset.sum_congr rfl fun x _ => ?_)
  rw [td_at, tv_at]

/-- A trip takes in the next 1024 keys. -/
theorem taken_trip {acc : FVec Ideal S1024x128 .f32 × FVec Ideal S1024x1 .f32}
    {L9 : List (View.Piece (Elt Ideal) S8192x128 .f32)} {L11 : List (View.Piece (Elt Ideal) S1x8x1x1024 .f32)}
    {L13 : List (View.Piece (Elt Ideal) S8192x128 .f32)}
    (h : Taken i arg2 arg3 arg6 arg7 arg9 arg11 arg13 v3 v5 X2 X3 X6 X7 old9 old11 old13 acc.1 acc.2 (arg9.view.writes (Elt Ideal) G9 L9)
      (arg11.view.writes (Elt Ideal) G11 L11) (arg13.view.writes (Elt Ideal) G13 L13) (k.val * 1024)) :
    Taken i arg2 arg3 arg6 arg7 arg9 arg11 arg13 v3 v5 X2 X3 X6 X7 old9 old11 old13
      (k0_pay24 acc.1 (k0_pay7 (k0_pay19 v3) (k0_pay20 i v5) (tq arg2 X2) (td arg3 X3) (tk i arg6 X6 k) (tv i arg7 X7 k)) (tkn i arg6 X6 k))
      (k0_pay25 acc.2 (k0_pay6 (k0_pay19 v3) (k0_pay20 i v5) (tq arg2 X2) (td arg3 X3) (tk i arg6 X6 k) (tv i arg7 X7 k)))
      (arg9.view.writes (Elt Ideal) G9 (⟨Rect.unit (s := S8192x128) (k0_off2 i k) S1024x128.size (k0_off2_inb i k),
            k0_pay8 (k0_pay19 v3) (k0_pay20 i v5) (tq arg2 X2) (td arg3 X3) (tk i arg6 X6 k) (tv i arg7 X7 k)
              (t9 i arg9 k (arg9.view.writes (Elt Ideal) G9 L9)) (tqn arg2 X2)⟩ :: L9))
      (arg11.view.writes (Elt Ideal) G11 (⟨Rect.unit (s := S1x8x1x1024) (k0_off3 i k) S1x1x1x1024.size (k0_off3_inb i k),
            k0_pay23 (k0_pay6 (k0_pay19 v3) (k0_pay20 i v5) (tq arg2 X2) (td arg3 X3) (tk i arg6 X6 k) (tv i arg7 X7 k))
              (t11 i arg11 k (arg11.view.writes (Elt Ideal) G11 L11))⟩ :: L11))
      (arg13.view.writes (Elt Ideal) G13 (⟨Rect.unit (s := S8192x128) (k0_off2 i k) S1024x128.size (k0_off2_inb i k),
            k0_pay9 (k0_pay19 v3) (tq arg2 X2) (td arg3 X3) (tk i arg6 X6 k) (t13 i arg13 k (arg13.view.writes (Elt Ideal) G13 L13))⟩ :: L13))
      (k.val * 1024 + 1024) := by
  have hk : k.val < 8 := trip_lt i k
  obtain ⟨hq, hr, h9, h11, h13⟩ := h
  refine ⟨fun a x => ?_, fun a => ?_, ?_, ?_, ?_⟩
  · rw [below_add _ _ _ (by omega), pay24_at, hq a x]
    refine congrArg (_ + ·) (Finset.sum_congr rfl fun b _ => ?_)
    rw [trip_s, tkn_at]
    rfl
  · rw [below_add _ _ _ (by omega), pay25_at, hr a]
    refine congrArg (_ + ·) (Finset.sum_congr rfl fun b _ => ?_)
    rw [trip_s]
  · refine h9.step arg9.view (off2_eq i k) (by omega) _ _ fun b x => ?_
    rw [pay8_at]
    refine congrArg (t9 i arg9 k (arg9.view.writes (Elt Ideal) G9 L9) (ix2 b x) + ·) (Finset.sum_congr rfl fun a _ => ?_)
    rw [trip_s, tqn_at]
  · refine Cells.step arg11.view (r₀ := k.val) (s := 0) h11 (off3_eq i k) hk (by omega) _ _ fun b => ?_
    rw [pay23_at]
    refine congrArg (fun z => t11 i arg11 k (arg11.view.writes (Elt Ideal) G11 L11) (ix4 0 0 0 b) + (0 - z)) (Finset.sum_congr rfl fun a _ => ?_)
    rw [trip_s]
    rfl
  · refine h13.step arg13.view (off2_eq i k) (by omega) _ _ fun b x => ?_
    rw [pay9_at]
    refine congrArg (t13 i arg13 k (arg13.view.writes (Elt Ideal) G13 L13) (ix2 b x) + ·) (Finset.sum_congr rfl fun a _ => ?_)
    rw [trip_p, td_at]

/-- After `n` trips the first `1024 n` keys have been taken in. -/
theorem taken_loop (n : ℕ) (hn : n ≤ (k0_t1_loop i).trips) :
    Taken i arg2 arg3 arg6 arg7 arg9 arg11 arg13 v3 v5 X2 X3 X6 X7 (arg9.view.read (Elt Ideal) G9) (arg11.view.read (Elt Ideal) G11)
      (arg13.view.read (Elt Ideal) G13)
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 X2 X3 X6 X7 G9 G11 G13 (k0_pay21, k0_pay22) n).1.1
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 X2 X3 X6 X7 G9 G11 G13 (k0_pay21, k0_pay22) n).1.2
      (arg9.view.writes (Elt Ideal) G9 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 X2 X3 X6 X7 G9 G11 G13 (k0_pay21, k0_pay22) n).2.1)
      (arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 X2 X3 X6 X7 G9 G11 G13 (k0_pay21, k0_pay22) n).2.2.1)
      (arg13.view.writes (Elt Ideal) G13 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v3 v5 X2 X3 X6 X7 G9 G11 G13 (k0_pay21, k0_pay22) n).2.2.2)
      (n * 1024) := by
  induction n with
  | zero =>
    refine ⟨fun a x => ?_, fun a => ?_, fun r x => ?_, fun r b => ?_, fun r x => ?_⟩
    · rw [Nat.zero_mul, below_zero]
      exact pay21_at a x
    · rw [Nat.zero_mul, below_zero]
      exact pay22_at a
    · rw [if_neg (by omega)]
      rfl
    · rw [if_neg (by omega)]
      rfl
    · rw [if_neg (by omega)]
      rfl
  | succ n ih =>
    have hlt : n < (k0_t1_loop i).trips := hn
    rw [st_k0_t1_succ 𝒱 c bd i arg2 harg2 arg3 harg3 arg4 harg4 arg5 harg5 arg6 harg6 arg7 harg7 arg8 harg8 arg9 harg9 arg10 harg10 arg11 harg11 arg12 harg12 arg13 harg13 v3 v5 X2 X3 X6 X7 G9 G11 G13 (k0_pay21, k0_pay22) ⟨n, hlt⟩, Nat.succ_mul]
    rw [tripR_eq, tripL_eq]
    exact taken_trip i arg2 arg3 arg6 arg7 arg9 arg11 arg13 v3 v5 X2 X3 X6 X7 G9 G11 G13 _ _ _ ⟨n, hlt⟩ (ih hlt.le)

end State

end Cert.Kernel2Ideal.Value
-- ==== Proof.FoxDiag.lean ====
/- Hand-written, untrusted. The forgetting attention's gradient: the kernel's block on the diagonal, and one whole
   launch point. -/
module

public import proofs.«01_k».proof.Proof.FoxLoop

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen

/-! ## Where the diagonal block reads and writes -/

theorem word_q : ∀ n : Fin 8, (Scalar.indexCast (Scalar.muli (BitVec.ofNat 32 n.val) 1024#32)).toNat = n.val * 1024 := by
  decide +kernel

theorem word_q_low : ∀ n : Fin 8,
    (Scalar.indexCast (Scalar.addi (Scalar.muli (BitVec.ofNat 32 n.val) 1024#32) 512#32)).toNat = n.val * 1024 + 512 := by
  decide +kernel

theorem word_r : ∀ n : Fin 8, (Scalar.indexCast (BitVec.ofNat 32 n.val)).toNat = n.val := by
  decide +kernel

section Offsets

variable (i : grid0.Coords)

theorem off9_eq : k0_off9 i = ![(i 1).val * 1024, 0] := congrArg (fun z => ![z, 0]) (word_q (i 1))
theorem off10_eq : k0_off10 i = ![(i 1).val * 1024, 0] := congrArg (fun z => ![z, 0]) (word_q (i 1))
theorem off11_eq : k0_off11 i = ![0, (i 1).val, 0, 0] := congrArg (fun z => ![0, z, 0, 0]) (word_r (i 1))
theorem off12_eq : k0_off12 i = ![(i 1).val * 1024, 0] := congrArg (fun z => ![z, 0]) (word_q (i 1))
theorem off13_eq : k0_off13 i = ![(i 1).val * 1024 + 512, 0] := congrArg (fun z => ![z, 0]) (word_q_low (i 1))
theorem off14_eq : k0_off14 i = ![(i 1).val * 1024 + 512, 0] := congrArg (fun z => ![z, 0]) (word_q_low (i 1))
theorem off15_eq : k0_off15 i = ![0, (i 1).val, 0, 512] := congrArg (fun z => ![0, z, 0, 512]) (word_r (i 1))
theorem off16_eq : k0_off16 i = ![(i 1).val * 1024 + 512, 0] := congrArg (fun z => ![z, 0]) (word_q_low (i 1))

theorem block_lt : (i 1).val < 8 := (i 1).isLt

end Offsets

section Diag

variable (i : grid0.Coords)
  (arg2 : Memref sig .tc .vmem S1024x256 .bf16) (arg3 : Memref sig .tc .vmem S1024x128 .bf16)
  (arg6 : Memref sig .tc .vmem S8192x256 .bf16) (arg7 : Memref sig .tc .vmem S8192x128 .bf16)
  (arg9 : Memref sig .tc .vmem S8192x128 .f32) (arg11 : Memref sig .tc .vmem S1x8x1x1024 .f32)
  (arg13 : Memref sig .tc .vmem S8192x128 .f32)
  (v3 : Vec Ideal S1x1024x1 .f32) (v5 : Vec Ideal S1024x128 .f32)
  (X2 : BufTy.Contents (Elt Ideal) arg2.view.ty) (X3 : BufTy.Contents (Elt Ideal) arg3.view.ty)
  (X6 : BufTy.Contents (Elt Ideal) arg6.view.ty) (X7 : BufTy.Contents (Elt Ideal) arg7.view.ty)
  (B9 : BufTy.Contents (Elt Ideal) arg9.view.ty) (B11 : BufTy.Contents (Elt Ideal) arg11.view.ty)
  (B13 : BufTy.Contents (Elt Ideal) arg13.view.ty)
  (old9 : Vec Ideal S8192x128 .f32) (old11 : Vec Ideal S1x8x1x1024 .f32) (old13 : Vec Ideal S8192x128 .f32)
  (accQ : FVec Ideal S1024x128 .f32) (accR : FVec Ideal S1024x1 .f32)
  (L9 : List (View.Piece (Elt Ideal) S8192x128 .f32)) (L11 : List (View.Piece (Elt Ideal) S1x8x1x1024 .f32))
  (L13 : List (View.Piece (Elt Ideal) S8192x128 .f32))

/-! ## The first half of the keys -/

abbrev uk : Vec Ideal S512x256 .bf16 := arg6.view.readAt (Elt Ideal) (Rect.unit (s := S8192x256) (k0_off9 i) S512x256.size (k0_off9_inb i)).toLoadRect X6
abbrev uv : Vec Ideal S512x128 .bf16 := arg7.view.readAt (Elt Ideal) (Rect.unit (s := S8192x128) (k0_off10 i) S512x128.size (k0_off10_inb i)).toLoadRect X7
abbrev ukn : Vec Ideal S512x128 .bf16 := arg6.view.readAt (Elt Ideal) (Rect.unit (s := S8192x256) (k0_off12 i) S512x128.size (k0_off12_inb i)).toLoadRect X6
abbrev u9 (f9 : BufTy.Contents (Elt Ideal) arg9.view.ty) : Vec Ideal S512x128 .f32 := arg9.view.readAt (Elt Ideal) (Rect.unit (s := S8192x128) (k0_off10 i) S512x128.size (k0_off10_inb i)).toLoadRect f9
abbrev u11 (f11 : BufTy.Contents (Elt Ideal) arg11.view.ty) : Vec Ideal S1x1x1x512 .f32 := arg11.view.readAt (Elt Ideal) (Rect.unit (s := S1x8x1x1024) (k0_off11 i) S1x1x1x512.size (k0_off11_inb i)).toLoadRect f11

theorem up_bd (b : Fin 512) : (i 1).val * 1024 + b.val < 8192 := by
  have := block_lt i
  omega

theorem uk_at (b : Fin 512) (x : Fin 256) : uk i arg6 X6 (ix2 b x) = kB arg6 X6 (ix2 ⟨(i 1).val * 1024 + b.val, up_bd i b⟩ x) :=
  readAt_rows (m := 8192) (w := 256) arg6.view X6 _ (off9_eq i) b x (up_bd i b) x.isLt

theorem ukn_at (b : Fin 512) (x : Fin 128) : ukn i arg6 X6 (ix2 b x) = kB arg6 X6 (ix2 ⟨(i 1).val * 1024 + b.val, up_bd i b⟩ (wide x)) :=
  readAt_rows (m := 8192) (w := 256) arg6.view X6 _ (off12_eq i) b x (up_bd i b) (by omega)

theorem uv_at (b : Fin 512) (x : Fin 128) : uv i arg7 X7 (ix2 b x) = vB arg7 X7 (ix2 ⟨(i 1).val * 1024 + b.val, up_bd i b⟩ x) :=
  readAt_rows (m := 8192) (w := 128) arg7.view X7 _ (off10_eq i) b x (up_bd i b) x.isLt

abbrev upPB : FVec Ideal S1024x512 .f32 := upP (k0_pay19 v3) (tq arg2 X2) (uk i arg6 X6)
abbrev upSB : FVec Ideal S1024x512 .f32 :=
  upS (k0_pay19 v3) (k0_pay20 i v5) (tq arg2 X2) (uk i arg6 X6) (td arg3 X3) (uv i arg7 X7)
abbrev upRB : FVec Ideal S1024x512 .bf16 :=
  k0_pay35 (k0_pay19 v3) (k0_pay20 i v5) k0_pay29 (k0_pay30 (tq arg2 X2)) (k0_pay31 (td arg3 X3)) (k0_pay32 (uk i arg6 X6)) zz (uv i arg7 X7)

theorem up_p (a : Fin 1024) (b : Fin 512) :
    upPB i arg2 arg6 v3 X2 X6 (ix2 a b) = pB i arg2 arg6 v3 X2 X6 a ⟨(i 1).val * 1024 + b.val, up_bd i b⟩ := by
  refine (pay33_at _ _ _ a b).trans (if_congr (by simp only; omega) ?_ rfl)
  refine congrArg (fun z => Ideal.exp2 (z - k0_pay19 v3 (ix2 a 0))) (Finset.sum_congr rfl fun x _ => ?_)
  rw [tq_at, uk_at]

theorem up_s (a : Fin 1024) (b : Fin 512) :
    upSB i arg2 arg3 arg6 arg7 v3 v5 X2 X3 X6 X7 (ix2 a b)
      = sB i arg2 arg3 arg6 arg7 v3 v5 X2 X3 X6 X7 a ⟨(i 1).val * 1024 + b.val, up_bd i b⟩ := by
  refine (pay34_at _ _ _ _ _ _ a b).trans (congrArg₂ (· * ·) (up_p i arg2 arg6 v3 X2 X6 a b) ?_)
  refine congrArg (fun z => z - k0_pay20 i v5 (ix2 a 0)) (Finset.sum_congr rfl fun x _ => ?_)
  rw [td_at, uv_at]

abbrev up9 : List (View.Piece (Elt Ideal) S8192x128 .f32) :=
  ⟨Rect.unit (s := S8192x128) (k0_off10 i) S512x128.size (k0_off10_inb i),
    k0_pay36 (k0_pay19 v3) (k0_pay20 i v5) k0_pay29 (k0_pay30 (tq arg2 X2)) (k0_pay31 (td arg3 X3)) (k0_pay32 (uk i arg6 X6)) zz
      (uv i arg7 X7) (u9 i arg9 (arg9.view.writes (Elt Ideal) B9 L9)) (tqn arg2 X2)⟩ :: L9
abbrev up11 : List (View.Piece (Elt Ideal) S1x8x1x1024 .f32) :=
  ⟨Rect.unit (s := S1x8x1x1024) (k0_off11 i) S1x1x1x512.size (k0_off11_inb i),
    k0_pay39 (k0_pay38 (k0_pay19 v3) (k0_pay20 i v5) k0_pay29 (k0_pay30 (tq arg2 X2)) (k0_pay31 (td arg3 X3)) (k0_pay32 (uk i arg6 X6)) zz
      (uv i arg7 X7) (u11 i arg11 (arg11.view.writes (Elt Ideal) B11 L11)))⟩ :: L11
abbrev up13 : List (View.Piece (Elt Ideal) S8192x128 .f32) :=
  ⟨Rect.unit (s := S8192x128) (k0_off10 i) S512x128.size (k0_off10_inb i),
    k0_pay37 (k0_pay19 v3) k0_pay29 (k0_pay30 (tq arg2 X2)) (k0_pay31 (td arg3 X3)) (k0_pay32 (uk i arg6 X6)) zz
      (u9 i arg13 (arg13.view.writes (Elt Ideal) B13 L13))⟩ :: L13
abbrev upQ : FVec Ideal S1024x128 .f32 := k0_pay40 accQ (upRB i arg2 arg3 arg6 arg7 v3 v5 X2 X3 X6 X7) (ukn i arg6 X6)
abbrev upR : FVec Ideal S1024x1 .f32 := k0_pay41 accR (upSB i arg2 arg3 arg6 arg7 v3 v5 X2 X3 X6 X7)

variable {accQ accR B9 B11 B13 L9 L11 L13 old9 old11 old13} in
/-- The first half of the diagonal block takes in its 512 keys. -/
theorem taken_up
    (h : Taken i arg2 arg3 arg6 arg7 arg9 arg11 arg13 v3 v5 X2 X3 X6 X7 old9 old11 old13 accQ accR (arg9.view.writes (Elt Ideal) B9 L9)
      (arg11.view.writes (Elt Ideal) B11 L11) (arg13.view.writes (Elt Ideal) B13 L13) ((i 1).val * 1024)) :
    Taken i arg2 arg3 arg6 arg7 arg9 arg11 arg13 v3 v5 X2 X3 X6 X7 old9 old11 old13
      (upQ i arg2 arg3 arg6 arg7 v3 v5 X2 X3 X6 X7 accQ) (upR i arg2 arg3 arg6 arg7 v3 v5 X2 X3 X6 X7 accR)
      (arg9.view.writes (Elt Ideal) B9 (up9 i arg2 arg3 arg6 arg7 arg9 v3 v5 X2 X3 X6 X7 B9 L9))
      (arg11.view.writes (Elt Ideal) B11 (up11 i arg2 arg3 arg6 arg7 arg11 v3 v5 X2 X3 X6 X7 B11 L11))
      (arg13.view.writes (Elt Ideal) B13 (up13 i arg2 arg3 arg6 arg13 v3 X2 X3 X6 B13 L13))
      ((i 1).val * 1024 + 512) := by
  have hk := block_lt i
  obtain ⟨hq, hr, h9, h11, h13⟩ := h
  refine ⟨fun a x => ?_, fun a => ?_, ?_, ?_, ?_⟩
  · rw [below_add _ _ _ (by omega), ← hq a x]
    refine (pay40_at _ _ _ _ _ _ _ _ a x).trans (congrArg (accQ (ix2 a x) + ·) (Finset.sum_congr rfl fun b _ => ?_))
    exact congrArg₂ (· * ·) (up_s i arg2 arg3 arg6 arg7 v3 v5 X2 X3 X6 X7 a b) (ukn_at i arg6 X6 b x)
  · rw [below_add _ _ _ (by omega), ← hr a]
    refine (pay41_at _ _ a).trans (congrArg (accR (ix2 a 0) + ·) (Finset.sum_congr rfl fun b _ => ?_))
    exact up_s i arg2 arg3 arg6 arg7 v3 v5 X2 X3 X6 X7 a b
  · refine h9.step arg9.view (off10_eq i) (by omega) _ _ fun b x => ?_
    refine (pay36_at _ _ _ _ _ _ _ _ b x).trans
      (congrArg (u9 i arg9 (arg9.view.writes (Elt Ideal) B9 L9) (ix2 b x) + ·) (Finset.sum_congr rfl fun a _ => ?_))
    exact congrArg₂ (· * ·) (up_s i arg2 arg3 arg6 arg7 v3 v5 X2 X3 X6 X7 a b) (tqn_at arg2 X2 a x)
  · refine Cells.step arg11.view (r₀ := (i 1).val) (s := 0) h11 (off11_eq i) hk (by omega) _ _ fun b => ?_
    refine (pay39_at _ _ _ _ _ _ _ b).trans
      (congrArg (fun z => u11 i arg11 (arg11.view.writes (Elt Ideal) B11 L11) (ix4 0 0 0 b) + (0 - z)) (Finset.sum_congr rfl fun a _ => ?_))
    exact up_s i arg2 arg3 arg6 arg7 v3 v5 X2 X3 X6 X7 a b
  · refine h13.step arg13.view (off10_eq i) (by omega) _ _ fun b x => ?_
    refine (pay37_at _ _ _ _ _ b x).trans
      (congrArg (u9 i arg13 (arg13.view.writes (Elt Ideal) B13 L13) (ix2 b x) + ·) (Finset.sum_congr rfl fun a _ => ?_))
    exact congrArg₂ (· * ·) (up_p i arg2 arg6 v3 X2 X6 a b) (td_at arg3 X3 a x)

/-! ## The second half of the keys, against the lower half of the rows -/

abbrev lq : Vec Ideal S512x256 .bf16 := arg2.view.readAt (Elt Ideal) (Rect.unit (s := S1024x256) ![512, 0] S512x256.size inb_S1024x256_S512x256_512_0).toLoadRect X2
abbrev lqn : Vec Ideal S512x128 .bf16 := arg2.view.readAt (Elt Ideal) (Rect.unit (s := S1024x256) ![512, 0] S512x128.size inb_S1024x256_S512x128_512_0).toLoadRect X2
abbrev ld : Vec Ideal S512x128 .bf16 := arg3.view.readAt (Elt Ideal) (Rect.unit (s := S1024x128) ![512, 0] S512x128.size inb_S1024x128_S512x128_512_0).toLoadRect X3
abbrev lk : Vec Ideal S512x256 .bf16 := arg6.view.readAt (Elt Ideal) (Rect.unit (s := S8192x256) (k0_off13 i) S512x256.size (k0_off13_inb i)).toLoadRect X6
abbrev lv : Vec Ideal S512x128 .bf16 := arg7.view.readAt (Elt Ideal) (Rect.unit (s := S8192x128) (k0_off14 i) S512x128.size (k0_off14_inb i)).toLoadRect X7
abbrev lkn : Vec Ideal S512x128 .bf16 := arg6.view.readAt (Elt Ideal) (Rect.unit (s := S8192x256) (k0_off16 i) S512x128.size (k0_off16_inb i)).toLoadRect X6
abbrev l9 (f9 : BufTy.Contents (Elt Ideal) arg9.view.ty) : Vec Ideal S512x128 .f32 := arg9.view.readAt (Elt Ideal) (Rect.unit (s := S8192x128) (k0_off14 i) S512x128.size (k0_off14_inb i)).toLoadRect f9
abbrev l11 (f11 : BufTy.Contents (Elt Ideal) arg11.view.ty) : Vec Ideal S1x1x1x512 .f32 := arg11.view.readAt (Elt Ideal) (Rect.unit (s := S1x8x1x1024) (k0_off15 i) S1x1x1x512.size (k0_off15_inb i)).toLoadRect f11

theorem lo_bd (b : Fin 512) : (i 1).val * 1024 + 512 + b.val < 8192 := by
  have := block_lt i
  omega

theorem lq_at (a : Fin 512) (x : Fin 256) : lq arg2 X2 (ix2 a x) = qB arg2 X2 (ix2 (low a) x) :=
  readAt_rows (m := 1024) (w := 256) arg2.view X2 _ (o := 512) rfl a x (by omega) x.isLt
theorem lqn_at (a : Fin 512) (x : Fin 128) : lqn arg2 X2 (ix2 a x) = qB arg2 X2 (ix2 (low a) (wide x)) :=
  readAt_rows (m := 1024) (w := 256) arg2.view X2 _ (o := 512) rfl a x (by omega) (by omega)
theorem ld_at (a : Fin 512) (x : Fin 128) : ld arg3 X3 (ix2 a x) = dB arg3 X3 (ix2 (low a) x) :=
  readAt_rows (m := 1024) (w := 128) arg3.view X3 _ (o := 512) rfl a x (by omega) x.isLt
theorem lk_at (b : Fin 512) (x : Fin 256) : lk i arg6 X6 (ix2 b x) = kB arg6 X6 (ix2 ⟨(i 1).val * 1024 + 512 + b.val, lo_bd i b⟩ x) :=
  readAt_rows (m := 8192) (w := 256) arg6.view X6 _ (off13_eq i) b x (lo_bd i b) x.isLt
theorem lkn_at (b : Fin 512) (x : Fin 128) : lkn i arg6 X6 (ix2 b x) = kB arg6 X6 (ix2 ⟨(i 1).val * 1024 + 512 + b.val, lo_bd i b⟩ (wide x)) :=
  readAt_rows (m := 8192) (w := 256) arg6.view X6 _ (off16_eq i) b x (lo_bd i b) (by omega)
theorem lv_at (b : Fin 512) (x : Fin 128) : lv i arg7 X7 (ix2 b x) = vB arg7 X7 (ix2 ⟨(i 1).val * 1024 + 512 + b.val, lo_bd i b⟩ x) :=
  readAt_rows (m := 8192) (w := 128) arg7.view X7 _ (off14_eq i) b x (lo_bd i b) x.isLt

abbrev loPB : FVec Ideal S512x512 .f32 := k0_pay45 (k0_pay19 v3) (lq arg2 X2) (lk i arg6 X6)
abbrev loSB : FVec Ideal S512x512 .f32 :=
  k0_pay46 (k0_pay19 v3) (k0_pay20 i v5) (lq arg2 X2) (ld arg3 X3) (lk i arg6 X6) (lv i arg7 X7)
abbrev loRB : FVec Ideal S512x512 .bf16 :=
  k0_pay47 (k0_pay19 v3) (k0_pay20 i v5) (lq arg2 X2) (ld arg3 X3) (lk i arg6 X6) (lv i arg7 X7)

theorem lo_p (a b : Fin 512) :
    loPB i arg2 arg6 v3 X2 X6 (ix2 a b) = pB i arg2 arg6 v3 X2 X6 (low a) ⟨(i 1).val * 1024 + 512 + b.val, lo_bd i b⟩ := by
  refine (pay45_at _ _ _ a b).trans (if_congr (by simp only; omega) ?_ rfl)
  refine congrArg (fun z => Ideal.exp2 (z - k0_pay19 v3 (ix2 (low a) 0))) (Finset.sum_congr rfl fun x _ => ?_)
  rw [lq_at, lk_at]

theorem lo_s (a b : Fin 512) :
    loSB i arg2 arg3 arg6 arg7 v3 v5 X2 X3 X6 X7 (ix2 a b)
      = sB i arg2 arg3 arg6 arg7 v3 v5 X2 X3 X6 X7 (low a) ⟨(i 1).val * 1024 + 512 + b.val, lo_bd i b⟩ := by
  refine (pay46_at _ _ _ _ _ _ a b).trans (congrArg₂ (· * ·) (lo_p i arg2 arg6 v3 X2 X6 a b) ?_)
  refine congrArg (fun z => z - k0_pay20 i v5 (ix2 (low a) 0)) (Finset.sum_congr rfl fun x _ => ?_)
  rw [ld_at, lv_at]

/-- The upper half of the rows has no weight at these keys. -/
theorem lo_s_past (a : Fin 1024) (b : Fin 512) (h : a.val < 512) :
    sB i arg2 arg3 arg6 arg7 v3 v5 X2 X3 X6 X7 a ⟨(i 1).val * 1024 + 512 + b.val, lo_bd i b⟩ = 0 :=
  sM_past (by simp only; omega)

abbrev lo9 : List (View.Piece (Elt Ideal) S8192x128 .f32) :=
  ⟨Rect.unit (s := S8192x128) (k0_off14 i) S512x128.size (k0_off14_inb i),
    k0_pay48 (loRB i arg2 arg3 arg6 arg7 v3 v5 X2 X3 X6 X7) (l9 i arg9 (arg9.view.writes (Elt Ideal) B9 L9)) (lqn arg2 X2)⟩ :: L9
abbrev lo11 : List (View.Piece (Elt Ideal) S1x8x1x1024 .f32) :=
  ⟨Rect.unit (s := S1x8x1x1024) (k0_off15 i) S1x1x1x512.size (k0_off15_inb i),
    k0_pay50 (loSB i arg2 arg3 arg6 arg7 v3 v5 X2 X3 X6 X7) (l11 i arg11 (arg11.view.writes (Elt Ideal) B11 L11))⟩ :: L11
abbrev lo13 : List (View.Piece (Elt Ideal) S8192x128 .f32) :=
  ⟨Rect.unit (s := S8192x128) (k0_off14 i) S512x128.size (k0_off14_inb i),
    k0_pay49 (k0_pay44 (ld arg3 X3)) (loPB i arg2 arg6 v3 X2 X6) (l9 i arg13 (arg13.view.writes (Elt Ideal) B13 L13))⟩ :: L13
abbrev loQ (acc : FVec Ideal S512x128 .f32) : FVec Ideal S512x128 .f32 :=
  k0_pay51 acc (loRB i arg2 arg3 arg6 arg7 v3 v5 X2 X3 X6 X7) (lkn i arg6 X6)
abbrev loR (acc : FVec Ideal S512x1 .f32) : FVec Ideal S512x1 .f32 := k0_pay52 acc (loSB i arg2 arg3 arg6 arg7 v3 v5 X2 X3 X6 X7)

variable {B9 B11 B13 L9 L11 L13 old9 old11 old13}

theorem lo_key (h : Rows arg9.view (arg9.view.writes (Elt Ideal) B9 L9) old9 (gKB i arg2 arg3 arg6 arg7 v3 v5 X2 X3 X6 X7) ((i 1).val * 1024 + 512)) :
    Rows arg9.view (arg9.view.writes (Elt Ideal) B9 (lo9 i arg2 arg3 arg6 arg7 arg9 v3 v5 X2 X3 X6 X7 B9 L9)) old9
      (gKB i arg2 arg3 arg6 arg7 v3 v5 X2 X3 X6 X7) ((i 1).val * 1024 + 512 + 512) := by
  have hk := block_lt i
  refine h.step arg9.view (off14_eq i) (by omega) _ _ fun b x => ?_
  refine (pay48_at _ _ _ _ _ _ _ _ b x).trans (congrArg (l9 i arg9 (arg9.view.writes (Elt Ideal) B9 L9) (ix2 b x) + ·) ?_)
  refine (Finset.sum_congr rfl fun a _ => congrArg₂ (· * ·) (lo_s i arg2 arg3 arg6 arg7 v3 v5 X2 X3 X6 X7 a b) (lqn_at arg2 X2 a x)).trans
    (sum_low (fun a => sB i arg2 arg3 arg6 arg7 v3 v5 X2 X3 X6 X7 a ⟨(i 1).val * 1024 + 512 + b.val, lo_bd i b⟩ * qB arg2 X2 (ix2 a (wide x))) fun a ha => ?_)
  exact (congrArg (· * _) (lo_s_past i arg2 arg3 arg6 arg7 v3 v5 X2 X3 X6 X7 a b ha)).trans (zero_mul _)

theorem lo_value (h : Rows arg13.view (arg13.view.writes (Elt Ideal) B13 L13) old13 (gVB i arg2 arg3 arg6 v3 X2 X3 X6) ((i 1).val * 1024 + 512)) :
    Rows arg13.view (arg13.view.writes (Elt Ideal) B13 (lo13 i arg2 arg3 arg6 arg13 v3 X2 X3 X6 B13 L13)) old13
      (gVB i arg2 arg3 arg6 v3 X2 X3 X6) ((i 1).val * 1024 + 512 + 512) := by
  have hk := block_lt i
  refine h.step arg13.view (off14_eq i) (by omega) _ _ fun b x => ?_
  refine (pay49_at _ _ b x _).trans (congrArg (l9 i arg13 (arg13.view.writes (Elt Ideal) B13 L13) (ix2 b x) + ·) ?_)
  refine (Finset.sum_congr rfl fun a _ => congrArg₂ (· * ·) (lo_p i arg2 arg6 v3 X2 X6 a b) (ld_at arg3 X3 a x)).trans
    (sum_low (fun a => pB i arg2 arg6 v3 X2 X6 a ⟨(i 1).val * 1024 + 512 + b.val, lo_bd i b⟩ * dB arg3 X3 (ix2 a x)) fun a ha => ?_)
  exact (congrArg (· * _) (pM_past (by simp only; omega))).trans (zero_mul _)

theorem lo_cell (h : Cells arg11.view (arg11.view.writes (Elt Ideal) B11 L11) old11 (gFB i arg2 arg3 arg6 arg7 v3 v5 X2 X3 X6 X7) ((i 1).val * 1024 + 512)) :
    Cells arg11.view (arg11.view.writes (Elt Ideal) B11 (lo11 i arg2 arg3 arg6 arg7 arg11 v3 v5 X2 X3 X6 X7 B11 L11)) old11
      (gFB i arg2 arg3 arg6 arg7 v3 v5 X2 X3 X6 X7) ((i 1).val * 1024 + 512 + 512) := by
  have hk := block_lt i
  refine Cells.step arg11.view (r₀ := (i 1).val) (s := 512) h (off15_eq i) hk (by omega) _ _ fun b => ?_
  refine (pay50_at _ _ b).trans (congrArg (fun z => l11 i arg11 (arg11.view.writes (Elt Ideal) B11 L11) (ix4 0 0 0 b) + (0 - z)) ?_)
  exact (Finset.sum_congr rfl fun a _ => lo_s i arg2 arg3 arg6 arg7 v3 v5 X2 X3 X6 X7 a b).trans
    (sum_low (fun a => sB i arg2 arg3 arg6 arg7 v3 v5 X2 X3 X6 X7 a ⟨(i 1).val * 1024 + 512 + b.val, lo_bd i b⟩)
      fun a ha => lo_s_past i arg2 arg3 arg6 arg7 v3 v5 X2 X3 X6 X7 a b ha)

theorem lo_query {acc : FVec Ideal S512x128 .f32} (a : Fin 512) (x : Fin 128)
    (h : acc (ix2 a x) = below (gQB i arg2 arg3 arg6 arg7 v3 v5 X2 X3 X6 X7 (low a) x) ((i 1).val * 1024 + 512)) :
    loQ i arg2 arg3 arg6 arg7 v3 v5 X2 X3 X6 X7 acc (ix2 a x)
      = below (gQB i arg2 arg3 arg6 arg7 v3 v5 X2 X3 X6 X7 (low a) x) ((i 1).val * 1024 + 512 + 512) := by
  have hk := block_lt i
  rw [below_add _ _ _ (by omega), ← h]
  refine (pay51_at _ _ _ _ _ _ _ _ a x).trans (congrArg (acc (ix2 a x) + ·) (Finset.sum_congr rfl fun b _ => ?_))
  exact congrArg₂ (· * ·) (lo_s i arg2 arg3 arg6 arg7 v3 v5 X2 X3 X6 X7 a b) (lkn_at i arg6 X6 b x)

theorem lo_row {acc : FVec Ideal S512x1 .f32} (a : Fin 512)
    (h : acc (ix2 a 0) = below (sB i arg2 arg3 arg6 arg7 v3 v5 X2 X3 X6 X7 (low a)) ((i 1).val * 1024 + 512)) :
    loR i arg2 arg3 arg6 arg7 v3 v5 X2 X3 X6 X7 acc (ix2 a 0)
      = below (sB i arg2 arg3 arg6 arg7 v3 v5 X2 X3 X6 X7 (low a)) ((i 1).val * 1024 + 512 + 512) := by
  have hk := block_lt i
  rw [below_add _ _ _ (by omega), ← h]
  exact (pay52_at _ _ a).trans (congrArg (acc (ix2 a 0) + ·)
    (Finset.sum_congr rfl fun b _ => lo_s i arg2 arg3 arg6 arg7 v3 v5 X2 X3 X6 X7 a b))

end Diag

end Cert.Kernel2Ideal.Value
-- ==== Proof.FoxPoint.lean ====
/- Hand-written, untrusted. The forgetting attention's gradient: what one launch point leaves in each output. -/
module

public import proofs.«01_k».proof.Proof.FoxDiag
public import proofs.«01_k».proof.Proof.Gen.Kernel2Ideal.Frame
public import Idealize.ShloMosaic.Lib.VecWindow
public import Idealize.ShloMosaic.Lib.Pipeline.ValueKit

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen

section Point

variable (i : grid0.Coords)
  (arg2 : Memref sig .tc .vmem S1024x256 .bf16) (arg3 : Memref sig .tc .vmem S1024x128 .bf16)
  (arg6 : Memref sig .tc .vmem S8192x256 .bf16) (arg7 : Memref sig .tc .vmem S8192x128 .bf16)
  (arg9 : Memref sig .tc .vmem S8192x128 .f32) (arg11 : Memref sig .tc .vmem S1x8x1x1024 .f32)
  (arg13 : Memref sig .tc .vmem S8192x128 .f32)
  (v3 : Vec Ideal S1x1024x1 .f32) (v5 : Vec Ideal S1024x128 .f32)
  (X2 : BufTy.Contents (Elt Ideal) arg2.view.ty) (X3 : BufTy.Contents (Elt Ideal) arg3.view.ty)
  (X6 : BufTy.Contents (Elt Ideal) arg6.view.ty) (X7 : BufTy.Contents (Elt Ideal) arg7.view.ty)
  (B9 : BufTy.Contents (Elt Ideal) arg9.view.ty) (B11 : BufTy.Contents (Elt Ideal) arg11.view.ty)
  (B13 : BufTy.Contents (Elt Ideal) arg13.view.ty)
  (old9 : Vec Ideal S8192x128 .f32) (old11 : Vec Ideal S1x8x1x1024 .f32) (old13 : Vec Ideal S8192x128 .f32)
  (accQ : FVec Ideal S1024x128 .f32) (accR : FVec Ideal S1024x1 .f32)
  (L9 : List (View.Piece (Elt Ideal) S8192x128 .f32)) (L11 : List (View.Piece (Elt Ideal) S1x8x1x1024 .f32))
  (L13 : List (View.Piece (Elt Ideal) S8192x128 .f32))

/-- The stores of both halves of the diagonal block, on top of the loop's. -/
abbrev end9 : List (View.Piece (Elt Ideal) S8192x128 .f32) :=
  lo9 i arg2 arg3 arg6 arg7 arg9 v3 v5 X2 X3 X6 X7 B9 (up9 i arg2 arg3 arg6 arg7 arg9 v3 v5 X2 X3 X6 X7 B9 L9)
abbrev end11 : List (View.Piece (Elt Ideal) S1x8x1x1024 .f32) :=
  lo11 i arg2 arg3 arg6 arg7 arg11 v3 v5 X2 X3 X6 X7 B11 (up11 i arg2 arg3 arg6 arg7 arg11 v3 v5 X2 X3 X6 X7 B11 L11)
abbrev end13 : List (View.Piece (Elt Ideal) S8192x128 .f32) :=
  lo13 i arg2 arg3 arg6 arg13 v3 X2 X3 X6 B13 (up13 i arg2 arg3 arg6 arg13 v3 X2 X3 X6 B13 L13)
/-- The query gradient and its row sums as they are stored. -/
abbrev endQ : FVec Ideal S1024x128 .f32 :=
  k0_pay1 (loQ i arg2 arg3 arg6 arg7 v3 v5 X2 X3 X6 X7 (k0_pay42 accQ (upRB i arg2 arg3 arg6 arg7 v3 v5 X2 X3 X6 X7) (ukn i arg6 X6))) (k0_pay53 (upQ i arg2 arg3 arg6 arg7 v3 v5 X2 X3 X6 X7 accQ))
abbrev endR : FVec Ideal S1x1024x1 .f32 :=
  k0_pay2 (upR i arg2 arg3 arg6 arg7 v3 v5 X2 X3 X6 X7 accR) (loR i arg2 arg3 arg6 arg7 v3 v5 X2 X3 X6 X7 (k0_pay43 accR (upSB i arg2 arg3 arg6 arg7 v3 v5 X2 X3 X6 X7)))

variable {B9 B11 B13 L9 L11 L13 old9 old11 old13 accQ accR} in
theorem Taken.cast {f9 : BufTy.Contents (Elt Ideal) arg9.view.ty} {f11 : BufTy.Contents (Elt Ideal) arg11.view.ty}
    {f13 : BufTy.Contents (Elt Ideal) arg13.view.ty} {o o' : ℕ} (e : o = o')
    (h : Taken i arg2 arg3 arg6 arg7 arg9 arg11 arg13 v3 v5 X2 X3 X6 X7 old9 old11 old13 accQ accR f9 f11 f13 o) :
    Taken i arg2 arg3 arg6 arg7 arg9 arg11 arg13 v3 v5 X2 X3 X6 X7 old9 old11 old13 accQ accR f9 f11 f13 o' := by
  subst e
  exact h

/-- What a launch point leaves in its outputs: the query gradient of its rows and their row sums, and the three
    running buffers with what its rows add. -/
structure Whole (dq : Vec Ideal S1024x128 .f32) (dr : Vec Ideal S1x1024x1 .f32) (n9 : Vec Ideal S8192x128 .f32)
    (n11 : Vec Ideal S1x8x1x1024 .f32) (n13 : Vec Ideal S8192x128 .f32)
    (x0 : Vec Ideal S1024x256 .bf16) (x1 : Vec Ideal S1024x128 .bf16) (x2 : Vec Ideal S1x1024x1 .f32) (x3 : Vec Ideal S1024x128 .f32)
    (x4 : Vec Ideal S8192x256 .bf16) (x5 : Vec Ideal S8192x128 .bf16) : Prop where
  query : ∀ (a : Fin 1024) (x : Fin 128), dq (ix2 a x) = ∑ j, gQ (i 1).val x0 x1 (k0_pay19 x2) (k0_pay20 i x3) x4 x5 a x j
  row : ∀ a : Fin 1024, dr (ix3 0 a 0) = ∑ j, sM (i 1).val x0 x1 (k0_pay19 x2) (k0_pay20 i x3) x4 x5 a j
  key : ∀ (r : Fin 8192) (x : Fin 128), n9 (ix2 r x) = old9 (ix2 r x) + gK (i 1).val x0 x1 (k0_pay19 x2) (k0_pay20 i x3) x4 x5 r x
  cell : ∀ (r : Fin 8) (b : Fin 1024), n11 (ix4 0 r 0 b)
    = old11 (ix4 0 r 0 b) + gF (i 1).val x0 x1 (k0_pay19 x2) (k0_pay20 i x3) x4 x5 ⟨r.val * 1024 + b.val, by omega⟩
  value : ∀ (r : Fin 8192) (x : Fin 128), n13 (ix2 r x) = old13 (ix2 r x) + gV (i 1).val x0 x1 (k0_pay19 x2) x4 r x

variable {i old9 old11 old13} in
theorem Whole.congr {dq dq' : Vec Ideal S1024x128 .f32} {dr dr' : Vec Ideal S1x1024x1 .f32} {n9 n9' : Vec Ideal S8192x128 .f32}
    {n11 n11' : Vec Ideal S1x8x1x1024 .f32} {n13 n13' : Vec Ideal S8192x128 .f32}
    {x0 : Vec Ideal S1024x256 .bf16} {x1 : Vec Ideal S1024x128 .bf16} {x2 : Vec Ideal S1x1024x1 .f32} {x3 : Vec Ideal S1024x128 .f32}
    {x4 : Vec Ideal S8192x256 .bf16} {x5 : Vec Ideal S8192x128 .bf16} {old9' : Vec Ideal S8192x128 .f32}
    {old11' : Vec Ideal S1x8x1x1024 .f32} {old13' : Vec Ideal S8192x128 .f32}
    (h : Whole i old9 old11 old13 dq dr n9 n11 n13 x0 x1 x2 x3 x4 x5) (o9 : old9 = old9') (o11 : old11 = old11') (o13 : old13 = old13')
    (e1 : dq' = dq) (e2 : dr' = dr) (e3 : n9' = n9) (e4 : n11' = n11) (e5 : n13' = n13) :
    Whole i old9' old11' old13' dq' dr' n9' n11' n13' x0 x1 x2 x3 x4 x5 := by
  subst o9 o11 o13 e1 e2 e3 e4 e5
  exact h

variable {B9 B11 B13 L9 L11 L13 old9 old11 old13 accQ accR}

theorem whole_of_taken
    {x0 : Vec Ideal S1024x256 .bf16} {x1 : Vec Ideal S1024x128 .bf16} {x2 : Vec Ideal S1x1024x1 .f32} {x3 : Vec Ideal S1024x128 .f32}
    {x4 : Vec Ideal S8192x256 .bf16} {x5 : Vec Ideal S8192x128 .bf16}
    (r2 : qB arg2 X2 = x0) (r3 : dB arg3 X3 = x1) (r4 : v3 = x2) (r5 : v5 = x3) (r6 : kB arg6 X6 = x4) (r7 : vB arg7 X7 = x5)
    (h : Taken i arg2 arg3 arg6 arg7 arg9 arg11 arg13 v3 v5 X2 X3 X6 X7 old9 old11 old13 accQ accR (arg9.view.writes (Elt Ideal) B9 L9)
      (arg11.view.writes (Elt Ideal) B11 L11) (arg13.view.writes (Elt Ideal) B13 L13) ((i 1).val * 1024)) :
    Whole i old9 old11 old13 (endQ i arg2 arg3 arg6 arg7 v3 v5 X2 X3 X6 X7 accQ) (endR i arg2 arg3 arg6 arg7 v3 v5 X2 X3 X6 X7 accR)
      (arg9.view.read (Elt Ideal) (arg9.view.writes (Elt Ideal) B9 (end9 i arg2 arg3 arg6 arg7 arg9 v3 v5 X2 X3 X6 X7 B9 L9)))
      (arg11.view.read (Elt Ideal) (arg11.view.writes (Elt Ideal) B11 (end11 i arg2 arg3 arg6 arg7 arg11 v3 v5 X2 X3 X6 X7 B11 L11)))
      (arg13.view.read (Elt Ideal) (arg13.view.writes (Elt Ideal) B13 (end13 i arg2 arg3 arg6 arg13 v3 X2 X3 X6 B13 L13)))
      x0 x1 x2 x3 x4 x5 := by
  subst r2 r3 r4 r5 r6 r7
  have hk := block_lt i
  obtain ⟨hq, hr, h9, h11, h13⟩ := taken_up i arg2 arg3 arg6 arg7 arg9 arg11 arg13 v3 v5 X2 X3 X6 X7 h
  have zs : ∀ (a : Fin 1024) (j : Fin 8192), (i 1).val * 1024 + a.val < j.val → sB i arg2 arg3 arg6 arg7 v3 v5 X2 X3 X6 X7 a j = 0 := fun a j hj => sM_past hj
  refine ⟨fun a x => ?_, fun a => ?_, fun r x => ?_, fun r b => ?_, fun r x => ?_⟩
  · refine (pay1_at _ _ a x).trans ?_
    by_cases ha : a.val < 512
    · rw [dif_pos ha, pay53_at, hq]
      exact below_all _ _ fun j hj => (congrArg (· * _) (zs a j (by omega))).trans (zero_mul _)
    · rw [dif_neg ha]
      have e : low ⟨a.val - 512, by omega⟩ = a := Fin.ext (show 512 + (a.val - 512) = a.val by omega)
      have e' := lo_query i arg2 arg3 arg6 arg7 v3 v5 X2 X3 X6 X7 (acc := k0_pay42 accQ (upRB i arg2 arg3 arg6 arg7 v3 v5 X2 X3 X6 X7) (ukn i arg6 X6)) ⟨a.val - 512, by omega⟩ x
        ((pay42_at _ _ _ _ x).trans (hq _ x))
      rw [e] at e'
      refine e'.trans (below_all _ _ fun j hj => (congrArg (· * _) (zs a j (by omega))).trans (zero_mul _))
  · refine (pay2_at _ _ a).trans ?_
    by_cases ha : a.val < 512
    · rw [dif_pos ha, hr]
      exact below_all _ _ fun j hj => zs a j (by omega)
    · rw [dif_neg ha]
      have e : low ⟨a.val - 512, by omega⟩ = a := Fin.ext (show 512 + (a.val - 512) = a.val by omega)
      have e' := lo_row i arg2 arg3 arg6 arg7 v3 v5 X2 X3 X6 X7 (acc := k0_pay43 accR (upSB i arg2 arg3 arg6 arg7 v3 v5 X2 X3 X6 X7)) ⟨a.val - 512, by omega⟩ ((pay43_at _ _ _).trans (hr _))
      rw [e] at e'
      exact e'.trans (below_all _ _ fun j hj => zs a j (by omega))
  · rw [lo_key i arg2 arg3 arg6 arg7 arg9 v3 v5 X2 X3 X6 X7 h9 r x]
    by_cases hl : r.val < (i 1).val * 1024 + 512 + 512
    · rw [if_pos hl]
    · rw [if_neg hl, gK, Finset.sum_eq_zero fun a _ => (congrArg (· * _) (zs a r (by omega))).trans (zero_mul _), add_zero]
  · rw [lo_cell i arg2 arg3 arg6 arg7 arg11 v3 v5 X2 X3 X6 X7 h11 r b]
    by_cases hl : r.val * 1024 + b.val < (i 1).val * 1024 + 512 + 512
    · rw [if_pos hl]
    · rw [if_neg hl, gF, Finset.sum_eq_zero fun a _ => zs a _ (by simp only; omega), sub_zero, add_zero]
  · rw [lo_value i arg2 arg3 arg6 arg13 v3 X2 X3 X6 h13 r x]
    by_cases hl : r.val < (i 1).val * 1024 + 512 + 512
    · rw [if_pos hl]
    · rw [if_neg hl, gV, Finset.sum_eq_zero fun a _ => (congrArg (· * _) (pM_past (by omega))).trans (zero_mul _), add_zero]

end Point

/-! ## The three kinds of launch point -/

section Cases

variable (c : Dev nD) (i : grid0.Coords)
  (arg2 : Memref sig .tc .vmem S1024x256 .bf16) (harg2 : arg2.IsWhole) (arg3 : Memref sig .tc .vmem S1024x128 .bf16) (harg3 : arg3.IsWhole) (arg4 : Memref sig .tc .vmem S1x1024x1 .f32) (harg4 : arg4.IsWhole) (arg5 : Memref sig .tc .vmem S1024x128 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1024x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1x1024x1 .f32) (harg12 : arg12.IsWhole) (arg13 : Memref sig .tc .vmem S8192x128 .f32) (harg13 : arg13.IsWhole)
  (x0 : Vec Ideal S1024x256 .bf16) (x1 : Vec Ideal S1024x128 .bf16) (x2 : Vec Ideal S1x1024x1 .f32) (x3 : Vec Ideal S1024x128 .f32)
  (x4 : Vec Ideal S8192x256 .bf16) (x5 : Vec Ideal S8192x128 .bf16)
  (xo7 : Vec Ideal S8192x128 .f32) (xo9 : Vec Ideal S1x8x1x1024 .f32) (xs0 : Vec Ideal S8192x128 .f32)

section Runs

variable (G9 : BufTy.Contents (Elt Ideal) arg9.view.ty) (G11 : BufTy.Contents (Elt Ideal) arg11.view.ty)
  (G13 : BufTy.Contents (Elt Ideal) arg13.view.ty)
  (B9 : BufTy.Contents (Elt Ideal) arg9.view.ty) (B11 : BufTy.Contents (Elt Ideal) arg11.view.ty)
  (B13 : BufTy.Contents (Elt Ideal) arg13.view.ty)

/-- The row log-sums and the row sums as they are loaded. -/
abbrev ldL : Vec Ideal S1x1024x1 .f32 := arg4.view.readAt (Elt Ideal) (Rect.unit (s := S1x1024x1) ![0, 0, 0] S1x1024x1.size inb_S1x1024x1_S1x1024x1_0_0_0).toLoadRect (harg4.unread x2)
abbrev ldD : Vec Ideal S1024x128 .f32 := arg5.view.readAt (Elt Ideal) (Rect.unit (s := S1024x128) ![0, 0] S1024x128.size inb_S1024x128_S1024x128_0_0).toLoadRect (harg5.unread x3)

theorem ldL_eq : ldL arg4 harg4 x2 = x2 :=
  (View.readAt_full arg4.view _ _).trans (harg4.read_unread x2)

theorem ldD_eq : ldD arg5 harg5 x3 = x3 :=
  (View.readAt_full arg5.view _ _).trans (harg5.read_unread x3)

/-- The state after the loop before the diagonal, and after the loop that never runs. -/
abbrev loop1 := st_k0_t1 (F := Ideal) Variants.none c none i arg2 harg2 arg3 harg3 arg4 harg4 arg5 harg5 arg6 harg6 arg7 harg7 arg8 harg8 arg9 harg9 arg10 harg10 arg11 harg11 arg12 harg12 arg13 harg13 (ldL arg4 harg4 x2) (ldD arg5 harg5 x3)
  (harg2.unread x0) (harg3.unread x1) (harg6.unread x4) (harg7.unread x5) G9 G11 G13 (k0_pay21, k0_pay22) (k0_t1_loop i).trips
abbrev loop2 (v20 : BitVec 32) := st_k0_t2 (F := Ideal) Variants.none c none i arg2 harg2 arg3 harg3 arg4 harg4 arg5 harg5 arg6 harg6 arg7 harg7 arg8 harg8 arg9 harg9 arg10 harg10 arg11 harg11 arg12 harg12 arg13 harg13 (ldL arg4 harg4 x2) (ldD arg5 harg5 x3) v20
  (harg2.unread x0) (harg3.unread x1) (harg6.unread x4) (harg7.unread x5) B9 B11 B13
  ((loop1 c i arg2 harg2 arg3 harg3 arg4 harg4 arg5 harg5 arg6 harg6 arg7 harg7 arg8 harg8 arg9 harg9 arg10 harg10 arg11 harg11 arg12 harg12 arg13 harg13 x0 x1 x2 x3 x4 x5 G9 G11 G13).1.1, (loop1 c i arg2 harg2 arg3 harg3 arg4 harg4 arg5 harg5 arg6 harg6 arg7 harg7 arg8 harg8 arg9 harg9 arg10 harg10 arg11 harg11 arg12 harg12 arg13 harg13 x0 x1 x2 x3 x4 x5 G9 G11 G13).1.2) (k0_t2_loop i).trips

theorem loop2_eq (v20 : BitVec 32) :
    loop2 c i arg2 harg2 arg3 harg3 arg4 harg4 arg5 harg5 arg6 harg6 arg7 harg7 arg8 harg8 arg9 harg9 arg10 harg10 arg11 harg11 arg12 harg12 arg13 harg13 x0 x1 x2 x3 x4 x5 G9 G11 G13 B9 B11 B13 v20
      = (((loop1 c i arg2 harg2 arg3 harg3 arg4 harg4 arg5 harg5 arg6 harg6 arg7 harg7 arg8 harg8 arg9 harg9 arg10 harg10 arg11 harg11 arg12 harg12 arg13 harg13 x0 x1 x2 x3 x4 x5 G9 G11 G13).1.1, (loop1 c i arg2 harg2 arg3 harg3 arg4 harg4 arg5 harg5 arg6 harg6 arg7 harg7 arg8 harg8 arg9 harg9 arg10 harg10 arg11 harg11 arg12 harg12 arg13 harg13 x0 x1 x2 x3 x4 x5 G9 G11 G13).1.2), [], [], []) := by
  unfold loop2
  rw [trips2]
  rfl

/-- A launch point whose running buffers hold `G` before the loop: what it leaves. -/
theorem whole_point (L9 : List (View.Piece (Elt Ideal) S8192x128 .f32)) (L11 : List (View.Piece (Elt Ideal) S1x8x1x1024 .f32))
    (L13 : List (View.Piece (Elt Ideal) S8192x128 .f32)) (v20 : BitVec 32)
    (C9 : BufTy.Contents (Elt Ideal) arg9.view.ty) (C11 : BufTy.Contents (Elt Ideal) arg11.view.ty) (C13 : BufTy.Contents (Elt Ideal) arg13.view.ty)
    (h9 : G9 = arg9.view.writes (Elt Ideal) B9 L9) (h11 : G11 = arg11.view.writes (Elt Ideal) B11 L11)
    (h13 : G13 = arg13.view.writes (Elt Ideal) B13 L13)
    (S1 S2 : (FVec Ideal S1024x128 .f32 × FVec Ideal S1024x1 .f32) × List (View.Piece (Elt Ideal) S8192x128 .f32)
      × List (View.Piece (Elt Ideal) S1x8x1x1024 .f32) × List (View.Piece (Elt Ideal) S8192x128 .f32))
    (K9 : List (View.Piece (Elt Ideal) S8192x128 .f32)) (K11 : List (View.Piece (Elt Ideal) S1x8x1x1024 .f32))
    (K13 : List (View.Piece (Elt Ideal) S8192x128 .f32))
    (k9 : K9 = S1.2.1 ++ L9) (k11 : K11 = S1.2.2.1 ++ L11) (k13 : K13 = S1.2.2.2 ++ L13)
    (e1 : S1 = loop1 c i arg2 harg2 arg3 harg3 arg4 harg4 arg5 harg5 arg6 harg6 arg7 harg7 arg8 harg8 arg9 harg9 arg10 harg10 arg11 harg11 arg12 harg12 arg13 harg13 x0 x1 x2 x3 x4 x5 G9 G11 G13)
    (e2 : S2 = loop2 c i arg2 harg2 arg3 harg3 arg4 harg4 arg5 harg5 arg6 harg6 arg7 harg7 arg8 harg8 arg9 harg9 arg10 harg10 arg11 harg11 arg12 harg12 arg13 harg13 x0 x1 x2 x3 x4 x5 G9 G11 G13 C9 C11 C13 v20) :
    Whole i (arg9.view.read (Elt Ideal) G9) (arg11.view.read (Elt Ideal) G11) (arg13.view.read (Elt Ideal) G13)
      (endQ i arg2 arg3 arg6 arg7 (ldL arg4 harg4 x2) (ldD arg5 harg5 x3) (harg2.unread x0) (harg3.unread x1) (harg6.unread x4) (harg7.unread x5) S2.1.1)
      (endR i arg2 arg3 arg6 arg7 (ldL arg4 harg4 x2) (ldD arg5 harg5 x3) (harg2.unread x0) (harg3.unread x1) (harg6.unread x4) (harg7.unread x5) S2.1.2)
      (arg9.view.read (Elt Ideal) (arg9.view.writes (Elt Ideal) B9 (end9 i arg2 arg3 arg6 arg7 arg9 (ldL arg4 harg4 x2) (ldD arg5 harg5 x3)
        (harg2.unread x0) (harg3.unread x1) (harg6.unread x4) (harg7.unread x5) B9 (S2.2.1 ++ K9))))
      (arg11.view.read (Elt Ideal) (arg11.view.writes (Elt Ideal) B11 (end11 i arg2 arg3 arg6 arg7 arg11 (ldL arg4 harg4 x2) (ldD arg5 harg5 x3)
        (harg2.unread x0) (harg3.unread x1) (harg6.unread x4) (harg7.unread x5) B11 (S2.2.2.1 ++ K11))))
      (arg13.view.read (Elt Ideal) (arg13.view.writes (Elt Ideal) B13 (end13 i arg2 arg3 arg6 arg13 (ldL arg4 harg4 x2)
        (harg2.unread x0) (harg3.unread x1) (harg6.unread x4) B13 (S2.2.2.2 ++ K13))))
      x0 x1 x2 x3 x4 x5 := by
  have h := taken_loop Variants.none c none i arg2 harg2 arg3 harg3 arg4 harg4 arg5 harg5 arg6 harg6 arg7 harg7 arg8 harg8 arg9 harg9 arg10 harg10 arg11 harg11 arg12 harg12 arg13 harg13 (ldL arg4 harg4 x2) (ldD arg5 harg5 x3)
    (harg2.unread x0) (harg3.unread x1) (harg6.unread x4) (harg7.unread x5) G9 G11 G13 (k0_t1_loop i).trips le_rfl
  rw [loop2_eq, ← e1] at e2
  rw [show st_k0_t1 (F := Ideal) Variants.none c none i arg2 harg2 arg3 harg3 arg4 harg4 arg5 harg5 arg6 harg6 arg7 harg7 arg8 harg8 arg9 harg9 arg10 harg10 arg11 harg11 arg12 harg12 arg13 harg13 (ldL arg4 harg4 x2) (ldD arg5 harg5 x3)
    (harg2.unread x0) (harg3.unread x1) (harg6.unread x4) (harg7.unread x5) G9 G11 G13 (k0_pay21, k0_pay22) (k0_t1_loop i).trips = S1 from e1.symm] at h
  subst e2 k9 k11 k13
  clear e1
  exact whole_of_taken i arg2 arg3 arg6 arg7 arg9 arg11 arg13 (ldL arg4 harg4 x2) (ldD arg5 harg5 x3)
    (harg2.unread x0) (harg3.unread x1) (harg6.unread x4) (harg7.unread x5) (B9 := B9) (B11 := B11) (B13 := B13)
    (r2 := harg2.read_unread x0) (r3 := harg3.read_unread x1) (r4 := ldL_eq arg4 harg4 x2) (r5 := ldD_eq arg5 harg5 x3)
    (r6 := harg6.read_unread x4) (r7 := harg7.read_unread x5)
    (L9 := S1.2.1 ++ L9) (L11 := S1.2.2.1 ++ L11) (L13 := S1.2.2.2 ++ L13)
    (old9 := arg9.view.read (Elt Ideal) G9) (old11 := arg11.view.read (Elt Ideal) G11) (old13 := arg13.view.read (Elt Ideal) G13)
    (accQ := S1.1.1) (accR := S1.1.2) (by
      rw [View.writes_append, View.writes_append, View.writes_append, ← h9, ← h11, ← h13]
      exact Taken.cast i arg2 arg3 arg6 arg7 arg9 arg11 arg13 _ _ _ _ _ _ (congrArg (· * 1024) (trips1 i)) h)

end Runs

end Cases

end Cert.Kernel2Ideal.Value
-- ==== Proof.FoxCases.lean ====
/- Hand-written, untrusted. The forgetting attention's gradient: the three kinds of launch point. -/
module

public import proofs.«01_k».proof.Proof.FoxPoint

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen

section Cases

variable (c : Dev nD) (i : grid0.Coords)
  (arg2 : Memref sig .tc .vmem S1024x256 .bf16) (harg2 : arg2.IsWhole) (arg3 : Memref sig .tc .vmem S1024x128 .bf16) (harg3 : arg3.IsWhole) (arg4 : Memref sig .tc .vmem S1x1024x1 .f32) (harg4 : arg4.IsWhole) (arg5 : Memref sig .tc .vmem S1024x128 .f32) (harg5 : arg5.IsWhole) (arg6 : Memref sig .tc .vmem S8192x256 .bf16) (harg6 : arg6.IsWhole) (arg7 : Memref sig .tc .vmem S8192x128 .bf16) (harg7 : arg7.IsWhole) (arg8 : Memref sig .tc .vmem S1024x128 .f32) (harg8 : arg8.IsWhole) (arg9 : Memref sig .tc .vmem S8192x128 .f32) (harg9 : arg9.IsWhole) (arg10 : Memref sig .tc .vmem S8192x128 .bf16) (harg10 : arg10.IsWhole) (arg11 : Memref sig .tc .vmem S1x8x1x1024 .f32) (harg11 : arg11.IsWhole) (arg12 : Memref sig .tc .vmem S1x1024x1 .f32) (harg12 : arg12.IsWhole) (arg13 : Memref sig .tc .vmem S8192x128 .f32) (harg13 : arg13.IsWhole)
  (x0 : Vec Ideal S1024x256 .bf16) (x1 : Vec Ideal S1024x128 .bf16) (x2 : Vec Ideal S1x1024x1 .f32) (x3 : Vec Ideal S1024x128 .f32)
  (x4 : Vec Ideal S8192x256 .bf16) (x5 : Vec Ideal S8192x128 .bf16)
  (xo7 : Vec Ideal S8192x128 .f32) (xo9 : Vec Ideal S1x8x1x1024 .f32) (xs0 : Vec Ideal S8192x128 .f32)

/-- A point in the middle of a head. -/
theorem out_B (hc0 : ¬cond0_0 i) (hc1 : ¬cond0_1 i) :
    Whole i xo7 xo9 xs0 (out0_B_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0)
      (out0_B_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0)
      (out0_B_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0)
      (out0_B_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0)
      (sout0_B_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0) x0 x1 x2 x3 x4 x5 := by
  refine (whole_point c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)
    (harg9.unread xo7) (harg11.unread xo9) (harg13.unread xs0) [] [] [] (kernelRun0_B.sl.v20 i)
    (arg9.view.writes (Elt Ideal) (harg9.unread xo7) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.1) (arg11.view.writes (Elt Ideal) (harg11.unread xo9) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.1) (arg13.view.writes (Elt Ideal) (harg13.unread xs0) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.2)
    rfl rfl rfl (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0))
    (loop2 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0) (arg9.view.writes (Elt Ideal) (harg9.unread xo7) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.1) (arg11.view.writes (Elt Ideal) (harg11.unread xo9) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.1) (arg13.view.writes (Elt Ideal) (harg13.unread xs0) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.2) (kernelRun0_B.sl.v20 i))
    (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.1 (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.1 (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.2 ((List.append_nil _).symm) ((List.append_nil _).symm) ((List.append_nil _).symm) rfl rfl).congr (harg9.read_unread xo7) (harg11.read_unread xo9) (harg13.read_unread xs0) ?_ ?_ rfl rfl rfl
  · exact (View.read_writes_junk_eq_canon VO0_6 _).trans (View.canon_cons_unit_lit _ _ _ fun a => by fin_cases a <;> rfl)
  · exact (View.read_writes_junk_eq_canon VO0_10 _).trans (View.canon_cons_unit_lit _ _ _ fun a => by fin_cases a <;> rfl)

/-- The last point of a head. -/
theorem out_C (hc0 : ¬cond0_0 i) (hc1 : cond0_1 i) :
    Whole i xo7 xo9 xs0 (out0_C_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0)
      (out0_C_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0)
      (out0_C_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0)
      (out0_C_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0)
      (sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0) x0 x1 x2 x3 x4 x5 := by
  refine (whole_point c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)
    (harg9.unread xo7) (harg11.unread xo9) (harg13.unread xs0) [] [] [] (kernelRun0_C.sl.v20 i)
    (arg9.view.writes (Elt Ideal) (harg9.unread xo7) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.1) (arg11.view.writes (Elt Ideal) (harg11.unread xo9) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.1) (arg13.view.writes (Elt Ideal) (harg13.unread xs0) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.2)
    rfl rfl rfl (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0))
    (loop2 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0) (arg9.view.writes (Elt Ideal) (harg9.unread xo7) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.1) (arg11.view.writes (Elt Ideal) (harg11.unread xo9) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.1) (arg13.view.writes (Elt Ideal) (harg13.unread xs0) (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.2) (kernelRun0_C.sl.v20 i))
    (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.1 (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.1 (loop1 c i arg2 harg2 arg3 harg3 arg4 harg4 arg5 harg5 arg6 harg6 arg7 harg7 arg8 harg8 arg9 harg9 arg10 harg10 arg11 harg11 arg12 harg12 arg13 harg13 x0 x1 x2 x3 x4 x5 (harg9.unread xo7) (harg11.unread xo9) (harg13.unread xs0)).2.2.2 ((List.append_nil _).symm) ((List.append_nil _).symm) ((List.append_nil _).symm) rfl rfl).congr (harg9.read_unread xo7) (harg11.read_unread xo9) (harg13.read_unread xs0) ?_ ?_ rfl rfl rfl
  · exact (View.read_writes_junk_eq_canon VO0_6 _).trans (View.canon_cons_unit_lit _ _ _ fun a => by fin_cases a <;> rfl)
  · exact (View.read_writes_junk_eq_canon VO0_10 _).trans (View.canon_cons_unit_lit _ _ _ fun a => by fin_cases a <;> rfl)

theorem zero9 : arg9.view.read (Elt Ideal) (arg9.view.writes (Elt Ideal) arg9.view.junk kernelRun0_A.sl.H7_1) = fun _ => 0 := by
  refine (View.read_writes_junk_eq_canon _ _).trans ((View.canon_cons_unit_lit _ _ _ fun a => by fin_cases a <;> rfl).trans (funext fun y => ?_))
  idx_vars y
  exact pay16_at y0 y1

theorem zero11 : arg11.view.read (Elt Ideal) (arg11.view.writes (Elt Ideal) arg11.view.junk kernelRun0_A.sl.H9_1) = fun _ => 0 := by
  refine (View.read_writes_junk_eq_canon _ _).trans ((View.canon_cons_unit_lit _ _ _ fun a => by fin_cases a <;> rfl).trans (funext fun y => ?_))
  idx_vars y
  exact pay18_at y1 y3

theorem zero13 : arg13.view.read (Elt Ideal) (arg13.view.writes (Elt Ideal) arg13.view.junk kernelRun0_A.sl.HS0_1) = fun _ => 0 := by
  refine (View.read_writes_junk_eq_canon _ _).trans ((View.canon_cons_unit_lit _ _ _ fun a => by fin_cases a <;> rfl).trans (funext fun y => ?_))
  idx_vars y
  exact pay17_at y0 y1

/-- The first point of a head starts from zero. -/
theorem out_A (hc0 : cond0_0 i) (hc1 : ¬cond0_1 i) :
    Whole i (fun _ => 0) (fun _ => 0) (fun _ => 0) (out0_A_6 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5)
      (out0_A_10 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5)
      (out0_A_7 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5)
      (out0_A_9 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5)
      (sout0_A_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5) x0 x1 x2 x3 x4 x5 := by
  refine (whole_point c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1)
    arg9.view.junk arg11.view.junk arg13.view.junk kernelRun0_A.sl.H7_1 kernelRun0_A.sl.H9_1 kernelRun0_A.sl.HS0_1 (kernelRun0_A.sl.v20 i)
    (arg9.view.writes (Elt Ideal) arg9.view.junk ((loop1 c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1)).2.1 ++ kernelRun0_A.sl.H7_1)) (arg11.view.writes (Elt Ideal) arg11.view.junk ((loop1 c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1)).2.2.1 ++ kernelRun0_A.sl.H9_1)) (arg13.view.writes (Elt Ideal) arg13.view.junk ((loop1 c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1)).2.2.2 ++ kernelRun0_A.sl.HS0_1))
    rfl rfl rfl (loop1 c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1))
    (loop2 c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1) (arg9.view.writes (Elt Ideal) arg9.view.junk ((loop1 c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1)).2.1 ++ kernelRun0_A.sl.H7_1)) (arg11.view.writes (Elt Ideal) arg11.view.junk ((loop1 c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1)).2.2.1 ++ kernelRun0_A.sl.H9_1)) (arg13.view.writes (Elt Ideal) arg13.view.junk ((loop1 c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1)).2.2.2 ++ kernelRun0_A.sl.HS0_1)) (kernelRun0_A.sl.v20 i))
    ((loop1 c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1)).2.1 ++ kernelRun0_A.sl.H7_1) ((loop1 c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1)).2.2.1 ++ kernelRun0_A.sl.H9_1) ((loop1 c i arg2 harg2 arg3 harg3 arg4 harg4 arg5 harg5 arg6 harg6 arg7 harg7 arg8 harg8 arg9 harg9 arg10 harg10 arg11 harg11 arg12 harg12 arg13 harg13 x0 x1 x2 x3 x4 x5 (arg9.view.writes (Elt Ideal) arg9.view.junk kernelRun0_A.sl.H7_1) (arg11.view.writes (Elt Ideal) arg11.view.junk kernelRun0_A.sl.H9_1) (arg13.view.writes (Elt Ideal) arg13.view.junk kernelRun0_A.sl.HS0_1)).2.2.2 ++ kernelRun0_A.sl.HS0_1) (rfl) (rfl) (rfl) rfl rfl).congr (zero9 arg9) (zero11 arg11) (zero13 arg13) ?_ ?_ ((View.read_writes_junk_eq_canon VO0_7 _).trans (View.read_writes_junk_eq_canon arg9.view _).symm) ((View.read_writes_junk_eq_canon VO0_9 _).trans (View.read_writes_junk_eq_canon arg11.view _).symm) ((View.read_writes_junk_eq_canon VS0_0 _).trans (View.read_writes_junk_eq_canon arg13.view _).symm)
  · exact (View.read_writes_junk_eq_canon VO0_6 _).trans (View.canon_cons_unit_lit _ _ _ fun a => by fin_cases a <;> rfl)
  · exact (View.read_writes_junk_eq_canon VO0_10 _).trans (View.canon_cons_unit_lit _ _ _ fun a => by fin_cases a <;> rfl)

/-- The last point of a head stores the value gradient it has just finished. -/
theorem out_C_value (hc0 : ¬cond0_0 i) (hc1 : cond0_1 i) (r : Fin 8192) (x : Fin 128) :
    out0_C_8 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 r x)
      = sout0_C_0 (F := Ideal) c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xo7 xo9 xs0 (ix2 r x) := by
  refine (congrFun ((View.read_writes_junk_eq_canon VO0_8 _).trans (View.canon_cons_unit_lit _ _ _ fun a => by fin_cases a <;> rfl)) _).trans
    ((pay3_at _ r x).trans (congrFun (View.readAt_full arg13.view _ _) _))

end Cases

end Cert.Kernel2Ideal.Value
-- ==== Proof.FoxEntry.lean ====
/- Hand-written, untrusted. The forgetting attention's gradient: what the launch reads, block by block. -/
module

public import proofs.«01_k».proof.Proof.FoxHost
public import proofs.«01_k».proof.Proof.FoxCases

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen

variable (m : (ℓ : Loc nD τ sig) → Buf (Elt Ideal) ℓ) (c : Dev nD)

/-- The arguments by name. -/
abbrev aQ : FVec Ideal S8192x1024 .f32 := m ((c : Thread nD τ).loc main_arg0)
abbrev aK : FVec Ideal S8192x1024 .f32 := m ((c : Thread nD τ).loc main_arg1)
abbrev aV : FVec Ideal S8192x1024 .f32 := m ((c : Thread nD τ).loc main_arg2)
abbrev aG : FVec Ideal S8x8192 .f32 := m ((c : Thread nD τ).loc main_arg3)
abbrev aD : FVec Ideal S8192x1024 .f32 := m ((c : Thread nD τ).loc main_arg4)

theorem V_query : (V m c main_v26 : FVec Ideal S8192x2048 .bf16) = QW (aQ m c) (aG m c) := by entry_read; rfl
theorem V_key : (V m c main_v28 : FVec Ideal S8192x2048 .bf16) = KW (aK m c) (aG m c) := by entry_read; rfl
theorem V_value : (V m c main_v72 : FVec Ideal S8192x1024 .bf16) = truncf .bf16 (aV m c) bitsLt_bf16_f32 := by entry_read; rfl
theorem V_cot : (V m c main_v73 : FVec Ideal S8192x1024 .bf16) = truncf .bf16 (aD m c) bitsLt_bf16_f32 := by entry_read; rfl

end Cert.Kernel2Ideal.Value

end
-- ==== Proof.FoxSaved.lean ====
/- Hand-written, untrusted. The forgetting attention's gradient: the saved forward values the launch reads. -/
module

public import proofs.«01_k».proof.Proof.FoxEntry

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen

/-- One line of host operations after another. -/
theorem after_two (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

section Lines

variable (W : Valuation τ sig (Elt Ideal))

theorem last_lse : (StableHlo.after hostOps0_4 W (Proc.devRef .tc main_v71) : FVec Ideal S8x8192x1 .f32)
    = LOGSUM (W (Proc.devRef .tc main_v54)) (W (Proc.devRef .tc main_v59)) := by
  entry_read; rfl
theorem last_keep : StableHlo.after hostOps0_4 W (Proc.devRef .tc main_v66) = W (Proc.devRef .tc main_v66) := by entry_read; rfl
theorem pad_top : StableHlo.after hostOps0_3 W (Proc.devRef .tc main_v54) = W (Proc.devRef .tc main_v54) := by entry_read; rfl
theorem pad_total : StableHlo.after hostOps0_3 W (Proc.devRef .tc main_v59) = W (Proc.devRef .tc main_v59) := by entry_read; rfl
theorem pad_delta (x : FVec Ideal S8192x8 .f32) (z : IVec S_ 32) (hx : W (Proc.devRef .tc main_v65) = x) (hz : W (Proc.devRef .tc main_c) = z) :
    StableHlo.after hostOps0_3 W (Proc.devRef .tc main_v66)
      = pad S8192x128 ![0, 0] ![0, 120] ![0, 0] x (sitofp (F := Ideal) .f32 z) pads_S8192x8_S8192x128_000_01200 h_S_ := by
  subst hx; subst hz; entry_read; rfl

section Soft

variable (z : FVec Ideal S8x8192x8192 .f32) (hz : W (Proc.devRef .tc main_v52) = z)

/-- The row maxima, the exponentials, their sums and the incoming gradient's row sums, of given scores. -/
def topOf : FVec Ideal S8x8192x1 .f32 := broadcastInDim S8x8192x1 ![0, 1] bcast_S8x8192_S8x8192x1_0_1
  (Host.reduce FloatOps.maximumf z (constant S_ .f32 0xFF800000#32) reducesTo_S8x8192x8192_S8x8192_d2 h_S_)
def expOf : FVec Ideal S8x8192x8192 .f32 :=
  Host.exp (subf z (broadcastInDim S8x8192x8192 ![0, 1, 2] bcast_S8x8192x1_S8x8192x8192_0_1_2 (topOf z)))
def totOf : FVec Ideal S8x8192x1 .f32 := broadcastInDim S8x8192x1 ![0, 1] bcast_S8x8192_S8x8192x1_0_1
  (Host.reduceAdd (expOf z) (constant S_ .f32 0x00000000#32) reducesTo_S8x8192x8192_S8x8192_d2 h_S_)
def sumOf (v d : FVec Ideal S8x8192x128 .f32) : FVec Ideal S8192x8 .f32 :=
  transpose S8192x8 [1, 0] (Host.reduceAdd (mulf d (Host.dotGeneral dot_S8x8192x8192_S8x8192x128_S8x8192x128_2_1_1_2_0_0 none
      (Host.divf (expOf z) (broadcastInDim S8x8192x8192 ![0, 1, 2] bcast_S8x8192x1_S8x8192x8192_0_1_2 (totOf z))) v))
    (constant S_ .f32 0x00000000#32) reducesTo_S8x8192x128_S8x8192_d2 h_S_) transposes_S8x8192_S8192x8_1_0

include hz

theorem soft_top : StableHlo.after hostOps0_2 W (Proc.devRef .tc main_v54) = topOf z := by
  subst hz; entry_read; rfl
theorem soft_total : StableHlo.after hostOps0_2 W (Proc.devRef .tc main_v59) = totOf z := by
  subst hz; entry_read; rfl
theorem soft_sum (v d : FVec Ideal S8x8192x128 .f32) (hv : W (Proc.devRef .tc main_v34) = v) (hd : W (Proc.devRef .tc main_v36) = d) :
    StableHlo.after hostOps0_2 W (Proc.devRef .tc main_v65) = sumOf z v d := by
  subst hz; subst hv; subst hd; entry_read; rfl

end Soft

theorem soft_zero : StableHlo.after hostOps0_2 W (Proc.devRef .tc main_c) = constantI S_ 32 0#32 := by
  entry_read; rfl

theorem mask_z (r : FVec Ideal S8x8192x8192 .f32) (k : IVec S1x8192x8192 1) (b : FVec Ideal S_ .f32)
    (hr : W (Proc.devRef .tc main_v45) = r) (hk : W (Proc.devRef .tc main_v51) = k) (hb : W (Proc.devRef .tc main_cst_5) = b) :
    StableHlo.after hostOps0_1 W (Proc.devRef .tc main_v52)
      = select (broadcastInDim S8x8192x8192 ![0, 1, 2] bcast_S1x8192x8192_S8x8192x8192_0_1_2 k) r (broadcastInDim S8x8192x8192 ![] bcast_S_S8x8192x8192 b) := by
  subst hr; subst hk; subst hb; entry_read; rfl
theorem mask_value : StableHlo.after hostOps0_1 W (Proc.devRef .tc main_v34) = W (Proc.devRef .tc main_v34) := by entry_read; rfl
theorem mask_cot : StableHlo.after hostOps0_1 W (Proc.devRef .tc main_v36) = W (Proc.devRef .tc main_v36) := by entry_read; rfl

end Lines

variable (m : (ℓ : Loc nD τ sig) → Buf (Elt Ideal) ℓ) (c : Dev nD)

/-- The memory the program starts from, and after each line of host operations but the last. -/
abbrev M0 : Valuation τ sig (Elt Ideal) := StableHlo.after hostOps0 (fun b => m (c, b))
abbrev M1 : Valuation τ sig (Elt Ideal) := StableHlo.after hostOps0_1 (M0 m c)
abbrev M2 : Valuation τ sig (Elt Ideal) := StableHlo.after hostOps0_2 (M1 m c)
abbrev M3 : Valuation τ sig (Elt Ideal) := StableHlo.after hostOps0_3 (M2 m c)

theorem raw_scores : M0 m c (Proc.devRef .tc main_v45) = RAW (aQ m c) (aK m c) (aG m c) := by unfold M0; entry_read; rfl
theorem raw_value : M0 m c (Proc.devRef .tc main_v34) = HD (aV m c) := by unfold M0; entry_read; rfl
theorem raw_cot : M0 m c (Proc.devRef .tc main_v36) = HD (aD m c) := by unfold M0; entry_read; rfl
theorem raw_low : M0 m c (Proc.devRef .tc main_cst_5) = (constant S_ .f32 0xFF800000#32 : FVec Ideal S_ .f32) := by unfold M0; entry_read; rfl
def CAUSAL : IVec S1x8192x8192 1 :=
  cmpi .sle (broadcastInDim S1x8192x8192 ![0, 1, 2] bcast_S1x1x8192_S1x8192x8192_0_1_2 (broadcastInDim S1x1x8192 ![2] bcast_S8192_S1x1x8192_2 (iotaInDim S8192 32 0)))
      (broadcastInDim S1x8192x8192 ![0, 1, 2] bcast_S1x8192x1_S1x8192x8192_0_1_2 (broadcastInDim S1x8192x1 ![1] bcast_S8192_S1x8192x1_1 (iotaInDim S8192 32 0)))
theorem raw_mask : M0 m c (Proc.devRef .tc main_v51) = CAUSAL := by unfold M0; entry_read; rfl

theorem scores : M1 m c (Proc.devRef .tc main_v52) = Z (aQ m c) (aK m c) (aG m c) :=
  mask_z (M0 m c) _ _ _ (raw_scores m c) (raw_mask m c) (raw_low m c)

theorem entry_eq (b : Ref sig .tc) : V m c b = StableHlo.after hostOps0_4 (M3 m c) (Proc.devRef .tc b) := by
  show StableHlo.after (hostOps0 ++ (hostOps0_1 ++ (hostOps0_2 ++ (hostOps0_3 ++ (hostOps0_4 ++ []))))) _ _ = _
  rw [after_two, after_two, after_two, after_two, List.append_nil]

theorem V_lse : V m c main_v71 = LSE (aQ m c) (aK m c) (aG m c) := by
  rw [entry_eq]
  refine (last_lse (M3 m c)).trans ?_
  exact congrArg₂ LOGSUM ((pad_top (M2 m c)).trans (soft_top (M1 m c) _ (scores m c)))
    ((pad_total (M2 m c)).trans (soft_total (M1 m c) _ (scores m c)))

theorem V_delta : V m c main_v66 = DELTA (aQ m c) (aK m c) (aV m c) (aD m c) (aG m c) := by
  rw [entry_eq]
  refine (last_keep (M3 m c)).trans ?_
  exact pad_delta (M2 m c) _ _ (soft_sum (M1 m c) _ (scores m c) _ _ ((mask_value (M0 m c)).trans (raw_value m c))
    ((mask_cot (M0 m c)).trans (raw_cot m c))) (soft_zero (M1 m c))

end Cert.Kernel2Ideal.Value

end
-- ==== Proof.FoxBlocks.lean ====
/- Hand-written, untrusted. The forgetting attention's gradient: each launch point over the arrays, and a head's points summed. -/
module

public import proofs.«01_k».proof.Proof.FoxSaved

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen
open Cert.Fox (col)

variable (m : (ℓ : Loc nD τ sig) → Buf (Elt Ideal) ℓ) (c : Dev nD)

theorem idx_val : ∀ t : Fin cfg0.N, win0_0.index t = ![t.val % 8, t.val / 8]
    ∧ win0_1.index t = ![t.val % 8, t.val / 8]
    ∧ win0_2.index t = ![t.val / 8, t.val % 8, 0]
    ∧ win0_3.index t = ![t.val % 8, 0]
    ∧ win0_4.index t = ![0, t.val / 8]
    ∧ win0_5.index t = ![0, t.val / 8]
    ∧ win0_6.index t = ![t.val % 8, t.val / 8]
    ∧ win0_7.index t = ![0, t.val / 8]
    ∧ win0_8.index t = ![0, t.val / 8]
    ∧ win0_9.index t = ![t.val / 8, 0, 0, 0]
    ∧ win0_10.index t = ![t.val / 8, t.val % 8, 0] :=
  (by decide +kernel : ∀ t : Fin grid0.N, _)

theorem coords_val : ∀ t : Fin cfg0.N, (grid0.coords t 0).val = t.val / 8 ∧ (grid0.coords t 1).val = t.val % 8 :=
  (by decide +kernel : ∀ t : Fin grid0.N, _)

/-- The head of a launch point, and the row of the whole array that row `a` of its block is. -/
def headAt (t : Fin cfg0.N) : Fin 8 := ⟨t.val / 8, by have := t.isLt; have : cfg0.N = 64 := N_0; omega⟩
def tile (b : Fin 8) (a : Fin 1024) : Fin 8192 := ⟨b.val * 1024 + a.val, by omega⟩
def rowAt (t : Fin cfg0.N) (a : Fin 1024) : Fin 8192 := tile ⟨t.val % 8, by omega⟩ a

theorem blk_query (t : Fin cfg0.N) (a : Fin 1024) (x : Fin 256) :
    (iblk m c 0 t : Vec Ideal S1024x256 .bf16) (ix2 a x) = QW (aQ m c) (aG m c) (ix2 (rowAt t a) (wcol (headAt t) x)) := by
  rw [← V_query m c]
  blk_simp [iblk, idx_val t]
  refine congrArg (V m c main_v26) ?_
  blk_ext [idx_val t, rowAt, tile, headAt, wcol]
theorem blk_cot (t : Fin cfg0.N) (a : Fin 1024) (x : Fin 128) :
    (iblk m c 1 t : Vec Ideal S1024x128 .bf16) (ix2 a x) = rowsOf (aD m c) (headAt t) (rowAt t a) x := by
  have e : rowsOf (aD m c) (headAt t) (rowAt t a) x = (V m c main_v73 : FVec Ideal S8192x1024 .bf16) (ix2 (rowAt t a) (col (headAt t) x)) := by
    rw [V_cot m c]; rfl
  rw [e]
  blk_simp [iblk, idx_val t]
  refine congrArg (V m c main_v73) ?_
  blk_ext [idx_val t, rowAt, tile, headAt, col]
theorem blk_lse (t : Fin cfg0.N) (a : Fin 1024) :
    (iblk m c 2 t : Vec Ideal S1x1024x1 .f32) (ix3 0 a 0) = LSE (aQ m c) (aK m c) (aG m c) (ix3 (headAt t) (rowAt t a) 0) := by
  rw [← V_lse m c]
  blk_simp [iblk, idx_val t]
  refine congrArg (V m c main_v71) ?_
  blk_ext [idx_val t, rowAt, tile, headAt]
theorem blk_delta (t : Fin cfg0.N) (a : Fin 1024) (x : Fin 128) :
    (iblk m c 3 t : Vec Ideal S1024x128 .f32) (ix2 a x) = DELTA (aQ m c) (aK m c) (aV m c) (aD m c) (aG m c) (ix2 (rowAt t a) x) := by
  rw [← V_delta m c]
  blk_simp [iblk, idx_val t]
  refine congrArg (V m c main_v66) ?_
  blk_ext [idx_val t, rowAt, tile]
theorem blk_key (t : Fin cfg0.N) (j : Fin 8192) (x : Fin 256) :
    (iblk m c 4 t : Vec Ideal S8192x256 .bf16) (ix2 j x) = KW (aK m c) (aG m c) (ix2 j (wcol (headAt t) x)) := by
  rw [← V_key m c]
  blk_simp [iblk, idx_val t]
  refine congrArg (V m c main_v28) ?_
  blk_ext [idx_val t, headAt, wcol]
theorem blk_value (t : Fin cfg0.N) (j : Fin 8192) (x : Fin 128) :
    (iblk m c 5 t : Vec Ideal S8192x128 .bf16) (ix2 j x) = rowsOf (aV m c) (headAt t) j x := by
  have e : rowsOf (aV m c) (headAt t) j x = (V m c main_v72 : FVec Ideal S8192x1024 .bf16) (ix2 j (col (headAt t) x)) := by
    rw [V_value m c]; rfl
  rw [e]
  blk_simp [iblk, idx_val t]
  refine congrArg (V m c main_v72) ?_
  blk_ext [idx_val t, headAt, col]

/-- The kernel's probability and its score gradient, at head `h`, row `i`, column `j`. -/
def pK (h : Fin 8) (i j : Fin 8192) : EReal :=
  if j.val ≤ i.val then Ideal.exp2 ((∑ x, QW (aQ m c) (aG m c) (ix2 i (wcol h x)) * KW (aK m c) (aG m c) (ix2 j (wcol h x)))
    - LSE (aQ m c) (aK m c) (aG m c) (ix3 h i 0)) else 0
def sK (h : Fin 8) (i j : Fin 8192) : EReal :=
  pK m c h i j * ((∑ x, rowsOf (aD m c) h i x * rowsOf (aV m c) h j x) - DELTA (aQ m c) (aK m c) (aV m c) (aD m c) (aG m c) (ix2 i (lane h)))

section Point

variable (t : Fin cfg0.N)

/-- The blocks of a point, by name. -/
abbrev b0 : Vec Ideal S1024x256 .bf16 := iblk m c 0 t
abbrev b1 : Vec Ideal S1024x128 .bf16 := iblk m c 1 t
abbrev b2 : Vec Ideal S1x1024x1 .f32 := iblk m c 2 t
abbrev b3 : Vec Ideal S1024x128 .f32 := iblk m c 3 t
abbrev b4 : Vec Ideal S8192x256 .bf16 := iblk m c 4 t
abbrev b5 : Vec Ideal S8192x128 .bf16 := iblk m c 5 t

theorem pM_at (a : Fin 1024) (j : Fin 8192) :
    pM (grid0.coords t 1).val (b0 m c t) (k0_pay19 (b2 m c t)) (b4 m c t) a j = pK m c (headAt t) (rowAt t a) j := by
  simp only [pM, pK, pay19_at, blk_query, blk_key, blk_lse, (coords_val t).2]
  rfl

theorem sM_at (a : Fin 1024) (j : Fin 8192) :
    sM (grid0.coords t 1).val (b0 m c t) (b1 m c t) (k0_pay19 (b2 m c t)) (k0_pay20 (grid0.coords t) (b3 m c t)) (b4 m c t) (b5 m c t) a j
      = sK m c (headAt t) (rowAt t a) j := by
  simp only [sM, sK, pM_at, pay20_at (grid0.coords t) (b3 m c t) a (lane (headAt t)) (coords_val t).1, blk_delta, blk_cot, blk_value]

/-- What a point holds before and after, over any contents of the accumulators. -/
abbrev At (old9 : Vec Ideal S8192x128 .f32) (old11 : Vec Ideal S1x8x1x1024 .f32) (old13 : Vec Ideal S8192x128 .f32) : Prop :=
  Whole (grid0.coords t) old9 old11 old13 (outsAt0 m c t.val t.isLt).1 (outsAt0 m c t.val t.isLt).2.2.2.2.1 (outsAt0 m c t.val t.isLt).2.1
    (outsAt0 m c t.val t.isLt).2.2.2.1 (outsAt0 m c t.val t.isLt).2.2.2.2.2 (b0 m c t) (b1 m c t) (b2 m c t) (b3 m c t) (b4 m c t) (b5 m c t)

/-- What is proved of a point's results one by one holds of them taken together. -/
theorem whole_tuple {i : grid0.Coords} {o9 : Vec Ideal S8192x128 .f32} {o11 : Vec Ideal S1x8x1x1024 .f32} {o13 : Vec Ideal S8192x128 .f32}
    {T : Vec Ideal S1024x128 .f32 × Vec Ideal S8192x128 .f32 × Vec Ideal S8192x128 .bf16 × Vec Ideal S1x8x1x1024 .f32 × Vec Ideal S1x1024x1 .f32 × Vec Ideal S8192x128 .f32}
    {d6 d7 d8 d9 d10 d13 x0 x1 x2 x3 x4 x5} (h : T = (d6, d7, d8, d9, d10, d13)) (w : Whole i o9 o11 o13 d6 d10 d7 d9 d13 x0 x1 x2 x3 x4 x5) :
    Whole i o9 o11 o13 T.1 T.2.2.2.2.1 T.2.1 T.2.2.2.1 T.2.2.2.2.2 x0 x1 x2 x3 x4 x5 := by
  subst h
  exact w

theorem at_first (h0 : t.val % 8 = 0) : At m c t (fun _ => 0) (fun _ => 0) (fun _ => 0) :=
  whole_tuple (outsAt0_A m c t h0 (by omega)) (out_A c _ _ _ _ _ _ _ _ _ _ _ _ _ _ _ _ _ _ _ _ _ _ _ _ _ _ _ _ _ _ _ _ _)

/-- The point before. -/
abbrev prev : t.val - 1 < cfg0.N := Nat.lt_of_le_of_lt (Nat.sub_le _ _) t.isLt

theorem at_middle (h0 : ¬t.val % 8 = 0) (h1 : ¬t.val % 8 = 7) : At m c t (outsAt0 m c (t.val - 1) (prev t)).2.1
    (outsAt0 m c (t.val - 1) (prev t)).2.2.2.1 (outsAt0 m c (t.val - 1) (prev t)).2.2.2.2.2 :=
  whole_tuple (outsAt0_B m c t h0 h1) (out_B c _ _ _ _ _ _ _ _ _ _ _ _ _ _ _ _ _ _ _ _ _ _ _ _ _ _ _ _ _ _ _ _ _ _ _ _)

theorem at_final (h1 : t.val % 8 = 7) : At m c t (outsAt0 m c (t.val - 1) (prev t)).2.1
    (outsAt0 m c (t.val - 1) (prev t)).2.2.2.1 (outsAt0 m c (t.val - 1) (prev t)).2.2.2.2.2 :=
  whole_tuple (outsAt0_C m c t (by omega) h1) (out_C c _ _ _ _ _ _ _ _ _ _ _ _ _ _ _ _ _ _ _ _ _ _ _ _ _ _ _ _ _ _ _ _ _ _ _ _)

theorem at_later (h0 : ¬t.val % 8 = 0) : At m c t (outsAt0 m c (t.val - 1) (prev t)).2.1
    (outsAt0 m c (t.val - 1) (prev t)).2.2.2.1 (outsAt0 m c (t.val - 1) (prev t)).2.2.2.2.2 := by
  by_cases h1 : t.val % 8 = 7
  · exact at_final m c t h1
  · exact at_middle m c t h0 h1

theorem value_tuple {T : Vec Ideal S1024x128 .f32 × Vec Ideal S8192x128 .f32 × Vec Ideal S8192x128 .bf16 × Vec Ideal S1x8x1x1024 .f32 × Vec Ideal S1x1024x1 .f32 × Vec Ideal S8192x128 .f32}
    {d6 d7 d8 d9 d10 d13} (h : T = (d6, d7, d8, d9, d10, d13)) (r : Fin 8192) (x : Fin 128) (w : d8 (ix2 r x) = d13 (ix2 r x)) :
    T.2.2.1 (ix2 r x) = T.2.2.2.2.2 (ix2 r x) := by
  subst h
  exact w

theorem out_value (h1 : t.val % 8 = 7) (r : Fin 8192) (x : Fin 128) :
    (outsAt0 m c t.val t.isLt).2.2.1 (ix2 r x) = (outsAt0 m c t.val t.isLt).2.2.2.2.2 (ix2 r x) :=
  value_tuple (outsAt0_C m c t (by omega) h1) r x (out_C_value c _ _ _ _ _ _ _ _ _ _ _ _ _ _ _ _ _ _ _ _ _ _ _ _ _ _ _ _ _ _ _ _ _ _ _ _ _ _)

/-- A point's own sums over its rows. -/
def tK (r : Fin 8192) (x : Fin 128) : EReal := ∑ a, sK m c (headAt t) (rowAt t a) r * QW (aQ m c) (aG m c) (ix2 (rowAt t a) (wcol (headAt t) (wide x)))
def tV (r : Fin 8192) (x : Fin 128) : EReal := ∑ a, pK m c (headAt t) (rowAt t a) r * rowsOf (aD m c) (headAt t) (rowAt t a) x
def tF (r : Fin 8192) : EReal := 0 - ∑ a, sK m c (headAt t) (rowAt t a) r

variable {m c t} in
theorem At.query' {o9 o11 o13} (w : At m c t o9 o11 o13) (a : Fin 1024) (x : Fin 128) : (outsAt0 m c t.val t.isLt).1 (ix2 a x)
    = ∑ j, sK m c (headAt t) (rowAt t a) j * KW (aK m c) (aG m c) (ix2 j (wcol (headAt t) (wide x))) := by
  rw [w.query]
  exact Finset.sum_congr rfl fun j _ => by simp only [gQ, sM_at, blk_key]
variable {m c t} in
theorem At.row' {o9 o11 o13} (w : At m c t o9 o11 o13) (a : Fin 1024) : (outsAt0 m c t.val t.isLt).2.2.2.2.1 (ix3 0 a 0)
    = ∑ j, sK m c (headAt t) (rowAt t a) j := by
  rw [w.row]
  exact Finset.sum_congr rfl fun j _ => by simp only [sM_at]
variable {m c t} in
theorem At.key' {o9 o11 o13} (w : At m c t o9 o11 o13) (r : Fin 8192) (x : Fin 128) :
    (outsAt0 m c t.val t.isLt).2.1 (ix2 r x) = o9 (ix2 r x) + tK m c t r x := by
  rw [w.key]
  refine congrArg (_ + ·) (Finset.sum_congr rfl fun a _ => ?_)
  simp only [sM_at, blk_query]
variable {m c t} in
theorem At.cell' {o9 o11 o13} (w : At m c t o9 o11 o13) (r : Fin 8) (b : Fin 1024) :
    (outsAt0 m c t.val t.isLt).2.2.2.1 (ix4 0 r 0 b) = o11 (ix4 0 r 0 b) + tF m c t (tile r b) := by
  rw [w.cell]
  refine congrArg (fun e : EReal => o11 (ix4 0 r 0 b) + (0 - e)) (Finset.sum_congr rfl fun a _ => ?_)
  simp only [sM_at]; rfl
variable {m c t} in
theorem At.value' {o9 o11 o13} (w : At m c t o9 o11 o13) (r : Fin 8192) (x : Fin 128) :
    (outsAt0 m c t.val t.isLt).2.2.2.2.2 (ix2 r x) = o13 (ix2 r x) + tV m c t r x := by
  rw [w.value]
  refine congrArg (_ + ·) (Finset.sum_congr rfl fun a _ => ?_)
  simp only [pM_at, blk_cot]

theorem query_at (a : Fin 1024) (x : Fin 128) : (outsAt0 m c t.val t.isLt).1 (ix2 a x)
    = ∑ j, sK m c (headAt t) (rowAt t a) j * KW (aK m c) (aG m c) (ix2 j (wcol (headAt t) (wide x))) := by
  by_cases h0 : t.val % 8 = 0
  · exact (at_first m c t h0).query' a x
  · exact (at_later m c t h0).query' a x
theorem row_at (a : Fin 1024) : (outsAt0 m c t.val t.isLt).2.2.2.2.1 (ix3 0 a 0) = ∑ j, sK m c (headAt t) (rowAt t a) j := by
  by_cases h0 : t.val % 8 = 0
  · exact (at_first m c t h0).row' a
  · exact (at_later m c t h0).row' a

end Point

/-- The `s`-th of the eight points of the head of `t`. -/
def pt (t : Fin cfg0.N) (s : Fin 8) : Fin cfg0.N := ⟨8 * (t.val / 8) + s.val, by have := t.isLt; have : cfg0.N = 64 := N_0; omega⟩

theorem key_last (t : Fin cfg0.N) (ht : t.val % 8 = 7) (r : Fin 8192) (x : Fin 128) :
    (outsAt0 m c t.val t.isLt).2.1 (ix2 r x) = 0 + ∑ s : Fin 8, tK m c (pt t s) r x :=
  Pipeline.eq_sum_fin_of_reset_step_apply_of_flush (fun n h (p : Fin 8192 × Fin 128) => (outsAt0 m c n h).2.1 (ix2 p.1 p.2)) 8
    (fun _ => 0) (fun t p => tK m c t p.1 p.2) (fun t h p => (at_first m c t h).key' p.1 p.2)
    (fun t h p => (at_later m c t h).key' p.1 p.2) t ht (r, x)
theorem value_last (t : Fin cfg0.N) (ht : t.val % 8 = 7) (r : Fin 8192) (x : Fin 128) :
    (outsAt0 m c t.val t.isLt).2.2.2.2.2 (ix2 r x) = 0 + ∑ s : Fin 8, tV m c (pt t s) r x :=
  Pipeline.eq_sum_fin_of_reset_step_apply_of_flush (fun n h (p : Fin 8192 × Fin 128) => (outsAt0 m c n h).2.2.2.2.2 (ix2 p.1 p.2)) 8
    (fun _ => 0) (fun t p => tV m c t p.1 p.2) (fun t h p => (at_first m c t h).value' p.1 p.2)
    (fun t h p => (at_later m c t h).value' p.1 p.2) t ht (r, x)
theorem cell_last (t : Fin cfg0.N) (ht : t.val % 8 = 7) (r : Fin 8) (b : Fin 1024) :
    (outsAt0 m c t.val t.isLt).2.2.2.1 (ix4 0 r 0 b) = 0 + ∑ s : Fin 8, tF m c (pt t s) (tile r b) :=
  Pipeline.eq_sum_fin_of_reset_step_apply_of_flush (fun n h (p : Fin 8 × Fin 1024) => (outsAt0 m c n h).2.2.2.1 (ix4 0 p.1 0 p.2)) 8
    (fun _ => 0) (fun t p => tF m c t (tile p.1 p.2)) (fun t h p => (at_first m c t h).cell' p.1 p.2)
    (fun t h p => (at_later m c t h).cell' p.1 p.2) t ht (r, b)

end Cert.Kernel2Ideal.Value

end
-- ==== Proof.FoxArrays.lean ====
/- Hand-written, untrusted. The forgetting attention's gradient: what the launch leaves in each of its five result arrays. -/
module

public import proofs.«01_k».proof.Proof.FoxBlocks

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen
open Cert.Fox (col)

variable (m : (ℓ : Loc nD τ sig) → Buf (Elt Ideal) ℓ) (c : Dev nD)

/-- The head of a column of the 1024, and its place in the head. -/
def hd (y : Fin 1024) : Fin 8 := ⟨y.val / 128, by omega⟩
def ln (y : Fin 1024) : Fin 128 := ⟨y.val % 128, by omega⟩
theorem hd_col (h : Fin 8) (x : Fin 128) : hd (col h x) = h := Fin.ext (by simp only [hd, col]; omega)
theorem ln_col (h : Fin 8) (x : Fin 128) : ln (col h x) = x := Fin.ext (by simp only [ln, col]; omega)

/-- The five results, entry by entry: the queries' gradient before its scale, the keys' before its, the values', and the two parts of the gates'. -/
def EQ (h : Fin 8) (i : Fin 8192) (x : Fin 128) : EReal := ∑ j, sK m c h i j * KW (aK m c) (aG m c) (ix2 j (wcol h (wide x)))
def EK (h : Fin 8) (j : Fin 8192) (x : Fin 128) : EReal := ∑ i, sK m c h i j * QW (aQ m c) (aG m c) (ix2 i (wcol h (wide x)))
def EV (h : Fin 8) (j : Fin 8192) (x : Fin 128) : EReal := ∑ i, pK m c h i j * rowsOf (aD m c) h i x
def EC (h : Fin 8) (j : Fin 8192) : EReal := ∑ b : Fin 8, (0 - ∑ a, sK m c h (tile b a) j)
def ER (h : Fin 8) (i : Fin 8192) : EReal := ∑ j, sK m c h i j

theorem headAt_pt (t : Fin cfg0.N) (s : Fin 8) : headAt (pt t s) = headAt t := Fin.ext (by simp only [headAt, pt]; omega)
theorem rowAt_pt (t : Fin cfg0.N) (s : Fin 8) (a : Fin 1024) : rowAt (pt t s) a = tile s a :=
  Fin.ext (by simp only [rowAt, pt, tile]; omega)

theorem tK_sum (t : Fin cfg0.N) (r : Fin 8192) (x : Fin 128) : 0 + ∑ s : Fin 8, tK m c (pt t s) r x = EK m c (headAt t) r x := by
  rw [zero_add]
  simp only [tK, headAt_pt, rowAt_pt, EK]
  exact Fin.sum_mul_add_congr fun s k hl => by rw [show tile s k = ⟨s.val * 1024 + k.val, hl⟩ from rfl]
theorem tV_sum (t : Fin cfg0.N) (r : Fin 8192) (x : Fin 128) : 0 + ∑ s : Fin 8, tV m c (pt t s) r x = EV m c (headAt t) r x := by
  rw [zero_add]
  simp only [tV, headAt_pt, rowAt_pt, EV]
  exact Fin.sum_mul_add_congr fun s k hl => by rw [show tile s k = ⟨s.val * 1024 + k.val, hl⟩ from rfl]
theorem tF_sum (t : Fin cfg0.N) (r : Fin 8192) : 0 + ∑ s : Fin 8, tF m c (pt t s) r = EC m c (headAt t) r := by
  rw [zero_add]
  simp only [tF, headAt_pt, rowAt_pt, EC]

def RES_6 : FVec Ideal S8192x1024 .f32 := fun y => EQ m c (hd (y 1)) (y 0) (ln (y 1))
def RES_7 : FVec Ideal S8192x1024 .f32 := fun y => EK m c (hd (y 1)) (y 0) (ln (y 1))
def RES_8 : FVec Ideal S8192x1024 .bf16 := fun y => EV m c (hd (y 1)) (y 0) (ln (y 1))
def RES_9 : FVec Ideal S8x8x1x1024 .f32 := fun y => EC m c (y 0) (tile (y 1) (y 3))
def RES_10 : FVec Ideal S8x8192x1 .f32 := fun y => ER m c (y 0) (y 1)

theorem RES_6_at (i : Fin 8192) (h : Fin 8) (x : Fin 128) : RES_6 m c (ix2 i (col h x)) = EQ m c h i x := by
  show EQ m c (hd (col h x)) i (ln (col h x)) = _; rw [hd_col, ln_col]
theorem RES_7_at (i : Fin 8192) (h : Fin 8) (x : Fin 128) : RES_7 m c (ix2 i (col h x)) = EK m c h i x := by
  show EK m c (hd (col h x)) i (ln (col h x)) = _; rw [hd_col, ln_col]
theorem RES_8_at (i : Fin 8192) (h : Fin 8) (x : Fin 128) : RES_8 m c (ix2 i (col h x)) = EV m c h i x := by
  show EV m c (hd (col h x)) i (ln (col h x)) = _; rw [hd_col, ln_col]
theorem RES_9_at (h r : Fin 8) (b : Fin 1024) : RES_9 m c (ix4 h r 0 b) = EC m c h (tile r b) := rfl
theorem RES_10_at (h : Fin 8) (i : Fin 8192) : RES_10 m c (ix3 h i 0) = ER m c h i := rfl

theorem final_6 : (dats m 0 c).arrAt 6 (cfgs 0).N = RES_6 m c := by
  refine (dats m 0 c).arrAt_eq_of_covers 6 _ (by decide +kernel) fun t hf y => ?_
  blk_simp; rw [after0_6]
  idx_vars y
  have e : ((cfg0.win 6).blk t).view.emb (ix2 y0 y1) = (ix2 (rowAt t y0) (col (headAt t) y1) : S8192x1024.Idx) := by
    blk_ext [idx_val t, rowAt, tile, headAt, col]
  exact (query_at m c t y0 y1).trans ((RES_6_at m c _ _ _).symm.trans (congrArg (RES_6 m c) e.symm))

theorem final_7 : (dats m 0 c).arrAt 7 (cfgs 0).N = RES_7 m c := by
  refine (dats m 0 c).arrAt_eq_of_covers 7 _ (by decide +kernel) fun t hf y => ?_
  have ht := (flush0_7 t).mp hf
  blk_simp; rw [after0_7]
  idx_vars y
  have e : ((cfg0.win 7).blk t).view.emb (ix2 y0 y1) = (ix2 y0 (col (headAt t) y1) : S8192x1024.Idx) := by
    blk_ext [idx_val t, headAt, col]
  exact ((key_last m c t ht y0 y1).trans (tK_sum m c t y0 y1)).trans ((RES_7_at m c _ _ _).symm.trans (congrArg (RES_7 m c) e.symm))

theorem final_8 : (dats m 0 c).arrAt 8 (cfgs 0).N = RES_8 m c := by
  refine (dats m 0 c).arrAt_eq_of_covers 8 _ (by decide +kernel) fun t hf y => ?_
  have ht := (flush0_8 t).mp hf
  blk_simp; rw [after0_8]
  idx_vars y
  have e : ((cfg0.win 8).blk t).view.emb (ix2 y0 y1) = (ix2 y0 (col (headAt t) y1) : S8192x1024.Idx) := by
    blk_ext [idx_val t, headAt, col]
  exact ((out_value m c t ht y0 y1).trans ((value_last m c t ht y0 y1).trans (tV_sum m c t y0 y1))).trans
    ((RES_8_at m c _ _ _).symm.trans (congrArg (RES_8 m c) e.symm))

theorem final_9 : (dats m 0 c).arrAt 9 (cfgs 0).N = RES_9 m c := by
  refine (dats m 0 c).arrAt_eq_of_covers 9 _ (by decide +kernel) fun t hf y => ?_
  have ht := (flush0_9 t).mp hf
  blk_simp; rw [after0_9]
  idx_vars y
  obtain rfl : y0 = 0 := Subsingleton.elim _ _
  obtain rfl : y2 = 0 := Subsingleton.elim _ _
  have e : ((cfg0.win 9).blk t).view.emb (ix4 0 y1 0 y3) = (ix4 (headAt t) y1 0 y3 : S8x8x1x1024.Idx) := by
    blk_ext [idx_val t, headAt]
  exact ((cell_last m c t ht y1 y3).trans (tF_sum m c t (tile y1 y3))).trans
    ((RES_9_at m c _ _ _).symm.trans (congrArg (RES_9 m c) e.symm))

theorem final_10 : (dats m 0 c).arrAt 10 (cfgs 0).N = RES_10 m c := by
  refine (dats m 0 c).arrAt_eq_of_covers 10 _ (by decide +kernel) fun t hf y => ?_
  blk_simp; rw [after0_10]
  idx_vars y
  obtain rfl : y0 = 0 := Subsingleton.elim _ _
  obtain rfl : y2 = 0 := Subsingleton.elim _ _
  have e : ((cfg0.win 10).blk t).view.emb (ix3 0 y1 0) = (ix3 (headAt t) (rowAt t y1) 0 : S8x8192x1.Idx) := by
    blk_ext [idx_val t, rowAt, tile, headAt]
  exact (row_at m c t y1).trans ((RES_10_at m c _ _).symm.trans (congrArg (RES_10 m c) e.symm))

end Cert.Kernel2Ideal.Value

end
-- ==== Proof.MixRef.lean ====
/- Hand-written, untrusted. The gradient of the branches' gates and of the recurrence's norm: the reference, entry by
   entry. -/
module

public import proofs.«01_k».proof.Proof.FoxRef
public import proofs.«01_k».proof.Proof.FoxArrays
public import proofs.«01_k».proof.Proof.RowNorm
public import proofs.«01_k».proof.Proof.Gen.Reference3Ideal.Run

@[expose] public section

set_option maxRecDepth 16384

noncomputable section

open Idealize.ShloMosaic Idealize.ShloMosaic.TcCoe Idealize.SL.Sem
open scoped BigOperators

namespace Cert.Mix

open Cert.Fox (col)
open Cert.RowNorm

/-- The words of 128 and of the guard, as the programs spell them. -/
abbrev wN : EReal := Ideal.ofBits .f32 0x43000000#32
abbrev wE : EReal := Ideal.ofBits .f32 0x358637BD#32
abbrev wHalf : EReal := Ideal.ofBits .f32 0xBF000000#32

/-- The logistic function, and the derivative of `z` times it against a gradient `d`, as the chain rule has it. -/
def sg (z : EReal) : EReal := Ideal.div 1 (1 + Ideal.exp (-z))
def dsilu (z d : EReal) : EReal := d * sg z + z * d * (sg z * (1 - sg z))

/-- A column of the second gate in the whole projection, and of the second branch's gradient. -/
def gcol (h : Fin 8) (x : Fin 128) : Fin 8216 := ⟨7176 + (h.val * 128 + x.val), by omega⟩
def fcol (h : Fin 8) (x : Fin 128) : Fin 8216 := ⟨3072 + (h.val * 128 + x.val), by omega⟩
def lo (h : Fin 8) (x : Fin 128) : Fin 2048 := ⟨h.val * 128 + x.val, by omega⟩
def hi (h : Fin 8) (x : Fin 128) : Fin 2048 := ⟨1024 + (h.val * 128 + x.val), by omega⟩

end Cert.Mix

namespace Cert.Reference3Ideal.Value

open Cert.Reference3Ideal Cert.Reference3Ideal.Gen
open Cert.Fox (col)
open Cert.Mix Cert.RowNorm
open Cert.Reference2Ideal.Value (rows HD FLAT HD_at FLAT_at)

/-- A sum over the first two axes of three. -/
theorem sum_two {n0 n1 n2 : ℕ} (h : (⟨3, ![n0, n1, n2]⟩ : Shape).ReducesTo [0, 1] ⟨1, ![n2]⟩)
    (v : (⟨3, ![n0, n1, n2]⟩ : Shape).Idx → EReal) (j : Fin n2) :
    ∑ i ∈ Finset.univ.filter (fun i => h.drop i = ix1 j), v i = ∑ p : Fin n0 × Fin n1, v (ix3 p.1 p.2 j) := by
  refine Finset.sum_filter_eq_sum_of_fiber _ (fun p : Fin n0 × Fin n1 => (ix3 p.1 p.2 j : (⟨3, ![n0, n1, n2]⟩ : Shape).Idx))
    (fun p q e => Prod.ext (congrFun e 0) (congrFun e 1)) (fun i => ⟨fun e => ⟨(i 0, i 1), ?_⟩, ?_⟩) v
  · funext a; apply Fin.ext
    match a with
    | ⟨0, _⟩ => rfl
    | ⟨1, _⟩ => rfl
    | ⟨2, _⟩ => exact (congrArg Fin.val (congrFun e ⟨0, Nat.zero_lt_one⟩)).symm
  · rintro ⟨p, rfl⟩
    funext b; apply Fin.ext
    match b with
    | ⟨0, _⟩ => rfl

theorem red_two {n0 n1 n2 : ℕ} (h : (⟨3, ![n0, n1, n2]⟩ : Shape).ReducesTo [0, 1] ⟨1, ![n2]⟩)
    (v : (⟨3, ![n0, n1, n2]⟩ : Shape).Idx → EReal) (j : Fin n2) :
    Ideal.hostReduceAdd h v 0 (ix1 j) = ∑ p : Fin n0 × Fin n1, v (ix3 p.1 p.2 j) :=
  (zero_add _).trans (sum_two h v j)

variable (dm : FVec Ideal S8192x2048 .f32) (fo go : FVec Ideal S8192x1024 .f32) (p : FVec Ideal S8192x8216 .f32) (g : FVec Ideal S1x128 .f32)

/-- A head's row of the recurrence's output; the gates' arguments; the gradients that reach the two branches. -/
def orow (h : Fin 8) (i : Fin 8192) (x : Fin 128) : EReal := go (ix2 i (col h x))
def fz (h : Fin 8) (i : Fin 8192) (x : Fin 128) : EReal := p (ix2 i (fcol h x))
def gz (h : Fin 8) (i : Fin 8192) (x : Fin 128) : EReal := p (ix2 i (gcol h x))
def df (h : Fin 8) (i : Fin 8192) (x : Fin 128) : EReal := dm (ix2 i (lo h x))
def dg (h : Fin 8) (i : Fin 8192) (x : Fin 128) : EReal := dm (ix2 i (hi h x))

def FZ : FVec Ideal S8192x1024 .f32 := extractStridedSlice S8192x1024 ![0, 3072] p slices_S8192x8216_S8192x1024_0_3072
def GZ : FVec Ideal S8192x1024 .f32 := extractStridedSlice S8192x1024 ![0, 7176] p slices_S8192x8216_S8192x1024_0_7176
def DF : FVec Ideal S8192x1024 .f32 := extractStridedSlice S8192x1024 ![0, 0] dm slices_S8192x2048_S8192x1024_0_0
def DG : FVec Ideal S8192x1024 .f32 := extractStridedSlice S8192x1024 ![0, 1024] dm slices_S8192x2048_S8192x1024_0_1024
theorem FZ_at (i : Fin 8192) (h : Fin 8) (x : Fin 128) : FZ p (ix2 i (col h x)) = fz p h i x := by pointwise [FZ, fz, fcol, col]
theorem GZ_at (i : Fin 8192) (h : Fin 8) (x : Fin 128) : GZ p (ix2 i (col h x)) = gz p h i x := by pointwise [GZ, gz, gcol, col]
theorem DF_at (i : Fin 8192) (h : Fin 8) (x : Fin 128) : DF dm (ix2 i (col h x)) = df dm h i x := by pointwise [DF, df, lo, col]
theorem DG_at (i : Fin 8192) (h : Fin 8) (x : Fin 128) : DG dm (ix2 i (col h x)) = dg dm h i x := by pointwise [DG, dg, hi, col]

def ONE : FVec Ideal S8192x1024 .f32 := broadcastInDim S8192x1024 ![] bcast_S_S8192x1024 (constant S_ .f32 0x3F800000#32)
def SG (z : FVec Ideal S8192x1024 .f32) : FVec Ideal S8192x1024 .f32 := Host.divf ONE (addf ONE (Host.exp (Host.negf z)))
theorem SG_at (z : FVec Ideal S8192x1024 .f32) (y : S8192x1024.Idx) : SG z y = sg (z y) := by
  pointwise [SG, ONE, sg]
/-- A gate's gradient. -/
def DGATE (z d : FVec Ideal S8192x1024 .f32) : FVec Ideal S8192x1024 .bf16 :=
  truncf .bf16 (addf (mulf d (SG z)) (mulf (mulf z d) (mulf (SG z) (subf ONE (SG z))))) bitsLt_bf16_f32
theorem DGATE_at (z d : FVec Ideal S8192x1024 .f32) (y : S8192x1024.Idx) : DGATE z d y = dsilu (z y) (d y) := by
  pointwise [DGATE, SG_at, ONE, dsilu]

/-- The gradient of the attention's output, and its row sums against that output. -/
def DFO : FVec Ideal S8192x1024 .f32 := mulf (DF dm) (mulf (FZ p) (SG (FZ p)))
theorem DFO_at (i : Fin 8192) (h : Fin 8) (x : Fin 128) : DFO dm p (ix2 i (col h x)) = df dm h i x * (fz p h i x * sg (fz p h i x)) := by
  pointwise [DFO, SG_at, FZ_at, DF_at]
def DFOB : FVec Ideal S8192x1024 .bf16 := truncf .bf16 (DFO dm p) bitsLt_bf16_f32
theorem DFOB_at (y : S8192x1024.Idx) : DFOB dm p y = DFO dm p y := by pointwise [DFOB]
def PROD : FVec Ideal S8192x8x128 .f32 := shapeCast S8192x8x128 (mulf (DFO dm p) fo) shapeCasts_S8192x1024_S8192x8x128
theorem PROD_at (i : Fin 8192) (h : Fin 8) (x : Fin 128) : PROD dm fo p (ix3 i h x)
    = df dm h i x * (fz p h i x * sg (fz p h i x)) * fo (ix2 i (col h x)) := by
  rw [← DFO_at]
  pointwise [PROD]
  rfl
def DELTA : FVec Ideal S8192x128 .f32 :=
  pad S8192x128 ![0, 0] ![0, 120] ![0, 0] (Host.reduceAdd (PROD dm fo p) (constant S_ .f32 0x00000000#32) reducesTo_S8192x8x128_S8192x8_d2 h_S_)
    (sitofp .f32 (constantI S_ 32 0#32)) pads_S8192x8_S8192x128_000_01200 h_S_
theorem DELTA_at (i : Fin 8192) (l : Fin 128) : DELTA dm fo p (ix2 i l)
    = if hl : l.val < 8 then ∑ x, df dm ⟨l.val, hl⟩ i x * (fz p ⟨l.val, hl⟩ i x * sg (fz p ⟨l.val, hl⟩ i x)) * fo (ix2 i (col ⟨l.val, hl⟩ x)) else 0 := by
  pointwise [DELTA, PROD_at]
  refine dite_congr rfl (fun _ => rfl) fun _ => ?_
  exact (by norm_num : (((0 : ℤ) : ℝ) : EReal) = 0)

/-- The recurrence's output normed, and the gradients through its gate. -/
def MSQ : FVec Ideal S8x8192x1 .f32 :=
  addf (Host.divf (broadcastInDim S8x8192x1 ![0, 1] bcast_S8x8192_S8x8192x1_0_1
      (Host.reduceAdd (mulf (HD go) (HD go)) (constant S_ .f32 0x00000000#32) reducesTo_S8x8192x128_S8x8192_d2 h_S_))
    (broadcastInDim S8x8192x1 ![] bcast_S_S8x8192x1 (constant S_ .f32 0x43000000#32)))
    (broadcastInDim S8x8192x1 ![] bcast_S_S8x8192x1 (constant S_ .f32 0x358637BD#32))
theorem MSQ_at (h : Fin 8) (i : Fin 8192) (u : Fin 1) : MSQ go (ix3 h i u) = msq wN wE (orow go h i) := by
  pointwise [MSQ, HD_at, msq]
  rfl
def XN : FVec Ideal S8x8192x128 .f32 :=
  mulf (HD go) (broadcastInDim S8x8192x128 ![0, 1, 2] bcast_S8x8192x1_S8x8192x128_0_1_2 (Host.rsqrt (MSQ go)))
theorem XN_at (h : Fin 8) (i : Fin 8192) (x : Fin 128) : XN go (ix3 h i x) = orow go h i x * rrms wN wE (orow go h i) := by
  pointwise [XN, HD_at, MSQ_at, rrms]
  rfl
def GAIN : FVec Ideal S8x8192x128 .f32 :=
  broadcastInDim S8x8192x128 ![0, 1, 2] bcast_S1x1x128_S8x8192x128_0_1_2 (broadcastInDim S1x1x128 ![1, 2] bcast_S1x128_S1x1x128_1_2
    (broadcastInDim S1x128 ![1] bcast_S128_S1x128_1 (shapeCast S128 g shapeCasts_S1x128_S128)))
theorem GAIN_at (h : Fin 8) (i : Fin 8192) (x : Fin 128) : GAIN g (ix3 h i x) = g (ix2 0 x) := by pointwise [GAIN]
def NORMED : FVec Ideal S8192x1024 .f32 := FLAT (mulf (XN go) (GAIN g))
theorem NORMED_at (i : Fin 8192) (h : Fin 8) (x : Fin 128) : NORMED go g (ix2 i (col h x))
    = orow go h i x * rrms wN wE (orow go h i) * g (ix2 0 x) := by
  refine (FLAT_at _ i h x).trans ?_
  pointwise [XN_at, GAIN_at]
/-- The gradient that reaches the norm's output, gate applied. -/
def DY : FVec Ideal S8x8192x128 .f32 := HD (mulf (DG dm) (mulf (GZ p) (SG (GZ p))))
def dy (h : Fin 8) (i : Fin 8192) (x : Fin 128) : EReal := dg dm h i x * (gz p h i x * sg (gz p h i x))
theorem DY_at (h : Fin 8) (i : Fin 8192) (x : Fin 128) : DY dm p (ix3 h i x) = dy dm p h i x := by
  refine (HD_at _ h i x).trans ?_
  rw [rows]
  pointwise [DG_at, GZ_at, SG_at, dy]
def cot (h : Fin 8) (i : Fin 8192) (x : Fin 128) : EReal := dy dm p h i x * g (ix2 0 x)
def COT : FVec Ideal S8x8192x128 .f32 := mulf (DY dm p) (GAIN g)
theorem COT_at (h : Fin 8) (i : Fin 8192) (x : Fin 128) : COT dm p g (ix3 h i x) = cot dm p g h i x := by
  pointwise [COT, DY_at, GAIN_at, cot]
def PULL : FVec Ideal S8x8192x128 .f32 :=
  broadcastInDim S8x8192x128 ![0, 1] bcast_S8x8192_S8x8192x128_0_1 (Host.reduceAdd (Host.divf
      (mulf (shapeCast S8x8192x1 (Host.reduceAdd (mulf (HD go) (COT dm p g)) (constant S_ .f32 0x00000000#32) reducesTo_S8x8192x128_S8x8192_d2 h_S_)
          shapeCasts_S8x8192_S8x8192x1)
        (mulf (broadcastInDim S8x8192x1 ![] bcast_S_S8x8192x1 (constant S_ .f32 0xBF000000#32)) (Host.divf (Host.rsqrt (MSQ go)) (MSQ go))))
      (broadcastInDim S8x8192x1 ![] bcast_S_S8x8192x1 (constant S_ .f32 0x43000000#32)))
    (constant S_ .f32 0x00000000#32) reducesTo_S8x8192x1_S8x8192_d2 h_S_)
theorem PULL_at (h : Fin 8) (i : Fin 8192) (x : Fin 128) :
    PULL dm go p g (ix3 h i x) = pull wN wE wHalf (orow go h i) (cot dm p g h i) := by
  pointwise [PULL, HD_at, COT_at, MSQ_at, pull, rrms]
  simp
  rfl
def DGO : FVec Ideal S8192x1024 .f32 :=
  FLAT (addf (addf (mulf (COT dm p g) (broadcastInDim S8x8192x128 ![0, 1, 2] bcast_S8x8192x1_S8x8192x128_0_1_2 (Host.rsqrt (MSQ go))))
      (mulf (HD go) (PULL dm go p g))) (mulf (PULL dm go p g) (HD go)))
/-- The gradient of the recurrence's output, at a row. -/
theorem DGO_at (i : Fin 8192) (h : Fin 8) (x : Fin 128) : DGO dm go p g (ix2 i (col h x))
    = cot dm p g h i x * rrms wN wE (orow go h i)
      + orow go h i x * pull wN wE wHalf (orow go h i) (cot dm p g h i)
      + pull wN wE wHalf (orow go h i) (cot dm p g h i) * orow go h i x := by
  refine (FLAT_at _ i h x).trans ?_
  pointwise [COT_at, MSQ_at, HD_at, PULL_at, rrms]
  rfl
theorem one_row (v : FVec Ideal S128 .f32) (x : Fin 128) : shapeCast S1x1x128 v shapeCasts_S128_S1x1x128 (ix3 0 0 x) = v (ix1 x) := by
  pointwise!
/-- The gradient of the norm's gains. -/
def DGAIN : FVec Ideal S1x128 .f32 :=
  broadcastInDim S1x128 ![1] bcast_S128_S1x128_1 (Host.reduceAdd (broadcastInDim S1x128 ![1] bcast_S128_S1x128_1
    (Host.reduceAdd (shapeCast S1x1x128 (Host.reduceAdd (mulf (XN go) (DY dm p)) (constant S_ .f32 0x00000000#32) reducesTo_S8x8192x128_S128_d0_1 h_S_)
      shapeCasts_S128_S1x1x128) (constant S_ .f32 0x00000000#32) reducesTo_S1x1x128_S128_d0_1 h_S_)) (constant S_ .f32 0x00000000#32)
    reducesTo_S1x128_S128_d0 h_S_)
theorem DGAIN_at (u : Fin 1) (x : Fin 128) : DGAIN dm go p (ix2 u x)
    = ∑ q : Fin 8 × Fin 8192, orow go q.1 q.2 x * rrms wN wE (orow go q.1 q.2) * dy dm p q.1 q.2 x := by
  pointwise [DGAIN]
  rw [Fintype.sum_unique, red_two, Fintype.sum_prod_type, Fintype.sum_unique, Fintype.sum_unique]
  refine (one_row _ x).trans ?_
  have z : (constant S_ .f32 0x00000000#32 : FVec Ideal S_ .f32) (Shape.Idx.first h_S_) = (0 : EReal) := by pointwise!
  refine (show _ = Ideal.hostReduceAdd reducesTo_S8x8192x128_S128_d0_1 (mulf (XN go) (DY dm p)) _ (ix1 x) from rfl).trans ?_
  rw [z, red_two]
  refine Finset.sum_congr rfl fun q _ => ?_
  pointwise [XN_at, DY_at]

section Run
variable (m : (ℓ : Loc nD τ sig) → Buf (Elt Ideal) ℓ) (c : Dev nD)
abbrev aM : FVec Ideal S8192x2048 .f32 := m ((c.tc : Thread nD τ).loc main_arg0)
abbrev aF : FVec Ideal S8192x1024 .f32 := m ((c.tc : Thread nD τ).loc main_arg1)
abbrev aO : FVec Ideal S8192x1024 .f32 := m ((c.tc : Thread nD τ).loc main_arg2)
abbrev aP : FVec Ideal S8192x8216 .f32 := m ((c.tc : Thread nD τ).loc main_arg3)
abbrev aG : FVec Ideal S1x128 .f32 := m ((c.tc : Thread nD τ).loc main_arg4)

/-- What the run leaves in the two named results, in the terms above. -/
theorem res_dgo : res_main_v62 m c = DGO (aM m c) (aO m c) (aP m c) (aG m c) := rfl
theorem res_dgz : res_main_v69 m c = DGATE (GZ (aP m c)) (mulf (NORMED (aO m c) (aG m c)) (DG (aM m c))) := rfl
end Run

end Cert.Reference3Ideal.Value

end
-- ==== Proof.HeadRef.lean ====
/- Hand-written, untrusted. The training loss and its gradients at the head of the model: the reference, entry by
   entry. -/
module

public import proofs.«01_k».proof.Proof.MixRef
public import proofs.«01_k».proof.Proof.RowNorm
public import proofs.«01_k».proof.Proof.Gen.Reference5Ideal.Run

@[expose] public section

set_option maxRecDepth 16384

noncomputable section

open Idealize.ShloMosaic Idealize.ShloMosaic.TcCoe Idealize.SL.Sem
open scoped BigOperators

namespace Cert.Head

open Cert.RowNorm

/-- The words of 2048, of the guard, of one half, of minus one half, of two and of one, as the programs spell them. -/
abbrev wN : EReal := Ideal.ofBits .f32 0x45000000#32
abbrev wE : EReal := Ideal.ofBits .f32 0x358637BD#32
abbrev wH : EReal := Ideal.ofBits .f32 0x3F000000#32
abbrev wM : EReal := Ideal.ofBits .f32 0xBF000000#32
abbrev wT : EReal := Ideal.ofBits .f32 0x40000000#32

/-- The index shapes of the two programs' arguments. -/
abbrev Mix : Type := (⟨2, ![8192, 2048]⟩ : Shape).Idx → EReal
abbrev Wt : Type := (⟨3, ![1, 2048, 2048]⟩ : Shape).Idx → EReal
abbrev Rows : Type := (⟨3, ![1, 8192, 2048]⟩ : Shape).Idx → EReal
abbrev Line : Type := (⟨2, ![1, 2048]⟩ : Shape).Idx → EReal
abbrev Gain : Type := (⟨1, ![2048]⟩ : Shape).Idx → EReal

variable (mx : Mix) (w : Wt) (x tg : Rows) (gt : Line) (fg : Gain)

/-- The projected row, the row after the gated residual, and the error of its normalised prediction. -/
def zr (i : Fin 8192) (k : Fin 2048) : EReal := ∑ l : Fin 2048, mx (ix2 i l) * w (ix3 0 l k)
def yr (i : Fin 8192) (k : Fin 2048) : EReal := x (ix3 0 i k) + gt (ix2 0 k) * zr mx w i k
def er (i : Fin 8192) (k : Fin 2048) : EReal :=
  yr mx w x gt i k * rrms wN wE (yr mx w x gt i) * fg (ix1 k) - tg (ix3 0 i k)

/-- The loss's gradient at the prediction, at the normalised row, at the row, and at the projection. -/
def ce (i : Fin 8192) (k : Fin 2048) : EReal := Ideal.div (wH * 1) wN * (wT * er mx w x tg gt fg i k)
def cn (i : Fin 8192) (k : Fin 2048) : EReal := ce mx w x tg gt fg i k * fg (ix1 k)
def dy (i : Fin 8192) (k : Fin 2048) : EReal :=
  cn mx w x tg gt fg i k * rrms wN wE (yr mx w x gt i)
    + yr mx w x gt i k * pull wN wE wM (yr mx w x gt i) (cn mx w x tg gt fg i)
    + pull wN wE wM (yr mx w x gt i) (cn mx w x tg gt fg i) * yr mx w x gt i k
def dz (i : Fin 8192) (k : Fin 2048) : EReal := gt (ix2 0 k) * dy mx w x tg gt fg i k

end Cert.Head

namespace Cert.Reference5Ideal.Value

open Cert.Reference5Ideal Cert.Reference5Ideal.Gen
open Cert.Head Cert.RowNorm

variable (mx : FVec Ideal S8192x2048 .bf16) (w : FVec Ideal S1x2048x2048 .f32) (x tg : FVec Ideal S1x8192x2048 .f32)
  (gt : FVec Ideal S1x2048 .f32) (fg : FVec Ideal S2048 .f32)

def W : FVec Ideal S2048x2048 .f32 := shapeCast S2048x2048 w shapeCasts_S1x2048x2048_S2048x2048
def Z : FVec Ideal S1x8192x2048 .f32 :=
  Host.dotGeneral dot_S1x8192x2048_S2048x2048_S1x8192x2048_2_0_01_1_n_n none
    (broadcastInDim S1x8192x2048 ![1, 2] bcast_S8192x2048_S1x8192x2048_1_2 (extf .f32 mx bitsLt_bf16_f32)) (W w)
def GT : FVec Ideal S1x8192x2048 .f32 :=
  broadcastInDim S1x8192x2048 ![0, 1, 2] bcast_S1x1x2048_S1x8192x2048_0_1_2
    (broadcastInDim S1x1x2048 ![0, 2] bcast_S1x2048_S1x1x2048_0_2 gt)
def FG : FVec Ideal S1x8192x2048 .f32 :=
  broadcastInDim S1x8192x2048 ![0, 1, 2] bcast_S1x1x2048_S1x8192x2048_0_1_2
    (broadcastInDim S1x1x2048 ![2] bcast_S2048_S1x1x2048_2 fg)
def Y : FVec Ideal S1x8192x2048 .f32 := addf x (mulf (GT gt) (Z mx w))
def MSQ : FVec Ideal S1x8192x1 .f32 :=
  addf (Host.divf (broadcastInDim S1x8192x1 ![0, 1] bcast_S1x8192_S1x8192x1_0_1
      (Host.reduceAdd (mulf (Y mx w x gt) (Y mx w x gt)) (constant S_ .f32 0x00000000#32) reducesTo_S1x8192x2048_S1x8192_d2 h_S_))
    (broadcastInDim S1x8192x1 ![] bcast_S_S1x8192x1 (constant S_ .f32 0x45000000#32)))
    (broadcastInDim S1x8192x1 ![] bcast_S_S1x8192x1 (constant S_ .f32 0x358637BD#32))
def R : FVec Ideal S1x8192x2048 .f32 :=
  broadcastInDim S1x8192x2048 ![0, 1, 2] bcast_S1x8192x1_S1x8192x2048_0_1_2 (Host.rsqrt (MSQ mx w x gt))
def YN : FVec Ideal S1x8192x2048 .f32 := mulf (Y mx w x gt) (R mx w x gt)
def ERR : FVec Ideal S1x8192x2048 .f32 := subf (mulf (YN mx w x gt) (FG fg)) tg
def LOSS : FVec Ideal S1x128 .f32 :=
  broadcastInDim S1x128 ![] bcast_S_S1x128 (mulf (constant S_ .f32 0x3F000000#32)
    (Host.reduceAdd (Host.divf (Host.reduceAdd (mulf (ERR mx w x tg gt fg) (ERR mx w x tg gt fg)) (constant S_ .f32 0x00000000#32)
        reducesTo_S1x8192x2048_S1x8192_d2 h_S_) (broadcastInDim S1x8192 ![] bcast_S_S1x8192 (constant S_ .f32 0x45000000#32)))
      (constant S_ .f32 0x00000000#32) reducesTo_S1x8192_S_d0_1 h_S_))
def CE : FVec Ideal S1x8192x2048 .f32 :=
  mulf (broadcastInDim S1x8192x2048 ![0, 1] bcast_S1x8192_S1x8192x2048_0_1
      (Host.divf (broadcastInDim S1x8192 ![] bcast_S_S1x8192 (mulf (constant S_ .f32 0x3F000000#32) (constant S_ .f32 0x3F800000#32)))
        (broadcastInDim S1x8192 ![] bcast_S_S1x8192 (constant S_ .f32 0x45000000#32))))
    (mulf (broadcastInDim S1x8192x2048 ![] bcast_S_S1x8192x2048 (constant S_ .f32 0x40000000#32)) (ERR mx w x tg gt fg))
def CN : FVec Ideal S1x8192x2048 .f32 := mulf (CE mx w x tg gt fg) (FG fg)
def PULL1 : FVec Ideal S1x8192x1 .f32 :=
  Host.divf (mulf (shapeCast S1x8192x1 (Host.reduceAdd (mulf (Y mx w x gt) (CN mx w x tg gt fg)) (constant S_ .f32 0x00000000#32)
        reducesTo_S1x8192x2048_S1x8192_d2 h_S_) shapeCasts_S1x8192_S1x8192x1)
      (mulf (broadcastInDim S1x8192x1 ![] bcast_S_S1x8192x1 (constant S_ .f32 0xBF000000#32))
        (Host.divf (Host.rsqrt (MSQ mx w x gt)) (MSQ mx w x gt))))
    (broadcastInDim S1x8192x1 ![] bcast_S_S1x8192x1 (constant S_ .f32 0x45000000#32))
def PULL0 : FVec Ideal S8192 .f32 :=
  Host.reduceAdd (PULL1 mx w x tg gt fg) (constant S_ .f32 0x00000000#32) reducesTo_S1x8192x1_S8192_d0_2 h_S_
def PULL : FVec Ideal S1x8192x2048 .f32 :=
  broadcastInDim S1x8192x2048 ![0, 1] bcast_S1x8192_S1x8192x2048_0_1
    (broadcastInDim S1x8192 ![1] bcast_S8192_S1x8192_1 (PULL0 mx w x tg gt fg))
def DY3 : FVec Ideal S1x8192x2048 .f32 :=
  addf (addf (mulf (CN mx w x tg gt fg) (R mx w x gt)) (mulf (Y mx w x gt) (PULL mx w x tg gt fg)))
    (mulf (PULL mx w x tg gt fg) (Y mx w x gt))
def DZ3 : FVec Ideal S1x8192x2048 .f32 := mulf (GT gt) (DY3 mx w x tg gt fg)
def DY : FVec Ideal S8192x2048 .f32 := shapeCast S8192x2048 (DY3 mx w x tg gt fg) shapeCasts_S1x8192x2048_S8192x2048
def DZ : FVec Ideal S8192x2048 .bf16 :=
  truncf .bf16 (shapeCast S8192x2048 (DZ3 mx w x tg gt fg) shapeCasts_S1x8192x2048_S8192x2048) bitsLt_bf16_f32
def DMX : FVec Ideal S8192x2048 .f32 :=
  shapeCast S8192x2048 (Host.dotGeneral dot_S1x8192x2048_S2048x2048_S1x8192x2048_2_1_01_0_n_n none (DZ3 mx w x tg gt fg) (W w))
    shapeCasts_S1x8192x2048_S8192x2048
/-- A column sum over the rows of every batch element, as both gains' gradients take it. -/
def COLS (v : FVec Ideal S1x8192x2048 .f32) : FVec Ideal S1x2048 .f32 :=
  broadcastInDim S1x2048 ![1] bcast_S2048_S1x2048_1 (Host.reduceAdd (shapeCast S1x1x2048
      (Host.reduceAdd v (constant S_ .f32 0x00000000#32) reducesTo_S1x8192x2048_S1x2048_d1 h_S_) shapeCasts_S1x2048_S1x1x2048)
    (constant S_ .f32 0x00000000#32) reducesTo_S1x1x2048_S2048_d0_1 h_S_)
def DFG : FVec Ideal S1x2048 .f32 := COLS (mulf (YN mx w x gt) (CE mx w x tg gt fg))
def DGT : FVec Ideal S1x2048 .f32 := COLS (mulf (DY3 mx w x tg gt fg) (Z mx w))

theorem W_at (l k : Fin 2048) : W w (ix2 l k) = w (ix3 0 l k) := by
  pointwise [W]
theorem Z_at (b : Fin 1) (i : Fin 8192) (k : Fin 2048) : Z mx w (ix3 b i k) = zr mx w i k := by
  pointwise [Z, W_at, zr]
theorem GT_at (b : Fin 1) (i : Fin 8192) (k : Fin 2048) : GT gt (ix3 b i k) = gt (ix2 0 k) := by
  pointwise [GT]
theorem FG_at (b : Fin 1) (i : Fin 8192) (k : Fin 2048) : FG fg (ix3 b i k) = fg (ix1 k) := by
  pointwise [FG]
theorem Y_at (b : Fin 1) (i : Fin 8192) (k : Fin 2048) : Y mx w x gt (ix3 b i k) = yr mx w x gt i k := by
  obtain rfl : b = 0 := Subsingleton.elim _ _
  pointwise [Y, GT_at, Z_at, yr]
theorem MSQ_at (b : Fin 1) (i : Fin 8192) (u : Fin 1) : MSQ mx w x gt (ix3 b i u) = msq wN wE (yr mx w x gt i) := by
  pointwise [MSQ, Y_at, msq]
theorem R_at (b : Fin 1) (i : Fin 8192) (k : Fin 2048) : R mx w x gt (ix3 b i k) = rrms wN wE (yr mx w x gt i) := by
  pointwise [R, MSQ_at, rrms]
theorem YN_at (b : Fin 1) (i : Fin 8192) (k : Fin 2048) :
    YN mx w x gt (ix3 b i k) = yr mx w x gt i k * rrms wN wE (yr mx w x gt i) := by
  pointwise [YN, Y_at, R_at]
theorem ERR_at (b : Fin 1) (i : Fin 8192) (k : Fin 2048) : ERR mx w x tg gt fg (ix3 b i k) = er mx w x tg gt fg i k := by
  obtain rfl : b = 0 := Subsingleton.elim _ _
  pointwise [ERR, YN_at, FG_at, er]
theorem CE_at (b : Fin 1) (i : Fin 8192) (k : Fin 2048) : CE mx w x tg gt fg (ix3 b i k) = ce mx w x tg gt fg i k := by
  pointwise [CE, ERR_at, ce]
theorem CN_at (b : Fin 1) (i : Fin 8192) (k : Fin 2048) : CN mx w x tg gt fg (ix3 b i k) = cn mx w x tg gt fg i k := by
  pointwise [CN, CE_at, FG_at, cn]
theorem PULL1_at (b : Fin 1) (i : Fin 8192) (u : Fin 1) : PULL1 mx w x tg gt fg (ix3 b i u)
    = pull wN wE wM (yr mx w x gt i) (cn mx w x tg gt fg i) := by
  pointwise [PULL1, Y_at, CN_at, MSQ_at, pull, rrms]

/-- A sum over the outer axes of three, where both hold one entry. -/
theorem sum_outer (v : S1x8192x1.Idx → EReal) (i : Fin 8192) :
    ∑ j ∈ Finset.univ.filter (fun j => reducesTo_S1x8192x1_S8192_d0_2.drop j = ix1 i), v j = v (ix3 0 i 0) := by
  refine (Finset.sum_filter_eq_sum_of_fiber _ (fun p : Unit => (ix3 0 i 0 : S1x8192x1.Idx))
    (fun p q e => rfl) (fun j => ⟨fun e => ⟨(), ?_⟩, ?_⟩) v).trans (by simp)
  · funext a; apply Fin.ext
    match a with
    | ⟨0, _⟩ => exact (Nat.lt_one_iff.mp (j 0).isLt).symm
    | ⟨1, _⟩ => exact (congrArg Fin.val (congrFun e ⟨0, Nat.zero_lt_one⟩)).symm
    | ⟨2, _⟩ => exact (Nat.lt_one_iff.mp (j 2).isLt).symm
  · rintro ⟨p, rfl⟩
    funext a
    match a with
    | ⟨0, _⟩ => rfl
theorem PULL0_at (i : Fin 8192) : PULL0 mx w x tg gt fg (ix1 i)
    = pull wN wE wM (yr mx w x gt i) (cn mx w x tg gt fg i) := by
  have z : (constant S_ .f32 0x00000000#32 : FVec Ideal S_ .f32) (Shape.Idx.first h_S_) = (0 : EReal) := by pointwise!
  refine (show _ = Ideal.hostReduceAdd reducesTo_S1x8192x1_S8192_d0_2 (PULL1 mx w x tg gt fg) _ (ix1 i) from rfl).trans ?_
  rw [z]
  exact ((zero_add _).trans (sum_outer _ i)).trans (PULL1_at mx w x tg gt fg 0 i 0)
theorem PULL_at (b : Fin 1) (i : Fin 8192) (k : Fin 2048) : PULL mx w x tg gt fg (ix3 b i k)
    = pull wN wE wM (yr mx w x gt i) (cn mx w x tg gt fg i) := by
  pointwise [PULL, PULL0_at]
theorem DY3_at (b : Fin 1) (i : Fin 8192) (k : Fin 2048) : DY3 mx w x tg gt fg (ix3 b i k) = dy mx w x tg gt fg i k := by
  pointwise [DY3, CN_at, R_at, Y_at, PULL_at, dy]
theorem DZ3_at (b : Fin 1) (i : Fin 8192) (k : Fin 2048) : DZ3 mx w x tg gt fg (ix3 b i k) = dz mx w x tg gt fg i k := by
  pointwise [DZ3, GT_at, DY3_at, dz]

/-- The rows' gradient, the projection's gradient, and the gradient of what was projected. -/
theorem DY_at (i : Fin 8192) (k : Fin 2048) : DY mx w x tg gt fg (ix2 i k) = dy mx w x tg gt fg i k := by
  pointwise [DY, DY3_at]
theorem DZ_at (i : Fin 8192) (k : Fin 2048) : DZ mx w x tg gt fg (ix2 i k) = dz mx w x tg gt fg i k := by
  pointwise [DZ, DZ3_at]
theorem DMX_at (i : Fin 8192) (l : Fin 2048) :
    DMX mx w x tg gt fg (ix2 i l) = ∑ k : Fin 2048, dz mx w x tg gt fg i k * w (ix3 0 l k) := by
  pointwise [DMX, DZ3_at, W_at]

/-- Every entry of a column sum is the sum over the rows. -/
theorem COLS_at (v : FVec Ideal S1x8192x2048 .f32) (u : Fin 1) (k : Fin 2048) :
    COLS v (ix2 u k) = ∑ i : Fin 8192, v (ix3 0 i k) := by
  pointwise [COLS]
  rw [Cert.Reference3Ideal.Value.red_two, Fintype.sum_prod_type, Fintype.sum_unique, Fintype.sum_unique]
  pointwise
theorem DFG_at (u : Fin 1) (k : Fin 2048) : DFG mx w x tg gt fg (ix2 u k)
    = ∑ i : Fin 8192, yr mx w x gt i k * rrms wN wE (yr mx w x gt i) * ce mx w x tg gt fg i k := by
  rw [DFG, COLS_at]; pointwise [YN_at, CE_at]
theorem DGT_at (u : Fin 1) (k : Fin 2048) : DGT mx w x tg gt fg (ix2 u k)
    = ∑ i : Fin 8192, dy mx w x tg gt fg i k * zr mx w i k := by
  rw [DGT, COLS_at]; pointwise [DY3_at, Z_at]

/-- The loss, in every lane. -/
theorem LOSS_at (u : Fin 1) (k : Fin 128) : LOSS mx w x tg gt fg (ix2 u k)
    = wH * ∑ i : Fin 8192, Ideal.div (∑ k : Fin 2048, er mx w x tg gt fg i k * er mx w x tg gt fg i k) wN := by
  pointwise [LOSS, ERR_at]
  rw [Fintype.sum_unique]

section Run
variable (m : (ℓ : Loc nD τ sig) → Buf (Elt Ideal) ℓ) (c : Dev nD)
abbrev aM : FVec Ideal S8192x2048 .bf16 := m ((c.tc : Thread nD τ).loc main_arg0)
abbrev aW : FVec Ideal S1x2048x2048 .f32 := m ((c.tc : Thread nD τ).loc main_arg1)
abbrev aX : FVec Ideal S1x8192x2048 .f32 := m ((c.tc : Thread nD τ).loc main_arg2)
abbrev aT : FVec Ideal S1x8192x2048 .f32 := m ((c.tc : Thread nD τ).loc main_arg3)
abbrev aG : FVec Ideal S1x2048 .f32 := m ((c.tc : Thread nD τ).loc main_arg4)
abbrev aF : FVec Ideal S2048 .f32 := m ((c.tc : Thread nD τ).loc main_arg5)
/-- What the run leaves in the six results, in the terms above. -/
theorem res_loss : res_main_v68 m c = LOSS (aM m c) (aW m c) (aX m c) (aT m c) (aG m c) (aF m c) := rfl
theorem res_dy : res_main_v69 m c = DY (aM m c) (aW m c) (aX m c) (aT m c) (aG m c) (aF m c) := rfl
theorem res_dz : res_main_v71 m c = DZ (aM m c) (aW m c) (aX m c) (aT m c) (aG m c) (aF m c) := rfl
theorem res_dmx : res_main_v72 m c = DMX (aM m c) (aW m c) (aX m c) (aT m c) (aG m c) (aF m c) := rfl
theorem res_dfg : res_main_v73 m c = DFG (aM m c) (aW m c) (aX m c) (aT m c) (aG m c) (aF m c) := rfl
theorem res_dgt : res_main_v66 m c = DGT (aM m c) (aW m c) (aX m c) (aT m c) (aG m c) (aF m c) := rfl
end Run

end Cert.Reference5Ideal.Value

end
-- ==== Proof.Head.lean ====
/- Hand-written, untrusted. The training loss and its gradients at the head of the model: the kernel's tile values
   against the reference's, row by row. -/
module

public import proofs.«01_k».proof.Proof.Gen.Kernel5Ideal.Value
public import proofs.«01_k».proof.Proof.HeadRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Head

open Cert.RowNorm

/-- The word of 1/2048, as the kernel spells it. -/
abbrev wC : EReal := Ideal.ofBits .f32 0x3A000000#32
theorem wC_eq : wC = ((1 / 2048 : ℝ) : EReal) := by
  simp [wC, Ideal.ofBits, Ideal.ieee, -EReal.coe_mul]; norm_num
theorem wH_eq : wH = ((1 / 2 : ℝ) : EReal) := by
  simp [wH, Ideal.ofBits, Ideal.ieee, -EReal.coe_mul]; norm_num
theorem wT_eq : wT = ((2 : ℝ) : EReal) := by
  simp [wT, Ideal.ofBits, Ideal.ieee, -EReal.coe_mul]; norm_num

/-- Half the derivative of a square, over 2048, is the number over 2048. -/
theorem half_two (e : EReal) : Ideal.div (wH * 1) wN * (wT * e) = e * wC := by
  rw [wC_eq, wH_eq, wT_eq, wN, ofBits_2048, mul_one, Ideal.div_coe (by norm_num), ← EReal.coe_mul, ← mul_assoc, ← EReal.coe_mul,
    mul_comm]
  congr 2; norm_num

variable {n : ℕ}

theorem fin_mul {a b : EReal} (ha : Fin' a) (hb : Fin' b) : Fin' (a * b) := by
  obtain ⟨a, rfl⟩ := ha; obtain ⟨b, rfl⟩ := hb; exact ⟨a * b, (EReal.coe_mul a b).symm⟩
theorem fin_add {a b : EReal} (ha : Fin' a) (hb : Fin' b) : Fin' (a + b) := by
  obtain ⟨a, rfl⟩ := ha; obtain ⟨b, rfl⟩ := hb; exact ⟨a + b, (EReal.coe_add a b).symm⟩
theorem fin_sub {a b : EReal} (ha : Fin' a) (hb : Fin' b) : Fin' (a - b) := by
  obtain ⟨a, rfl⟩ := ha; obtain ⟨b, rfl⟩ := hb; exact ⟨a - b, (EReal.coe_sub a b).symm⟩
theorem fin_sum {f : Fin n → EReal} (h : ∀ k, Fin' (f k)) : Fin' (∑ k, f k) := by
  choose g hg using h
  exact ⟨∑ k, g k, (Finset.sum_congr rfl fun k _ => hg k).trans (coe_sum g)⟩
theorem fin_mean {a : EReal} (h : Fin' a) : Fin' (Ideal.div a wN) := by
  rw [wN, ofBits_2048, Ideal.div_coe (by norm_num)]
  exact fin_mul h ⟨_, rfl⟩
theorem fin_rrms {x : Fin n → EReal} (h : ∀ k, Fin' (x k)) : Fin' (rrms wN wE x) := by
  choose g hg using h
  obtain rfl : x = fun k => (g k : EReal) := funext hg
  obtain ⟨e, he, hw⟩ := ofBits_eps
  rw [wN, wE, hw, ofBits_2048, rrms_coe 2048 e (by norm_num) he]
  exact ⟨_, rfl⟩
/-- One half of a sum of real numbers, a term at a time. -/
theorem half_sum {f : Fin n → EReal} (h : ∀ k, Fin' (f k)) : ∑ k, wH * f k = wH * ∑ k, f k := by
  choose g hg using h
  obtain rfl : f = fun k => (g k : EReal) := funext hg
  simp only [wH_eq, ← EReal.coe_mul, coe_sum, Finset.mul_sum]

end Cert.Head

namespace Cert.Kernel5Ideal.Value

open Cert.Kernel5Ideal Cert.Kernel5Ideal.Gen Cert.RowNorm Cert.Head
open Cert.Reference5Ideal.Value (LOSS DY DZ DMX DFG DGT LOSS_at DY_at DZ_at DMX_at DFG_at DGT_at)

variable (m : (ℓ : Loc nD τ sig) → Buf (Elt Ideal) ℓ)

/-- The arguments by name. -/
abbrev aM (c : Dev nD) : FVec Ideal S8192x2048 .bf16 := m ((c : Thread nD τ).loc main_arg0)
abbrev aW (c : Dev nD) : FVec Ideal S1x2048x2048 .f32 := m ((c : Thread nD τ).loc main_arg1)
abbrev aX (c : Dev nD) : FVec Ideal S1x8192x2048 .f32 := m ((c : Thread nD τ).loc main_arg2)
abbrev aT (c : Dev nD) : FVec Ideal S1x8192x2048 .f32 := m ((c : Thread nD τ).loc main_arg3)
abbrev aG (c : Dev nD) : FVec Ideal S1x2048 .f32 := m ((c : Thread nD τ).loc main_arg4)
abbrev aF (c : Dev nD) : FVec Ideal S2048 .f32 := m ((c : Thread nD τ).loc main_arg5)

theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![t.val, 0]
    ∧ win0_8.index t = ![t.val, 0]
    ∧ win0_9.index t = ![t.val, 0]
    ∧ win0_10.index t = ![0, 0]
    ∧ win0_11.index t = ![0, 0] :=
  (by decide +kernel : ∀ t : Fin grid0.N, _)

/-- The row of the whole array that row `i` of the block at point `t` is. -/
def rw256 (t : Fin cfg0.N) (i : Fin 256) : Fin 8192 := ⟨t.val * 256 + i.val, by have := t.isLt; have : cfg0.N = 32 := N_0; omega⟩

section Blocks
variable (c : Dev nD) (t : Fin cfg0.N)

theorem blk_m (i : Fin 256) (k : Fin 2048) :
    (iblk m c 0 t : Vec Ideal S256x2048 .bf16) (ix2 i k) = aM m c (ix2 (rw256 t i) k) := by
  blk_point [iblk, V, idx_val t, rw256]
theorem blk_g (i : Fin 1) (k : Fin 2048) : (iblk m c 4 t : Vec Ideal S1x2048 .f32) (ix2 i k) = aG m c (ix2 0 k) := by
  blk_point [iblk, V, idx_val t]
theorem blk_w (l k : Fin 2048) : (iblk m c 1 t : Vec Ideal S2048x2048 .bf16) (ix2 l k) = aW m c (ix3 0 l k) := by
  blk_simp [iblk, idx_val t]; entry_read; pointwise; blk_ext [idx_val t]
theorem blk_x (i : Fin 256) (k : Fin 2048) :
    (iblk m c 2 t : Vec Ideal S256x2048 .f32) (ix2 i k) = aX m c (ix3 0 (rw256 t i) k) := by
  blk_simp [iblk, idx_val t]; entry_read; pointwise; blk_ext [idx_val t, rw256]
theorem blk_t (i : Fin 256) (k : Fin 2048) :
    (iblk m c 3 t : Vec Ideal S256x2048 .f32) (ix2 i k) = aT m c (ix3 0 (rw256 t i) k) := by
  blk_simp [iblk, idx_val t]; entry_read; pointwise; blk_ext [idx_val t, rw256]
theorem blk_f (i : Fin 1) (k : Fin 2048) : (iblk m c 5 t : Vec Ideal S1x2048 .f32) (ix2 i k) = aF m c (ix1 k) := by
  blk_simp [iblk, idx_val t]; entry_read; pointwise; blk_ext [idx_val t]
end Blocks

section Pay
variable (w : Vec Ideal S2048x2048 .bf16) (mx : Vec Ideal S256x2048 .bf16) (g f : Vec Ideal S1x2048 .f32) (x tg : Vec Ideal S256x2048 .f32)

/-- What each payload holds, in the terms of those before it. -/
theorem pay7_at (i : Fin 256) (k : Fin 2048) : k0_pay7 w mx (ix2 i k) = ∑ l : Fin 2048, mx (ix2 i l) * w (ix2 l k) := by
  pointwise [k0_pay7, k0_pay6]
theorem pay8_at (u : Fin 1) (k : Fin 2048) : k0_pay8 f (ix2 u k) = f (ix2 u k) := by
  pointwise [k0_pay8]
theorem pay9_at (i : Fin 256) (k : Fin 2048) : k0_pay9 w mx g x (ix2 i k) = x (ix2 i k) + g (ix2 0 k) * k0_pay7 w mx (ix2 i k) := by
  pointwise [k0_pay9]
theorem pay10_at (i : Fin 256) (u : Fin 1) : k0_pay10 w mx g x (ix2 i u) = rrms wN wE fun k => k0_pay9 w mx g x (ix2 i k) := by
  pointwise [k0_pay10, rrms, msq]
theorem pay11_at (i : Fin 256) (k : Fin 2048) :
    k0_pay11 w mx g x (ix2 i k) = k0_pay9 w mx g x (ix2 i k) * k0_pay10 w mx g x (ix2 i 0) := by
  pointwise [k0_pay11]
theorem pay12_at (i : Fin 256) (k : Fin 2048) :
    k0_pay12 w mx g f x tg (ix2 i k) = k0_pay11 w mx g x (ix2 i k) * f (ix2 0 k) - tg (ix2 i k) := by
  pointwise [k0_pay12, pay8_at]
theorem pay14_at (i : Fin 256) (u : Fin 1) : k0_pay14 w mx g f x tg (ix2 i u)
    = ∑ k : Fin 2048, k0_pay12 w mx g f x tg (ix2 i k) * k0_pay12 w mx g f x tg (ix2 i k) := by
  pointwise [k0_pay14]

variable (r : FVec Ideal S256x1 .f32) (yn e d : FVec Ideal S256x2048 .f32) (fv : FVec Ideal S1x2048 .f32) (acc : Vec Ideal S1x2048 .f32)

theorem pay16_at (a : Vec Ideal S1x128 .f32) (j : S1x128.Idx) : k0_pay16 (k0_pay13 a) r k0_pay15 j
    = a j + wH * ∑ s : Fin 256, Ideal.div (r (ix2 s 0)) wN := by
  idx_vars j
  pointwise [k0_pay16, k0_pay13, k0_pay15]
  exact congrArg (fun u => a (ix2 j0 j1) + wH * u) (Finset.sum_congr rfl fun s _ => Fintype.sum_unique _)
theorem pay17_at (i : Fin 256) (k : Fin 2048) : k0_pay17 e (ix2 i k) = e (ix2 i k) * wC := by
  pointwise [k0_pay17]
theorem pay18_at (u : Fin 1) (k : Fin 2048) : k0_pay18 yn e acc (ix2 u k)
    = acc (ix2 u k) + ∑ s : Fin 256, e (ix2 s k) * wC * yn (ix2 s k) := by
  pointwise [k0_pay18, pay17_at]
theorem pay19_at (i : Fin 256) (k : Fin 2048) : k0_pay19 fv r yn e (ix2 i k)
    = r (ix2 i 0) * (e (ix2 i k) * wC * fv (ix2 0 k)
      - yn (ix2 i k) * Ideal.div (∑ k : Fin 2048, e (ix2 i k) * wC * fv (ix2 0 k) * yn (ix2 i k)) wN) := by
  pointwise [k0_pay19, pay17_at]
theorem pay20_at (u : Fin 1) (k : Fin 2048) : k0_pay20 d fv r yn e acc (ix2 u k)
    = acc (ix2 u k) + ∑ s : Fin 256, k0_pay19 fv r yn e (ix2 s k) * d (ix2 s k) := by
  pointwise [k0_pay20]
theorem pay1_at (i : Fin 256) (k : Fin 2048) : k0_pay1 g d (ix2 i k) = d (ix2 i k) * g (ix2 0 k) := by
  pointwise [k0_pay1]
theorem pay2_at (i : Fin 256) (l : Fin 2048) : k0_pay2 (k0_pay6 w) g d (ix2 i l) = ∑ k : Fin 2048, k0_pay1 g d (ix2 i k) * w (ix2 l k) := by
  pointwise [k0_pay2, k0_pay6]
theorem pay3_at (j : S1x128.Idx) : k0_pay3 (F := Ideal) j = 0 := by pointwise! [k0_pay3]
theorem pay4_at (j : S1x2048.Idx) : k0_pay4 (F := Ideal) j = 0 := by pointwise! [k0_pay4]
theorem pay5_at (j : S1x2048.Idx) : k0_pay5 (F := Ideal) j = 0 := by pointwise! [k0_pay5]
end Pay

/-- What the precondition says of the entries. -/
structure Real (c : Dev nD) : Prop where
  is_m : ∀ j, Fin' (aM m c j)
  is_w : ∀ j, Fin' (aW m c j)
  is_x : ∀ j, Fin' (aX m c j)
  is_t : ∀ j, Fin' (aT m c j)
  is_g : ∀ j, Fin' (aG m c j)
  is_f : ∀ j, Fin' (aF m c j)

/-- The reference's rows at the kernel's arguments. -/
abbrev Zr (c : Dev nD) := zr (aM m c) (aW m c)
abbrev Yr (c : Dev nD) := yr (aM m c) (aW m c) (aX m c) (aG m c)
abbrev Er (c : Dev nD) := er (aM m c) (aW m c) (aX m c) (aT m c) (aG m c) (aF m c)
abbrev Ce (c : Dev nD) := ce (aM m c) (aW m c) (aX m c) (aT m c) (aG m c) (aF m c)
abbrev Cn (c : Dev nD) := cn (aM m c) (aW m c) (aX m c) (aT m c) (aG m c) (aF m c)
abbrev Dy (c : Dev nD) := dy (aM m c) (aW m c) (aX m c) (aT m c) (aG m c) (aF m c)
abbrev Dz (c : Dev nD) := dz (aM m c) (aW m c) (aX m c) (aT m c) (aG m c) (aF m c)

variable {m}
theorem Yr_real {c : Dev nD} (H : Real m c) (i : Fin 8192) (k : Fin 2048) : Fin' (Yr m c i k) :=
  fin_add (H.is_x _) (fin_mul (H.is_g _) (fin_sum fun l => fin_mul (H.is_m _) (H.is_w _)))
theorem Er_real {c : Dev nD} (H : Real m c) (i : Fin 8192) (k : Fin 2048) : Fin' (Er m c i k) :=
  fin_sub (fin_mul (fin_mul (Yr_real H i k) (fin_rrms fun k => Yr_real H i k)) (H.is_f _)) (H.is_t _)
variable (m)
theorem Ce_eq (c : Dev nD) (i : Fin 8192) (k : Fin 2048) : Ce m c i k = Er m c i k * wC := half_two _
theorem Cn_eq (c : Dev nD) (i : Fin 8192) (k : Fin 2048) : Cn m c i k = Er m c i k * wC * aF m c (ix1 k) :=
  congrArg (· * _) (Ce_eq m c i k)
theorem Cn_real {c : Dev nD} (H : Real m c) (i : Fin 8192) (k : Fin 2048) : Fin' (Cn m c i k) := by
  rw [Cn_eq]
  exact fin_mul (fin_mul (Er_real H i k) ⟨_, wC_eq⟩) (H.is_f _)

section Point
variable (c : Dev nD) (t : Fin cfg0.N)

/-- The block's values that every output reads. -/
abbrev bZ : FVec Ideal S256x2048 .f32 := k0_pay7 (iblk m c 1 t) (iblk m c 0 t)
abbrev bY : FVec Ideal S256x2048 .f32 := k0_pay9 (iblk m c 1 t) (iblk m c 0 t) (iblk m c 4 t) (iblk m c 2 t)
abbrev bR : FVec Ideal S256x1 .f32 := k0_pay10 (iblk m c 1 t) (iblk m c 0 t) (iblk m c 4 t) (iblk m c 2 t)
abbrev bN : FVec Ideal S256x2048 .f32 := k0_pay11 (iblk m c 1 t) (iblk m c 0 t) (iblk m c 4 t) (iblk m c 2 t)
abbrev bE : FVec Ideal S256x2048 .f32 :=
  k0_pay12 (iblk m c 1 t) (iblk m c 0 t) (iblk m c 4 t) (iblk m c 5 t) (iblk m c 2 t) (iblk m c 3 t)
abbrev bD : FVec Ideal S256x2048 .f32 := k0_pay19 (k0_pay8 (iblk m c 5 t)) (bR m c t) (bN m c t) (bE m c t)

theorem bZ_at (i : Fin 256) (k : Fin 2048) : bZ m c t (ix2 i k) = Zr m c (rw256 t i) k := by
  rw [bZ, pay7_at]
  exact Finset.sum_congr rfl fun l _ => by rw [blk_m, blk_w]
theorem bY_at (i : Fin 256) (k : Fin 2048) : bY m c t (ix2 i k) = Yr m c (rw256 t i) k := by
  rw [bY, pay9_at, blk_x, blk_g]
  exact congrArg (fun u => _ + _ * u) (bZ_at m c t i k)
theorem bR_at (i : Fin 256) (u : Fin 1) : bR m c t (ix2 i u) = rrms wN wE (Yr m c (rw256 t i)) := by
  rw [bR, pay10_at]
  exact congrArg (rrms wN wE) (funext fun k => bY_at m c t i k)
theorem bN_at (i : Fin 256) (k : Fin 2048) :
    bN m c t (ix2 i k) = Yr m c (rw256 t i) k * rrms wN wE (Yr m c (rw256 t i)) := by
  rw [bN, pay11_at]
  exact congrArg₂ (· * ·) (bY_at m c t i k) (bR_at m c t i 0)
theorem bE_at (i : Fin 256) (k : Fin 2048) : bE m c t (ix2 i k) = Er m c (rw256 t i) k := by
  rw [bE, pay12_at, blk_f, blk_t]
  exact congrArg (fun u => u * _ - _) (bN_at m c t i k)
/-- A block's row of the gradient, by hand, is the chain rule's. -/
theorem bD_at (H : Real m c) (i : Fin 256) (k : Fin 2048) : bD m c t (ix2 i k) = Dy m c (rw256 t i) k := by
  have e1 : ∀ k, bE m c t (ix2 i k) * wC * k0_pay8 (iblk m c 5 t) (ix2 0 k) = Cn m c (rw256 t i) k := fun k => by
    rw [bE_at, pay8_at, blk_f, Cn_eq]
  rw [bD, pay19_at]
  simp only [e1, bR_at, bN_at]
  obtain ⟨e, he, hw⟩ := ofBits_eps
  have hb := byHand_eq 2048 e (by norm_num) he (Yr m c (rw256 t i)) (Cn m c (rw256 t i))
    (fun k => Yr_real H _ k) (fun k => Cn_real m H _ k) k
  unfold Dy dy
  rw [wN, wE, wM, hw, ofBits_2048, ofBits_neg_half]
  exact hb
theorem bDz_at (H : Real m c) (i : Fin 256) (k : Fin 2048) :
    k0_pay1 (iblk m c 4 t) (bD m c t) (ix2 i k) = Dz m c (rw256 t i) k := by
  rw [pay1_at, bD_at m c t H, blk_g]
  exact mul_comm (G := EReal) _ _
end Point

end Cert.Kernel5Ideal.Value

end
-- ==== Proof.HeadValue.lean ====
/- Hand-written, untrusted. The training loss and its gradients at the head of the model: what the kernel leaves in its
   six outputs. -/
module

public import proofs.«01_k».proof.Proof.Head

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Value

open Cert.Kernel5Ideal Cert.Kernel5Ideal.Gen Cert.RowNorm Cert.Head
open Cert.Reference5Ideal.Value (LOSS DY DZ DMX DFG DGT LOSS_at DY_at DZ_at DMX_at DFG_at DGT_at)

/-- The grid's last point. -/
def t0_31 : Fin grid0.N := ⟨31, by rw [N_0]; decide⟩

variable (m : (ℓ : Loc nD τ sig) → Buf (Elt Ideal) ℓ)

/-- The rows' gradient, whole. -/
theorem final_7 (c : Dev nD) (H : Real m c) :
    (dats m 0 c).arrAt 7 (cfgs 0).N = DY (aM m c) (aW m c) (aX m c) (aT m c) (aG m c) (aF m c) := by
  refine (dats m 0 c).arrAt_eq_of_covers 7 _ (by decide +kernel) fun t hf y => ?_
  idx_vars y
  rw [show ((cfg0.win 7).blk t).view.emb (ix2 y0 y1) = (ix2 (rw256 t y0) y1 : S8192x2048.Idx) by blk_ext [idx_val t, rw256], DY_at]
  blk_simp; rw [after0_7]
  by_cases h : t.val % 32 = 0
  on_goal 1 => rw [outsAt0_A m c t h]
  on_goal 2 => rw [outsAt0_B m c t h]
  all_goals
    dsimp only; frame_out
    exact bD_at m c t H y0 y1
/-- The projection's gradient, whole. -/
theorem final_8 (c : Dev nD) (H : Real m c) :
    (dats m 0 c).arrAt 8 (cfgs 0).N = DZ (aM m c) (aW m c) (aX m c) (aT m c) (aG m c) (aF m c) := by
  refine (dats m 0 c).arrAt_eq_of_covers 8 _ (by decide +kernel) fun t hf y => ?_
  idx_vars y
  rw [show ((cfg0.win 8).blk t).view.emb (ix2 y0 y1) = (ix2 (rw256 t y0) y1 : S8192x2048.Idx) by blk_ext [idx_val t, rw256], DZ_at]
  blk_simp; rw [after0_8]
  by_cases h : t.val % 32 = 0
  on_goal 1 => rw [outsAt0_A m c t h]
  on_goal 2 => rw [outsAt0_B m c t h]
  all_goals
    dsimp only; frame_out
    exact bDz_at m c t H y0 y1
/-- The gradient of what was projected, whole. -/
theorem final_9 (c : Dev nD) (H : Real m c) :
    (dats m 0 c).arrAt 9 (cfgs 0).N = DMX (aM m c) (aW m c) (aX m c) (aT m c) (aG m c) (aF m c) := by
  refine (dats m 0 c).arrAt_eq_of_covers 9 _ (by decide +kernel) fun t hf y => ?_
  idx_vars y
  rw [show ((cfg0.win 9).blk t).view.emb (ix2 y0 y1) = (ix2 (rw256 t y0) y1 : S8192x2048.Idx) by blk_ext [idx_val t, rw256], DMX_at]
  blk_simp; rw [after0_9]
  by_cases h : t.val % 32 = 0
  on_goal 1 => rw [outsAt0_A m c t h]
  on_goal 2 => rw [outsAt0_B m c t h]
  all_goals
    dsimp only; frame_out
    exact (pay2_at _ _ _ y0 y1).trans (Finset.sum_congr rfl fun k _ => congrArg₂ (· * ·) (bDz_at m c t H y0 k) (blk_w m c t y1 k))

/-- A block's part of the loss, and of a column of the two gains' gradients. -/
def lpart (c : Dev nD) (i : Fin 8192) : EReal := Ideal.div (∑ k : Fin 2048, Er m c i k * Er m c i k) wN
def fpart (c : Dev nD) (k : Fin 2048) (i : Fin 8192) : EReal := Er m c i k * wC * (Yr m c i k * rrms wN wE (Yr m c i))
def gpart (c : Dev nD) (k : Fin 2048) (i : Fin 8192) : EReal := Dy m c i k * Zr m c i k

theorem loss_sum (c : Dev nD) (H : Real m c) :
    ∑ t, wH * ∑ s, lpart m c (rw256 t s) = wH * ∑ i, lpart m c i := by
  have hp : ∀ i, Fin' (lpart m c i) := fun i => fin_mean (fin_sum fun k => fin_mul (Er_real H i k) (Er_real H i k))
  rw [half_sum fun t => fin_sum fun s => hp _]
  refine congrArg (wH * ·) ?_
  exact Fin.sum_mul_add_congr fun p s hl => rfl
theorem fg_sum (c : Dev nD) (k : Fin 2048) : ∑ t, ∑ s, fpart m c k (rw256 t s)
    = ∑ i : Fin 8192, Yr m c i k * rrms wN wE (Yr m c i) * Ce m c i k := by
  refine Fin.sum_mul_add_congr fun p s hl => ?_
  rw [Ce_eq]
  exact mul_comm (G := EReal) _ _
theorem gt_sum (c : Dev nD) (k : Fin 2048) : ∑ t, ∑ s, gpart m c k (rw256 t s) = ∑ i : Fin 8192, Dy m c i k * Zr m c i k :=
  Fin.sum_mul_add_congr fun p s hl => rfl

/-- What a point adds to each accumulator. -/
theorem add_loss (c : Dev nD) (t : Fin cfg0.N) (a : Vec Ideal S1x128 .f32) (j : S1x128.Idx) :
    k0_pay16 (k0_pay13 a)
      (k0_pay14 (iblk m c 1 t) (iblk m c 0 t) (iblk m c 4 t) (iblk m c 5 t) (iblk m c 2 t) (iblk m c 3 t)) k0_pay15 j
      = a j + wH * ∑ s, lpart m c (rw256 t s) := by
  rw [pay16_at]
  refine congrArg (fun u => a j + wH * u) (Finset.sum_congr rfl fun s _ => congrArg (fun u => Ideal.div u wN) ?_)
  rw [pay14_at]
  exact Finset.sum_congr rfl fun k _ => congrArg₂ (· * ·) (bE_at m c t s k) (bE_at m c t s k)
theorem add_fg (c : Dev nD) (t : Fin cfg0.N) (a : Vec Ideal S1x2048 .f32) (u : Fin 1) (k : Fin 2048) :
    k0_pay18 (bN m c t) (bE m c t) a (ix2 u k) = a (ix2 u k) + ∑ s, fpart m c k (rw256 t s) := by
  rw [pay18_at]
  refine congrArg (a (ix2 u k) + ·) (Finset.sum_congr rfl fun s _ => ?_)
  exact congrArg₂ (· * ·) (congrArg (· * wC) (bE_at m c t s k)) (bN_at m c t s k)
theorem add_gt (c : Dev nD) (H : Real m c) (t : Fin cfg0.N) (a : Vec Ideal S1x2048 .f32) (u : Fin 1) (k : Fin 2048) :
    k0_pay20 (bZ m c t) (k0_pay8 (iblk m c 5 t)) (bR m c t) (bN m c t) (bE m c t) a (ix2 u k)
      = a (ix2 u k) + ∑ s, gpart m c k (rw256 t s) := by
  rw [pay20_at]
  refine congrArg (a (ix2 u k) + ·) (Finset.sum_congr rfl fun s _ => ?_)
  exact congrArg₂ (· * ·) (bD_at m c t H s k) (bZ_at m c t s k)

/-- The loss, whole. -/
theorem final_6 (c : Dev nD) (H : Real m c) :
    (dats m 0 c).arrAt 6 (cfgs 0).N = LOSS (aM m c) (aW m c) (aX m c) (aT m c) (aG m c) (aF m c) := by
  refine (dats m 0 c).arrAt_eq_of_after_last 6 t0_31 (by decide +kernel) _ fun j => ?_
  blk_simp
  rw [after0_6, Pipeline.eq_sum_fin_of_reset_step_apply_last (fun n h => (outsAt0 m c n h).1) 32 (fun _ => 0)
    (fun t (j : S1x128.Idx) => wH * ∑ s, lpart m c (rw256 t s)) ?_ ?_ (le_of_eq N_0) t0_31 rfl j, zero_add]
  · idx_vars j
    rw [LOSS_at]
    exact loss_sum m c H
  all_goals
    intro t h j
    first | rw [outsAt0_A m c t h] | rw [outsAt0_B m c t h]
    frame_out
    refine (add_loss m c t _ j).trans ?_
    first | rw [pay3_at] | rfl
/-- The final gains' gradient, whole. -/
theorem final_10 (c : Dev nD) :
    (dats m 0 c).arrAt 10 (cfgs 0).N = DFG (aM m c) (aW m c) (aX m c) (aT m c) (aG m c) (aF m c) := by
  refine (dats m 0 c).arrAt_eq_of_after_last 10 t0_31 (by decide +kernel) _ fun j => ?_
  blk_simp
  rw [after0_10, Pipeline.eq_sum_fin_of_reset_step_apply_last (fun n h => (outsAt0 m c n h).2.2.2.2.1) 32 (fun _ => 0)
    (fun t (j : S1x2048.Idx) => ∑ s, fpart m c (j 1) (rw256 t s)) ?_ ?_ (le_of_eq N_0) t0_31 rfl j, zero_add]
  · idx_vars j
    rw [DFG_at]
    exact fg_sum m c j1
  all_goals
    intro t h j
    first | rw [outsAt0_A m c t h] | rw [outsAt0_B m c t h]
    frame_out
    idx_vars j
    refine (add_fg m c t _ j0 j1).trans ?_
    first | rw [pay4_at] | rfl
/-- The residual gate's gradient, whole. -/
theorem final_11 (c : Dev nD) (H : Real m c) :
    (dats m 0 c).arrAt 11 (cfgs 0).N = DGT (aM m c) (aW m c) (aX m c) (aT m c) (aG m c) (aF m c) := by
  refine (dats m 0 c).arrAt_eq_of_after_last 11 t0_31 (by decide +kernel) _ fun j => ?_
  blk_simp
  rw [after0_11, Pipeline.eq_sum_fin_of_reset_step_apply_last (fun n h => (outsAt0 m c n h).2.2.2.2.2) 32 (fun _ => 0)
    (fun t (j : S1x2048.Idx) => ∑ s, gpart m c (j 1) (rw256 t s)) ?_ ?_ (le_of_eq N_0) t0_31 rfl j, zero_add]
  · idx_vars j
    rw [DGT_at]
    exact gt_sum m c j1
  all_goals
    intro t h j
    first | rw [outsAt0_A m c t h] | rw [outsAt0_B m c t h]
    frame_out
    idx_vars j
    refine (add_gt m c H t _ j0 j1).trans ?_
    first | rw [pay5_at] | rfl

end Cert.Kernel5Ideal.Value

end
-- ==== Proof.MixFwd.lean ====
/- Hand-written, untrusted. The two branches gated and joined: the reference entry by entry, and what the kernel leaves. -/
module

public import proofs.«01_k».proof.Proof.MixRef
public import proofs.«01_k».proof.Proof.Gen.Reference6Ideal.Run
public import proofs.«01_k».proof.Proof.Gen.Kernel6Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Reference6Ideal.Value

open Cert.Reference6Ideal Cert.Reference6Ideal.Gen Cert.RowNorm Cert.Mix
open Cert.Fox (col)
open Cert.Reference2Ideal.Value (rows HD FLAT HD_at FLAT_at)
open Cert.Reference3Ideal.Value (orow fz gz FZ GZ SG XN FZ_at GZ_at SG_at XN_at)

variable (fo go : FVec Ideal S8192x1024 .f32) (p : FVec Ideal S8192x8216 .f32) (g : FVec Ideal S1x128 .f32)

/-- The attention's half and the recurrence's half. -/
def FOX : FVec Ideal S8192x1024 .f32 := mulf fo (mulf (FZ p) (SG (FZ p)))
def GAIN : FVec Ideal S8x8192x128 .f32 :=
  broadcastInDim S8x8192x128 ![0, 1, 2] bcast_S1x1x128_S8x8192x128_0_1_2
    (broadcastInDim S1x1x128 ![2] bcast_S128_S1x1x128_2 (shapeCast S128 g shapeCasts_S1x128_S128))
def GDN : FVec Ideal S8192x1024 .f32 := mulf (FLAT (mulf (XN go) (GAIN g))) (mulf (GZ p) (SG (GZ p)))
def OUT : FVec Ideal S8192x2048 .bf16 :=
  truncf .bf16 (concatenate S8192x2048 1 [⟨S8192x1024, FOX fo p⟩, ⟨S8192x1024, GDN go p g⟩]
    concatenates_S8192x1024_S8192x1024_S8192x2048_d1) bitsLt_bf16_f32

theorem FOX_at (i : Fin 8192) (h : Fin 8) (x : Fin 128) :
    FOX fo p (ix2 i (col h x)) = fo (ix2 i (col h x)) * (fz p h i x * sg (fz p h i x)) := by
  pointwise [FOX, SG_at, FZ_at]
theorem GAIN_at (h : Fin 8) (i : Fin 8192) (x : Fin 128) : GAIN g (ix3 h i x) = g (ix2 0 x) := by pointwise [GAIN]
theorem FLAT_GAIN_at (i : Fin 8192) (h : Fin 8) (x : Fin 128) : FLAT (mulf (XN go) (GAIN g)) (ix2 i (col h x))
    = orow go h i x * rrms wN wE (orow go h i) * g (ix2 0 x) := by
  refine (FLAT_at _ i h x).trans ?_
  pointwise [XN_at, GAIN_at]
theorem GDN_at (i : Fin 8192) (h : Fin 8) (x : Fin 128) : GDN go p g (ix2 i (col h x))
    = orow go h i x * rrms wN wE (orow go h i) * g (ix2 0 x) * (gz p h i x * sg (gz p h i x)) := by
  pointwise [GDN, FLAT_GAIN_at, SG_at, GZ_at]
theorem OUT_lo (i : Fin 8192) (h : Fin 8) (x : Fin 128) :
    OUT fo go p g (ix2 i (lo h x)) = fo (ix2 i (col h x)) * (fz p h i x * sg (fz p h i x)) := by
  rw [← FOX_at]
  pointwise [OUT]
  rw [dif_pos (by show h.val * 128 + x.val < 1024; omega)]
  rfl
theorem OUT_hi (i : Fin 8192) (h : Fin 8) (x : Fin 128) : OUT fo go p g (ix2 i (hi h x))
    = orow go h i x * rrms wN wE (orow go h i) * g (ix2 0 x) * (gz p h i x * sg (gz p h i x)) := by
  rw [← GDN_at]
  pointwise [OUT]
  rw [dif_neg (by show ¬ 1024 + (h.val * 128 + x.val) < 1024; omega)]
  refine congrArg _ ?_
  funext a; apply Fin.ext
  match a with
  | ⟨0, _⟩ => rfl
  | ⟨1, _⟩ => show 1024 + (h.val * 128 + x.val) - 1024 = h.val * 128 + x.val; omega

end Cert.Reference6Ideal.Value

namespace Cert.Kernel6Ideal.Value

open Cert.Kernel6Ideal Cert.Kernel6Ideal.Gen Cert.RowNorm Cert.Mix
open Cert.Fox (col)
open Cert.Reference3Ideal.Value (orow fz gz)
open Cert.Reference6Ideal.Value (OUT OUT_lo OUT_hi)

variable (m : (ℓ : Loc nD τ sig) → Buf (Elt Ideal) ℓ)

/-- The arguments by name. -/
abbrev aF (c : Dev nD) : FVec Ideal S8192x1024 .f32 := m ((c : Thread nD τ).loc main_arg0)
abbrev aO (c : Dev nD) : FVec Ideal S8192x1024 .f32 := m ((c : Thread nD τ).loc main_arg1)
abbrev aP (c : Dev nD) : FVec Ideal S8192x8216 .f32 := m ((c : Thread nD τ).loc main_arg2)
abbrev aG (c : Dev nD) : FVec Ideal S1x128 .f32 := m ((c : Thread nD τ).loc main_arg3)

theorem idx_val : ∀ t : Fin cfg0.N, win0_0.index t = ![t.val, 0]
    ∧ win0_1.index t = ![t.val, 0]
    ∧ win0_2.index t = ![t.val, 3]
    ∧ win0_3.index t = ![t.val, 7]
    ∧ win0_4.index t = ![0, 0]
    ∧ win0_5.index t = ![t.val, 0] :=
  (by decide +kernel : ∀ t : Fin grid0.N, _)

/-- The row of the whole array that row `i` of the block at point `t` is. -/
def rw512 (t : Fin cfg0.N) (i : Fin 512) : Fin 8192 := ⟨t.val * 512 + i.val, by have := t.isLt; have : cfg0.N = 16 := N_0; omega⟩

theorem blk_f (c : Dev nD) (t : Fin cfg0.N) (i : Fin 512) (k : Fin 1024) :
    (iblk m c 0 t : Vec Ideal S512x1024 .f32) (ix2 i k) = aF m c (ix2 (rw512 t i) k) := by
  blk_point [iblk, V, idx_val t, rw512]
theorem blk_o (c : Dev nD) (t : Fin cfg0.N) (i : Fin 512) (k : Fin 1024) :
    (iblk m c 1 t : Vec Ideal S512x1024 .f32) (ix2 i k) = aO m c (ix2 (rw512 t i) k) := by
  blk_point [iblk, V, idx_val t, rw512]
theorem blk_gain (c : Dev nD) (t : Fin cfg0.N) (i : Fin 1) (k : Fin 128) :
    (iblk m c 4 t : Vec Ideal S1x128 .f32) (ix2 i k) = aG m c (ix2 0 k) := by
  blk_point [iblk, V, idx_val t]
theorem at_two {a b : ℕ} {p p' : Fin a} {q q' : Fin b} (e : p.val = p'.val) (e' : q.val = q'.val) :
    (ix2 p q : (⟨2, ![a, b]⟩ : Shape).Idx) = ix2 p' q' := by rw [Fin.ext e, Fin.ext e']
theorem blk_fz (c : Dev nD) (t : Fin cfg0.N) (i : Fin 512) (h : Fin 8) (x : Fin 128) :
    (iblk m c 2 t : Vec Ideal S512x1024 .f32) (ix2 i (col h x)) = fz (aP m c) h (rw512 t i) x := by
  blk_simp [iblk, idx_val t]; entry_read; pointwise
  have e0 : (((View.whole main_v2).slice (win0_2.rect t)).emb (ix2 i (col h x)) 0).val = t.val * 512 + i.val := by blk_simp [idx_val t]
  have e1 : (((View.whole main_v2).slice (win0_2.rect t)).emb (ix2 i (col h x)) 1).val = 3072 + (h.val * 128 + x.val) := by blk_simp [idx_val t, col]
  rw [dif_pos (by omega)]
  refine congrArg (aP m c) (at_two ?_ ?_)
  · exact e0
  · exact e1
theorem blk_gz (c : Dev nD) (t : Fin cfg0.N) (i : Fin 512) (h : Fin 8) (x : Fin 128) :
    (iblk m c 3 t : Vec Ideal S512x1024 .f32) (ix2 i (col h x)) = gz (aP m c) h (rw512 t i) x := by
  blk_simp [iblk, idx_val t]; entry_read; pointwise
  have e0 : (((View.whole main_v2).slice (win0_3.rect t)).emb (ix2 i (col h x)) 0).val = t.val * 512 + i.val := by blk_simp [idx_val t]
  have e1 : (((View.whole main_v2).slice (win0_3.rect t)).emb (ix2 i (col h x)) 1).val = 7168 + (h.val * 128 + x.val) := by blk_simp [idx_val t, col]
  rw [dif_neg (by omega)]
  refine congrArg (aP m c) (at_two ?_ ?_)
  · exact e0
  · show 4104 + (_ - 4096) = 7176 + _; omega

/-- The attention's half of a block, and the second gate. -/
theorem pay1_at (z o : Vec Ideal S512x1024 .f32) (y : S512x1024.Idx) : k0_pay1 z o y = o y * (z y * sg (z y)) := by
  pointwise [k0_pay1, sg]
  rw [zero_sub]
theorem pay2_at (z : Vec Ideal S512x1024 .f32) (y : S512x1024.Idx) : k0_pay2 z y = z y * sg (z y) := by
  pointwise [k0_pay2, sg]
  rw [zero_sub]

/-- One entry of a head's slice of a block: the row normed, the gain, the gate. -/
def ent (o : Fin 128 → EReal) (g G : EReal) (x : Fin 128) : EReal := o x * rrms wN wE o * g * G

section Heads
variable (G : FVec Ideal S512x1024 .f32) (g : Vec Ideal S1x128 .f32) (o : Vec Ideal S512x128 .f32) (i : Fin 512) (x : Fin 128)
theorem hd_0 : k0_pay5 G (k0_pay3 o) (k0_pay4 g) (ix2 i x) = ent (fun k => o (ix2 i k)) (g (ix2 0 x)) (G (ix2 i (col 0 x))) x := by
  pointwise [k0_pay5, k0_pay3, k0_pay4, ent, rrms, msq, col]
theorem hd_1 : k0_pay6 G g o (ix2 i x) = ent (fun k => o (ix2 i k)) (g (ix2 0 x)) (G (ix2 i (col 1 x))) x := by
  pointwise [k0_pay6, ent, rrms, msq, col]
theorem hd_2 : k0_pay7 G g o (ix2 i x) = ent (fun k => o (ix2 i k)) (g (ix2 0 x)) (G (ix2 i (col 2 x))) x := by
  pointwise [k0_pay7, ent, rrms, msq, col]
theorem hd_3 : k0_pay8 G g o (ix2 i x) = ent (fun k => o (ix2 i k)) (g (ix2 0 x)) (G (ix2 i (col 3 x))) x := by
  pointwise [k0_pay8, ent, rrms, msq, col]
theorem hd_4 : k0_pay9 G g o (ix2 i x) = ent (fun k => o (ix2 i k)) (g (ix2 0 x)) (G (ix2 i (col 4 x))) x := by
  pointwise [k0_pay9, ent, rrms, msq, col]
theorem hd_5 : k0_pay12 G g o (k0_pay10 o) k0_pay11 (ix2 i x) = ent (fun k => o (ix2 i k)) (g (ix2 0 x)) (G (ix2 i (col 5 x))) x := by
  pointwise [k0_pay12, k0_pay10, k0_pay11, ent, rrms, msq, col]
theorem hd_6 : k0_pay13 G g o (ix2 i x) = ent (fun k => o (ix2 i k)) (g (ix2 0 x)) (G (ix2 i (col 6 x))) x := by
  pointwise [k0_pay13, ent, rrms, msq, col]
theorem hd_7 : k0_pay14 G g o (ix2 i x) = ent (fun k => o (ix2 i k)) (g (ix2 0 x)) (G (ix2 i (col 7 x))) x := by
  pointwise [k0_pay14, ent, rrms, msq, col]
end Heads

theorem emb_lo (t : Fin cfg0.N) (i : Fin 512) (h : Fin 8) (x : Fin 128) :
    ((cfg0.win 5).blk t).view.emb (ix2 i (lo h x)) = (ix2 (rw512 t i) (lo h x) : S8192x2048.Idx) := by blk_ext [idx_val t, rw512]
theorem emb_hi (t : Fin cfg0.N) (i : Fin 512) (h : Fin 8) (x : Fin 128) :
    ((cfg0.win 5).blk t).view.emb (ix2 i (hi h x)) = (ix2 (rw512 t i) (hi h x) : S8192x2048.Idx) := by blk_ext [idx_val t, rw512]
theorem col_split (y : Fin 1024) : ∃ h x, y = col h x :=
  ⟨⟨y.val / 128, by omega⟩, ⟨y.val % 128, by omega⟩, Fin.ext (by show y.val = y.val / 128 * 128 + y.val % 128; omega)⟩

theorem point_lo (c : Dev nD) (t : Fin cfg0.N) (i : Fin 512) (h : Fin 8) (x : Fin 128) :
    k0_pay1 (iblk m c 2 t) (iblk m c 0 t) (ix2 i (col h x)) = OUT (aF m c) (aO m c) (aP m c) (aG m c) (ix2 (rw512 t i) (lo h x)) := by
  rw [pay1_at, OUT_lo, blk_fz, blk_f]
theorem point_hi (c : Dev nD) (t : Fin cfg0.N) (i : Fin 512) (h : Fin 8) (x : Fin 128) (o : Fin 128 → EReal) (g G : EReal)
    (ho : ∀ k, o k = orow (aO m c) h (rw512 t i) k) (hg : g = aG m c (ix2 0 x))
    (hG : G = gz (aP m c) h (rw512 t i) x * sg (gz (aP m c) h (rw512 t i) x)) :
    ent o g G x = OUT (aF m c) (aO m c) (aP m c) (aG m c) (ix2 (rw512 t i) (hi h x)) := by
  obtain rfl : o = orow (aO m c) h (rw512 t i) := funext ho
  rw [OUT_hi, hg, hG, ent]
theorem y_hi (y : S512x2048.Idx) (i : Fin 512) (x : Fin 128) (k : Fin 8) (n : ℕ) (h0 : (y 0).val = i.val) (h1 : (y 1).val = n + x.val)
    (hn : n = 1024 + k.val * 128) : y = ix2 i (hi k x) := by
  funext a; apply Fin.ext
  match a with
  | ⟨0, _⟩ => exact h0
  | ⟨1, _⟩ => exact h1.trans (by rw [hn]; exact Nat.add_assoc _ _ _)

/-- The joined branches, whole. -/
theorem final_5 (c : Dev nD) : (dats m 0 c).arrAt 5 (cfgs 0).N = OUT (aF m c) (aO m c) (aP m c) (aG m c) := by
  refine (dats m 0 c).arrAt_eq_of_covers 5 _ (by decide +kernel) fun t hf y => ?_
  blk_simp; rw [after0_5]
  dsimp only [outsAt0]; frame_out
  canon_tiles x h using (View.cover_of_tiledBy _ ![512, 128] (by sl_kernel_rfl) y)
  case' piece0 =>
    rw [y_hi y (x 0) (x 1) 7 1920 h0 h1 rfl]
    idx_vars x
    refine (hd_7 _ _ _ x0 x1).trans (Eq.trans (point_hi m c t x0 7 x1 _ _ _ (fun k => ?_) ?_ ?_) (congrArg _ (emb_hi t x0 7 x1)).symm)
  case' piece1 =>
    rw [y_hi y (x 0) (x 1) 6 1792 h0 h1 rfl]
    idx_vars x
    refine (hd_6 _ _ _ x0 x1).trans (Eq.trans (point_hi m c t x0 6 x1 _ _ _ (fun k => ?_) ?_ ?_) (congrArg _ (emb_hi t x0 6 x1)).symm)
  case' piece2 =>
    rw [y_hi y (x 0) (x 1) 5 1664 h0 h1 rfl]
    idx_vars x
    refine (hd_5 _ _ _ x0 x1).trans (Eq.trans (point_hi m c t x0 5 x1 _ _ _ (fun k => ?_) ?_ ?_) (congrArg _ (emb_hi t x0 5 x1)).symm)
  case' piece3 =>
    rw [y_hi y (x 0) (x 1) 4 1536 h0 h1 rfl]
    idx_vars x
    refine (hd_4 _ _ _ x0 x1).trans (Eq.trans (point_hi m c t x0 4 x1 _ _ _ (fun k => ?_) ?_ ?_) (congrArg _ (emb_hi t x0 4 x1)).symm)
  case' piece4 =>
    rw [y_hi y (x 0) (x 1) 3 1408 h0 h1 rfl]
    idx_vars x
    refine (hd_3 _ _ _ x0 x1).trans (Eq.trans (point_hi m c t x0 3 x1 _ _ _ (fun k => ?_) ?_ ?_) (congrArg _ (emb_hi t x0 3 x1)).symm)
  case' piece5 =>
    rw [y_hi y (x 0) (x 1) 2 1280 h0 h1 rfl]
    idx_vars x
    refine (hd_2 _ _ _ x0 x1).trans (Eq.trans (point_hi m c t x0 2 x1 _ _ _ (fun k => ?_) ?_ ?_) (congrArg _ (emb_hi t x0 2 x1)).symm)
  case' piece6 =>
    rw [y_hi y (x 0) (x 1) 1 1152 h0 h1 rfl]
    idx_vars x
    refine (hd_1 _ _ _ x0 x1).trans (Eq.trans (point_hi m c t x0 1 x1 _ _ _ (fun k => ?_) ?_ ?_) (congrArg _ (emb_hi t x0 1 x1)).symm)
  case' piece7 =>
    rw [y_hi y (x 0) (x 1) 0 1024 h0 h1 rfl]
    idx_vars x
    refine (hd_0 _ _ _ x0 x1).trans (Eq.trans (point_hi m c t x0 0 x1 _ _ _ (fun k => ?_) ?_ ?_) (congrArg _ (emb_hi t x0 0 x1)).symm)
  case' piece8 =>
    obtain ⟨h, z, e⟩ := col_split (x 1)
    rw [show y = ix2 (x 0) (lo h z) from funext fun a => Fin.ext (match a with
      | ⟨0, _⟩ => h0
      | ⟨1, _⟩ => h1.trans (by rw [e]; rfl))]
    rw [show x = ix2 (x 0) (col h z) from funext fun a => match a with
      | ⟨0, _⟩ => rfl
      | ⟨1, _⟩ => e]
    exact (point_lo m c t (x 0) h z).trans (congrArg _ (emb_lo t (x 0) h z)).symm
  all_goals first
    | (rw [pay2_at, blk_gz]; done)
    | (rw [orow]; refine Eq.trans ?_ (blk_o m c t _ _); pointwise; blk_ext [col]; done)
    | exact blk_gain m c t 0 _

end Cert.Kernel6Ideal.Value

end
-- ==== Proof.NormMod.lean ====
/- Hand-written, untrusted. The adaptive norm forward: the reference entry by entry, and what the kernel leaves. -/
module

public import proofs.«01_k».proof.Proof.RowNorm
public import proofs.«01_k».proof.Proof.Gen.Reference7Ideal.Run
public import proofs.«01_k».proof.Proof.Gen.Kernel7Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.NormMod

open Cert.RowNorm

/-- The words of 2048 and of the guard, as the programs spell them. -/
abbrev wN : EReal := Ideal.ofBits .f32 0x45000000#32
abbrev wE : EReal := Ideal.ofBits .f32 0x358637BD#32

/-- One entry of the normed and shifted row. -/
def ent (x : Fin 2048 → EReal) (g s b : EReal) (k : Fin 2048) : EReal := x k * rrms wN wE x * g * (1 + s) + b

end Cert.NormMod

namespace Cert.Reference7Ideal.Value

open Cert.Reference7Ideal Cert.Reference7Ideal.Gen Cert.RowNorm Cert.NormMod

variable (x : FVec Ideal S1x8192x2048 .f32) (g sc sh : FVec Ideal S1x2048 .f32)

def MSQ : FVec Ideal S1x8192x1 .f32 :=
  addf (Host.divf (broadcastInDim S1x8192x1 ![0, 1] bcast_S1x8192_S1x8192x1_0_1
      (Host.reduceAdd (mulf x x) (constant S_ .f32 0x00000000#32) reducesTo_S1x8192x2048_S1x8192_d2 h_S_))
    (broadcastInDim S1x8192x1 ![] bcast_S_S1x8192x1 (constant S_ .f32 0x45000000#32)))
    (broadcastInDim S1x8192x1 ![] bcast_S_S1x8192x1 (constant S_ .f32 0x358637BD#32))
def XN : FVec Ideal S1x8192x2048 .f32 :=
  mulf x (broadcastInDim S1x8192x2048 ![0, 1, 2] bcast_S1x8192x1_S1x8192x2048_0_1_2 (Host.rsqrt (MSQ x)))
def OUT : FVec Ideal S8192x2048 .bf16 :=
  truncf .bf16 (shapeCast S8192x2048 (addf (mulf (mulf (XN x)
        (broadcastInDim S1x8192x2048 ![0, 1, 2] bcast_S1x1x2048_S1x8192x2048_0_1_2
          (broadcastInDim S1x1x2048 ![2] bcast_S2048_S1x1x2048_2 (shapeCast S2048 g shapeCasts_S1x2048_S2048))))
      (broadcastInDim S1x8192x2048 ![0, 1, 2] bcast_S1x1x2048_S1x8192x2048_0_1_2
        (addf (broadcastInDim S1x1x2048 ![] bcast_S_S1x1x2048 (constant S_ .f32 0x3F800000#32))
          (broadcastInDim S1x1x2048 ![0, 2] bcast_S1x2048_S1x1x2048_0_2 sc))))
    (broadcastInDim S1x8192x2048 ![0, 1, 2] bcast_S1x1x2048_S1x8192x2048_0_1_2
      (broadcastInDim S1x1x2048 ![0, 2] bcast_S1x2048_S1x1x2048_0_2 sh))) shapeCasts_S1x8192x2048_S8192x2048) bitsLt_bf16_f32

theorem MSQ_at (b : Fin 1) (i : Fin 8192) (u : Fin 1) : MSQ x (ix3 b i u) = msq wN wE (fun k => x (ix3 0 i k)) := by
  obtain rfl : b = 0 := Subsingleton.elim _ _
  pointwise [MSQ, msq]
theorem XN_at (b : Fin 1) (i : Fin 8192) (k : Fin 2048) :
    XN x (ix3 b i k) = x (ix3 0 i k) * rrms wN wE (fun k => x (ix3 0 i k)) := by
  obtain rfl : b = 0 := Subsingleton.elim _ _
  pointwise [XN, MSQ_at, rrms]
theorem OUT_at (i : Fin 8192) (k : Fin 2048) :
    OUT x g sc sh (ix2 i k) = ent (fun k => x (ix3 0 i k)) (g (ix2 0 k)) (sc (ix2 0 k)) (sh (ix2 0 k)) k := by
  pointwise [OUT, XN_at, ent]

end Cert.Reference7Ideal.Value

namespace Cert.Kernel7Ideal.Value

open Cert.Kernel7Ideal Cert.Kernel7Ideal.Gen Cert.RowNorm Cert.NormMod
open Cert.Reference7Ideal.Value (OUT OUT_at)

variable (m : (ℓ : Loc nD τ sig) → Buf (Elt Ideal) ℓ)

/-- The arguments by name. -/
abbrev aX (c : Dev nD) : FVec Ideal S1x8192x2048 .f32 := m ((c : Thread nD τ).loc main_arg0)
abbrev aN (c : Dev nD) : FVec Ideal S1x2048 .f32 := m ((c : Thread nD τ).loc main_arg1)
abbrev aS (c : Dev nD) : FVec Ideal S1x2048 .f32 := m ((c : Thread nD τ).loc main_arg2)
abbrev aB (c : Dev nD) : FVec Ideal S1x2048 .f32 := m ((c : Thread nD τ).loc main_arg3)

theorem idx_val : ∀ t : Fin cfg0.N, win0_0.index t = ![t.val, 0]
    ∧ win0_1.index t = ![0, 0]
    ∧ win0_2.index t = ![0, 0]
    ∧ win0_3.index t = ![0, 0]
    ∧ win0_4.index t = ![t.val, 0] :=
  (by decide +kernel : ∀ t : Fin grid0.N, _)

/-- The row of the whole array that row `i` of the block at point `t` is. -/
def rw512 (t : Fin cfg0.N) (i : Fin 512) : Fin 8192 := ⟨t.val * 512 + i.val, by have := t.isLt; have : cfg0.N = 16 := N_0; omega⟩

theorem blk_x (c : Dev nD) (t : Fin cfg0.N) (i : Fin 512) (k : Fin 2048) :
    (iblk m c 0 t : Vec Ideal S512x2048 .f32) (ix2 i k) = aX m c (ix3 0 (rw512 t i) k) := by
  blk_simp [iblk, idx_val t]; entry_read; pointwise; blk_ext [idx_val t, rw512]
theorem blk_n (c : Dev nD) (t : Fin cfg0.N) (i : Fin 1) (k : Fin 2048) :
    (iblk m c 1 t : Vec Ideal S1x2048 .f32) (ix2 i k) = aN m c (ix2 0 k) := by
  blk_point [iblk, V, idx_val t]
theorem blk_s (c : Dev nD) (t : Fin cfg0.N) (i : Fin 1) (k : Fin 2048) :
    (iblk m c 2 t : Vec Ideal S1x2048 .f32) (ix2 i k) = 1 + aS m c (ix2 0 k) := by
  blk_simp [iblk, idx_val t]; entry_read; pointwise
  refine congrArg (fun u => 1 + aS m c u) ?_
  blk_ext [idx_val t]
theorem blk_b (c : Dev nD) (t : Fin cfg0.N) (i : Fin 1) (k : Fin 2048) :
    (iblk m c 3 t : Vec Ideal S1x2048 .f32) (ix2 i k) = aB m c (ix2 0 k) := by
  blk_point [iblk, V, idx_val t]

theorem pay1_at (x : Vec Ideal S512x2048 .f32) (g s b : Vec Ideal S1x2048 .f32) (i : Fin 512) (k : Fin 2048) :
    k0_pay1 x g s b (ix2 i k)
      = x (ix2 i k) * rrms wN wE (fun k => x (ix2 i k)) * g (ix2 0 k) * s (ix2 0 k) + b (ix2 0 k) := by
  pointwise [k0_pay1, rrms, msq]

theorem point (c : Dev nD) (t : Fin cfg0.N) (i : Fin 512) (k : Fin 2048) :
    k0_pay1 (iblk m c 0 t) (iblk m c 1 t) (iblk m c 2 t) (iblk m c 3 t) (ix2 i k)
      = ent (fun k => aX m c (ix3 0 (rw512 t i) k)) (aN m c (ix2 0 k)) (aS m c (ix2 0 k)) (aB m c (ix2 0 k)) k := by
  refine (pay1_at _ _ _ _ i k).trans ?_
  simp only [blk_x, blk_n, blk_s, blk_b, ent]

/-- The normed rows, whole. -/
theorem final_4 (c : Dev nD) : (dats m 0 c).arrAt 4 (cfgs 0).N = OUT (aX m c) (aN m c) (aS m c) (aB m c) := by
  refine (dats m 0 c).arrAt_eq_of_covers 4 _ (by decide +kernel) fun t hf y => ?_
  idx_vars y
  rw [show ((cfg0.win 4).blk t).view.emb (ix2 y0 y1) = (ix2 (rw512 t y0) y1 : S8192x2048.Idx) by blk_ext [idx_val t, rw512], OUT_at]
  blk_simp; rw [after0_4]
  frame_out
  exact point m c t y0 y1

end Cert.Kernel7Ideal.Value

end
-- ==== Proof.Mix.lean ====
/- Hand-written, untrusted. The gradient of the branches' gates and of the recurrence's norm: what the kernel leaves in
   its six outputs. -/
module

public import proofs.«01_k».proof.Proof.Gen.Kernel3Ideal.Value
public import proofs.«01_k».proof.Proof.MixRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen Cert.RowNorm Cert.Mix
open Cert.Fox (col)
open Cert.Reference3Ideal.Value (orow fz gz df dg dy cot)

variable (m : (ℓ : Loc nD τ sig) → Buf (Elt Ideal) ℓ)

/-- The arguments by name. -/
abbrev aM (c : Dev nD) : FVec Ideal S8192x2048 .f32 := m ((c : Thread nD τ).loc main_arg0)
abbrev aF (c : Dev nD) : FVec Ideal S8192x1024 .f32 := m ((c : Thread nD τ).loc main_arg1)
abbrev aO (c : Dev nD) : FVec Ideal S8192x1024 .f32 := m ((c : Thread nD τ).loc main_arg2)
abbrev aP (c : Dev nD) : FVec Ideal S8192x8216 .f32 := m ((c : Thread nD τ).loc main_arg3)
abbrev aG (c : Dev nD) : FVec Ideal S1x128 .f32 := m ((c : Thread nD τ).loc main_arg4)

theorem idx_val : ∀ t : Fin cfg0.N, win0_0.index t = ![t.val, 0]
    ∧ win0_1.index t = ![t.val, 0]
    ∧ win0_2.index t = ![t.val, 0]
    ∧ win0_3.index t = ![t.val, 3]
    ∧ win0_4.index t = ![t.val, 7]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![0, 0] :=
  (by decide +kernel : ∀ t : Fin grid0.N, _)

/-- The row of the whole array that row `i` of the block at point `t` is. -/
def rw512 (t : Fin cfg0.N) (i : Fin 512) : Fin 8192 := ⟨t.val * 512 + i.val, by have := t.isLt; have : cfg0.N = 16 := N_0; omega⟩

theorem blk_m (c : Dev nD) (t : Fin cfg0.N) (i : Fin 512) (k : Fin 2048) :
    (iblk m c 0 t : Vec Ideal S512x2048 .f32) (ix2 i k) = aM m c (ix2 (rw512 t i) k) := by
  blk_point [iblk, V, idx_val t, rw512]
theorem blk_f (c : Dev nD) (t : Fin cfg0.N) (i : Fin 512) (k : Fin 1024) :
    (iblk m c 1 t : Vec Ideal S512x1024 .f32) (ix2 i k) = aF m c (ix2 (rw512 t i) k) := by
  blk_point [iblk, V, idx_val t, rw512]
theorem blk_o (c : Dev nD) (t : Fin cfg0.N) (i : Fin 512) (k : Fin 1024) :
    (iblk m c 2 t : Vec Ideal S512x1024 .f32) (ix2 i k) = aO m c (ix2 (rw512 t i) k) := by
  blk_point [iblk, V, idx_val t, rw512]
theorem blk_gain (c : Dev nD) (t : Fin cfg0.N) (i : Fin 1) (k : Fin 128) :
    (iblk m c 5 t : Vec Ideal S1x128 .f32) (ix2 i k) = aG m c (ix2 0 k) := by
  blk_point [iblk, V, idx_val t]
theorem at_two {a b : ℕ} {p p' : Fin a} {q q' : Fin b} (e : p.val = p'.val) (e' : q.val = q'.val) :
    (ix2 p q : (⟨2, ![a, b]⟩ : Shape).Idx) = ix2 p' q' := by rw [Fin.ext e, Fin.ext e']
theorem blk_fz (c : Dev nD) (t : Fin cfg0.N) (i : Fin 512) (h : Fin 8) (x : Fin 128) :
    (iblk m c 3 t : Vec Ideal S512x1024 .f32) (ix2 i (col h x)) = fz (aP m c) h (rw512 t i) x := by
  blk_simp [iblk, idx_val t]; entry_read; pointwise
  have e0 : (((View.whole main_v2).slice (win0_3.rect t)).emb (ix2 i (col h x)) 0).val = t.val * 512 + i.val := by blk_simp [idx_val t]
  have e1 : (((View.whole main_v2).slice (win0_3.rect t)).emb (ix2 i (col h x)) 1).val = 3072 + (h.val * 128 + x.val) := by blk_simp [idx_val t, col]
  rw [dif_pos (by omega)]
  refine congrArg (aP m c) (at_two ?_ ?_)
  · exact e0
  · exact e1
theorem blk_gz (c : Dev nD) (t : Fin cfg0.N) (i : Fin 512) (h : Fin 8) (x : Fin 128) :
    (iblk m c 4 t : Vec Ideal S512x1024 .f32) (ix2 i (col h x)) = gz (aP m c) h (rw512 t i) x := by
  blk_simp [iblk, idx_val t]; entry_read; pointwise
  have e0 : (((View.whole main_v2).slice (win0_4.rect t)).emb (ix2 i (col h x)) 0).val = t.val * 512 + i.val := by blk_simp [idx_val t]
  have e1 : (((View.whole main_v2).slice (win0_4.rect t)).emb (ix2 i (col h x)) 1).val = 7168 + (h.val * 128 + x.val) := by blk_simp [idx_val t, col]
  rw [dif_neg (by omega)]
  refine congrArg (aP m c) (at_two ?_ ?_)
  · exact e0
  · show 4104 + (_ - 4096) = 7176 + _; omega

/-- The derivative of `z` times its logistic, as the kernel has it. -/
def dsg (z : EReal) : EReal := sg z * (1 + z * (1 - sg z))

theorem pay4_at (z d : Vec Ideal S512x1024 .f32) (y : S512x1024.Idx) : k0_pay4 z d y = d y * (z y * sg (z y)) := by
  pointwise [k0_pay4, k0_pay3, k0_pay2, sg]
  rw [zero_sub]
theorem pay6_at (z d o : Vec Ideal S512x1024 .f32) (y : S512x1024.Idx) : k0_pay6 z d o y = d y * o y * dsg (z y) := by
  pointwise [k0_pay6, k0_pay3, k0_pay2, sg, dsg]
  rw [zero_sub]
theorem pay17_at (z : Vec Ideal S512x1024 .f32) (y : S512x1024.Idx) : k0_pay17 z y = z y * sg (z y) := by
  pointwise [k0_pay17, k0_pay16, k0_pay15, sg]
  rw [zero_sub]
theorem pay18_at (z : Vec Ideal S512x1024 .f32) (y : S512x1024.Idx) : k0_pay18 z y = dsg (z y) := by
  pointwise [k0_pay18, k0_pay16, k0_pay15, sg, dsg]
  rw [zero_sub]

/-- A row normed; the gate's gradient against it. -/
def nrm (o : Fin 128 → EReal) (x : Fin 128) : EReal := o x * rrms wN wE o
def dz (d n g s : EReal) : EReal := d * (n * g) * s

section Heads
variable (D G S : Vec Ideal S512x1024 .f32) (g : Vec Ideal S1x128 .f32) (o : Vec Ideal S512x128 .f32) (i : Fin 512) (x : Fin 128)
theorem dgz_0 : k0_pay25 D S g o (k0_pay20 o) k0_pay21 (ix2 i x)
    = dz (D (ix2 i (col 0 x))) (nrm (fun k => o (ix2 i k)) x) (g (ix2 0 x)) (S (ix2 i (col 0 x))) := by
  pointwise [k0_pay25, k0_pay23, k0_pay22, k0_pay21, k0_pay20, k0_pay24, nrm, dz, rrms, msq, col]
theorem dgo_0 : k0_pay28 D G g o (k0_pay20 o) k0_pay21 (ix2 i x)
    = byHand wN wE (fun k => o (ix2 i k)) (fun k => D (ix2 i (col 0 k)) * G (ix2 i (col 0 k)) * g (ix2 0 k)) x := by
  pointwise [k0_pay28, k0_pay26, k0_pay23, k0_pay22, k0_pay21, k0_pay20, k0_pay24, byHand, rrms, msq, col]
theorem dg_0 (a : Vec Ideal S1x128 .f32) (u : Fin 1) : k0_pay27 D G a o (k0_pay20 o) k0_pay21 (ix2 u x)
    = a (ix2 u x) + ∑ i, D (ix2 i (col 0 x)) * G (ix2 i (col 0 x)) * nrm (fun k => o (ix2 i k)) x := by
  pointwise [k0_pay27, k0_pay26, k0_pay23, k0_pay22, k0_pay21, k0_pay20, k0_pay24, nrm, rrms, msq, col]
theorem dgz_1 : k0_pay33 S (k0_pay32 D g o) (ix2 i x)
    = dz (D (ix2 i (col 1 x))) (nrm (fun k => o (ix2 i k)) x) (g (ix2 0 x)) (S (ix2 i (col 1 x))) := by
  pointwise [k0_pay36, k0_pay35, k0_pay34, k0_pay33, k0_pay32, k0_pay31, k0_pay30, k0_pay29, nrm, dz, rrms, msq, col]
theorem dgo_1 : k0_pay36 G g (k0_pay29 o) (k0_pay30 o) (k0_pay31 D) (ix2 i x)
    = byHand wN wE (fun k => o (ix2 i k)) (fun k => D (ix2 i (col 1 k)) * G (ix2 i (col 1 k)) * g (ix2 0 k)) x := by
  pointwise [k0_pay36, k0_pay35, k0_pay34, k0_pay33, k0_pay32, k0_pay31, k0_pay30, k0_pay29, byHand, rrms, msq, col]
theorem dgz_2 : k0_pay40 D S g o (ix2 i x)
    = dz (D (ix2 i (col 2 x))) (nrm (fun k => o (ix2 i k)) x) (g (ix2 0 x)) (S (ix2 i (col 2 x))) := by
  pointwise [k0_pay43, k0_pay42, k0_pay41, k0_pay40, k0_pay39, k0_pay38, k0_pay37, nrm, dz, rrms, msq, col]
theorem dgo_2 : k0_pay43 g (k0_pay37 o) (k0_pay38 o) (k0_pay39 D) (k0_pay41 G) (ix2 i x)
    = byHand wN wE (fun k => o (ix2 i k)) (fun k => D (ix2 i (col 2 k)) * G (ix2 i (col 2 k)) * g (ix2 0 k)) x := by
  pointwise [k0_pay43, k0_pay42, k0_pay41, k0_pay40, k0_pay39, k0_pay38, k0_pay37, byHand, rrms, msq, col]
theorem dgz_3 : k0_pay47 D S g o (ix2 i x)
    = dz (D (ix2 i (col 3 x))) (nrm (fun k => o (ix2 i k)) x) (g (ix2 0 x)) (S (ix2 i (col 3 x))) := by
  pointwise [k0_pay51, k0_pay50, k0_pay49, k0_pay48, k0_pay47, k0_pay46, k0_pay45, k0_pay44, nrm, dz, rrms, msq, col]
theorem dgo_3 : k0_pay51 (k0_pay44 o) (k0_pay45 o) (k0_pay50 D G g) (ix2 i x)
    = byHand wN wE (fun k => o (ix2 i k)) (fun k => D (ix2 i (col 3 k)) * G (ix2 i (col 3 k)) * g (ix2 0 k)) x := by
  pointwise [k0_pay51, k0_pay50, k0_pay49, k0_pay48, k0_pay47, k0_pay46, k0_pay45, k0_pay44, byHand, rrms, msq, col]
theorem dgz_4 : k0_pay55 D S g o (ix2 i x)
    = dz (D (ix2 i (col 4 x))) (nrm (fun k => o (ix2 i k)) x) (g (ix2 0 x)) (S (ix2 i (col 4 x))) := by
  pointwise [k0_pay60, k0_pay59, k0_pay58, k0_pay57, k0_pay56, k0_pay55, k0_pay54, k0_pay53, k0_pay52, nrm, dz, rrms, msq, col]
theorem dgo_4 : k0_pay60 (k0_pay52 o) (k0_pay53 o) (k0_pay58 D G g) (k0_pay59 D G g o) (ix2 i x)
    = byHand wN wE (fun k => o (ix2 i k)) (fun k => D (ix2 i (col 4 k)) * G (ix2 i (col 4 k)) * g (ix2 0 k)) x := by
  pointwise [k0_pay60, k0_pay59, k0_pay58, k0_pay57, k0_pay56, k0_pay55, k0_pay54, k0_pay53, k0_pay52, byHand, rrms, msq, col]
theorem dgz_5 : k0_pay64 D S g o (ix2 i x)
    = dz (D (ix2 i (col 5 x))) (nrm (fun k => o (ix2 i k)) x) (g (ix2 0 x)) (S (ix2 i (col 5 x))) := by
  pointwise [k0_pay67, k0_pay66, k0_pay65, k0_pay64, k0_pay63, k0_pay62, k0_pay61, nrm, dz, rrms, msq, col]
theorem dgo_5 : k0_pay67 D G g o (ix2 i x)
    = byHand wN wE (fun k => o (ix2 i k)) (fun k => D (ix2 i (col 5 k)) * G (ix2 i (col 5 k)) * g (ix2 0 k)) x := by
  pointwise [k0_pay67, k0_pay66, k0_pay65, k0_pay64, k0_pay63, k0_pay62, k0_pay61, byHand, rrms, msq, col]
theorem dgz_6 : k0_pay71 D S g o (ix2 i x)
    = dz (D (ix2 i (col 6 x))) (nrm (fun k => o (ix2 i k)) x) (g (ix2 0 x)) (S (ix2 i (col 6 x))) := by
  pointwise [k0_pay74, k0_pay73, k0_pay72, k0_pay71, k0_pay70, k0_pay69, k0_pay68, nrm, dz, rrms, msq, col]
theorem dgo_6 : k0_pay74 D G g o (ix2 i x)
    = byHand wN wE (fun k => o (ix2 i k)) (fun k => D (ix2 i (col 6 k)) * G (ix2 i (col 6 k)) * g (ix2 0 k)) x := by
  pointwise [k0_pay74, k0_pay73, k0_pay72, k0_pay71, k0_pay70, k0_pay69, k0_pay68, byHand, rrms, msq, col]
theorem dgz_7 : k0_pay79 D S g o (k0_pay75 o) (FloatOps.ofBits .f32 1124073472#32) (ix2 i x)
    = dz (D (ix2 i (col 7 x))) (nrm (fun k => o (ix2 i k)) x) (g (ix2 0 x)) (S (ix2 i (col 7 x))) := by
  pointwise [k0_pay82, k0_pay81, k0_pay80, k0_pay79, k0_pay78, k0_pay77, k0_pay76, k0_pay75, nrm, dz, rrms, msq, col]
theorem dgo_7 : k0_pay81 D G g o (k0_pay75 o) (FloatOps.ofBits .f32 1124073472#32) (ix2 i x)
    = byHand wN wE (fun k => o (ix2 i k)) (fun k => D (ix2 i (col 7 k)) * G (ix2 i (col 7 k)) * g (ix2 0 k)) x := by
  pointwise [k0_pay82, k0_pay81, k0_pay80, k0_pay79, k0_pay78, k0_pay77, k0_pay76, k0_pay75, byHand, rrms, msq, col]
theorem dg_1 (a : Vec Ideal S1x128 .f32) (u : Fin 1) : k0_pay35 G a (k0_pay30 o) (k0_pay31 D) (ix2 u x)
    = a (ix2 u x) + ∑ i, D (ix2 i (col 1 x)) * G (ix2 i (col 1 x)) * nrm (fun k => o (ix2 i k)) x := by
  pointwise [k0_pay36, k0_pay35, k0_pay34, k0_pay33, k0_pay32, k0_pay31, k0_pay30, k0_pay29, nrm, rrms, msq, col]
theorem dg_3 (a : Vec Ideal S1x128 .f32) (u : Fin 1) (o' : Vec Ideal S512x128 .f32) : k0_pay49 D G a (k0_pay38 o) (k0_pay39 D) (k0_pay41 G) o' (ix2 u x)
    = a (ix2 u x) + (∑ i, D (ix2 i (col 2 x)) * G (ix2 i (col 2 x)) * nrm (fun k => o (ix2 i k)) x)
      + ∑ i, D (ix2 i (col 3 x)) * G (ix2 i (col 3 x)) * nrm (fun k => o' (ix2 i k)) x := by
  pointwise [k0_pay43, k0_pay42, k0_pay41, k0_pay40, k0_pay39, k0_pay38, k0_pay37, k0_pay51, k0_pay50, k0_pay49, k0_pay48, k0_pay47, k0_pay46, k0_pay45, k0_pay44, nrm, rrms, msq, col]
theorem dg_4 (a : Vec Ideal S1x128 .f32) (u : Fin 1) : k0_pay57 D G a o (ix2 u x)
    = a (ix2 u x) + ∑ i, D (ix2 i (col 4 x)) * G (ix2 i (col 4 x)) * nrm (fun k => o (ix2 i k)) x := by
  pointwise [k0_pay60, k0_pay59, k0_pay58, k0_pay57, k0_pay56, k0_pay55, k0_pay54, k0_pay53, k0_pay52, nrm, rrms, msq, col]
theorem dg_5 (a : Vec Ideal S1x128 .f32) (u : Fin 1) : k0_pay66 D G a o (ix2 u x)
    = a (ix2 u x) + ∑ i, D (ix2 i (col 5 x)) * G (ix2 i (col 5 x)) * nrm (fun k => o (ix2 i k)) x := by
  pointwise [k0_pay67, k0_pay66, k0_pay65, k0_pay64, k0_pay63, k0_pay62, k0_pay61, nrm, rrms, msq, col]
theorem dg_6 (a : Vec Ideal S1x128 .f32) (u : Fin 1) : k0_pay73 D G a o (ix2 u x)
    = a (ix2 u x) + ∑ i, D (ix2 i (col 6 x)) * G (ix2 i (col 6 x)) * nrm (fun k => o (ix2 i k)) x := by
  pointwise [k0_pay74, k0_pay73, k0_pay72, k0_pay71, k0_pay70, k0_pay69, k0_pay68, nrm, rrms, msq, col]
theorem dg_7 (a old : Vec Ideal S1x128 .f32) (u : Fin 1) :
    k0_pay82 D G a o (k0_pay75 o) (FloatOps.ofBits .f32 1124073472#32) old (ix2 u x)
    = old (ix2 u x) + (a (ix2 u x) + ∑ i, D (ix2 i (col 7 x)) * G (ix2 i (col 7 x)) * nrm (fun k => o (ix2 i k)) x) := by
  pointwise [k0_pay82, k0_pay81, k0_pay80, k0_pay79, k0_pay78, k0_pay77, k0_pay76, k0_pay75, nrm, rrms, msq, col]
end Heads

end Cert.Kernel3Ideal.Value

end
-- ==== Proof.AdaGrad.lean ====
/- Hand-written, untrusted. The modulation weight's gradient: the reference entry by entry, and what the kernel leaves. -/
module

public import proofs.«01_k».proof.Proof.Mix
public import proofs.«01_k».proof.Proof.Gen.Reference17Ideal.Run
public import proofs.«01_k».proof.Proof.Gen.Kernel17Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Reference17Ideal.Value

open Cert.Reference17Ideal Cert.Reference17Ideal.Gen Cert.Mix

variable (c : FVec Ideal S8x2048 .f32) (d : FVec Ideal S8x768 .f32)

def ACT : FVec Ideal S8x2048 .f32 :=
  mulf c (Host.divf (broadcastInDim S8x2048 ![] bcast_S_S8x2048 (constant S_ .f32 0x3F800000#32))
    (addf (broadcastInDim S8x2048 ![] bcast_S_S8x2048 (constant S_ .f32 0x3F800000#32)) (Host.exp (Host.negf c))))
def OUT : FVec Ideal S2048x768 .f32 :=
  transpose S2048x768 [1, 0] (Host.dotGeneral dot_S8x768_S8x2048_S768x2048_0_0_1_1_n_n none d (ACT c)) transposes_S768x2048_S2048x768_1_0

theorem ACT_at (i : Fin 8) (k : Fin 2048) : ACT c (ix2 i k) = c (ix2 i k) * sg (c (ix2 i k)) := by
  pointwise [ACT, sg]
theorem OUT_at (i : Fin 2048) (k : Fin 768) :
    OUT c d (ix2 i k) = ∑ l : Fin 8, c (ix2 l i) * sg (c (ix2 l i)) * d (ix2 l k) := by
  pointwise [OUT, ACT_at]
  exact Finset.sum_congr rfl fun l _ => mul_comm (G := EReal) _ _

end Cert.Reference17Ideal.Value

namespace Cert.Kernel17Ideal.Value

open Cert.Kernel17Ideal Cert.Kernel17Ideal.Gen Cert.Mix
open Cert.Reference17Ideal.Value (OUT OUT_at)

variable (m : (ℓ : Loc nD τ sig) → Buf (Elt Ideal) ℓ)

/-- The arguments by name. -/
abbrev aC (c : Dev nD) : FVec Ideal S8x2048 .f32 := m ((c : Thread nD τ).loc main_arg0)
abbrev aD (c : Dev nD) : FVec Ideal S8x768 .f32 := m ((c : Thread nD τ).loc main_arg1)

theorem idx_val : ∀ t : Fin cfg0.N, win0_0.index t = ![0, 0] ∧ win0_1.index t = ![0, 0] ∧ win0_2.index t = ![0, 0] :=
  (by decide +kernel : ∀ t : Fin grid0.N, _)

/-- The two arguments, laid out with rows and columns of zeros after them. -/
def WIDE (c : FVec Ideal S8x2048 .f32) : FVec Ideal S2048x128 .f32 :=
  pad S2048x128 ![0, 0] ![0, 120] ![0, 0] (transpose S2048x8 [1, 0] c transposes_S8x2048_S2048x8_1_0)
    (sitofp .f32 (constantI S_ 32 0#32)) pads_S2048x8_S2048x128_000_01200 h_S_
def TALL (d : FVec Ideal S8x768 .f32) : FVec Ideal S128x768 .f32 :=
  pad S128x768 ![0, 0] ![120, 0] ![0, 0] d (sitofp .f32 (constantI S_ 32 0#32)) pads_S8x768_S128x768_01200_000 h_S_

theorem WIDE_in (c : FVec Ideal S8x2048 .f32) (k : Fin 2048) (l : Fin 8) : WIDE c (ix2 k (Fin.castAdd 120 l)) = c (ix2 l k) := by
  pointwise [WIDE]
  exact dif_pos l.isLt
theorem TALL_in (d : FVec Ideal S8x768 .f32) (l : Fin 8) (k : Fin 768) : TALL d (ix2 (Fin.castAdd 120 l) k) = d (ix2 l k) := by
  pointwise [TALL]
  exact dif_pos l.isLt
theorem TALL_out (d : FVec Ideal S8x768 .f32) (l : Fin 120) (k : Fin 768) : TALL d (ix2 (Fin.natAdd 8 l) k) = 0 := by
  pointwise [TALL]
  rw [dif_neg (by show ¬ (8 + l.val < 8); omega)]
  exact (congrArg _ (Int.cast_zero (R := ℝ))).trans EReal.coe_zero

theorem wide_value (c : Dev nD) : (V m c main_v1 : FVec Ideal S2048x128 .f32) = WIDE (aC m c) := by
  show StableHlo.after _ _ (Proc.devRef .tc main_v1) = _
  simp only [List.flatten_cons, List.flatten_nil, List.append_nil, List.cons_append, List.nil_append]
  entry_read
  rfl
theorem tall_value (c : Dev nD) : (V m c main_v2 : FVec Ideal S128x768 .f32) = TALL (aD m c) := by
  show StableHlo.after _ _ (Proc.devRef .tc main_v2) = _
  simp only [List.flatten_cons, List.flatten_nil, List.append_nil, List.cons_append, List.nil_append]
  entry_read
  rfl

theorem blk_c (c : Dev nD) (t : Fin cfg0.N) (k : Fin 2048) (l : Fin 128) :
    (iblk m c 0 t : Vec Ideal S2048x128 .f32) (ix2 k l) = WIDE (aC m c) (ix2 k l) := by
  rw [← wide_value]
  blk_point [iblk, idx_val t]
theorem blk_d (c : Dev nD) (t : Fin cfg0.N) (l : Fin 128) (k : Fin 768) :
    (iblk m c 1 t : Vec Ideal S128x768 .f32) (ix2 l k) = TALL (aD m c) (ix2 l k) := by
  rw [← tall_value]
  blk_point [iblk, idx_val t]

theorem pay1_at (v : Vec Ideal S2048x128 .f32) (w : Vec Ideal S128x768 .f32) (i : Fin 2048) (k : Fin 768) :
    k0_pay1 v w (ix2 i k) = ∑ l : Fin 128, v (ix2 i l) * sg (v (ix2 i l)) * w (ix2 l k) := by
  pointwise [k0_pay1, sg]
  simp only [zero_sub]

/-- The gradient, whole. -/
theorem final_2 (c : Dev nD) : (dats m 0 c).arrAt 2 (cfgs 0).N = OUT (aC m c) (aD m c) := by
  refine (dats m 0 c).arrAt_eq_of_covers 2 _ (by decide +kernel) fun t hf y => ?_
  idx_vars y
  rw [show ((cfg0.win 2).blk t).view.emb (ix2 y0 y1) = (ix2 y0 y1 : S2048x768.Idx) by blk_ext [idx_val t], OUT_at]
  blk_simp; rw [after0_2]
  frame_out
  refine (pay1_at _ _ y0 y1).trans ?_
  simp only [blk_c, blk_d]
  refine (Fin.sum_univ_add (a := 8) (b := 120) _).trans ?_
  simp only [WIDE_in, TALL_in, TALL_out, mul_zero, Finset.sum_const_zero, add_zero]

end Cert.Kernel17Ideal.Value

end
-- ==== Proof.Adamw.lean ====
/- Hand-written, untrusted. The optimiser's step: the reference entry by entry, and what the kernel leaves. -/
module

public import proofs.«01_k».proof.Proof.Gen.Reference16Ideal.Run
public import proofs.«01_k».proof.Proof.Gen.Kernel16Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Reference16Ideal.Value

open Cert.Reference16Ideal Cert.Reference16Ideal.Gen

variable (w : FVec Ideal S1x256x2048 .f32) (p : FVec Ideal S8x256x2048 .bf16) (m v : FVec Ideal S1x256x2048 .f32)

/-- One constant at every entry. -/
def ALL (b : BitVec 32) : FVec Ideal S1x256x2048 .f32 := broadcastInDim S1x256x2048 ![] bcast_S_S1x256x2048 (constant S_ .f32 b)
/-- The gradient: the eight parts added up. -/
def GRAD : FVec Ideal S1x256x2048 .f32 :=
  broadcastInDim S1x256x2048 ![1, 2] bcast_S256x2048_S1x256x2048_1_2 (Host.reduceAdd (extf .f32 p bitsLt_bf16_f32)
    (constant S_ .f32 0x00000000#32) reducesTo_S8x256x2048_S256x2048_d0 h_S_)
def MOM : FVec Ideal S1x256x2048 .f32 := addf (mulf (ALL 0x3F666666#32) m) (mulf (ALL 0x3DCCCCCD#32) (GRAD p))
def SEC : FVec Ideal S1x256x2048 .f32 := addf (mulf (ALL 0x3F7FBE77#32) v) (mulf (ALL 0x3A83126F#32) (mulf (GRAD p) (GRAD p)))
def STEP : FVec Ideal S1x256x2048 .f32 :=
  mulf (ALL 0xBA83126F#32) (addf (Host.divf (Host.divf (MOM p m) (ALL 0x3F26BD02#32))
    (addf (Host.sqrt (Host.divf (SEC p v) (ALL 0x3C231ACC#32))) (ALL 0x322BCC77#32))) (mulf (ALL 0x3C23D70A#32) w))

theorem GRAD_at (k : Fin 256) (j : Fin 2048) : GRAD p (ix3 0 k j) = ∑ l : Fin 8, p (ix3 l k j) := by
  pointwise [GRAD]

end Cert.Reference16Ideal.Value

namespace Cert.Kernel16Ideal.Value

open Cert.Kernel16Ideal Cert.Kernel16Ideal.Gen
open Cert.Reference16Ideal.Value (GRAD MOM SEC STEP ALL GRAD_at)

variable (m : (ℓ : Loc nD τ sig) → Buf (Elt Ideal) ℓ)

/-- The arguments by name. -/
abbrev aW (c : Dev nD) : FVec Ideal S1x256x2048 .f32 := m ((c : Thread nD τ).loc main_arg0)
abbrev aP (c : Dev nD) : FVec Ideal S8x256x2048 .bf16 := m ((c : Thread nD τ).loc main_arg1)
abbrev aM (c : Dev nD) : FVec Ideal S1x256x2048 .f32 := m ((c : Thread nD τ).loc main_arg2)
abbrev aV (c : Dev nD) : FVec Ideal S1x256x2048 .f32 := m ((c : Thread nD τ).loc main_arg3)

theorem idx_val : ∀ t : Fin cfg0.N, win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- The row of the array that a point's block has at a row of its own. -/
def row (t : Fin cfg0.N) (k : Fin 128) : Fin 256 := ⟨t.val * 128 + k.val, by have : t.val < 2 := t.isLt; omega⟩

theorem blk_w (c : Dev nD) (t : Fin cfg0.N) (k : Fin 128) (j : Fin 2048) :
    (iblk m c 0 t : Vec Ideal S1x128x2048 .f32) (ix3 0 k j) = aW m c (ix3 0 (row t k) j) := by
  blk_point [iblk, V, idx_val t, row]
theorem blk_p (c : Dev nD) (t : Fin cfg0.N) (l : Fin 8) (k : Fin 128) (j : Fin 2048) :
    (iblk m c 1 t : Vec Ideal S8x128x2048 .bf16) (ix3 l k j) = aP m c (ix3 l (row t k) j) := by
  blk_point [iblk, V, idx_val t, row]
theorem blk_m (c : Dev nD) (t : Fin cfg0.N) (k : Fin 128) (j : Fin 2048) :
    (iblk m c 2 t : Vec Ideal S1x128x2048 .f32) (ix3 0 k j) = aM m c (ix3 0 (row t k) j) := by
  blk_point [iblk, V, idx_val t, row]
theorem blk_v (c : Dev nD) (t : Fin cfg0.N) (k : Fin 128) (j : Fin 2048) :
    (iblk m c 3 t : Vec Ideal S1x128x2048 .f32) (ix3 0 k j) = aV m c (ix3 0 (row t k) j) := by
  blk_point [iblk, V, idx_val t, row]

/-- The sum of the parts as a point forms it. -/
theorem sum_at (x0 : Vec Ideal S1x128x2048 .f32) (x1 : Vec Ideal S8x128x2048 .bf16) (x2 x3 : Vec Ideal S1x128x2048 .f32) (k : Fin 128) (j : Fin 2048) :
    k0_pay10 x0 x1 x2 x3 (ix2 k j) = ∑ l : Fin 8, x1 (ix3 l k j) := by
  simp only [Fin.sum_univ_eight]
  pointwise [k0_pay10, k0_pay2]
/-- The first moment's and the second's arithmetic, entry by entry. -/
theorem pay4_at (g : FVec Ideal S128x2048 .f32) (x : Vec Ideal S1x128x2048 .f32) (k : Fin 128) (j : Fin 2048) :
    k0_pay4 g x (ix2 k j) = (Scalar.ofBits .f32 0x3F666666#32 : Ideal .f32) * x (ix3 0 k j) + (Scalar.ofBits .f32 0x3DCCCCCD#32 : Ideal .f32) * g (ix2 k j) := by
  pointwise [k0_pay4]
theorem pay5_at (g : FVec Ideal S128x2048 .f32) (x : Vec Ideal S1x128x2048 .f32) (k : Fin 128) (j : Fin 2048) :
    k0_pay5 g x (ix2 k j) = (Scalar.ofBits .f32 0x3F7FBE77#32 : Ideal .f32) * x (ix3 0 k j)
      + (Scalar.ofBits .f32 0x3A83126F#32 : Ideal .f32) * (g (ix2 k j) * g (ix2 k j)) := by
  pointwise [k0_pay5]

theorem final_4 (c : Dev nD) : (dats m 0 c).arrAt 4 (cfgs 0).N = GRAD (aP m c) := by
  refine (dats m 0 c).arrAt_eq_of_covers 4 _ (by decide +kernel) fun t hf y => ?_
  idx_vars y
  obtain rfl : y0 = 0 := Subsingleton.elim _ _
  rw [show ((cfg0.win 4).blk t).view.emb (ix3 0 y1 y2) = (ix3 0 (row t y1) y2 : S1x256x2048.Idx) by blk_ext [idx_val t, row], GRAD_at]
  blk_simp; rw [after0_4]
  frame_out
  pointwise [k0_pay3, sum_at, blk_p]

theorem final_5 (c : Dev nD) : (dats m 0 c).arrAt 5 (cfgs 0).N = STEP (aW m c) (aP m c) (aM m c) (aV m c) := by
  refine (dats m 0 c).arrAt_eq_of_covers 5 _ (by decide +kernel) fun t hf y => ?_
  idx_vars y
  obtain rfl : y0 = 0 := Subsingleton.elim _ _
  rw [show ((cfg0.win 5).blk t).view.emb (ix3 0 y1 y2) = (ix3 0 (row t y1) y2 : S1x256x2048.Idx) by blk_ext [idx_val t, row]]
  blk_simp; rw [after0_5]
  frame_out
  pointwise [STEP, MOM, SEC, ALL, GRAD_at, k0_pay1, k0_pay8, k0_pay9, pay4_at, pay5_at, sum_at, blk_p, blk_w, blk_m, blk_v]

theorem final_6 (c : Dev nD) : (dats m 0 c).arrAt 6 (cfgs 0).N = MOM (aP m c) (aM m c) := by
  refine (dats m 0 c).arrAt_eq_of_covers 6 _ (by decide +kernel) fun t hf y => ?_
  idx_vars y
  obtain rfl : y0 = 0 := Subsingleton.elim _ _
  rw [show ((cfg0.win 6).blk t).view.emb (ix3 0 y1 y2) = (ix3 0 (row t y1) y2 : S1x256x2048.Idx) by blk_ext [idx_val t, row]]
  blk_simp; rw [after0_6]
  frame_out
  pointwise [MOM, ALL, GRAD_at, k0_pay6, pay4_at, sum_at, blk_p, blk_m]

theorem final_7 (c : Dev nD) : (dats m 0 c).arrAt 7 (cfgs 0).N = SEC (aP m c) (aV m c) := by
  refine (dats m 0 c).arrAt_eq_of_covers 7 _ (by decide +kernel) fun t hf y => ?_
  idx_vars y
  obtain rfl : y0 = 0 := Subsingleton.elim _ _
  rw [show ((cfg0.win 7).blk t).view.emb (ix3 0 y1 y2) = (ix3 0 (row t y1) y2 : S1x256x2048.Idx) by blk_ext [idx_val t, row]]
  blk_simp; rw [after0_7]
  frame_out
  pointwise [SEC, ALL, GRAD_at, k0_pay7, pay5_at, sum_at, blk_p, blk_v]

end Cert.Kernel16Ideal.Value

end
-- ==== Proof.InBwd.lean ====
/- Hand-written, untrusted. The projection's gradient: the reference entry by entry, and what the kernel leaves. -/
module

public import proofs.«01_k».proof.Proof.Gen.Reference15Ideal.Run
public import proofs.«01_k».proof.Proof.Gen.Kernel15Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Reference15Ideal.Value

open Cert.Reference15Ideal Cert.Reference15Ideal.Gen

variable (a0 a1 a2 a3 : FVec Ideal S8192x1024 .bf16) (a4 : FVec Ideal S8192x3072 .bf16) (a5 : FVec Ideal S8192x1024 .bf16)
  (a6 : FVec Ideal S8192x128 .bf16) (w : FVec Ideal S1x2048x8216 .f32)

/-- The pieces of the gradient side by side, in the order of the projection's columns. -/
def IN : FVec Ideal S8192x8216 .bf16 :=
  concatenate S8192x8216 1 [⟨S8192x1024, (a0 : (⟨S8192x1024, .bf16⟩ : BufTy).Contents (Elt Ideal))⟩,
    ⟨S8192x1024, (a1 : (⟨S8192x1024, .bf16⟩ : BufTy).Contents (Elt Ideal))⟩,
    ⟨S8192x1024, (a2 : (⟨S8192x1024, .bf16⟩ : BufTy).Contents (Elt Ideal))⟩,
    ⟨S8192x1024, (a3 : (⟨S8192x1024, .bf16⟩ : BufTy).Contents (Elt Ideal))⟩,
    ⟨S8192x8, (extractStridedSlice S8192x8 ![0, 0] a6 slices_S8192x128_S8192x8_0_0 : (⟨S8192x8, .bf16⟩ : BufTy).Contents (Elt Ideal))⟩,
    ⟨S8192x3072, (a4 : (⟨S8192x3072, .bf16⟩ : BufTy).Contents (Elt Ideal))⟩,
    ⟨S8192x1024, (a5 : (⟨S8192x1024, .bf16⟩ : BufTy).Contents (Elt Ideal))⟩,
    ⟨S8192x16, (extractStridedSlice S8192x16 ![0, 8] a6 slices_S8192x128_S8192x16_0_8 : (⟨S8192x16, .bf16⟩ : BufTy).Contents (Elt Ideal))⟩]
    concatenates_S8192x1024_S8192x1024_S8192x1024_S8192x1024_S8192x8_S8192x3072_S8192x1024_S8192x16_S8192x8216_d1
def OUT : FVec Ideal S8192x2048 .f32 :=
  Host.dotGeneral dot_S8192x8216_S2048x8216_S8192x2048_1_1_0_0_n_n none (extf .f32 (IN a0 a1 a2 a3 a4 a5 a6) bitsLt_bf16_f32)
    (shapeCast S2048x8216 w shapeCasts_S1x2048x8216_S2048x8216)

theorem OUT_at (i : Fin 8192) (j : Fin 2048) :
    OUT a0 a1 a2 a3 a4 a5 a6 w (ix2 i j) = ∑ q : Fin 8216, IN a0 a1 a2 a3 a4 a5 a6 (ix2 i q) * w (ix3 0 j q) := by
  pointwise [OUT]

/-- The pieces' columns, one piece at a time. -/
theorem IN_0 (i : Fin 8192) (q : Fin 8216) (l : Fin 1024) (h : q.val = l.val) :
    IN a0 a1 a2 a3 a4 a5 a6 (ix2 i q) = a0 (ix2 i l) := by
  pointwise [IN]
  rw [dif_pos (by omega)]
  exact congrArg (fun x => a0 (ix2 i x)) (Fin.ext h)
theorem IN_1 (i : Fin 8192) (q : Fin 8216) (l : Fin 1024) (h : q.val = 1024 + l.val) :
    IN a0 a1 a2 a3 a4 a5 a6 (ix2 i q) = a1 (ix2 i l) := by
  pointwise [IN]
  rw [dif_neg (by omega), dif_pos (by omega)]
  exact congrArg (fun x => a1 (ix2 i x)) (Fin.ext (by show q.val - 1024 = l.val; omega))
theorem IN_2 (i : Fin 8192) (q : Fin 8216) (l : Fin 1024) (h : q.val = 2048 + l.val) :
    IN a0 a1 a2 a3 a4 a5 a6 (ix2 i q) = a2 (ix2 i l) := by
  pointwise [IN]
  rw [dif_neg (by omega), dif_neg (by omega), dif_pos (by omega)]
  exact congrArg (fun x => a2 (ix2 i x)) (Fin.ext (by show q.val - 1024 - 1024 = l.val; omega))
theorem IN_3 (i : Fin 8192) (q : Fin 8216) (l : Fin 1024) (h : q.val = 3072 + l.val) :
    IN a0 a1 a2 a3 a4 a5 a6 (ix2 i q) = a3 (ix2 i l) := by
  pointwise [IN]
  rw [dif_neg (by omega), dif_neg (by omega), dif_neg (by omega), dif_pos (by omega)]
  exact congrArg (fun x => a3 (ix2 i x)) (Fin.ext (by show q.val - 1024 - 1024 - 1024 = l.val; omega))
theorem IN_f (i : Fin 8192) (q : Fin 8216) (l : Fin 128) (h : q.val = 4096 + l.val) (hl : l.val < 8) :
    IN a0 a1 a2 a3 a4 a5 a6 (ix2 i q) = a6 (ix2 i l) := by
  pointwise [IN]
  rw [dif_neg (by omega), dif_neg (by omega), dif_neg (by omega), dif_neg (by omega), dif_pos (by omega)]
  exact congrArg (fun x => a6 (ix2 i x)) (Fin.ext (by show q.val - 1024 - 1024 - 1024 - 1024 = l.val; omega))
theorem IN_4 (i : Fin 8192) (q : Fin 8216) (l : Fin 3072) (h : q.val = 4104 + l.val) :
    IN a0 a1 a2 a3 a4 a5 a6 (ix2 i q) = a4 (ix2 i l) := by
  pointwise [IN]
  rw [dif_neg (by omega), dif_neg (by omega), dif_neg (by omega), dif_neg (by omega), dif_neg (by omega), dif_pos (by omega)]
  exact congrArg (fun x => a4 (ix2 i x)) (Fin.ext (by show q.val - 1024 - 1024 - 1024 - 1024 - 8 = l.val; omega))
theorem IN_5 (i : Fin 8192) (q : Fin 8216) (l : Fin 1024) (h : q.val = 7176 + l.val) :
    IN a0 a1 a2 a3 a4 a5 a6 (ix2 i q) = a5 (ix2 i l) := by
  pointwise [IN]
  rw [dif_neg (by omega), dif_neg (by omega), dif_neg (by omega), dif_neg (by omega), dif_neg (by omega), dif_neg (by omega), dif_pos (by omega)]
  exact congrArg (fun x => a5 (ix2 i x)) (Fin.ext (by show q.val - 1024 - 1024 - 1024 - 1024 - 8 - 3072 = l.val; omega))
theorem IN_g (i : Fin 8192) (q : Fin 8216) (l : Fin 128) (h : q.val = 8192 + l.val) (hl : 8 ≤ l.val) :
    IN a0 a1 a2 a3 a4 a5 a6 (ix2 i q) = a6 (ix2 i l) := by
  pointwise [IN]
  have := q.isLt
  rw [dif_neg (by omega), dif_neg (by omega), dif_neg (by omega), dif_neg (by omega), dif_neg (by omega), dif_neg (by omega), dif_neg (by omega)]
  exact congrArg (fun x => a6 (ix2 i x)) (Fin.ext (by
    show 8 + (q.val - 1024 - 1024 - 1024 - 1024 - 8 - 3072 - 1024) = l.val; omega))

end Cert.Reference15Ideal.Value

namespace Cert.InBwd

/-- The projection's column that a column of the eight large pieces has: eight small columns stand after the fourth. -/
def mcol (n : Fin 8192) : Fin 8216 := ⟨if n.val < 4096 then n.val else 4104 + (n.val - 4096), by split <;> omega⟩

theorem mcol_lo (n : Fin 8192) (h : n.val < 4096) : (mcol n).val = n.val := if_pos h
theorem mcol_hi (n : Fin 8192) (h : 4096 ≤ n.val) : (mcol n).val = 8 + n.val :=
  (if_neg (by omega)).trans (by show 4104 + (n.val - 4096) = 8 + n.val; omega)

/-- A sum over the projection's columns, the small ones first. -/
theorem sum_cols (f : Fin 8216 → EReal) :
    ∑ q, f q = (∑ l : Fin 8, f ⟨4096 + l.val, by omega⟩ + ∑ l : Fin 16, f ⟨8200 + l.val, by omega⟩) + ∑ n, f (mcol n) := by
  have e1 : ∑ q, f q = ∑ i : Fin 4096, f ⟨i.val, by omega⟩ + ∑ i : Fin 4120, f ⟨4096 + i.val, by omega⟩ :=
    Fin.sum_univ_add (a := 4096) (b := 4120) f
  have e2 : (∑ i : Fin 4120, f ⟨4096 + i.val, by omega⟩)
      = ∑ i : Fin 8, f ⟨4096 + i.val, by omega⟩ + ∑ i : Fin 4112, f ⟨4096 + (8 + i.val), by omega⟩ :=
    Fin.sum_univ_add (a := 8) (b := 4112) fun i : Fin 4120 => f ⟨4096 + i.val, by omega⟩
  have e3 : (∑ i : Fin 4112, f ⟨4096 + (8 + i.val), by omega⟩)
      = ∑ i : Fin 4096, f ⟨4096 + (8 + i.val), by omega⟩ + ∑ i : Fin 16, f ⟨4096 + (8 + (4096 + i.val)), by omega⟩ :=
    Fin.sum_univ_add (a := 4096) (b := 16) fun i : Fin 4112 => f ⟨4096 + (8 + i.val), by omega⟩
  have e4 : (∑ n, f (mcol n)) = ∑ i : Fin 4096, f (mcol ⟨i.val, by omega⟩) + ∑ i : Fin 4096, f (mcol ⟨4096 + i.val, by omega⟩) :=
    Fin.sum_univ_add (a := 4096) (b := 4096) fun n : Fin 8192 => f (mcol n)
  have u : ∀ i : Fin 4096, mcol ⟨i.val, by omega⟩ = ⟨i.val, by omega⟩ := fun i => Fin.ext (if_pos i.isLt)
  have v : ∀ i : Fin 4096, mcol ⟨4096 + i.val, by omega⟩ = ⟨4096 + (8 + i.val), by omega⟩ := fun i => Fin.ext (by
    refine (if_neg (by show ¬ 4096 + i.val < 4096; omega)).trans ?_
    show 4104 + (4096 + i.val - 4096) = 4096 + (8 + i.val); omega)
  have x : ∀ i : Fin 16, (⟨4096 + (8 + (4096 + i.val)), by omega⟩ : Fin 8216) = ⟨8200 + i.val, by omega⟩ := fun i =>
    Fin.ext (by show 4096 + (8 + (4096 + i.val)) = 8200 + i.val; omega)
  rw [e1, e2, e3, e4]
  simp only [u, v, x]
  abel

end Cert.InBwd

namespace Cert.Kernel15Ideal.Value

open Cert.Kernel15Ideal Cert.Kernel15Ideal.Gen Cert.InBwd
open Cert.Reference15Ideal.Value (IN OUT OUT_at IN_0 IN_1 IN_2 IN_3 IN_4 IN_5 IN_f IN_g)

variable (m : (ℓ : Loc nD τ sig) → Buf (Elt Ideal) ℓ)

/-- The arguments by name. -/
abbrev a0 (c : Dev nD) : FVec Ideal S8192x1024 .bf16 := m ((c : Thread nD τ).loc main_arg0)
abbrev a1 (c : Dev nD) : FVec Ideal S8192x1024 .bf16 := m ((c : Thread nD τ).loc main_arg1)
abbrev a2 (c : Dev nD) : FVec Ideal S8192x1024 .bf16 := m ((c : Thread nD τ).loc main_arg2)
abbrev a3 (c : Dev nD) : FVec Ideal S8192x1024 .bf16 := m ((c : Thread nD τ).loc main_arg3)
abbrev a4 (c : Dev nD) : FVec Ideal S8192x3072 .bf16 := m ((c : Thread nD τ).loc main_arg4)
abbrev a5 (c : Dev nD) : FVec Ideal S8192x1024 .bf16 := m ((c : Thread nD τ).loc main_arg5)
abbrev a6 (c : Dev nD) : FVec Ideal S8192x128 .bf16 := m ((c : Thread nD τ).loc main_arg6)
abbrev aW (c : Dev nD) : FVec Ideal S1x2048x8216 .f32 := m ((c : Thread nD τ).loc main_arg7)
abbrev aIN (c : Dev nD) : FVec Ideal Cert.Reference15Ideal.S8192x8216 .bf16 := IN (a0 m c) (a1 m c) (a2 m c) (a3 m c) (a4 m c) (a5 m c) (a6 m c)

theorem idx_val : ∀ t : Fin cfg0.N, win0_0.index t = ![t.val / 8, 0] ∧ win0_1.index t = ![t.val / 8, 0]
    ∧ win0_2.index t = ![t.val / 8, 0] ∧ win0_3.index t = ![t.val / 8, 0] ∧ win0_4.index t = ![t.val / 8, min (t.val % 8 - 4) 2]
    ∧ win0_5.index t = ![t.val / 8, 0] ∧ win0_6.index t = ![t.val / 8, 0] ∧ win0_7.index t = ![t.val % 8, 0]
    ∧ win0_8.index t = ![0, 0] ∧ win0_9.index t = ![t.val / 8, 0] :=
  (by decide +kernel : ∀ t : Fin grid0.N, _)

theorem lt64 (t : Fin cfg0.N) : t.val < 64 := lt_of_lt_of_eq t.isLt N_0
/-- The array's row that a point's block has at a row of its own, and the large pieces' column. -/
def rowOf (t : Fin cfg0.N) (i : Fin 1024) : Fin 8192 := ⟨t.val / 8 * 1024 + i.val, by have := lt64 t; omega⟩
def kOf (t : Fin cfg0.N) : Fin 8 := ⟨t.val % 8, by omega⟩
def at8 (k : Fin 8) (l : Fin 1024) : Fin 8192 := ⟨k.val * 1024 + l.val, by omega⟩

theorem join8 (g : Fin 8192 → EReal) : (∑ k : Fin 8, ∑ l : Fin 1024, g (at8 k l)) = ∑ n, g n :=
  Fin.sum_mul_add_congr (L := 8192) (S := 8) (n := 1024) (F := fun k l => g (at8 k l)) (f := g)
    (fun k l hl => congrArg g (Fin.ext rfl)) (by norm_num)

/-- The weight's rows as the kernel is handed them: the large pieces', and the small ones' with zeros after them. -/
def WT (w : FVec Ideal S1x2048x8216 .f32) : FVec Ideal S8216x2048 .bf16 :=
  truncf .bf16 (transpose S8216x2048 [1, 0] (shapeCast S2048x8216 w shapeCasts_S1x2048x8216_S2048x8216) transposes_S2048x8216_S8216x2048_1_0)
    bitsLt_bf16_f32
def WMAIN (w : FVec Ideal S1x2048x8216 .f32) : FVec Ideal S8192x2048 .bf16 :=
  concatenate S8192x2048 0 [⟨S4096x2048, extractStridedSlice S4096x2048 ![0, 0] (WT w) slices_S8216x2048_S4096x2048_0_0⟩,
    ⟨S4096x2048, extractStridedSlice S4096x2048 ![4104, 0] (WT w) slices_S8216x2048_S4096x2048_4104_0⟩] concatenates_S4096x2048_S4096x2048_S8192x2048_d0
def WSMALL (w : FVec Ideal S1x2048x8216 .f32) : FVec Ideal S128x2048 .bf16 :=
  concatenate S128x2048 0 [⟨S8x2048, extractStridedSlice S8x2048 ![4096, 0] (WT w) slices_S8216x2048_S8x2048_4096_0⟩,
    ⟨S16x2048, extractStridedSlice S16x2048 ![8200, 0] (WT w) slices_S8216x2048_S16x2048_8200_0⟩,
    ⟨S104x2048, broadcastInDim S104x2048 ![] bcast_S_S104x2048 (constant S_ .bf16 0x0000#16)⟩] concatenates_S8x2048_S16x2048_S104x2048_S128x2048_d0

section Rows
variable (w : FVec Ideal S1x2048x8216 .f32)

theorem WT_at (q : Fin 8216) (j : Fin 2048) : WT w (ix2 q j) = w (ix3 0 j q) := by pointwise [WT]
theorem WMAIN_at (n : Fin 8192) (j : Fin 2048) : WMAIN w (ix2 n j) = w (ix3 0 j (mcol n)) := by
  pointwise [WMAIN, WT_at]
  by_cases h : n.val < 4096
  · rw [dif_pos h]; exact congrArg (fun x => w (ix3 0 j x)) (Fin.ext (if_pos h).symm)
  · rw [dif_neg h]; exact congrArg (fun x => w (ix3 0 j x)) (Fin.ext (if_neg h).symm)
theorem WSMALL_f (l : Fin 8) (j : Fin 2048) : WSMALL w (ix2 (Fin.castAdd 120 l) j) = w (ix3 0 j ⟨4096 + l.val, by omega⟩) := by
  pointwise [WSMALL, WT_at]
  exact dif_pos l.isLt
theorem WSMALL_g (l : Fin 16) (j : Fin 2048) :
    WSMALL w (ix2 (Fin.natAdd 8 (Fin.castAdd 104 l)) j) = w (ix3 0 j ⟨8200 + l.val, by omega⟩) := by
  pointwise [WSMALL, WT_at]
  rw [dif_neg (by show ¬ 8 + l.val < 8; omega), dif_pos (by show 8 + l.val - 8 < 16; omega)]
  exact congrArg (fun x => w (ix3 0 j x)) (Fin.ext (by show 8200 + (8 + l.val - 8) = 8200 + l.val; omega))
theorem WSMALL_0 (l : Fin 104) (j : Fin 2048) : WSMALL w (ix2 (Fin.natAdd 8 (Fin.natAdd 16 l)) j) = 0 := by
  pointwise! [WSMALL]
  rw [dif_neg (by show ¬ 8 + (16 + l.val) < 8; omega), dif_neg (by show ¬ 8 + (16 + l.val) - 8 < 16; omega)]
end Rows

theorem main_value (c : Dev nD) : (V m c main_v5 : FVec Ideal S8192x2048 .bf16) = WMAIN (aW m c) := by
  show StableHlo.after _ _ (Proc.devRef .tc main_v5) = _
  entry_read
  rfl
theorem after_cut (n : ℕ) (l : List (HloOp τ sig (Elt Ideal))) (W : Valuation τ sig (Elt Ideal)) :
    StableHlo.after l W = StableHlo.after (l.drop n) (StableHlo.after (l.take n) W) := by
  induction n generalizing l W with
  | zero => rfl
  | succ n ih => cases l with
    | nil => rfl
    | cons op l => exact ih l _
/-- The valuation before the last host line, and the three arrays that line joins. -/
abbrev W10 (c : Dev nD) : Valuation τ sig (Elt Ideal) := StableHlo.after (hostOps0.take 10) fun b => m (c, b)
theorem W10_6 (c : Dev nD) : (W10 m c (Proc.devRef .tc main_v6) : FVec Ideal S8x2048 .bf16)
    = extractStridedSlice S8x2048 ![4096, 0] (WT (aW m c)) slices_S8216x2048_S8x2048_4096_0 := by
  unfold W10 hostOps0; simp only [List.take_succ_cons, List.take_zero]
  entry_read
  rfl
theorem W10_7 (c : Dev nD) : (W10 m c (Proc.devRef .tc main_v7) : FVec Ideal S16x2048 .bf16)
    = extractStridedSlice S16x2048 ![8200, 0] (WT (aW m c)) slices_S8216x2048_S16x2048_8200_0 := by
  unfold W10 hostOps0; simp only [List.take_succ_cons, List.take_zero]
  entry_read
  rfl
theorem W10_8 (c : Dev nD) : (W10 m c (Proc.devRef .tc main_v8) : FVec Ideal S104x2048 .bf16)
    = (broadcastInDim S104x2048 ![] bcast_S_S104x2048 (constant S_ .bf16 0x0000#16) : FVec Ideal S104x2048 .bf16) := by
  unfold W10 hostOps0; simp only [List.take_succ_cons, List.take_zero]
  entry_read
  rfl
theorem small_value (c : Dev nD) : (V m c main_v9 : FVec Ideal S128x2048 .bf16) = WSMALL (aW m c) := by
  refine Eq.trans (b := (concatenate S128x2048 0 [⟨S8x2048, (W10 m c (Proc.devRef .tc main_v6) : FVec Ideal S8x2048 .bf16)⟩,
    ⟨S16x2048, (W10 m c (Proc.devRef .tc main_v7) : FVec Ideal S16x2048 .bf16)⟩,
    ⟨S104x2048, (W10 m c (Proc.devRef .tc main_v8) : FVec Ideal S104x2048 .bf16)⟩]
    concatenates_S8x2048_S16x2048_S104x2048_S128x2048_d0 : FVec Ideal S128x2048 .bf16)) ?_ ?_
  · have e : (V m c main_v9 : FVec Ideal S128x2048 .bf16) = StableHlo.after (hostOps0.drop 10) (W10 m c) (Proc.devRef .tc main_v9) := by
      show StableHlo.after hostOps0 (fun b => m (c, b)) (Proc.devRef .tc main_v9) = _
      exact congrFun (after_cut 10 hostOps0 _) _
    refine e.trans ?_
    simp only [List.drop_succ_cons, List.drop_zero, StableHlo.after_cons, StableHlo.after_nil]
    refine (StableHlo.nary_result _ _ _ _ _ _).trans ?_
    rfl
  · rw [W10_6, W10_7, W10_8]; rfl

theorem blk_w (c : Dev nD) (t : Fin cfg0.N) (l : Fin 1024) (j : Fin 2048) :
    (iblk m c 7 t : Vec Ideal S1024x2048 .bf16) (ix2 l j) = aW m c (ix3 0 j (mcol (at8 (kOf t) l))) := by
  rw [← WMAIN_at (aW m c), ← main_value]
  blk_point [iblk, idx_val t, at8, kOf]
theorem blk_s (c : Dev nD) (t : Fin cfg0.N) (l : Fin 128) (j : Fin 2048) :
    (iblk m c 8 t : Vec Ideal S128x2048 .bf16) (ix2 l j) = WSMALL (aW m c) (ix2 l j) := by
  rw [← small_value]
  blk_point [iblk, idx_val t]
theorem blk_d (c : Dev nD) (t : Fin cfg0.N) (i : Fin 1024) (l : Fin 128) :
    (iblk m c 6 t : Vec Ideal S1024x128 .bf16) (ix2 i l) = a6 m c (ix2 (rowOf t i) l) := by
  blk_point [iblk, V, idx_val t, rowOf]

/-- The large pieces' blocks, each at the points that read it: columns of the joined array. -/
theorem blk_0 (c : Dev nD) (t : Fin cfg0.N) (h : t.val % 8 = 0) (i l : Fin 1024) :
    (iblk m c 0 t : Vec Ideal S1024x1024 .bf16) (ix2 i l) = aIN m c (ix2 (rowOf t i) (mcol (at8 (kOf t) l))) := by
  refine Eq.trans ?_ (IN_0 _ _ _ _ _ _ _ _ _ l ((mcol_lo (at8 (kOf t) l) (by show t.val % 8 * 1024 + l.val < 4096; omega)).trans
    (by show t.val % 8 * 1024 + l.val = l.val; omega))).symm
  blk_point [iblk, V, idx_val t, rowOf]
theorem blk_1 (c : Dev nD) (t : Fin cfg0.N) (h : t.val % 8 = 1) (i l : Fin 1024) :
    (iblk m c 1 t : Vec Ideal S1024x1024 .bf16) (ix2 i l) = aIN m c (ix2 (rowOf t i) (mcol (at8 (kOf t) l))) := by
  refine Eq.trans ?_ (IN_1 _ _ _ _ _ _ _ _ _ l ((mcol_lo (at8 (kOf t) l) (by show t.val % 8 * 1024 + l.val < 4096; omega)).trans
    (by show t.val % 8 * 1024 + l.val = 1024 + l.val; omega))).symm
  blk_point [iblk, V, idx_val t, rowOf]
theorem blk_2 (c : Dev nD) (t : Fin cfg0.N) (h : t.val % 8 = 2) (i l : Fin 1024) :
    (iblk m c 2 t : Vec Ideal S1024x1024 .bf16) (ix2 i l) = aIN m c (ix2 (rowOf t i) (mcol (at8 (kOf t) l))) := by
  refine Eq.trans ?_ (IN_2 _ _ _ _ _ _ _ _ _ l ((mcol_lo (at8 (kOf t) l) (by show t.val % 8 * 1024 + l.val < 4096; omega)).trans
    (by show t.val % 8 * 1024 + l.val = 2048 + l.val; omega))).symm
  blk_point [iblk, V, idx_val t, rowOf]
theorem blk_3 (c : Dev nD) (t : Fin cfg0.N) (h : t.val % 8 = 3) (i l : Fin 1024) :
    (iblk m c 3 t : Vec Ideal S1024x1024 .bf16) (ix2 i l) = aIN m c (ix2 (rowOf t i) (mcol (at8 (kOf t) l))) := by
  refine Eq.trans ?_ (IN_3 _ _ _ _ _ _ _ _ _ l ((mcol_lo (at8 (kOf t) l) (by show t.val % 8 * 1024 + l.val < 4096; omega)).trans
    (by show t.val % 8 * 1024 + l.val = 3072 + l.val; omega))).symm
  blk_point [iblk, V, idx_val t, rowOf]
theorem blk_4 (c : Dev nD) (t : Fin cfg0.N) (h : 4 ≤ t.val % 8 ∧ t.val % 8 ≤ 6) (i l : Fin 1024) :
    (iblk m c 4 t : Vec Ideal S1024x1024 .bf16) (ix2 i l) = aIN m c (ix2 (rowOf t i) (mcol (at8 (kOf t) l))) := by
  refine Eq.trans ?_ (IN_4 _ _ _ _ _ _ _ _ _ ⟨(t.val % 8 - 4) * 1024 + l.val, by omega⟩ ((mcol_hi (at8 (kOf t) l) (by show 4096 ≤ t.val % 8 * 1024 + l.val; omega)).trans
    (by show 8 + (t.val % 8 * 1024 + l.val) = 4104 + ((t.val % 8 - 4) * 1024 + l.val); omega))).symm
  have e : min (t.val % 8 - 4) 2 = t.val % 8 - 4 := by omega
  blk_point [iblk, V, idx_val t, rowOf, e]
theorem blk_5 (c : Dev nD) (t : Fin cfg0.N) (h : t.val % 8 = 7) (i l : Fin 1024) :
    (iblk m c 5 t : Vec Ideal S1024x1024 .bf16) (ix2 i l) = aIN m c (ix2 (rowOf t i) (mcol (at8 (kOf t) l))) := by
  refine Eq.trans ?_ (IN_5 _ _ _ _ _ _ _ _ _ l ((mcol_hi (at8 (kOf t) l) (by show 4096 ≤ t.val % 8 * 1024 + l.val; omega)).trans
    (by show 8 + (t.val % 8 * 1024 + l.val) = 7176 + l.val; omega))).symm
  blk_point [iblk, V, idx_val t, rowOf]

theorem pay2_at (a : Vec Ideal S1024x128 .bf16) (b : Vec Ideal S128x2048 .bf16) (i : Fin 1024)
    (j : Fin 2048) : k0_pay2 a b (ix2 i j) = ∑ l : Fin 128, a (ix2 i l) * b (ix2 l j) := by
  pointwise [k0_pay2]
theorem pay3_at (s : Vec Ideal S1024x2048 .f32) (a : Vec Ideal S1024x1024 .bf16) (b : Vec Ideal S1024x2048 .bf16) (i : Fin 1024)
    (j : Fin 2048) : k0_pay3 s a b (ix2 i j) = s (ix2 i j) + ∑ l : Fin 1024, a (ix2 i l) * b (ix2 l j) := by
  pointwise [k0_pay3]

/-- A row's product with the small columns, and with the eight large pieces' columns, one piece each. -/
def few (c : Dev nD) (i : Fin 8192) (j : Fin 2048) : EReal := ∑ l : Fin 128, a6 m c (ix2 i l) * WSMALL (aW m c) (ix2 l j)
def big (c : Dev nD) (i : Fin 8192) (k : Fin 8) (j : Fin 2048) : EReal :=
  ∑ l : Fin 1024, aIN m c (ix2 i (mcol (at8 k l))) * aW m c (ix3 0 j (mcol (at8 k l)))
/-- What point `t` adds at an entry of the block: the first of a row of points adds the small columns too. -/
def part (c : Dev nD) (t : Fin cfg0.N) (p : Fin 1024 × Fin 2048) : EReal :=
  (if t.val % 8 = 0 then few m c (rowOf t p.1) p.2 else 0) + big m c (rowOf t p.1) (kOf t) p.2

/-- A later point's addition, whichever piece it reads. -/
theorem add_at (c : Dev nD) (t : Fin cfg0.N) (h0 : ¬ t.val % 8 = 0) (s : Vec Ideal S1024x2048 .f32) (a : Vec Ideal S1024x1024 .bf16)
    (p : Fin 1024 × Fin 2048) (ha : ∀ l, a (ix2 p.1 l) = aIN m c (ix2 (rowOf t p.1) (mcol (at8 (kOf t) l)))) :
    k0_pay3 s a (iblk m c 7 t) (ix2 p.1 p.2) = s (ix2 p.1 p.2) + part m c t p := by
  refine (pay3_at _ _ _ p.1 p.2).trans ?_
  simp only [ha, blk_w, part, big, if_neg h0, zero_add]

theorem scr_last (c : Dev nD) (t : Fin cfg0.N) (h : t.val % 8 = 7) (p : Fin 1024 × Fin 2048) :
    outsAt0 m c t.val t.isLt (ix2 p.1 p.2)
      = 0 + ∑ s : Fin 8, part m c ⟨8 * (t.val / 8) + s.val, by have := t.isLt; omega⟩ p :=
  Pipeline.eq_sum_fin_of_reset_step_apply_of_flush (fun n h (p : Fin 1024 × Fin 2048) => outsAt0 m c n h (ix2 p.1 p.2)) 8
    (fun _ => 0) (part m c)
    (fun t h p => by
      rw [outsAt0_A m c t h h (by omega) (by omega) (by omega) (by omega) (by omega)]; frame_out
      refine (pay3_at _ _ _ p.1 p.2).trans ?_
      rw [pay2_at]
      simp only [blk_0 m c t h, blk_w, blk_d, blk_s, part, few, big, if_pos h, zero_add])
    (fun t h p => by
      by_cases h1 : t.val % 8 = 1
      · rw [outsAt0_B m c t h h h1 (by omega) (by omega) (by omega) (by omega)]; frame_out
        exact add_at m c t h _ _ p fun l => blk_1 m c t h1 _ l
      by_cases h2 : t.val % 8 = 2
      · rw [outsAt0_C m c t h h h1 h2 (by omega) (by omega) (by omega)]; frame_out
        exact add_at m c t h _ _ p fun l => blk_2 m c t h2 _ l
      by_cases h3 : t.val % 8 = 3
      · rw [outsAt0_D m c t h h h1 h2 h3 (by omega) (by omega)]; frame_out
        exact add_at m c t h _ _ p fun l => blk_3 m c t h3 _ l
      by_cases h4 : t.val % 8 = 7
      · rw [outsAt0_F m c t h h h1 h2 h3 (by omega) h4]; frame_out
        exact add_at m c t h _ _ p fun l => blk_5 m c t h4 _ l
      · have h5 : 4 ≤ t.val % 8 ∧ t.val % 8 ≤ 6 := by omega
        rw [outsAt0_E m c t h h h1 h2 h3 h5 h4]; frame_out
        exact add_at m c t h _ _ p fun l => blk_4 m c t h5 _ l) t h p

/-- The small columns' product: eight and sixteen columns of the projection, and zeros. -/
theorem few_eq (c : Dev nD) (i : Fin 8192) (j : Fin 2048) : few m c i j
    = ∑ l : Fin 8, aIN m c (ix2 i ⟨4096 + l.val, by omega⟩) * aW m c (ix3 0 j ⟨4096 + l.val, by omega⟩)
      + ∑ l : Fin 16, aIN m c (ix2 i ⟨8200 + l.val, by omega⟩) * aW m c (ix3 0 j ⟨8200 + l.val, by omega⟩) := by
  unfold few
  refine (Fin.sum_univ_add (a := 8) (b := 120) _).trans (congrArg₂ (· + ·) (Finset.sum_congr rfl fun l _ => ?_) ?_)
  · rw [WSMALL_f]
    exact congrArg (· * _) (IN_f _ _ _ _ _ _ _ i ⟨4096 + l.val, by omega⟩ (Fin.castAdd 120 l) rfl l.isLt).symm
  · refine (Fin.sum_univ_add (a := 16) (b := 104) _).trans ?_
    simp only [WSMALL_0, mul_zero, Finset.sum_const_zero, add_zero]
    refine Finset.sum_congr rfl fun l _ => ?_
    rw [WSMALL_g]
    exact congrArg (· * _) (IN_g _ _ _ _ _ _ _ i ⟨8200 + l.val, by omega⟩ (Fin.natAdd 8 (Fin.castAdd 104 l))
      (by show 8200 + l.val = 8192 + (8 + l.val); omega) (by show 8 ≤ 8 + l.val; omega)).symm

/-- The gradient, whole. -/
theorem final_9 (c : Dev nD) : (dats m 0 c).arrAt 9 (cfgs 0).N
    = OUT (a0 m c) (a1 m c) (a2 m c) (a3 m c) (a4 m c) (a5 m c) (a6 m c) (aW m c) := by
  refine (dats m 0 c).arrAt_eq_of_covers 9 _ (by decide +kernel) fun t hf y => ?_
  have h1 : t.val % 8 = 7 := (flush0_9 t).mp hf
  idx_vars y
  rw [show ((cfg0.win 9).blk t).view.emb (ix2 y0 y1) = (ix2 (rowOf t y0) y1 : S8192x2048.Idx) by blk_ext [idx_val t, rowOf], OUT_at]
  blk_simp; rw [after0_9]
  refine (scr_last m c t h1 (y0, y1)).trans ?_
  rw [zero_add]
  have er : ∀ s : Fin 8, rowOf ⟨8 * (t.val / 8) + s.val, lt_of_lt_of_eq (by have := lt64 t; omega : _ < 64) N_0.symm⟩ y0 = rowOf t y0 := fun s => Fin.ext (by
    show (8 * (t.val / 8) + s.val) / 8 * 1024 + y0.val = t.val / 8 * 1024 + y0.val; omega)
  have ek : ∀ s : Fin 8, kOf ⟨8 * (t.val / 8) + s.val, lt_of_lt_of_eq (by have := lt64 t; omega : _ < 64) N_0.symm⟩ = s := fun s => Fin.ext (by
    show (8 * (t.val / 8) + s.val) % 8 = s.val; omega)
  have ez : ∀ s : Fin 8, ((8 * (t.val / 8) + s.val) % 8 = 0) = (s = 0) := fun s => propext
    ⟨fun h => Fin.ext (by show s.val = 0; omega), fun h => by subst h; show (8 * (t.val / 8) + 0) % 8 = 0; omega⟩
  simp only [part, er, ek, ez, Finset.sum_add_distrib, Finset.sum_ite_eq', Finset.mem_univ, if_true]
  rw [few_eq, sum_cols fun q => aIN m c (ix2 (rowOf t y0) q) * aW m c (ix3 0 y1 q)]
  have e8 : ∑ x, big m c (rowOf t y0) x y1 = ∑ n, aIN m c (ix2 (rowOf t y0) (mcol n)) * aW m c (ix3 0 y1 (mcol n)) :=
    join8 fun n => aIN m c (ix2 (rowOf t y0) (mcol n)) * aW m c (ix3 0 y1 (mcol n))
  rw [e8]

end Cert.Kernel15Ideal.Value

end
-- ==== Proof.MatTn.lean ====
/- Hand-written, untrusted. A weight gradient as a plain product: the reference entry by entry, and what the kernel leaves. -/
module

public import proofs.«01_k».proof.Proof.Gen.Reference13Ideal.Run
public import proofs.«01_k».proof.Proof.Gen.Kernel13Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Reference13Ideal.Value

open Cert.Reference13Ideal Cert.Reference13Ideal.Gen

variable (a b : FVec Ideal S8192x2048 .bf16)

def OUT : FVec Ideal S2048x2048 .bf16 :=
  truncf .bf16 (transpose S2048x2048 [1, 0] (Host.dotGeneral dot_S8192x2048_S8192x2048_S2048x2048_0_0_1_1_n_n none
    (extf .f32 b bitsLt_bf16_f32) (extf .f32 a bitsLt_bf16_f32)) transposes_S2048x2048_S2048x2048_1_0) bitsLt_bf16_f32

theorem OUT_at (i j : Fin 2048) : OUT a b (ix2 i j) = ∑ l : Fin 8192, a (ix2 l i) * b (ix2 l j) := by
  have e : OUT a b (ix2 i j) = ∑ l : Fin 8192, b (ix2 l j) * a (ix2 l i) := by pointwise [OUT]
  rw [e]
  exact Finset.sum_congr rfl fun l _ => mul_comm (G := EReal) _ _

end Cert.Reference13Ideal.Value

namespace Cert.Kernel13Ideal.Value

open Cert.Kernel13Ideal Cert.Kernel13Ideal.Gen
open Cert.Reference13Ideal.Value (OUT OUT_at)

variable (m : (ℓ : Loc nD τ sig) → Buf (Elt Ideal) ℓ)

/-- The arguments by name. -/
abbrev aA (c : Dev nD) : FVec Ideal S8192x2048 .bf16 := m ((c : Thread nD τ).loc main_arg0)
abbrev aB (c : Dev nD) : FVec Ideal S8192x2048 .bf16 := m ((c : Thread nD τ).loc main_arg1)

theorem idx_val : ∀ t : Fin cfg0.N, win0_0.index t = ![t.val % 4, t.val / 4] ∧ win0_1.index t = ![t.val % 4, 0]
    ∧ win0_2.index t = ![t.val / 4, 0] :=
  (by decide +kernel : ∀ t : Fin grid0.N, _)

theorem lt8 (t : Fin cfg0.N) : t.val < 8 := lt_of_lt_of_eq t.isLt N_0
/-- The row of the arguments that row `l` of the blocks at `t` is, and the column of the first that column `i` is. -/
def rowOf (t : Fin cfg0.N) (l : Fin 2048) : Fin 8192 := ⟨t.val % 4 * 2048 + l.val, by omega⟩
def colOf (t : Fin cfg0.N) (i : Fin 1024) : Fin 2048 := ⟨t.val / 4 * 1024 + i.val, by have := lt8 t; omega⟩

theorem blk_a (c : Dev nD) (t : Fin cfg0.N) (l : Fin 2048) (i : Fin 1024) :
    (iblk m c 0 t : Vec Ideal S2048x1024 .bf16) (ix2 l i) = aA m c (ix2 (rowOf t l) (colOf t i)) := by
  blk_point [iblk, V, idx_val t, rowOf, colOf]
theorem blk_b (c : Dev nD) (t : Fin cfg0.N) (l j : Fin 2048) :
    (iblk m c 1 t : Vec Ideal S2048x2048 .bf16) (ix2 l j) = aB m c (ix2 (rowOf t l) j) := by
  blk_point [iblk, V, idx_val t, rowOf]

theorem pay1_at (y : S1024x2048.Idx) : k0_pay1 (F := Ideal) y = 0 := by pointwise! [k0_pay1]
theorem pay2_at (s : Vec Ideal S1024x2048 .f32) (a : Vec Ideal S2048x1024 .bf16) (b : Vec Ideal S2048x2048 .bf16) (i : Fin 1024)
    (j : Fin 2048) : k0_pay2 s a b (ix2 i j) = s (ix2 i j) + ∑ l : Fin 2048, a (ix2 l i) * b (ix2 l j) := by
  pointwise [k0_pay2]
theorem pay3_at (s : Vec Ideal S1024x2048 .f32) (y : S1024x2048.Idx) : k0_pay3 s y = s y := by pointwise [k0_pay3]

/-- What point `t` adds at an entry of the block. -/
def part (c : Dev nD) (t : Fin cfg0.N) (p : Fin 1024 × Fin 2048) : EReal :=
  ∑ l : Fin 2048, aA m c (ix2 (rowOf t l) (colOf t p.1)) * aB m c (ix2 (rowOf t l) p.2)

theorem add_at (c : Dev nD) (t : Fin cfg0.N) (s : Vec Ideal S1024x2048 .f32) (p : Fin 1024 × Fin 2048) :
    k0_pay2 s (iblk m c 0 t) (iblk m c 1 t) (ix2 p.1 p.2) = s (ix2 p.1 p.2) + part m c t p := by
  refine (pay2_at _ _ _ p.1 p.2).trans ?_
  simp only [blk_a, blk_b, part]

theorem scr_last (c : Dev nD) (t : Fin cfg0.N) (h : t.val % 4 = 3) (p : Fin 1024 × Fin 2048) :
    (outsAt0 m c t.val t.isLt).2 (ix2 p.1 p.2)
      = 0 + ∑ s : Fin 4, part m c ⟨4 * (t.val / 4) + s.val, by have := t.isLt; omega⟩ p :=
  Pipeline.eq_sum_fin_of_reset_step_apply_of_flush (fun n h (p : Fin 1024 × Fin 2048) => (outsAt0 m c n h).2 (ix2 p.1 p.2)) 4
    (fun _ => 0) (part m c)
    (fun t h p => by
      rw [outsAt0_A m c t h (by omega)]; frame_out
      refine (add_at m c t _ p).trans ?_
      rw [pay1_at])
    (fun t h p => by
      by_cases h1 : t.val % 4 = 3
      · rw [outsAt0_C m c t h h1]; frame_out; exact (add_at m c t _ p).trans (congrArg (· + part m c t p) (congrFun (Memref.IsWhole.read_unread _ _) _))
      · rw [outsAt0_B m c t h h1]; frame_out; exact (add_at m c t _ p).trans (congrArg (· + part m c t p) (congrFun (Memref.IsWhole.read_unread _ _) _))) t h p

/-- The weight gradient, whole. -/
theorem final_2 (c : Dev nD) : (dats m 0 c).arrAt 2 (cfgs 0).N = OUT (aA m c) (aB m c) := by
  refine (dats m 0 c).arrAt_eq_of_covers 2 _ (by decide +kernel) fun t hf y => ?_
  have h1 : t.val % 4 = 3 := (flush0_2 t).mp hf
  idx_vars y
  rw [show ((cfg0.win 2).blk t).view.emb (ix2 y0 y1) = (ix2 (colOf t y0) y1 : S2048x2048.Idx) by blk_ext [idx_val t, colOf], OUT_at]
  blk_simp; rw [after0_2]
  have e : (outsAt0 m c t.val t.isLt).1 (ix2 y0 y1) = (outsAt0 m c t.val t.isLt).2 (ix2 y0 y1) := by
    rw [outsAt0_C m c t (by omega) h1]; frame_out; exact pay3_at _ _
  refine e.trans ((scr_last m c t h1 (y0, y1)).trans ?_)
  rw [zero_add]
  refine Fin.sum_mul_add_congr fun p s hl => ?_
  refine congrArg₂ (· * ·) (congrArg (aA m c) ?_) (congrArg (aB m c) ?_)
  all_goals
    funext a; apply Fin.ext
    match a with
    | ⟨0, _⟩ => show (4 * (t.val / 4) + p.val) % 4 * 2048 + s.val = p.val * 2048 + s.val; omega
    | ⟨1, _⟩ => first | rfl | (show (4 * (t.val / 4) + p.val) / 4 * 1024 + y0.val = t.val / 4 * 1024 + y0.val; omega)

end Cert.Kernel13Ideal.Value

end
-- ==== Proof.ModShard.lean ====
/- Hand-written, untrusted. The modulation: the reference entry by entry, and what the kernel leaves. -/
module

public import proofs.«01_k».proof.Proof.Mix
public import proofs.«01_k».proof.Proof.Gen.Reference11Ideal.Run
public import proofs.«01_k».proof.Proof.Gen.Kernel11Ideal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.ModShard

/-- One entry of the modulation: the row gated by itself, times a column, and the offset. -/
def ent (c w : Fin 2048 → EReal) (b : EReal) : EReal := ∑ k, c k * Cert.Mix.sg (c k) * w k + b

end Cert.ModShard

namespace Cert.Reference11Ideal.Value

open Cert.Reference11Ideal Cert.Reference11Ideal.Gen Cert.Mix Cert.ModShard

variable (c : FVec Ideal S8x2048 .f32) (w : FVec Ideal S1x2048x768 .f32) (b : FVec Ideal S1x768 .f32)

def ACT : FVec Ideal S8x2048 .f32 :=
  mulf c (Host.divf (broadcastInDim S8x2048 ![] bcast_S_S8x2048 (constant S_ .f32 0x3F800000#32))
    (addf (broadcastInDim S8x2048 ![] bcast_S_S8x2048 (constant S_ .f32 0x3F800000#32)) (Host.exp (Host.negf c))))
def OUT : FVec Ideal S8x768 .f32 :=
  addf (Host.dotGeneral dot_S8x2048_S2048x768_S8x768_1_0_0_1_n_n none (ACT c)
      (shapeCast S2048x768 w shapeCasts_S1x2048x768_S2048x768))
    (broadcastInDim S8x768 ![0, 1] bcast_S1x768_S8x768_0_1
      (broadcastInDim S1x768 ![1] bcast_S768_S1x768_1 (shapeCast S768 b shapeCasts_S1x768_S768)))

theorem ACT_at (i : Fin 8) (k : Fin 2048) : ACT c (ix2 i k) = c (ix2 i k) * sg (c (ix2 i k)) := by
  pointwise [ACT, sg]
theorem OUT_at (i : Fin 8) (k : Fin 768) :
    OUT c w b (ix2 i k) = ent (fun l => c (ix2 i l)) (fun l => w (ix3 0 l k)) (b (ix2 0 k)) := by
  pointwise [OUT, ACT_at, ent]

end Cert.Reference11Ideal.Value

namespace Cert.Kernel11Ideal.Value

open Cert.Kernel11Ideal Cert.Kernel11Ideal.Gen Cert.Mix Cert.ModShard
open Cert.Reference11Ideal.Value (OUT OUT_at)

variable (m : (ℓ : Loc nD τ sig) → Buf (Elt Ideal) ℓ)

/-- The arguments by name. -/
abbrev aC (c : Dev nD) : FVec Ideal S8x2048 .f32 := m ((c : Thread nD τ).loc main_arg0)
abbrev aW (c : Dev nD) : FVec Ideal S1x2048x768 .f32 := m ((c : Thread nD τ).loc main_arg1)
abbrev aB (c : Dev nD) : FVec Ideal S1x768 .f32 := m ((c : Thread nD τ).loc main_arg2)

theorem idx_val : ∀ t : Fin cfg0.N, win0_0.index t = ![0, 0] ∧ win0_1.index t = ![0, 0] ∧ win0_2.index t = ![0, 0]
    ∧ win0_3.index t = ![0, 0] :=
  (by decide +kernel : ∀ t : Fin grid0.N, _)

theorem blk_c (c : Dev nD) (t : Fin cfg0.N) (i : Fin 8) (k : Fin 2048) :
    (iblk m c 0 t : Vec Ideal S8x2048 .f32) (ix2 i k) = aC m c (ix2 i k) := by
  blk_point [iblk, V, idx_val t]
theorem blk_w (c : Dev nD) (t : Fin cfg0.N) (l : Fin 2048) (k : Fin 768) :
    (iblk m c 1 t : Vec Ideal S2048x768 .f32) (ix2 l k) = aW m c (ix3 0 l k) := by
  blk_simp [iblk, idx_val t]; entry_read; pointwise; blk_ext [idx_val t]
theorem blk_b (c : Dev nD) (t : Fin cfg0.N) (i : Fin 1) (k : Fin 768) :
    (iblk m c 2 t : Vec Ideal S1x768 .f32) (ix2 i k) = aB m c (ix2 0 k) := by
  blk_point [iblk, V, idx_val t]

theorem pay1_at (v : Vec Ideal S8x2048 .f32) (w : Vec Ideal S2048x768 .f32) (b : Vec Ideal S1x768 .f32) (i : Fin 8) (k : Fin 768) :
    k0_pay1 v w b (ix2 i k) = ent (fun l => v (ix2 i l)) (fun l => w (ix2 l k)) (b (ix2 0 k)) := by
  pointwise [k0_pay1, ent, sg]
  simp only [zero_sub]

/-- The modulation, whole. -/
theorem final_3 (c : Dev nD) : (dats m 0 c).arrAt 3 (cfgs 0).N = OUT (aC m c) (aW m c) (aB m c) := by
  refine (dats m 0 c).arrAt_eq_of_covers 3 _ (by decide +kernel) fun t hf y => ?_
  idx_vars y
  rw [show ((cfg0.win 3).blk t).view.emb (ix2 y0 y1) = (ix2 y0 y1 : S8x768.Idx) by blk_ext [idx_val t], OUT_at]
  blk_simp; rw [after0_3]
  frame_out
  refine (pay1_at _ _ _ y0 y1).trans ?_
  simp only [blk_c, blk_w, blk_b]

end Cert.Kernel11Ideal.Value

end
-- ==== Proof.AdalnRef.lean ====
/- Hand-written, untrusted. The reference of the adaptive norm's gradient, read at coordinates. -/
module

public import proofs.«01_k».proof.Proof.Gen.ReferenceIdeal.Run
public import proofs.«01_k».proof.Proof.RowNorm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.AdalnRef

open Cert.ReferenceIdeal Cert.ReferenceIdeal.Gen Cert.RowNorm

/-- The words of 2048 and of the guard, as the programs spell them. -/
abbrev wN : EReal := Ideal.ofBits .f32 0x45000000#32
abbrev wE : EReal := Ideal.ofBits .f32 0x358637BD#32

variable (dh dy : FVec Ideal S8192x2048 .f32) (x : FVec Ideal S1x8192x2048 .f32) (g sc : FVec Ideal S1x2048 .f32)

/-- Row `i` of the batch's only element. -/
def row (i : Fin 8192) (k : Fin 2048) : EReal := x (ix3 0 i k)

/-- The gradient that reaches the normalised row, gains applied. -/
def cot (i : Fin 8192) (k : Fin 2048) : EReal := dh (ix2 i k) * (1 + sc (ix2 0 k)) * g (ix2 0 k)

def X : FVec Ideal S8192x2048 .f32 := shapeCast S8192x2048 x shapeCasts_S1x8192x2048_S8192x2048
def DH : FVec Ideal S8192x2048 .f32 := shapeCast S8192x2048 dh shapeCasts_S8192x2048_S8192x2048
def MSQ : FVec Ideal S8192x1 .f32 :=
  addf (Host.divf (broadcastInDim S8192x1 ![0] bcast_S8192_S8192x1_0
      (Host.reduceAdd (mulf (X x) (X x)) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32))
def XN : FVec Ideal S8192x2048 .f32 :=
  mulf (X x) (broadcastInDim S8192x2048 ![0, 1] bcast_S8192x1_S8192x2048_0_1 (Host.rsqrt (MSQ x)))
def DXN : FVec Ideal S8192x2048 .f32 :=
  mulf (DH dh) (broadcastInDim S8192x2048 ![0, 1] bcast_S1x2048_S8192x2048_0_1
    (addf (broadcastInDim S1x2048 ![] bcast_S_S1x2048 (constant S_ .f32 0x3F800000#32)) sc))
def GAIN : FVec Ideal S8192x2048 .f32 :=
  broadcastInDim S8192x2048 ![0, 1] bcast_S1x2048_S8192x2048_0_1
    (broadcastInDim S1x2048 ![1] bcast_S2048_S1x2048_1 (shapeCast S2048 g shapeCasts_S1x2048_S2048))
def PULL : FVec Ideal S8192x2048 .f32 :=
  broadcastInDim S8192x2048 ![0] bcast_S8192_S8192x2048_0
    (Host.reduceAdd (Host.divf
        (mulf (shapeCast S8192x1 (Host.reduceAdd (mulf (X x) (mulf (DXN dh sc) (GAIN g))) (constant S_ .f32 0x00000000#32)
              reducesTo_S8192x2048_S8192_d1 h_S_) shapeCasts_S8192_S8192x1)
          (mulf (broadcastInDim S8192x1 ![] bcast_S_S8192x1 (constant S_ .f32 0xBF000000#32))
            (Host.divf (Host.rsqrt (MSQ x)) (MSQ x))))
        (broadcastInDim S8192x1 ![] bcast_S_S8192x1 (constant S_ .f32 0x45000000#32)))
      (constant S_ .f32 0x00000000#32) reducesTo_S8192x1_S8192_d1 h_S_)
def DX : FVec Ideal S8192x2048 .f32 :=
  shapeCast S8192x2048 (broadcastInDim S1x8192x2048 ![1, 2] bcast_S8192x2048_S1x8192x2048_1_2
    (addf (addf (addf dy (mulf (mulf (DXN dh sc) (GAIN g))
        (broadcastInDim S8192x2048 ![0, 1] bcast_S8192x1_S8192x2048_0_1 (Host.rsqrt (MSQ x)))))
      (mulf (X x) (PULL dh x g sc))) (mulf (PULL dh x g sc) (X x)))) shapeCasts_S1x8192x2048_S8192x2048
def DSHIFT : FVec Ideal S1x2048 .f32 :=
  shapeCast S1x2048 (Host.reduceAdd dh (constant S_ .f32 0x00000000#32) reducesTo_S8192x2048_S2048_d0 h_S_) shapeCasts_S2048_S1x2048
def DSCALE : FVec Ideal S1x2048 .f32 :=
  shapeCast S1x2048 (Host.reduceAdd (mulf (mulf (XN x) (GAIN g)) (DH dh)) (constant S_ .f32 0x00000000#32)
    reducesTo_S8192x2048_S2048_d0 h_S_) shapeCasts_S2048_S1x2048
def DGAIN : FVec Ideal S1x2048 .f32 :=
  broadcastInDim S1x2048 ![1] bcast_S2048_S1x2048_1 (Host.reduceAdd (shapeCast S1x2048 (Host.reduceAdd (mulf (XN x) (DXN dh sc))
    (constant S_ .f32 0x00000000#32) reducesTo_S8192x2048_S2048_d0 h_S_) shapeCasts_S2048_S1x2048) (constant S_ .f32 0x00000000#32)
    reducesTo_S1x2048_S2048_d0 h_S_)

theorem X_at (i : Fin 8192) (k : Fin 2048) : X x (ix2 i k) = row x i k := by
  pointwise [X, row]

theorem MSQ_at (i : Fin 8192) (z : Fin 1) : MSQ x (ix2 i z) = msq wN wE (row x i) := by
  pointwise [MSQ, msq, X_at]

theorem DXN_at (i : Fin 8192) (k : Fin 2048) : DXN dh sc (ix2 i k) = dh (ix2 i k) * (1 + sc (ix2 0 k)) := by
  pointwise [DXN, DH]

theorem GAIN_at (i : Fin 8192) (k : Fin 2048) : GAIN g (ix2 i k) = g (ix2 0 k) := by
  pointwise [GAIN]

theorem PULL_at (i : Fin 8192) (k : Fin 2048) :
    PULL dh x g sc (ix2 i k) = pull wN wE (Ideal.ofBits .f32 0xBF000000#32) (row x i) (cot dh g sc i) := by
  pointwise [PULL, X_at, DXN_at, GAIN_at, MSQ_at, pull, rrms, cot]
  simp [wN]

theorem XN_at (i : Fin 8192) (k : Fin 2048) : XN x (ix2 i k) = row x i k * rrms wN wE (row x i) := by
  pointwise [XN, X_at, MSQ_at, rrms]

/-- The gradient of the rows. -/
theorem DX_at (i : Fin 8192) (k : Fin 2048) : DX dh dy x g sc (ix2 i k)
    = dy (ix2 i k) + cot dh g sc i k * rrms wN wE (row x i)
      + row x i k * pull wN wE (Ideal.ofBits .f32 0xBF000000#32) (row x i) (cot dh g sc i)
      + pull wN wE (Ideal.ofBits .f32 0xBF000000#32) (row x i) (cot dh g sc i) * row x i k := by
  pointwise [DX, X_at, DXN_at, GAIN_at, MSQ_at, PULL_at, rrms, cot]

theorem DSHIFT_at (z : Fin 1) (k : Fin 2048) : DSHIFT dh (ix2 z k) = ∑ i : Fin 8192, dh (ix2 i k) := by
  pointwise [DSHIFT]

theorem DSCALE_at (z : Fin 1) (k : Fin 2048) : DSCALE dh x g (ix2 z k)
    = ∑ i : Fin 8192, row x i k * rrms wN wE (row x i) * g (ix2 0 k) * dh (ix2 i k) := by
  pointwise [DSCALE, XN_at, GAIN_at, DH]

theorem DGAIN_at (z : Fin 1) (k : Fin 2048) : DGAIN dh x sc (ix2 z k)
    = ∑ i : Fin 8192, row x i k * rrms wN wE (row x i) * (dh (ix2 i k) * (1 + sc (ix2 0 k))) := by
  pointwise [DGAIN, XN_at, DXN_at]
  simp

section
variable (m : (ℓ : Loc nD τ sig) → Buf (Elt Ideal) ℓ) (c : Dev nD)

/-- What the run leaves in the four results, in the terms above. -/
theorem DX_eq : Value.res_main_v55 m c = DX (m ((c.tc : Thread nD τ).loc main_arg0)) (m ((c.tc : Thread nD τ).loc main_arg2))
    (m ((c.tc : Thread nD τ).loc main_arg1)) (m ((c.tc : Thread nD τ).loc main_arg3)) (m ((c.tc : Thread nD τ).loc main_arg4)) := rfl
end

end Cert.AdalnRef

end
-- ==== Proof.Adaln.lean ====
/- Hand-written, untrusted. The gradient of the adaptive norm: what the kernel leaves in its four outputs. -/
module

public import proofs.«01_k».proof.Proof.Gen.KernelIdeal.Value
public import proofs.«01_k».proof.Proof.AdalnRef
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen Cert.AdalnRef Cert.RowNorm

variable (m : (ℓ : Loc nD τ sig) → Buf (Elt Ideal) ℓ)

/-- The arguments by name. -/
abbrev aDh (c : Dev nD) : FVec Ideal S8192x2048 .f32 := m ((c : Thread nD τ).loc main_arg0)
abbrev aX (c : Dev nD) : FVec Ideal S1x8192x2048 .f32 := m ((c : Thread nD τ).loc main_arg1)
abbrev aDy (c : Dev nD) : FVec Ideal S8192x2048 .f32 := m ((c : Thread nD τ).loc main_arg2)
abbrev aG (c : Dev nD) : FVec Ideal S1x2048 .f32 := m ((c : Thread nD τ).loc main_arg3)
abbrev aSc (c : Dev nD) : FVec Ideal S1x2048 .f32 := m ((c : Thread nD τ).loc main_arg4)

theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![0, 0]
    ∧ win0_7.index t = ![0, 0]
    ∧ win0_8.index t = ![0, 0] :=
  (by decide +kernel : ∀ t : Fin grid0.N, _)

/-- The row of the whole array that row `i` of the block at point `t` is. -/
def rw512 (t : Fin cfg0.N) (i : Fin 512) : Fin 8192 := ⟨t.val * 512 + i.val, by have := t.isLt; have : cfg0.N = 16 := N_0; omega⟩

theorem blk_dh (c : Dev nD) (t : Fin cfg0.N) (i : Fin 512) (k : Fin 2048) :
    (iblk m c 0 t : Vec Ideal S512x2048 .f32) (ix2 i k) = aDh m c (ix2 (rw512 t i) k) := by
  blk_point [iblk, V, idx_val t, rw512]
theorem blk_dy (c : Dev nD) (t : Fin cfg0.N) (i : Fin 512) (k : Fin 2048) :
    (iblk m c 2 t : Vec Ideal S512x2048 .f32) (ix2 i k) = aDy m c (ix2 (rw512 t i) k) := by
  blk_point [iblk, V, idx_val t, rw512]
theorem blk_g (c : Dev nD) (t : Fin cfg0.N) (i : Fin 1) (k : Fin 2048) :
    (iblk m c 3 t : Vec Ideal S1x2048 .f32) (ix2 i k) = aG m c (ix2 0 k) := by
  blk_point [iblk, V, idx_val t]
theorem blk_x (c : Dev nD) (t : Fin cfg0.N) (i : Fin 512) (k : Fin 2048) :
    (iblk m c 1 t : Vec Ideal S512x2048 .f32) (ix2 i k) = row (aX m c) (rw512 t i) k := by
  blk_simp [iblk, idx_val t]; entry_read; pointwise; blk_ext [idx_val t, rw512, row]
theorem blk_sc (c : Dev nD) (t : Fin cfg0.N) (i : Fin 1) (k : Fin 2048) :
    (iblk m c 4 t : Vec Ideal S1x2048 .f32) (ix2 i k) = 1 + aSc m c (ix2 0 k) := by
  blk_simp [iblk, idx_val t]; entry_read; pointwise
  refine congrArg (1 + ·) (congrArg (aSc m c) ?_)
  blk_ext [idx_val t]

/-- One block of rows: the payload is the hand-written gradient of each row plus the residual part. -/
theorem pay_dx (v3 v4 v55 : Vec Ideal S512x2048 .f32) (v16 v32 : Vec Ideal S1x2048 .f32) (i : Fin 512) (k : Fin 2048) :
    k0_pay3 v3 (k0_pay8 v4) (k0_pay9 v4) v16 v32 v55 (ix2 i k)
      = byHand wN wE (fun k => v4 (ix2 i k)) (fun k => v3 (ix2 i k) * v32 (ix2 0 k) * v16 (ix2 0 k)) k + v55 (ix2 i k) := by
  pointwise [k0_pay3, k0_pay1, k0_pay7, k0_pay8, k0_pay9, byHand, msq, rrms]

/-- What the precondition says of the entries. -/
structure Real (c : Dev nD) : Prop where
  dh : ∀ j, Fin' (aDh m c j)
  x : ∀ j, Fin' (aX m c j)
  g : ∀ j, Fin' (aG m c j)
  sc : ∀ j, Fin' (aSc m c j)

theorem cot_real {c : Dev nD} (H : Real m c) (i : Fin 8192) (k : Fin 2048) : Fin' (cot (aDh m c) (aG m c) (aSc m c) i k) := by
  obtain ⟨a, ha⟩ := H.dh (ix2 i k)
  obtain ⟨b, hb⟩ := H.g (ix2 0 k)
  obtain ⟨d, hd⟩ := H.sc (ix2 0 k)
  exact ⟨a * (1 + d) * b, by simp only [cot, ha, hb, hd]; norm_cast⟩

/-- A point of the rows' gradient against the reference's. -/
theorem point_dx (c : Dev nD) (H : Real m c) (t : Fin cfg0.N) (y : S512x2048.Idx) :
    k0_pay3 (iblk m c 0 t) (k0_pay8 (iblk m c 1 t)) (k0_pay9 (iblk m c 1 t)) (iblk m c 3 t) (iblk m c 4 t) (iblk m c 2 t) y
      = DX (aDh m c) (aDy m c) (aX m c) (aG m c) (aSc m c) (((cfg0.win 5).blk t).view.emb y) := by
  idx_vars y
  have e : ((cfg0.win 5).blk t).view.emb (ix2 y0 y1) = (ix2 (rw512 t y0) y1 : S8192x2048.Idx) := by
    blk_ext [idx_val t, rw512]
  rw [e, DX_at, pay_dx]
  simp only [blk_dh, blk_dy, blk_g, blk_x, blk_sc]
  obtain ⟨e, he, hw⟩ := ofBits_eps
  rw [wN, wE, hw, ofBits_2048, ofBits_neg_half]
  have hb := byHand_eq 2048 e (by norm_num) he (row (aX m c) (rw512 t y0)) (cot (aDh m c) (aG m c) (aSc m c) (rw512 t y0))
    (fun k => H.x _) (fun k => cot_real m H _ k) y1
  refine (congrArg (· + aDy m c (ix2 (rw512 t y0) y1)) hb).trans ?_
  exact (add_comm _ _).trans ((add_assoc _ _ _).symm.trans (congrArg (· + _) (add_assoc _ _ _).symm))

theorem final_5 (c : Dev nD) (H : Real m c) :
    (dats m 0 c).arrAt 5 (cfgs 0).N = DX (aDh m c) (aDy m c) (aX m c) (aG m c) (aSc m c) := by
  refine (dats m 0 c).arrAt_eq_of_covers 5 _ (by decide +kernel) fun t hf y => ?_
  blk_simp; rw [after0_5]
  by_cases h : t.val % 16 = 0
  · rw [outsAt0_A m c t h]; dsimp only; frame_out; exact point_dx m c H t y
  · rw [outsAt0_B m c t h]; dsimp only; frame_out; exact point_dx m c H t y

/-- The zero fills, and each accumulating payload as what the buffer held plus the block's column sum. -/
theorem hzero_6 (j : S1x2048.Idx) : k0_pay4 (F := Ideal) j = 0 := by pointwise! [k0_pay4]
theorem hzero_7 (j : S1x2048.Idx) : k0_pay5 (F := Ideal) j = 0 := by pointwise! [k0_pay5]
theorem hzero_8 (j : S1x2048.Idx) : k0_pay6 (F := Ideal) j = 0 := by pointwise! [k0_pay6]
theorem hpay_6 (v3 : Vec Ideal S512x2048 .f32) (v17 : Vec Ideal S1x2048 .f32) (j : S1x2048.Idx) :
    k0_pay10 v3 v17 j = v17 j + ∑ s : Fin 512, v3 (ix2 s (j 1)) := by
  pointwise [k0_pay10]
theorem hpay_7 (v3 v4 : Vec Ideal S512x2048 .f32) (v16 v23 : Vec Ideal S1x2048 .f32) (j : S1x2048.Idx) :
    k0_pay11 v3 v4 v16 v23 j = v23 j + ∑ s : Fin 512,
      v3 (ix2 s (j 1)) * (v4 (ix2 s (j 1)) * rrms wN wE (fun k => v4 (ix2 s k)) * v16 (ix2 0 (j 1))) := by
  pointwise [k0_pay11, k0_pay7, k0_pay8, k0_pay9, rrms, msq]
theorem hpay_8 (v3 v4 : Vec Ideal S512x2048 .f32) (v32 v36 : Vec Ideal S1x2048 .f32) (j : S1x2048.Idx) :
    k0_pay2 v3 (k0_pay9 v4) v32 v36 j = v36 j + ∑ s : Fin 512,
      v3 (ix2 s (j 1)) * v32 (ix2 0 (j 1)) * (v4 (ix2 s (j 1)) * rrms wN wE (fun k => v4 (ix2 s k))) := by
  pointwise [k0_pay2, k0_pay1, k0_pay7, k0_pay8, k0_pay9, rrms, msq]

theorem final_6 (c : Dev nD) : (dats m 0 c).arrAt 6 (cfgs 0).N = DSHIFT (aDh m c) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) _
    (fun t h j => by rw [outsAt0_A m c t h]; frame_out; rw [hpay_6, hzero_6])
    (fun t h j => by rw [outsAt0_B m c t h]; frame_out; rw [hpay_6])
    (le_of_eq N_0) t0_15 rfl j, zero_add]
  idx_vars j
  rw [DSHIFT_at]
  simp only [blk_dh]
  exact Fin.sum_mul_add_congr fun s k hl => rfl

theorem final_7 (c : Dev nD) : (dats m 0 c).arrAt 7 (cfgs 0).N = DSCALE (aDh m c) (aX m c) (aG m c) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0) _
    (fun t h j => by rw [outsAt0_A m c t h]; frame_out; rw [hpay_7, hzero_7])
    (fun t h j => by rw [outsAt0_B m c t h]; frame_out; rw [hpay_7])
    (le_of_eq N_0) t0_15 rfl j, zero_add]
  idx_vars j
  rw [DSCALE_at]
  simp only [blk_dh, blk_x, blk_g]
  exact Fin.sum_mul_add_congr fun s k hl => mul_comm (G := EReal) _ _

theorem final_8 (c : Dev nD) : (dats m 0 c).arrAt 8 (cfgs 0).N = DGAIN (aDh m c) (aX m c) (aSc m c) := by
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0) _
    (fun t h j => by rw [outsAt0_A m c t h]; frame_out; rw [hpay_8, hzero_8])
    (fun t h j => by rw [outsAt0_B m c t h]; frame_out; rw [hpay_8])
    (le_of_eq N_0) t0_15 rfl j, zero_add]
  idx_vars j
  rw [DGAIN_at]
  simp only [blk_dh, blk_x, blk_sc]
  exact Fin.sum_mul_add_congr fun s k hl => mul_comm (G := EReal) _ _

end Cert.KernelIdeal.Value
-- ==== Proof.Finite.lean ====
/- Hand-written, untrusted. What a printed `jnp.all(jnp.abs(x) < jnp.inf)` says of the entries of `x`. -/
module

public import proofs.«01_k».proof.Proof.RowNorm
public import Idealize.ShloMosaic.Lib.ReduceAll
public import Idealize.ShloMosaic.Lib.KernelVsHost

@[expose] public section

noncomputable section

open Idealize.ShloMosaic

namespace Cert.RowNorm

/-- The word of plus infinity reads as the greatest extended real. -/
theorem ofBits_inf : Ideal.ofBits .f32 0x7F800000#32 = (⊤ : EReal) := by simp [Ideal.ofBits, Ideal.ieee]

/-- Where the reduction by `and` over the compare with infinity is 1, every entry is a real number. -/
theorem fin_of_all {s t u : Shape} {axes : List (Fin s.rank)} [Subsingleton t.Idx] (x : FVec Ideal s .f32) (b : FVec Ideal s .f32)
    (hb : ∀ i, b i = Ideal.ofBits .f32 0x7F800000#32)
    (init : u.Idx → BitVec 1) (h : s.ReducesTo axes t) (hu : 0 < u.numel) (j : t.Idx)
    (e : Host.reduce IntOp.andi (cmpf .olt (Host.absf x) b) init h hu j = 1#1) (i : s.Idx) : Fin' (x i) := by
  have h1 := Host.reduce_andi_all _ _ _ _ j e i
  have h2 : Ideal.cmp .olt (max (x i : EReal) (-(x i : EReal))) (b i) = 1#1 := h1
  rw [hb, ofBits_inf] at h2
  refine fin_of_abs ?_
  by_contra hn
  have h3 : BitVec.ofBool (decide (max (x i) (-x i) < ⊤)) = 1#1 := h2
  rw [decide_eq_false hn] at h3
  exact absurd h3 (by decide)

end Cert.RowNorm

end
-- ==== Proof.FoxTail.lean ====
/- Hand-written, untrusted. The forgetting attention's gradient: the host lines after the launch, and the program's four results. -/
module

public import proofs.«01_k».proof.Proof.FoxArrays

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen
open Cert.Fox

section Lines

variable (W : Valuation τ sig (Elt Ideal))

/-- An array times a number, and the two parts of the gates' gradient added. -/
def BYSCALE (x : FVec Ideal S8192x1024 .f32) : FVec Ideal S8192x1024 .f32 :=
  mulf x (broadcastInDim S8192x1024 ![] bcast_S_S8192x1024 (constant S_ .f32 0x3DB504F3#32))
def BYLOG (x : FVec Ideal S8192x1024 .f32) : FVec Ideal S8192x1024 .f32 :=
  mulf x (broadcastInDim S8192x1024 ![] bcast_S_S8192x1024 (Host.log (constant S_ .f32 0x40000000#32)))
def GATES (r : FVec Ideal S8x8192x1 .f32) (c : FVec Ideal S8x8x1x1024 .f32) : FVec Ideal S8x8192 .f32 :=
  addf (shapeCast S8x8192 r shapeCasts_S8x8192x1_S8x8192) (shapeCast S8x8192 c shapeCasts_S8x8x1x1024_S8x8192)

theorem tail_query (x : FVec Ideal S8192x1024 .f32) (hx : W (Proc.devRef .tc main_v74_0) = x) :
    StableHlo.after hostOps1 W (Proc.devRef .tc main_v76) = BYSCALE x := by subst hx; entry_read; rfl
theorem tail_key (x : FVec Ideal S8192x1024 .f32) (hx : W (Proc.devRef .tc main_v74_1) = x) :
    StableHlo.after hostOps1 W (Proc.devRef .tc main_v79) = BYLOG x := by subst hx; entry_read; rfl
theorem tail_gate (r : FVec Ideal S8x8192x1 .f32) (c : FVec Ideal S8x8x1x1024 .f32) (hr : W (Proc.devRef .tc main_v74_4) = r)
    (hc : W (Proc.devRef .tc main_v74_3) = c) : StableHlo.after hostOps1 W (Proc.devRef .tc main_v82) = GATES r c := by
  subst hr; subst hc; entry_read; rfl

theorem BYSCALE_at (x : FVec Ideal S8192x1024 .f32) (i : Fin 8192) (y : Fin 1024) : BYSCALE x (ix2 i y) = x (ix2 i y) * wScale := by
  pointwise [BYSCALE]
theorem BYLOG_at (x : FVec Ideal S8192x1024 .f32) (i : Fin 8192) (y : Fin 1024) : BYLOG x (ix2 i y) = x (ix2 i y) * Ideal.log wTwo := by
  pointwise [BYLOG]
theorem GATES_at (r : FVec Ideal S8x8192x1 .f32) (c : FVec Ideal S8x8x1x1024 .f32) (h b : Fin 8) (a : Fin 1024) :
    GATES r c (ix2 h (tile b a)) = r (ix3 h (tile b a) 0) + c (ix4 h b 0 a) := by
  pointwise [GATES, tile]

end Lines

variable (m : (ℓ : Loc nD τ sig) → Buf (Elt Ideal) ℓ) (c : Dev nD)

theorem distinct : Pipeline.SharedIn (cfgs 0).spec := by decide

/-- The memory the lines after the launch start from holds each result array as the launch left it. -/
theorem launched (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  (dats m 0 c).withArrays_arrAt distinct (V0 m c) (fun w => A_eq m c w) w

/-- The program's four results. -/
def OQ : FVec Ideal S8192x1024 .f32 := BYSCALE (RES_6 m c)
def OK : FVec Ideal S8192x1024 .f32 := BYLOG (RES_7 m c)
def OV : FVec Ideal S8192x1024 .bf16 := RES_8 m c
def OG : FVec Ideal S8x8192 .f32 := GATES (RES_10 m c) (RES_9 m c)

theorem end_query : Pipeline.afterTail₀ cfgs (dats m) 0 (V0 m) [hostOps1] c main_v76 = OQ m c :=
  tail_query _ _ ((launched m c 6).trans (final_6 m c))
theorem end_key : Pipeline.afterTail₀ cfgs (dats m) 0 (V0 m) [hostOps1] c main_v79 = OK m c :=
  tail_key _ _ ((launched m c 7).trans (final_7 m c))
theorem end_gate : Pipeline.afterTail₀ cfgs (dats m) 0 (V0 m) [hostOps1] c main_v82 = OG m c :=
  tail_gate _ _ _ ((launched m c 10).trans (final_10 m c)) ((launched m c 9).trans (final_9 m c))

variable (ρ : Dev nD → PrngReg)

/-- Every run ends with the four results and the arguments as they were. -/
theorem run_fox : θ_run defs (onTc (τ := τ) (main (F := Ideal))) ⟨m, fun _ => 0, ρ⟩ fun r => ∀ c : Dev nD,
      r.2.mem ((c.tc : Thread nD τ).loc main_v76) = OQ m c
      ∧ r.2.mem ((c.tc : Thread nD τ).loc main_v79) = OK m c
      ∧ r.2.mem ((c.tc : Thread nD τ).loc main_v74_2) = OV m c
      ∧ r.2.mem ((c.tc : Thread nD τ).loc main_v82) = OG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v76 (Pipeline.mem_restRefs_of main_v76 (by decide) (by decide))).trans (end_query m c),
      ((h c).2 main_v79 (Pipeline.mem_restRefs_of main_v79 (by decide) (by decide))).trans (end_key m c),
      ((h c).1 8).trans (final_8 m c),
      ((h c).2 main_v82 (Pipeline.mem_restRefs_of main_v82 (by decide) (by decide))).trans (end_gate m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

theorem OQ_at (i : Fin 8192) (h : Fin 8) (x : Fin 128) : OQ m c (ix2 i (col h x)) = EQ m c h i x * wScale :=
  (BYSCALE_at _ _ _).trans (congrArg (· * wScale) (RES_6_at m c i h x))
theorem OK_at (i : Fin 8192) (h : Fin 8) (x : Fin 128) : OK m c (ix2 i (col h x)) = EK m c h i x * Ideal.log wTwo :=
  (BYLOG_at _ _ _).trans (congrArg (· * Ideal.log wTwo) (RES_7_at m c i h x))
theorem OV_at (i : Fin 8192) (h : Fin 8) (x : Fin 128) : OV m c (ix2 i (col h x)) = EV m c h i x := RES_8_at m c i h x
theorem OG_at (h b : Fin 8) (a : Fin 1024) : OG m c (ix2 h (tile b a)) = ER m c h (tile b a) + EC m c h (tile b a) := GATES_at _ _ h b a

end Cert.Kernel2Ideal.Value

end
-- ==== Proof.FoxReal.lean ====
/- Hand-written, untrusted. The forgetting attention's gradient over the reals: the row's softmax and the two ways to its gradient. -/
module

public import proofs.«01_k».proof.Proof.FoxRef
public import proofs.«01_k».proof.Proof.RowNorm

@[expose] public section

noncomputable section

open Idealize.ShloMosaic
open scoped BigOperators

namespace Cert.Fox

open Cert.RowNorm (coe_sum)

/-- The words of two and of the scale, as reals. -/
theorem ofBits_two : wTwo = ((2 : ℝ) : EReal) := by
  simp [Ideal.ofBits, Ideal.ieee, -EReal.coe_mul]; norm_num
theorem ofBits_scale : ∃ s : ℝ, wScale = (s : EReal) := by
  simp only [Ideal.ofBits, Ideal.ieee]
  norm_num
  exact ⟨_, rfl⟩
/-- The natural logarithm of two. -/
abbrev L : ℝ := Real.log 2
theorem L_ne : L ≠ 0 := (Real.log_pos (by norm_num)).ne'
theorem log_two : Ideal.log wTwo = (L : EReal) := by
  rw [ofBits_two, Ideal.log_coe, if_neg (by norm_num)]

/-- Real rows and gates, and the same as extended reals. -/
abbrev RRows := Fin 8 → Fin 8192 → Fin 128 → ℝ
abbrev RGate := Fin 8 → Fin 8192 → ℝ
def up (q : RRows) : Rows := fun h i x => (q h i x : EReal)
def upG (g : RGate) : Gate := fun h i => (g h i : EReal)

variable (s : ℝ) (hs : wScale = (s : EReal)) (q k v d : RRows) (g : RGate) (h : Fin 8) (i j : Fin 8192)

def scoreR : ℝ := (∑ x, q h i x * k h j x) * s + (g h i - g h j)
def outerR : ℝ := ∑ x, d h i x * v h j x

theorem dot_coe (a b : Fin 128 → ℝ) : ∑ x, ((a x : ℝ) : EReal) * ((b x : ℝ) : EReal) = ((∑ x, a x * b x : ℝ) : EReal) := by
  rw [← coe_sum]
  exact Finset.sum_congr rfl fun x _ => (EReal.coe_mul _ _).symm
theorem dots_coe (a b : Fin 8192 → ℝ) : ∑ x, ((a x : ℝ) : EReal) * ((b x : ℝ) : EReal) = ((∑ x, a x * b x : ℝ) : EReal) := by
  rw [← coe_sum]
  exact Finset.sum_congr rfl fun x _ => (EReal.coe_mul _ _).symm

theorem outer_coe : outer (up v) (up d) h i j = (outerR v d h i j : EReal) := dot_coe _ _

include hs in
theorem score_coe : score (up q) (up k) (upG g) h i j = (scoreR s q k g h i j : EReal) := by
  simp only [score, scoreR, up, upG, hs]
  rw [dot_coe, ← EReal.coe_mul, ← EReal.coe_sub, ← EReal.coe_add]

/-- The exponential of a score less the row's greatest, under the mask. -/
def W (t : ℝ) : ℝ := if j.val ≤ i.val then Real.exp (scoreR s q k g h i j - t) else 0

include hs in
/-- A row of real scores has a real greatest one and a positive sum of exponentials. -/
theorem soft : ∃ t T : ℝ, 0 < T ∧ T = ∑ j, W s q k g h i j t ∧ top (up q) (up k) (upG g) h i = (t : EReal)
    ∧ total (up q) (up k) (upG g) h i = (T : EReal) ∧ ∀ j, weight (up q) (up k) (upG g) h i j = (W s q k g h i j t : EReal) := by
  have hm : ∀ j, masked (up q) (up k) (upG g) h i j = if j.val ≤ i.val then (scoreR s q k g h i j : EReal) else ⊥ := fun j => by
    rw [masked, score_coe s hs]
  have ht : top (up q) (up k) (upG g) h i = Finset.univ.sup (masked (up q) (up k) (upG g) h i) := rfl
  have hlt : top (up q) (up k) (upG g) h i < ⊤ := by
    rw [ht, Finset.sup_lt_iff bot_lt_top]
    intro j _
    rw [hm]
    split
    · exact EReal.coe_lt_top _
    · exact bot_lt_top
  have hgt : ⊥ < top (up q) (up k) (upG g) h i := by
    refine lt_of_lt_of_le ?_ (ht ▸ Finset.le_sup (f := masked (up q) (up k) (upG g) h i) (Finset.mem_univ i))
    rw [hm, if_pos le_rfl]
    exact EReal.bot_lt_coe _
  obtain ⟨t, e⟩ : ∃ t : ℝ, top (up q) (up k) (upG g) h i = (t : EReal) := ⟨_, (EReal.coe_toReal hlt.ne hgt.ne').symm⟩
  have hw : ∀ j, weight (up q) (up k) (upG g) h i j = (W s q k g h i j t : EReal) := fun j => by
    rw [weight, hm, e, W]
    split
    · rw [← EReal.coe_sub, Ideal.exp_coe]
    · rw [EReal.bot_sub, Ideal.exp_bot, EReal.coe_zero]
  refine ⟨t, ∑ j, W s q k g h i j t, ?_, rfl, e, ?_, hw⟩
  · refine Finset.sum_pos' (fun j _ => ?_) ⟨i, Finset.mem_univ _, ?_⟩
    · rw [W]; split
      · exact (Real.exp_pos _).le
      · exact le_rfl
    · rw [W, if_pos le_rfl]; exact Real.exp_pos _
  · rw [total, ← coe_sum]
    exact Finset.sum_congr rfl fun j _ => hw j

/-- A row's sum of the incoming gradient times the output. -/
def deltaR (w : Fin 8192 → ℝ) (T : ℝ) : ℝ := ∑ x, d h i x * ∑ j, w j * (1 / T) * v h j x
/-- The scores' gradient by the kernel's formula. -/
def gradR (w : Fin 8192 → ℝ) (T : ℝ) : ℝ := w j * (1 / T) * (outerR v d h i j - deltaR v d h i w T)

theorem deltaR_eq (w : Fin 8192 → ℝ) (T : ℝ) : deltaR v d h i w T = ∑ j, w j * (1 / T) * outerR v d h i j := by
  simp only [deltaR, outerR, Finset.mul_sum]
  rw [Finset.sum_comm]
  exact Finset.sum_congr rfl fun j _ => Finset.sum_congr rfl fun x _ => by ring

include hs in
/-- The reference's gradient of the scores, at a row whose softmax is `w j / T`. -/
theorem grad_coe (t T : ℝ) (hT : 0 < T) (ht : total (up q) (up k) (upG g) h i = (T : EReal))
    (hw : ∀ j, weight (up q) (up k) (upG g) h i j = (W s q k g h i j t : EReal)) :
    grad (up q) (up k) (up v) (up d) (upG g) h i j = (gradR v d h i j (fun j => W s q k g h i j t) T : EReal) := by
  have hTT : T * T ≠ 0 := (mul_pos hT hT).ne'
  have hb : back (up q) (up k) (up v) (up d) (upG g) h i = ((∑ j, outerR v d h i j * (1 / (T * T)) * W s q k g h i j t : ℝ) : EReal) := by
    rw [back, ← coe_sum]
    refine Finset.sum_congr rfl fun j _ => ?_
    rw [outer_coe, ht, hw, ← EReal.coe_mul, Ideal.div_coe hTT, one_mul, ← EReal.coe_mul, ← EReal.coe_mul]
  rw [grad, hb, outer_coe, ht, hw, Ideal.div_coe hT.ne', ← EReal.coe_mul, ← EReal.coe_neg, ← EReal.coe_add, ← EReal.coe_mul, gradR, deltaR_eq]
  have hsum : ∑ j, outerR v d h i j * (1 / (T * T)) * W s q k g h i j t = 1 / T * ∑ j, W s q k g h i j t * (1 / T) * outerR v d h i j := by
    rw [Finset.mul_sum]
    exact Finset.sum_congr rfl fun j _ => by field_simp
  rw [hsum]
  by_cases hij : j.val ≤ i.val
  · rw [if_pos hij]
    refine congrArg _ ?_
    ring
  · rw [if_neg hij, show W s q k g h i j t = 0 from if_neg hij, zero_mul, zero_mul, EReal.coe_zero]

/-- Two to the power of a score over the natural logarithm of two, less the row's log-sum, is the softmax. -/
theorem two_pow (z t T : ℝ) (hT : 0 < T) : Real.rpow 2 (z * (1 / L) - (t + Real.log T) * (1 / L)) = Real.exp (z - t) * (1 / T) := by
  have e : (2 : ℝ) ^ (z * (1 / L) - (t + Real.log T) * (1 / L)) = Real.exp ((z - t) - Real.log T) := by
    rw [Real.rpow_def_of_pos (by norm_num)]
    refine congrArg Real.exp ?_
    have := L_ne
    field_simp
    ring
  refine e.trans ?_
  rw [Real.exp_sub, Real.exp_log hT, div_eq_mul_one_div]

end Cert.Fox

end
-- ==== Proof.FoxRefRun.lean ====
/- Hand-written, untrusted. The forgetting attention's gradient: the reference's run ends with these four results. -/
module

public import proofs.«01_k».proof.Proof.FoxRef
public import proofs.«01_k».proof.Proof.Gen.Reference2Ideal.Run

@[expose] public section

set_option maxRecDepth 16384

noncomputable section

open Idealize.ShloMosaic Idealize.ShloMosaic.TcCoe Idealize.SL.Sem
open scoped BigOperators

namespace Cert.Reference2Ideal.Value

open Cert.Reference2Ideal Cert.Reference2Ideal.Gen

variable (m : (ℓ : Loc nD τ sig) → Buf (Elt Ideal) ℓ) (c : Dev nD)

/-- The arguments: queries, keys, values, gates' sums, incoming gradient. -/
abbrev aQ : FVec Ideal S8192x1024 .f32 := m ((c.tc : Thread nD τ).loc main_arg0)
abbrev aK : FVec Ideal S8192x1024 .f32 := m ((c.tc : Thread nD τ).loc main_arg1)
abbrev aV : FVec Ideal S8192x1024 .f32 := m ((c.tc : Thread nD τ).loc main_arg2)
abbrev aG : FVec Ideal S8x8192 .f32 := m ((c.tc : Thread nD τ).loc main_arg3)
abbrev aD : FVec Ideal S8192x1024 .f32 := m ((c.tc : Thread nD τ).loc main_arg4)

theorem res_dv : res_main_v89 m c = DV (aQ m c) (aK m c) (aD m c) (aG m c) := rfl
theorem res_dq : res_main_v88 m c = DQ (aQ m c) (aK m c) (aV m c) (aD m c) (aG m c) := rfl
theorem res_dk : res_main_v86 m c = DK (aQ m c) (aK m c) (aV m c) (aD m c) (aG m c) := rfl
theorem res_dg : res_main_v78 m c = DG (aQ m c) (aK m c) (aV m c) (aD m c) (aG m c) := rfl

end Cert.Reference2Ideal.Value

end
-- ==== Proof.FoxValue.lean ====
/- Hand-written, untrusted. The forgetting attention's gradient: the kernel's four results are the reference's. -/
module

public import proofs.«01_k».proof.Proof.FoxTail
public import proofs.«01_k».proof.Proof.FoxReal
public import proofs.«01_k».proof.Proof.FoxRefRun

@[expose] public section

set_option maxRecDepth 16384

noncomputable section

open Idealize.ShloMosaic Idealize.ShloMosaic.TcCoe Idealize.SL.Sem
open scoped BigOperators

namespace Cert.Kernel2Ideal.Value

open Cert.Kernel2Ideal Cert.Kernel2Ideal.Gen
open Cert.Fox
open Cert.RowNorm (coe_sum)

variable (m : (ℓ : Loc nD τ sig) → Buf (Elt Ideal) ℓ) (c : Dev nD)
variable (s : ℝ) (q k v d : RRows) (g t T : RGate)

/-- The arguments are the real arrays `q`, `k`, `v`, `d`, `g`, and every row's softmax is by `t` and `T`. -/
structure Lift : Prop where
  is_scale : wScale = (s : EReal)
  is_q : rowsOf (aQ m c) = up q
  is_k : rowsOf (aK m c) = up k
  is_v : rowsOf (aV m c) = up v
  is_d : rowsOf (aD m c) = up d
  is_g : gateOf (aG m c) = upG g
  is_pos : ∀ h i, 0 < T h i
  is_top : ∀ h i, top (up q) (up k) (upG g) h i = (t h i : EReal)
  is_total : ∀ h i, total (up q) (up k) (upG g) h i = (T h i : EReal)
  is_weight : ∀ h i j, weight (up q) (up k) (upG g) h i j = (W s q k g h i j (t h i) : EReal)

/-- The scores' gradient and the probability, as reals. -/
def G (h : Fin 8) (i j : Fin 8192) : ℝ := gradR v d h i j (fun j => W s q k g h i j (t h i)) (T h i)
def P (h : Fin 8) (i j : Fin 8192) : ℝ := W s q k g h i j (t h i) * (1 / T h i)

variable {m c s q k v d g t T}

section

variable (l : Lift m c s q k v d g t T) (h : Fin 8) (i j : Fin 8192) (x : Fin 128)
include l

theorem Lift.entry_q : aQ m c (ix2 i (col h x)) = (q h i x : EReal) := congrFun (congrFun (congrFun l.is_q h) i) x
theorem Lift.entry_k : aK m c (ix2 j (col h x)) = (k h j x : EReal) := congrFun (congrFun (congrFun l.is_k h) j) x
theorem Lift.entry_g : aG m c (ix2 h i) = (g h i : EReal) := congrFun (congrFun l.is_g h) i

theorem Lift.qsc : QSC (aQ m c) (ix3 i h x) = ((q h i x * (s * (1 / L)) : ℝ) : EReal) := by
  rw [QSC_at, l.entry_q, l.is_scale, log_two, Ideal.div_coe L_ne, ← EReal.coe_mul, ← EReal.coe_mul]
theorem Lift.hi : HI (aG m c) (ix3 i h 0) = ((g h i * (1 / L) : ℝ) : EReal) := by
  rw [HI_at, l.entry_g, log_two, Ideal.div_coe L_ne, ← EReal.coe_mul]
theorem Lift.rest : REST (aG m c) (ix3 i h 0) = 0 := by
  rw [REST_at, l.entry_g, log_two, Ideal.div_coe L_ne, ← EReal.coe_mul, ← EReal.coe_sub, sub_self, EReal.coe_zero]
theorem Lift.mid : MID (aG m c) (ix3 i h 0) = 0 := (MID_at _ i h 0).trans (l.rest h i)
theorem Lift.lo : LO (aG m c) (ix3 i h 0) = 0 := by
  rw [LO_at, l.rest, sub_zero]

/-- The packed product is the score over the natural logarithm of two. -/
theorem Lift.dot : (∑ x, QW (aQ m c) (aG m c) (ix2 i (wcol h x)) * KW (aK m c) (aG m c) (ix2 j (wcol h x)))
    = ((scoreR s q k g h i j * (1 / L) : ℝ) : EReal) := by
  simp only [QW_at, KW_at]
  rw [sum_packed, l.hi, l.mid, l.lo, l.hi, l.mid, l.lo]
  simp only [l.qsc, l.entry_k, neg_zero, mul_one, one_mul, add_zero, zero_add]
  rw [dot_coe, ← EReal.coe_neg, ← EReal.coe_add, ← EReal.coe_add]
  refine congrArg _ ?_
  have e : ∑ x, q h i x * (s * (1 / L)) * k h j x = (∑ x, q h i x * k h j x) * (s * (1 / L)) := by
    rw [Finset.sum_mul]
    exact Finset.sum_congr rfl fun x _ => by ring
  rw [e, scoreR]
  ring

theorem Lift.lse : LSE (aQ m c) (aK m c) (aG m c) (ix3 h i 0) = (((t h i + Real.log (T h i)) * (1 / L) : ℝ) : EReal) := by
  rw [LSE_at, l.is_q, l.is_k, l.is_g, l.is_top, l.is_total, Ideal.log_coe, if_neg (not_le.mpr (l.is_pos h i)), log_two, Ideal.div_coe L_ne,
    ← EReal.coe_add, ← EReal.coe_mul]

theorem Lift.prob : pK m c h i j = (P s q k g t T h i j : EReal) := by
  rw [pK, l.dot, l.lse, P, W]
  by_cases hij : j.val ≤ i.val
  · rw [if_pos hij, if_pos hij, ← EReal.coe_sub, Ideal.exp2_coe]
    exact congrArg _ (two_pow _ _ _ (l.is_pos h i))
  · rw [if_neg hij, if_neg hij, zero_mul, EReal.coe_zero]

theorem Lift.delta : DELTA (aQ m c) (aK m c) (aV m c) (aD m c) (aG m c) (ix2 i (lane h))
    = (deltaR v d h i (fun j => W s q k g h i j (t h i)) (T h i) : EReal) := by
  rw [DELTA_at, l.is_q, l.is_k, l.is_g, l.is_v, l.is_d, deltaR]
  have e : ∀ x, (∑ j, Ideal.div (weight (up q) (up k) (upG g) h i j) (total (up q) (up k) (upG g) h i) * up v h j x)
      = ((∑ j, W s q k g h i j (t h i) * (1 / T h i) * v h j x : ℝ) : EReal) := fun x => by
    rw [← dots_coe (fun j => W s q k g h i j (t h i) * (1 / T h i)) (fun j => v h j x)]
    refine Finset.sum_congr rfl fun j _ => ?_
    rw [l.is_weight, l.is_total, Ideal.div_coe (l.is_pos h i).ne', ← EReal.coe_mul]
    rfl
  simp only [e]
  exact dot_coe _ _

theorem Lift.grad_kernel : sK m c h i j = (G s q k v d g t T h i j : EReal) := by
  have e : (∑ x, up d h i x * up v h j x) = (outerR v d h i j : EReal) := dot_coe _ _
  rw [sK, l.prob, l.delta, l.is_d, l.is_v, e, ← EReal.coe_sub, ← EReal.coe_mul]
  rfl
theorem Lift.grad_ref : grad (up q) (up k) (up v) (up d) (upG g) h i j = (G s q k v d g t T h i j : EReal) :=
  grad_coe s l.is_scale q k v d g h i j (t h i) (T h i) (l.is_pos h i) (l.is_total h i) (l.is_weight h i)

theorem Lift.key_at : KW (aK m c) (aG m c) (ix2 j (wcol h (wide x))) = (k h j x : EReal) :=
  (KW_at _ _ j h (wide x)).trans ((packed_lead _ _ _ _ _ _ _ x).trans (l.entry_k h j x))
theorem Lift.query_at : QW (aQ m c) (aG m c) (ix2 i (wcol h (wide x))) = ((q h i x * (s * (1 / L)) : ℝ) : EReal) :=
  (QW_at _ _ i h (wide x)).trans ((packed_lead _ _ _ _ _ _ _ x).trans (l.qsc h i x))

theorem Lift.dq : EQ m c h i x * wScale = ∑ j, grad (up q) (up k) (up v) (up d) (upG g) h i j * wScale * up k h j x := by
  simp only [EQ, l.grad_kernel, l.grad_ref, l.key_at, l.is_scale, up]
  rw [dots_coe, ← EReal.coe_mul, Finset.sum_mul]
  simp only [← EReal.coe_mul]
  rw [coe_sum]
  exact congrArg _ (Finset.sum_congr rfl fun j _ => by ring)

theorem Lift.dk : EK m c h j x * Ideal.log wTwo = ∑ i, grad (up q) (up k) (up v) (up d) (upG g) h i j * wScale * up q h i x := by
  simp only [EK, l.grad_kernel, l.grad_ref, l.query_at, l.is_scale, up, log_two]
  rw [dots_coe, ← EReal.coe_mul, Finset.sum_mul]
  simp only [← EReal.coe_mul]
  rw [coe_sum]
  refine congrArg _ (Finset.sum_congr rfl fun i _ => ?_)
  have := L_ne
  field_simp

theorem Lift.dv : EV m c h j x = ∑ i, up d h i x * Ideal.div (weight (up q) (up k) (upG g) h i j) (total (up q) (up k) (upG g) h i) := by
  simp only [EV, l.prob, l.is_d]
  refine Finset.sum_congr rfl fun i _ => ?_
  rw [l.is_weight, l.is_total, Ideal.div_coe (l.is_pos h i).ne', ← EReal.coe_mul]
  exact mul_comm _ _

theorem Lift.dg : ER m c h i + EC m c h i = (∑ i', -grad (up q) (up k) (up v) (up d) (upG g) h i' i)
    + ∑ j, grad (up q) (up k) (up v) (up d) (upG g) h i j := by
  simp only [ER, EC, l.grad_kernel, l.grad_ref]
  rw [add_comm]
  refine congrArg (· + _) ?_
  have e : ∀ b : Fin 8, (0 : EReal) - ∑ a, (G s q k v d g t T h (tile b a) i : EReal) = ∑ a, -(G s q k v d g t T h (tile b a) i : EReal) := fun b => by
    simp only [← EReal.coe_neg]
    rw [coe_sum, coe_sum, zero_sub, ← EReal.coe_neg, Finset.sum_neg_distrib]
  simp only [e]
  exact Fin.sum_mul_add_congr fun b a hl => by rw [show tile b a = ⟨b.val * 1024 + a.val, hl⟩ from rfl]

end

/-- Every entry of the five arguments is a real number. -/
structure Real (m : (ℓ : Loc nD τ sig) → Buf (Elt Ideal) ℓ) (c : Dev nD) : Prop where
  q : ∀ y, Cert.RowNorm.Fin' (aQ m c y)
  k : ∀ y, Cert.RowNorm.Fin' (aK m c y)
  v : ∀ y, Cert.RowNorm.Fin' (aV m c y)
  g : ∀ y, Cert.RowNorm.Fin' (aG m c y)
  d : ∀ y, Cert.RowNorm.Fin' (aD m c y)

/-- Real arguments lift. -/
theorem Real.lift (H : Real m c) : ∃ s q k v d g t T, Lift m c s q k v d g t T := by
  obtain ⟨s, hs⟩ := ofBits_scale
  choose q hq using H.q
  choose k hk using H.k
  choose v hv using H.v
  choose g hg using H.g
  choose d hd using H.d
  choose t T pos _ ht hT hw using fun h i => soft s hs (fun h i x => q (ix2 i (col h x))) (fun h i x => k (ix2 i (col h x))) (fun h i => g (ix2 h i)) h i
  exact ⟨s, _, _, fun h i x => v (ix2 i (col h x)), fun h i x => d (ix2 i (col h x)), _, t, T, hs,
    funext fun h => funext fun i => funext fun x => hq _, funext fun h => funext fun i => funext fun x => hk _,
    funext fun h => funext fun i => funext fun x => hv _, funext fun h => funext fun i => funext fun x => hd _,
    funext fun h => funext fun i => hg _, pos, ht, hT, hw⟩

theorem col_eq (y : Fin 1024) : y = col (hd y) (ln y) := Fin.ext (by simp only [col, hd, ln]; omega)
theorem tile_eq (i : Fin 8192) : i = tile ⟨i.val / 1024, by omega⟩ ⟨i.val % 1024, by omega⟩ := Fin.ext (by simp only [tile]; omega)

section

variable (m c) (H : Real m c)
include H

theorem OQ_eq : OQ m c = Cert.Reference2Ideal.Value.DQ (aQ m c) (aK m c) (aV m c) (aD m c) (aG m c) := by
  obtain ⟨s, q, k, v, d, g, t, T, l⟩ := H.lift
  funext y
  idx_vars y
  rw [col_eq y1]
  refine (OQ_at m c y0 _ _).trans ((l.dq _ y0 _).trans ?_)
  rw [← l.is_q, ← l.is_k, ← l.is_v, ← l.is_d, ← l.is_g]
  exact (Cert.Reference2Ideal.Value.DQ_at _ _ _ _ _ _ _ _).symm
theorem OK_eq : OK m c = Cert.Reference2Ideal.Value.DK (aQ m c) (aK m c) (aV m c) (aD m c) (aG m c) := by
  obtain ⟨s, q, k, v, d, g, t, T, l⟩ := H.lift
  funext y
  idx_vars y
  rw [col_eq y1]
  refine (OK_at m c y0 _ _).trans ((l.dk _ y0 _).trans ?_)
  rw [← l.is_q, ← l.is_k, ← l.is_v, ← l.is_d, ← l.is_g]
  exact (Cert.Reference2Ideal.Value.DK_at _ _ _ _ _ _ _ _).symm
theorem OV_eq : OV m c = Cert.Reference2Ideal.Value.DV (aQ m c) (aK m c) (aD m c) (aG m c) := by
  obtain ⟨s, q, k, v, d, g, t, T, l⟩ := H.lift
  funext y
  idx_vars y
  rw [col_eq y1]
  refine (OV_at m c y0 _ _).trans ((l.dv _ y0 _).trans ?_)
  rw [← l.is_q, ← l.is_k, ← l.is_d, ← l.is_g]
  exact (Cert.Reference2Ideal.Value.DV_at _ _ _ _ _ _ _).symm
theorem OG_eq : OG m c = Cert.Reference2Ideal.Value.DG (aQ m c) (aK m c) (aV m c) (aD m c) (aG m c) := by
  obtain ⟨s, q, k, v, d, g, t, T, l⟩ := H.lift
  funext y
  idx_vars y
  rw [tile_eq y1]
  refine (OG_at m c y0 _ _).trans ((l.dg _ _).trans ?_)
  rw [← l.is_q, ← l.is_k, ← l.is_v, ← l.is_d, ← l.is_g]
  exact (Cert.Reference2Ideal.Value.DG_at _ _ _ _ _ _ _).symm

end

end Cert.Kernel2Ideal.Value

end
-- ==== Proof.FwdPay.lean ====
/- Hand-written, untrusted. The forgetting attention, forward: the kernel's tile values, entry by entry. -/
module

public import proofs.«01_k».proof.Proof.Gen.Kernel4Ideal.Skeleton
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open scoped BigOperators

namespace Cert.Kernel4Ideal.Value

open Cert.Kernel4Ideal Cert.Kernel4Ideal.Gen

/-- A choice by comparing two small positions. -/
theorem select_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat (by simpa using ha) (by simpa using hb)]
  by_cases h : b ≤ a <;> simp [Scalar.select, h]

/-- The factor to base-2 logarithms. -/
abbrev perLog : EReal := (((Real.log 2)⁻¹ : ℝ) : EReal)

section Pay

variable (q : Vec Ideal S1024x256 .bf16) (k : Vec Ideal S1024x256 .bf16) (v : Vec Ideal S1024x128 .bf16)
  (m l : FVec Ideal S1024x1 .f32) (acc : FVec Ideal S1024x128 .f32)

theorem pay4_at (a : Fin 1024) : k0_pay4 (F := Ideal) (ix2 a 0) = ⊥ := by
  pointwise [k0_pay4]
  rfl
theorem pay5_at (a : Fin 1024) : k0_pay5 (F := Ideal) (ix2 a 0) = 0 := by
  pointwise [k0_pay5]
theorem pay6_at (a : Fin 1024) (x : Fin 128) : k0_pay6 (F := Ideal) (ix2 a x) = 0 := by
  pointwise [k0_pay6]

theorem pay7_at (a b : Fin 1024) : k0_pay7 q k (ix2 a b) = ∑ x : Fin 256, q (ix2 a x) * k (ix2 b x) := by
  pointwise [k0_pay7, k0_pay3]

/-- A block's greatest entry in a row, with the number before it. -/
theorem pay8_at (a : Fin 1024) :
    k0_pay8 q m k (ix2 a 0) = max (m (ix2 a 0)) (Finset.univ.fold max ⊥ fun b : Fin 1024 => k0_pay7 q k (ix2 a b)) := by
  pointwise [k0_pay8]
  rw [show Ideal.ofBits .f32 0xFF800000#32 = (⊥ : EReal) by simp [Ideal.ofBits, Ideal.ieee]]
theorem pay9_at (a b : Fin 1024) : k0_pay9 q m k (ix2 a b) = Ideal.exp2 (k0_pay7 q k (ix2 a b) - k0_pay8 q m k (ix2 a 0)) := by
  pointwise [k0_pay9]
  rfl
theorem pay10_at (a : Fin 1024) : k0_pay10 q m k (ix2 a 0) = Ideal.exp2 (m (ix2 a 0) - k0_pay8 q m k (ix2 a 0)) := by
  pointwise [k0_pay10]
  rfl
theorem pay11_at (a : Fin 1024) :
    k0_pay11 q m l k (ix2 a 0) = k0_pay10 q m k (ix2 a 0) * l (ix2 a 0) + ∑ b : Fin 1024, k0_pay9 q m k (ix2 a b) := by
  pointwise [k0_pay11]
theorem pay12_at (a : Fin 1024) (x : Fin 128) :
    k0_pay12 q m acc k v (ix2 a x)
      = k0_pay10 q m k (ix2 a 0) * acc (ix2 a x) + ∑ b : Fin 1024, k0_pay9 q m k (ix2 a b) * v (ix2 b x) := by
  pointwise [k0_pay12]

theorem pay19_at (a b : Fin 1024) : k0_pay19 q k (ix2 a b) = if b.val ≤ a.val then k0_pay7 q k (ix2 a b) else ⊥ := by
  rw [pay7_at]
  pointwise [k0_pay19, k0_pay3]
  exact select_sge (by omega) (by omega) _ _
theorem pay20_at (a : Fin 1024) :
    k0_pay20 q m k (ix2 a 0) = max (m (ix2 a 0)) (Finset.univ.fold max ⊥ fun b : Fin 1024 => k0_pay19 q k (ix2 a b)) := by
  pointwise [k0_pay20]
  rw [show Ideal.ofBits .f32 0xFF800000#32 = (⊥ : EReal) by simp [Ideal.ofBits, Ideal.ieee]]
theorem pay21_at (a b : Fin 1024) : k0_pay21 q m k (ix2 a b) = Ideal.exp2 (k0_pay19 q k (ix2 a b) - k0_pay20 q m k (ix2 a 0)) := by
  pointwise [k0_pay21]
  rfl
theorem pay22_at (a : Fin 1024) : k0_pay22 q m k (ix2 a 0) = Ideal.exp2 (m (ix2 a 0) - k0_pay20 q m k (ix2 a 0)) := by
  pointwise [k0_pay22]
  rfl
theorem pay23_at (a : Fin 1024) :
    k0_pay23 q m l k (ix2 a 0) = k0_pay22 q m k (ix2 a 0) * l (ix2 a 0) + ∑ b : Fin 1024, k0_pay21 q m k (ix2 a b) := by
  pointwise [k0_pay23]
theorem pay24_at (a : Fin 1024) (x : Fin 128) : k0_pay24 q m acc k (ix2 a x) = k0_pay22 q m k (ix2 a 0) * acc (ix2 a x) := by
  pointwise [k0_pay24]

/-- What a point stores: the weighted values over the weights' sum, and the logarithm in base 2. -/
theorem pay1_at (t : FVec Ideal S1024x1 .f32) (u : FVec Ideal S1024x128 .f32) (a : Fin 1024) (x : Fin 128) :
    k0_pay1 t u (k0_pay25 q m k) (k0_pay26 v) (constant S1024x128 .f32 0x00000000#32) (ix2 a x)
      = Ideal.div (u (ix2 a x) + ∑ b : Fin 1024, k0_pay21 q m k (ix2 a b) * v (ix2 b x)) (t (ix2 a 0)) := by
  pointwise [k0_pay1, k0_pay25, k0_pay26]
theorem pay2_at (t u : FVec Ideal S1024x1 .f32) (a : Fin 1024) :
    k0_pay2 t u (ix3 0 a 0) = t (ix2 a 0) + Ideal.log (u (ix2 a 0)) * perLog := by
  pointwise [k0_pay2]
  rfl

end Pay

end Cert.Kernel4Ideal.Value

end
-- ==== Proof.FwdOnline.lean ====
/- Hand-written, untrusted. The softmax taken block by block with a running greatest score, over the extended reals. -/
module

public import proofs.«01_k».proof.Proof.FoxReal
public import proofs.«01_k».proof.Proof.FoxGrow

@[expose] public section

set_option maxRecDepth 16384

noncomputable section

open Idealize.ShloMosaic Idealize.ShloMosaic.TcCoe Idealize.SL.Sem
open scoped BigOperators

namespace Cert.Fwd

open Cert.RowNorm (coe_sum)
open Cert.Kernel2Ideal.Value (below below_zero below_add below_all)

variable (s : Fin 8192 → ℝ) (v : Fin 8192 → Fin 128 → ℝ) (i : ℕ)

/-- Two to the power of a score less the reference point `r`, under the causal mask of row `i`. -/
def P (r : ℝ) (j : Fin 8192) : ℝ := if j.val ≤ i then Real.rpow 2 (s j - r) else 0

/-- The running greatest score, sum and weighted values after the first `o` columns: nothing yet, or sums of powers
    against some real reference point. -/
structure Sums (o : ℕ) (m l : EReal) (acc : Fin 128 → EReal) (r : ℝ) : Prop where
  is_top : m = (r : EReal)
  is_sum : l = below (fun j => (P s i r j : EReal)) o
  is_acc : ∀ x, acc x = below (fun j => ((P s i r j * v j x : ℝ) : EReal)) o
def Online (o : ℕ) (m l : EReal) (acc : Fin 128 → EReal) : Prop :=
  (o = 0 ∧ m = ⊥ ∧ l = 0 ∧ ∀ x, acc x = 0) ∨ ∃ r, Sums s v i o m l acc r

theorem below_coe (f : Fin 8192 → ℝ) (o : ℕ) :
    below (fun j => (f j : EReal)) o = ((∑ j : Fin 8192, if j.val < o then f j else 0 : ℝ) : EReal) := by
  rw [below, ← coe_sum]
  refine Finset.sum_congr rfl fun j _ => ?_
  split
  · rfl
  · exact EReal.coe_zero.symm

/-- Moving the reference point multiplies a sum of powers by one power. -/
theorem below_move (f g : Fin 8192 → ℝ) (a : ℝ) (o : ℕ) (h : ∀ j, a * f j = g j) :
    (a : EReal) * below (fun j => (f j : EReal)) o = below (fun j => (g j : EReal)) o := by
  rw [below_coe, below_coe, ← EReal.coe_mul, Finset.mul_sum]
  refine congrArg _ (Finset.sum_congr rfl fun j _ => ?_)
  split
  · exact h j
  · exact mul_zero a

theorem P_move (r r' : ℝ) (j : Fin 8192) : Real.rpow 2 (r - r') * P s i r j = P s i r' j := by
  rw [P, P]
  split
  · refine (Real.rpow_add (by norm_num) _ _).symm.trans (congrArg _ ?_)
    ring
  · exact mul_zero _

/-- Below the greatest of finitely many scores that are real or −∞, one of them real, is a real number. -/
theorem fold_real {n : ℕ} (z : Fin n → EReal) (hz : ∀ b, z b < ⊤) (b : Fin n) (hb : ⊥ < z b) :
    ∃ t : ℝ, Finset.univ.fold max ⊥ z = (t : EReal) := by
  have e : Finset.univ.fold max ⊥ z = Finset.univ.sup z := rfl
  rw [e]
  have hlt : Finset.univ.sup z < ⊤ := (Finset.sup_lt_iff bot_lt_top).2 fun b _ => hz b
  have hgt : ⊥ < Finset.univ.sup z := lt_of_lt_of_le hb (Finset.le_sup (f := z) (Finset.mem_univ b))
  exact ⟨_, (EReal.coe_toReal hlt.ne hgt.ne').symm⟩

variable {s v i}

/-- A block's power against a reference point. -/
theorem block_pow (r : ℝ) (j : Fin 8192) (z : EReal) (hz : z = if j.val ≤ i then (s j : EReal) else ⊥) :
    Ideal.exp2 (z - (r : EReal)) = (P s i r j : EReal) := by
  rw [hz, P]
  split
  · rw [← EReal.coe_sub, Ideal.exp2_coe]
  · rw [EReal.bot_sub, EReal.coe_zero]
    rfl

/-- One block more. -/
theorem Online.step {o : ℕ} {m l : EReal} {acc : Fin 128 → EReal} (H : Online s v i o m l acc) (ho : o + 1024 ≤ 8192) (hi : o ≤ i)
    (z : Fin 1024 → EReal) (w : Fin 1024 → Fin 128 → EReal)
    (hz : ∀ b : Fin 1024, z b = if o + b.val ≤ i then (s ⟨o + b.val, by omega⟩ : EReal) else ⊥)
    (hw : ∀ (b : Fin 1024) (x : Fin 128), w b x = (v ⟨o + b.val, by omega⟩ x : EReal))
    {m' l' : EReal} {acc' : Fin 128 → EReal} (hm : m' = max m (Finset.univ.fold max ⊥ z))
    (hl : l' = Ideal.exp2 (m - m') * l + ∑ b, Ideal.exp2 (z b - m'))
    (ha : ∀ x, acc' x = Ideal.exp2 (m - m') * acc x + ∑ b, Ideal.exp2 (z b - m') * w b x) :
    ∃ r, Sums s v i (o + 1024) m' l' acc' r := by
  obtain ⟨M, hM⟩ : ∃ M : ℝ, Finset.univ.fold max ⊥ z = (M : EReal) := by
    refine fold_real z (fun b => ?_) 0 ?_
    · rw [hz]
      split
      · exact EReal.coe_lt_top _
      · exact bot_lt_top
    · rw [hz, if_pos (by simpa using hi)]
      exact EReal.bot_lt_coe _
  have hb : ∀ (r : ℝ) (b : Fin 1024), Ideal.exp2 (z b - (r : EReal)) = (P s i r ⟨o + b.val, by omega⟩ : EReal) := fun r b =>
    block_pow r ⟨o + b.val, by omega⟩ _ (hz b)
  rcases H with ⟨h0, h1, h2, h3⟩ | ⟨r, h1, h2, h3⟩
  · subst h0
    have e : m' = (M : EReal) := by rw [hm, h1, hM]; exact max_eq_right bot_le
    refine ⟨M, e, ?_, fun x => ?_⟩
    · rw [hl, h2, mul_zero, e, below_add _ _ _ ho, below_zero]
      exact congrArg _ (Finset.sum_congr rfl fun b _ => hb M b)
    · rw [ha, h3, mul_zero, e, below_add _ _ _ ho, below_zero]
      refine congrArg _ (Finset.sum_congr rfl fun b _ => ?_)
      rw [hb, hw, ← EReal.coe_mul]
  · have e : m' = ((max r M : ℝ) : EReal) := by
      rw [hm, h1, hM]
      exact (EReal.coe_strictMono.monotone.map_max).symm
    generalize max r M = r' at e
    have ea : Ideal.exp2 (m - m') = ((Real.rpow 2 (r - r') : ℝ) : EReal) := by
      rw [h1, e, ← EReal.coe_sub, Ideal.exp2_coe]
    refine ⟨r', e, ?_, fun x => ?_⟩
    · rw [hl, ea, h2, below_move _ (P s i r') _ _ (P_move s i r r'), e, below_add _ _ _ ho]
      exact congrArg _ (Finset.sum_congr rfl fun b _ => hb r' b)
    · rw [ha, ea, h3, below_move _ (fun j => P s i r' j * v j x) _ _ (fun j => by rw [← mul_assoc, P_move]), e, below_add _ _ _ ho]
      refine congrArg _ (Finset.sum_congr rfl fun b _ => ?_)
      rw [hb, hw, ← EReal.coe_mul]

/-- With every column up to the row's own taken in, the sums are whole. -/
theorem Sums.whole {o : ℕ} {m l : EReal} {acc : Fin 128 → EReal} {r : ℝ} (H : Sums s v i o m l acc r) (hi : i < o) :
    m = (r : EReal) ∧ l = ((∑ j, P s i r j : ℝ) : EReal) ∧ ∀ x, acc x = ((∑ j, P s i r j * v j x : ℝ) : EReal) := by
  have hP : ∀ j : Fin 8192, o ≤ j.val → P s i r j = 0 := fun j hj => if_neg (by omega)
  refine ⟨H.is_top, ?_, fun x => ?_⟩
  · rw [H.is_sum, below_all _ _ fun j hj => by rw [hP j hj, EReal.coe_zero], coe_sum]
  · rw [H.is_acc, below_all _ _ fun j hj => by rw [hP j hj, zero_mul, EReal.coe_zero], coe_sum]

end Cert.Fwd

end
-- ==== Proof.FwdLoop.lean ====
/- Hand-written, untrusted. The forgetting attention, forward: the kernel's loop over the key blocks before the
   diagonal, and what a launch point stores. -/
module

public import proofs.«01_k».proof.Proof.FwdPay
public import proofs.«01_k».proof.Proof.FwdOnline
public import proofs.«01_k».proof.Proof.Gen.Kernel4Ideal.Value

@[expose] public section

set_option maxRecDepth 16384

noncomputable section

open Idealize.ShloMosaic Idealize.ShloMosaic.TcCoe Idealize.SL.Sem
open scoped BigOperators

namespace Cert.Kernel4Ideal.Value

open Cert.Kernel4Ideal Cert.Kernel4Ideal.Gen
open Cert.Kernel2Ideal.Value (word_mul)
open Cert.Fwd

/-- A block of whole rows of a view, read at once. -/
theorem readAt_rows {e : EltTy} {κ : Kind} {sp : Space} {m w n w' : ℕ} (v : View sig κ sp (⟨2, ![m, w]⟩ : Shape) e) (X : v.ty.Contents (Elt Ideal))
    {off : Fin 2 → ℕ} (inb : ∀ a : Fin 2, off a + (![n, w'] : Fin 2 → ℕ) a ≤ (![m, w] : Fin 2 → ℕ) a) {o : ℕ} (hoff : off = ![o, 0])
    (b : Fin n) (x : Fin w') (hb : o + b.val < m) (hx : x.val < w) :
    v.readAt (Elt Ideal) (Rect.unit (s := ⟨2, ![m, w]⟩) off ![n, w'] inb).toLoadRect X (ix2 b x)
      = v.read (Elt Ideal) X (ix2 ⟨o + b.val, hb⟩ ⟨x.val, hx⟩) := by
  subst hoff
  refine congrArg (v.read (Elt Ideal) X) (funext fun a => Fin.ext ?_)
  fin_cases a
  · exact congrArg (o + ·) (Nat.one_mul _)
  · exact (Nat.zero_add _).trans (Nat.one_mul _)

theorem trips1 (i : grid0.Coords) : (k0_t1_loop i).trips = (i 1).val :=
  (by decide +kernel : ∀ n : Fin 8, Scf.Loop.trips ⟨0#32, Scalar.addi 0#32 (Scalar.muli (Scalar.divsi (Scalar.subi (BitVec.ofNat 32 n.val) 0#32) 1#32) 1#32), 1#32⟩ = n.val) (i 1)

theorem trips2 (i : grid0.Coords) : (k0_t2_loop i).trips = 0 :=
  (by decide +kernel : ∀ n : Fin 8, Scf.Loop.trips ⟨Scalar.addi 0#32 (Scalar.muli (Scalar.divsi (Scalar.subi (BitVec.ofNat 32 n.val) 0#32) 1#32) 1#32), Scalar.addi 0#32 (Scalar.subi (BitVec.ofNat 32 n.val) 0#32), 1#32⟩ = 0) (i 1)

theorem row_lt (i : grid0.Coords) : (i 1).val < 8 := (i 1).isLt
theorem trip_lt (i : grid0.Coords) (k : Fin (k0_t1_loop i).trips) : k.val < 8 :=
  (k.isLt.trans_eq (trips1 i)).trans (row_lt i)

theorem word_row : ∀ n : Fin 8, (Scalar.indexCast (Scalar.muli (BitVec.ofNat 32 n.val) 1024#32)).toNat = n.val * 1024 := by
  decide +kernel

theorem off1_eq (i : grid0.Coords) (k : Fin (k0_t1_loop i).trips) : k0_off1 i k = ![k.val * 1024, 0] :=
  congrArg (fun z => ![z, 0]) (word_mul ⟨k.val, trip_lt i k⟩)
theorem off2_eq (i : grid0.Coords) (k : Fin (k0_t1_loop i).trips) : k0_off2 i k = ![k.val * 1024, 0] :=
  congrArg (fun z => ![z, 0]) (word_mul ⟨k.val, trip_lt i k⟩)
theorem off5_eq (i : grid0.Coords) : k0_off5 i = ![(i 1).val * 1024, 0] := congrArg (fun z => ![z, 0]) (word_row (i 1))
theorem off6_eq (i : grid0.Coords) : k0_off6 i = ![(i 1).val * 1024, 0] := congrArg (fun z => ![z, 0]) (word_row (i 1))

section Point

variable (c : Dev nD) (i : grid0.Coords)
  (arg2 : Memref sig .tc .vmem S1024x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S1024x128 .f32) (harg5 : arg5.IsWhole) (arg6 : Memref sig .tc .vmem S1x1024x1 .f32) (harg6 : arg6.IsWhole)
  (x0 : Vec Ideal S1024x256 .bf16) (x1 : Vec Ideal S8192x256 .bf16) (x2 : Vec Ideal S8192x128 .bf16)

/-- The blocks a point reads: its queries, a trip's keys and values, the diagonal's keys and values. -/
abbrev ldQ : Vec Ideal S1024x256 .bf16 := arg2.view.readAt (Elt Ideal) (Rect.unit (s := S1024x256) ![0, 0] S1024x256.size inb_S1024x256_S1024x256_0_0).toLoadRect (harg2.unread x0)
abbrev ldK (k : Fin (k0_t1_loop i).trips) : Vec Ideal S1024x256 .bf16 := arg3.view.readAt (Elt Ideal) (Rect.unit (s := S8192x256) (k0_off1 i k) S1024x256.size (k0_off1_inb i k)).toLoadRect (harg3.unread x1)
abbrev ldV (k : Fin (k0_t1_loop i).trips) : Vec Ideal S1024x128 .bf16 := arg4.view.readAt (Elt Ideal) (Rect.unit (s := S8192x128) (k0_off2 i k) S1024x128.size (k0_off2_inb i k)).toLoadRect (harg4.unread x2)
abbrev diK : Vec Ideal S1024x256 .bf16 := arg3.view.readAt (Elt Ideal) (Rect.unit (s := S8192x256) (k0_off5 i) S1024x256.size (k0_off5_inb i)).toLoadRect (harg3.unread x1)
abbrev diV : Vec Ideal S1024x128 .bf16 := arg4.view.readAt (Elt Ideal) (Rect.unit (s := S8192x128) (k0_off6 i) S1024x128.size (k0_off6_inb i)).toLoadRect (harg4.unread x2)

theorem ldQ_at (a : Fin 1024) (x : Fin 256) : ldQ arg2 harg2 x0 (ix2 a x) = x0 (ix2 a x) :=
  (readAt_rows (m := 1024) (w := 256) arg2.view (harg2.unread x0) _ (o := 0) rfl a x (by omega) x.isLt).trans
    ((congrFun (harg2.read_unread x0) _).trans (congrArg x0 (congrArg₂ ix2 (Fin.ext (Nat.zero_add _)) rfl)))
theorem ldK_at (k : Fin (k0_t1_loop i).trips) (b : Fin 1024) (x : Fin 256) (hb : k.val * 1024 + b.val < 8192) :
    ldK i arg3 harg3 x1 k (ix2 b x) = x1 (ix2 ⟨k.val * 1024 + b.val, hb⟩ x) :=
  (readAt_rows (m := 8192) (w := 256) arg3.view (harg3.unread x1) _ (off1_eq i k) b x hb x.isLt).trans (congrFun (harg3.read_unread x1) _)
theorem ldV_at (k : Fin (k0_t1_loop i).trips) (b : Fin 1024) (x : Fin 128) (hb : k.val * 1024 + b.val < 8192) :
    ldV i arg4 harg4 x2 k (ix2 b x) = x2 (ix2 ⟨k.val * 1024 + b.val, hb⟩ x) :=
  (readAt_rows (m := 8192) (w := 128) arg4.view (harg4.unread x2) _ (off2_eq i k) b x hb x.isLt).trans (congrFun (harg4.read_unread x2) _)
theorem diK_at (b : Fin 1024) (x : Fin 256) (hb : (i 1).val * 1024 + b.val < 8192) :
    diK i arg3 harg3 x1 (ix2 b x) = x1 (ix2 ⟨(i 1).val * 1024 + b.val, hb⟩ x) :=
  (readAt_rows (m := 8192) (w := 256) arg3.view (harg3.unread x1) _ (off5_eq i) b x hb x.isLt).trans (congrFun (harg3.read_unread x1) _)
theorem diV_at (b : Fin 1024) (x : Fin 128) (hb : (i 1).val * 1024 + b.val < 8192) :
    diV i arg4 harg4 x2 (ix2 b x) = x2 (ix2 ⟨(i 1).val * 1024 + b.val, hb⟩ x) :=
  (readAt_rows (m := 8192) (w := 128) arg4.view (harg4.unread x2) _ (off6_eq i) b x hb x.isLt).trans (congrFun (harg4.read_unread x2) _)

theorem tripR_eq (k : Fin (k0_t1_loop i).trips) (acc : FVec Ideal S1024x1 .f32 × FVec Ideal S1024x1 .f32 × FVec Ideal S1024x128 .f32) :
    tripR_k0_t1 (F := Ideal) Variants.none c none i arg2 harg2 arg3 harg3 arg4 harg4 arg5 harg5 arg6 harg6 (ldQ arg2 harg2 x0) (harg3.unread x1) (harg4.unread x2) k acc
      = (k0_pay8 (ldQ arg2 harg2 x0) acc.1 (ldK i arg3 harg3 x1 k), k0_pay11 (ldQ arg2 harg2 x0) acc.1 acc.2.1 (ldK i arg3 harg3 x1 k),
          k0_pay12 (ldQ arg2 harg2 x0) acc.1 acc.2.2 (ldK i arg3 harg3 x1 k) (ldV i arg4 harg4 x2 k)) := by
  unfold tripR_k0_t1 trip_k0_t1
  rfl

/-- The carried numbers after `n` trips. -/
abbrev carried (n : ℕ) : FVec Ideal S1024x1 .f32 × FVec Ideal S1024x1 .f32 × FVec Ideal S1024x128 .f32 :=
  st_k0_t1 (F := Ideal) Variants.none c none i arg2 harg2 arg3 harg3 arg4 harg4 arg5 harg5 arg6 harg6 (ldQ arg2 harg2 x0) (harg3.unread x1) (harg4.unread x2) (k0_pay4, k0_pay5, k0_pay6) n

/-- The pieces a point stores, read whole. -/
theorem loop2_eq (init : FVec Ideal S1024x1 .f32 × FVec Ideal S1024x1 .f32 × FVec Ideal S1024x128 .f32) :
    st_k0_t2 (F := Ideal) Variants.none c none i arg2 harg2 arg3 harg3 arg4 harg4 arg5 harg5 arg6 harg6 (ldQ arg2 harg2 x0) (harg3.unread x1) (harg4.unread x2) init (k0_t2_loop i).trips = init := by
  rw [trips2]
  rfl

abbrev final3 (st : FVec Ideal S1024x1 .f32 × FVec Ideal S1024x1 .f32 × FVec Ideal S1024x128 .f32) : Vec Ideal S1024x128 .f32 :=
  k0_pay1 (k0_pay23 (ldQ arg2 harg2 x0) st.1 st.2.1 (diK i arg3 harg3 x1)) (k0_pay24 (ldQ arg2 harg2 x0) st.1 st.2.2 (diK i arg3 harg3 x1))
    (k0_pay25 (ldQ arg2 harg2 x0) st.1 (diK i arg3 harg3 x1)) (k0_pay26 (diV i arg4 harg4 x2)) (constant S1024x128 .f32 0x00000000#32)
abbrev final4 (st : FVec Ideal S1024x1 .f32 × FVec Ideal S1024x1 .f32 × FVec Ideal S1024x128 .f32) : Vec Ideal S1x1024x1 .f32 :=
  k0_pay2 (k0_pay20 (ldQ arg2 harg2 x0) st.1 (diK i arg3 harg3 x1)) (k0_pay23 (ldQ arg2 harg2 x0) st.1 st.2.1 (diK i arg3 harg3 x1))

theorem out3_eq : out0_A_3 (F := Ideal) c i arg2 harg2 arg3 harg3 arg4 harg4 arg5 harg5 arg6 harg6 x0 x1 x2
    = final3 i arg2 harg2 arg3 harg3 arg4 harg4 x0 x1 x2 (carried c i arg2 harg2 arg3 harg3 arg4 harg4 arg5 harg5 arg6 harg6 x0 x1 x2 (k0_t1_loop i).trips) := by
  refine Eq.trans ?_ (congrArg (final3 i arg2 harg2 arg3 harg3 arg4 harg4 x0 x1 x2)
    (loop2_eq c i arg2 harg2 arg3 harg3 arg4 harg4 arg5 harg5 arg6 harg6 x0 x1 x2 (carried c i arg2 harg2 arg3 harg3 arg4 harg4 arg5 harg5 arg6 harg6 x0 x1 x2 (k0_t1_loop i).trips)))
  exact (View.read_writes_junk_eq_canon VO0_3 _).trans (View.canon_cons_unit_lit _ _ _ fun a => by fin_cases a <;> rfl)
theorem out4_eq : out0_A_4 (F := Ideal) c i arg2 harg2 arg3 harg3 arg4 harg4 arg5 harg5 arg6 harg6 x0 x1 x2
    = final4 i arg2 harg2 arg3 harg3 x0 x1 (carried c i arg2 harg2 arg3 harg3 arg4 harg4 arg5 harg5 arg6 harg6 x0 x1 x2 (k0_t1_loop i).trips) := by
  refine Eq.trans ?_ (congrArg (final4 i arg2 harg2 arg3 harg3 x0 x1)
    (loop2_eq c i arg2 harg2 arg3 harg3 arg4 harg4 arg5 harg5 arg6 harg6 x0 x1 x2 (carried c i arg2 harg2 arg3 harg3 arg4 harg4 arg5 harg5 arg6 harg6 x0 x1 x2 (k0_t1_loop i).trips)))
  exact (View.read_writes_junk_eq_canon VO0_4 _).trans (View.canon_cons_unit_lit _ _ _ fun a => by fin_cases a <;> rfl)

variable (s : Fin 8192 → ℝ) (v : Fin 8192 → Fin 128 → ℝ) (a : Fin 1024)
  (hs : ∀ j : Fin 8192, (∑ x : Fin 256, x0 (ix2 a x) * x1 (ix2 j x)) = (s j : EReal))
  (hv : ∀ (j : Fin 8192) (x : Fin 128), x2 (ix2 j x) = (v j x : EReal))
include hs hv

/-- After `n` trips the first `1024 n` keys have been taken in. -/
theorem carried_at (n : ℕ) (hn : n ≤ (k0_t1_loop i).trips) :
    Online s v ((i 1).val * 1024 + a.val) (n * 1024) ((carried c i arg2 harg2 arg3 harg3 arg4 harg4 arg5 harg5 arg6 harg6 x0 x1 x2 n).1 (ix2 a 0))
      ((carried c i arg2 harg2 arg3 harg3 arg4 harg4 arg5 harg5 arg6 harg6 x0 x1 x2 n).2.1 (ix2 a 0)) (fun x => (carried c i arg2 harg2 arg3 harg3 arg4 harg4 arg5 harg5 arg6 harg6 x0 x1 x2 n).2.2 (ix2 a x)) := by
  induction n with
  | zero => exact Or.inl ⟨Nat.zero_mul _, pay4_at a, pay5_at a, fun x => pay6_at a x⟩
  | succ n ih =>
    have hlt : n < (k0_t1_loop i).trips := hn
    have h8 : n < 8 := trip_lt i ⟨n, hlt⟩
    have hrow : n < (i 1).val := hlt.trans_eq (trips1 i)
    have e : carried c i arg2 harg2 arg3 harg3 arg4 harg4 arg5 harg5 arg6 harg6 x0 x1 x2 (n + 1) = _ :=
      (st_k0_t1_succ Variants.none c none i arg2 harg2 arg3 harg3 arg4 harg4 arg5 harg5 arg6 harg6 (ldQ arg2 harg2 x0) (harg3.unread x1) (harg4.unread x2) (k0_pay4, k0_pay5, k0_pay6) ⟨n, hlt⟩).trans
        (tripR_eq c i arg2 harg2 arg3 harg3 arg4 harg4 arg5 harg5 arg6 harg6 x0 x1 x2 ⟨n, hlt⟩ _)
    rw [e, Nat.succ_mul]
    refine Or.inr ((ih hlt.le).step (by omega) (by omega) (fun b => k0_pay7 (ldQ arg2 harg2 x0) (ldK i arg3 harg3 x1 ⟨n, hlt⟩) (ix2 a b))
      (fun b x => ldV i arg4 harg4 x2 ⟨n, hlt⟩ (ix2 b x)) (fun b => ?_) (fun b x => ?_) (pay8_at _ _ _ a) ?_ fun x => ?_)
    · rw [pay7_at, if_pos (by omega), ← hs]
      refine Finset.sum_congr rfl fun x _ => ?_
      rw [ldQ_at, ldK_at i arg3 harg3 x1 ⟨n, hlt⟩ b x (by simp only; omega)]
    · rw [ldV_at i arg4 harg4 x2 ⟨n, hlt⟩ b x (by simp only; omega), hv]
    · refine (pay11_at _ _ _ _ a).trans ?_
      rw [pay10_at]
      exact congrArg _ (Finset.sum_congr rfl fun b _ => pay9_at _ _ _ a b)
    · refine (pay12_at _ _ _ _ _ a x).trans ?_
      rw [pay10_at]
      exact congrArg _ (Finset.sum_congr rfl fun b _ => by rw [pay9_at])

/-- The rest of the past blocks is none; then the block of the diagonal is taken in. -/
theorem diagonal_at :
    ∃ r, Sums s v ((i 1).val * 1024 + a.val) ((i 1).val * 1024 + 1024)
      (k0_pay20 (ldQ arg2 harg2 x0) (carried c i arg2 harg2 arg3 harg3 arg4 harg4 arg5 harg5 arg6 harg6 x0 x1 x2 (k0_t1_loop i).trips).1 (diK i arg3 harg3 x1) (ix2 a 0))
      (k0_pay23 (ldQ arg2 harg2 x0) (carried c i arg2 harg2 arg3 harg3 arg4 harg4 arg5 harg5 arg6 harg6 x0 x1 x2 (k0_t1_loop i).trips).1 (carried c i arg2 harg2 arg3 harg3 arg4 harg4 arg5 harg5 arg6 harg6 x0 x1 x2 (k0_t1_loop i).trips).2.1 (diK i arg3 harg3 x1) (ix2 a 0))
      (fun x => k0_pay24 (ldQ arg2 harg2 x0) (carried c i arg2 harg2 arg3 harg3 arg4 harg4 arg5 harg5 arg6 harg6 x0 x1 x2 (k0_t1_loop i).trips).1 (carried c i arg2 harg2 arg3 harg3 arg4 harg4 arg5 harg5 arg6 harg6 x0 x1 x2 (k0_t1_loop i).trips).2.2 (diK i arg3 harg3 x1) (ix2 a x)
        + ∑ b : Fin 1024, k0_pay21 (ldQ arg2 harg2 x0) (carried c i arg2 harg2 arg3 harg3 arg4 harg4 arg5 harg5 arg6 harg6 x0 x1 x2 (k0_t1_loop i).trips).1 (diK i arg3 harg3 x1) (ix2 a b) * diV i arg4 harg4 x2 (ix2 b x)) r := by
  have h8 := row_lt i
  have ih := carried_at c i arg2 harg2 arg3 harg3 arg4 harg4 arg5 harg5 arg6 harg6 x0 x1 x2 s v a hs hv (k0_t1_loop i).trips le_rfl
  generalize carried c i arg2 harg2 arg3 harg3 arg4 harg4 arg5 harg5 arg6 harg6 x0 x1 x2 (k0_t1_loop i).trips = st at ih
  rw [trips1 i] at ih
  refine ih.step (by omega) (by omega) (fun b => k0_pay19 (ldQ arg2 harg2 x0) (diK i arg3 harg3 x1) (ix2 a b))
      (fun b x => diV i arg4 harg4 x2 (ix2 b x)) (fun b => ?_) (fun b x => ?_) (pay20_at _ _ _ a) ?_ fun x => ?_
  · rw [pay19_at, pay7_at, ← hs]
    refine if_congr (by omega) (Finset.sum_congr rfl fun x _ => ?_) rfl
    rw [ldQ_at, diK_at i arg3 harg3 x1 b x (by omega)]
  · rw [diV_at i arg4 harg4 x2 b x (by omega), hv]
  · refine (pay23_at _ _ _ _ a).trans ?_
    rw [pay22_at]
    exact congrArg _ (Finset.sum_congr rfl fun b _ => pay21_at _ _ _ a b)
  · rw [pay24_at, pay22_at]
    exact congrArg _ (Finset.sum_congr rfl fun b _ => by rw [pay21_at])

/-- What a launch point stores for row `a`: the weighted values over the weights' sum, and the logarithm of that sum in
    base 2, against some reference point `r`. -/
theorem point_at : ∃ r : ℝ,
    (∀ x, out0_A_3 (F := Ideal) c i arg2 harg2 arg3 harg3 arg4 harg4 arg5 harg5 arg6 harg6 x0 x1 x2 (ix2 a x)
      = Ideal.div ((∑ j, P s ((i 1).val * 1024 + a.val) r j * v j x : ℝ) : EReal) ((∑ j, P s ((i 1).val * 1024 + a.val) r j : ℝ) : EReal))
    ∧ out0_A_4 (F := Ideal) c i arg2 harg2 arg3 harg3 arg4 harg4 arg5 harg5 arg6 harg6 x0 x1 x2 (ix3 0 a 0)
      = (r : EReal) + Ideal.log ((∑ j, P s ((i 1).val * 1024 + a.val) r j : ℝ) : EReal) * perLog := by
  obtain ⟨r, H⟩ := diagonal_at c i arg2 harg2 arg3 harg3 arg4 harg4 arg5 harg5 arg6 harg6 x0 x1 x2 s v a hs hv
  obtain ⟨h1, h2, h3⟩ := H.whole (by omega)
  refine ⟨r, fun x => ?_, ?_⟩
  · refine (congrFun (out3_eq c i arg2 harg2 arg3 harg3 arg4 harg4 arg5 harg5 arg6 harg6 x0 x1 x2) _).trans ((pay1_at _ _ _ _ _ _ a x).trans ?_)
    exact congrArg₂ Ideal.div (h3 x) h2
  · refine (congrFun (out4_eq c i arg2 harg2 arg3 harg3 arg4 harg4 arg5 harg5 arg6 harg6 x0 x1 x2) _).trans ((pay2_at _ _ a).trans ?_)
    rw [h1, h2]

end Point

end Cert.Kernel4Ideal.Value

end
-- ==== Proof.FwdEntry.lean ====
/- Hand-written, untrusted. The forgetting attention, forward: the arrays the launch reads, and the scores of its packed
   queries and keys. -/
module

public import proofs.«01_k».proof.Proof.FoxHost
public import proofs.«01_k».proof.Proof.FwdLoop
public import proofs.«01_k».proof.Proof.FoxReal

@[expose] public section

set_option maxRecDepth 16384

noncomputable section

open Idealize.ShloMosaic Idealize.ShloMosaic.TcCoe Idealize.SL.Sem
open scoped BigOperators

namespace Cert.Fwd

open Cert.Fox
open Cert.Kernel2Ideal.Value

/-- The product of a packed query row and a packed key row of real arrays is the score over the natural logarithm of two. -/
theorem packed_score (aq ak : FVec Ideal Cert.Kernel2Ideal.S8192x1024 .f32) (ag : FVec Ideal Cert.Kernel2Ideal.S8x8192 .f32)
    (s : ℝ) (hs : wScale = (s : EReal)) (q k : RRows) (g : RGate) (hq : rowsOf aq = up q) (hk : rowsOf ak = up k) (hg : gateOf ag = upG g)
    (h : Fin 8) (i j : Fin 8192) :
    (∑ x, QW aq ag (ix2 i (wcol h x)) * KW ak ag (ix2 j (wcol h x))) = ((scoreR s q k g h i j * (1 / L) : ℝ) : EReal) := by
  have eq : ∀ i x, aq (ix2 i (col h x)) = (q h i x : EReal) := fun i x => congrFun (congrFun (congrFun hq h) i) x
  have ek : ∀ i x, ak (ix2 i (col h x)) = (k h i x : EReal) := fun i x => congrFun (congrFun (congrFun hk h) i) x
  have eg : ∀ i, ag (ix2 h i) = (g h i : EReal) := fun i => congrFun (congrFun hg h) i
  have e1 : ∀ i x, QSC aq (ix3 i h x) = ((q h i x * (s * (1 / L)) : ℝ) : EReal) := fun i x => by
    rw [QSC_at, eq, hs, log_two, Ideal.div_coe L_ne, ← EReal.coe_mul, ← EReal.coe_mul]
  have e2 : ∀ i, HI ag (ix3 i h 0) = ((g h i * (1 / L) : ℝ) : EReal) := fun i => by
    rw [HI_at, eg, log_two, Ideal.div_coe L_ne, ← EReal.coe_mul]
  have e3 : ∀ i, REST ag (ix3 i h 0) = 0 := fun i => by
    rw [REST_at, eg, log_two, Ideal.div_coe L_ne, ← EReal.coe_mul, ← EReal.coe_sub, sub_self, EReal.coe_zero]
  have e4 : ∀ i, MID ag (ix3 i h 0) = 0 := fun i => (MID_at _ i h 0).trans (e3 i)
  have e5 : ∀ i, LO ag (ix3 i h 0) = 0 := fun i => by rw [LO_at, e3, sub_zero]
  simp only [QW_at, KW_at]
  rw [sum_packed, e2, e2, e4, e4, e5, e5]
  simp only [e1, ek, neg_zero, mul_one, one_mul, add_zero, zero_add]
  rw [dot_coe, ← EReal.coe_neg, ← EReal.coe_add, ← EReal.coe_add]
  refine congrArg _ ?_
  have e : ∑ x, q h i x * (s * (1 / L)) * k h j x = (∑ x, q h i x * k h j x) * (s * (1 / L)) := by
    rw [Finset.sum_mul]
    exact Finset.sum_congr rfl fun x _ => by ring
  rw [e, scoreR]
  ring

end Cert.Fwd

namespace Cert.Kernel4Ideal.Value

open Cert.Kernel4Ideal Cert.Kernel4Ideal.Gen
open Cert.Fox (col)
open Cert.Kernel2Ideal.Value (QW KW wcol rowsOf gateOf)

variable (m : (ℓ : Loc nD τ sig) → Buf (Elt Ideal) ℓ) (c : Dev nD)

/-- The arguments by name. -/
abbrev aQ : FVec Ideal S8192x1024 .f32 := m ((c : Thread nD τ).loc main_arg0)
abbrev aK : FVec Ideal S8192x1024 .f32 := m ((c : Thread nD τ).loc main_arg1)
abbrev aV : FVec Ideal S8192x1024 .f32 := m ((c : Thread nD τ).loc main_arg2)
abbrev aG : FVec Ideal S8x8192 .f32 := m ((c : Thread nD τ).loc main_arg3)

/-- The memory after the host operations, their list with nothing after it. -/
abbrev M0 : Valuation τ sig (Elt Ideal) := StableHlo.after (List.flatten [hostOps0]) (fun b => m (c, b))
theorem M0_query : M0 m c (Proc.devRef .tc main_v26) = QW (aQ m c) (aG m c) := by unfold M0; entry_read; rfl
theorem M0_key : M0 m c (Proc.devRef .tc main_v28) = KW (aK m c) (aG m c) := by unfold M0; entry_read; rfl
theorem entry_eq (b : Ref sig .tc) : V m c b = M0 m c (Proc.devRef .tc b) :=
  congrArg (fun l => StableHlo.after l (fun b => m (c, b)) (Proc.devRef .tc b)) (List.append_nil hostOps0).symm
theorem V_query : (V m c main_v26 : FVec Ideal S8192x2048 .bf16) = QW (aQ m c) (aG m c) := (entry_eq m c main_v26).trans (M0_query m c)
theorem V_key : (V m c main_v28 : FVec Ideal S8192x2048 .bf16) = KW (aK m c) (aG m c) := (entry_eq m c main_v28).trans (M0_key m c)
theorem V_value : (V m c main_v29 : FVec Ideal S8192x1024 .bf16) = truncf .bf16 (aV m c) bitsLt_bf16_f32 := by entry_read; rfl

theorem idx_val : ∀ t : Fin cfg0.N, win0_0.index t = ![t.val % 8, t.val / 8]
    ∧ win0_1.index t = ![0, t.val / 8]
    ∧ win0_2.index t = ![0, t.val / 8]
    ∧ win0_3.index t = ![t.val % 8, t.val / 8]
    ∧ win0_4.index t = ![t.val / 8, t.val % 8, 0] :=
  (by decide +kernel : ∀ t : Fin grid0.N, _)

theorem coords_val : ∀ t : Fin cfg0.N, (grid0.coords t 1).val = t.val % 8 :=
  (by decide +kernel : ∀ t : Fin grid0.N, _)

/-- The head of a launch point, and the row of the whole array that row `a` of its block is. -/
def headAt (t : Fin cfg0.N) : Fin 8 := ⟨t.val / 8, by have := t.isLt; have : cfg0.N = 64 := N_0; omega⟩
def rowAt (t : Fin cfg0.N) (a : Fin 1024) : Fin 8192 := ⟨t.val % 8 * 1024 + a.val, by omega⟩

theorem blk_query (t : Fin cfg0.N) (a : Fin 1024) (x : Fin 256) :
    (iblk m c 0 t : Vec Ideal S1024x256 .bf16) (ix2 a x) = QW (aQ m c) (aG m c) (ix2 (rowAt t a) (wcol (headAt t) x)) := by
  rw [← V_query m c]
  blk_simp [iblk, idx_val t]
  refine congrArg (V m c main_v26) ?_
  blk_ext [idx_val t, rowAt, headAt, wcol]
theorem blk_key (t : Fin cfg0.N) (j : Fin 8192) (x : Fin 256) :
    (iblk m c 1 t : Vec Ideal S8192x256 .bf16) (ix2 j x) = KW (aK m c) (aG m c) (ix2 j (wcol (headAt t) x)) := by
  rw [← V_key m c]
  blk_simp [iblk, idx_val t]
  refine congrArg (V m c main_v28) ?_
  blk_ext [idx_val t, headAt, wcol]
theorem blk_value (t : Fin cfg0.N) (j : Fin 8192) (x : Fin 128) :
    (iblk m c 2 t : Vec Ideal S8192x128 .bf16) (ix2 j x) = rowsOf (aV m c) (headAt t) j x := by
  have e : rowsOf (aV m c) (headAt t) j x = (V m c main_v29 : FVec Ideal S8192x1024 .bf16) (ix2 j (col (headAt t) x)) := by
    rw [V_value m c]; rfl
  rw [e]
  blk_simp [iblk, idx_val t]
  refine congrArg (V m c main_v29) ?_
  blk_ext [idx_val t, headAt, col]

end Cert.Kernel4Ideal.Value

end
-- ==== Proof.FwdRef.lean ====
/- Hand-written, untrusted. The forgetting attention, forward: what the reference computes, piece by piece. -/
module

public import proofs.«01_k».proof.Proof.FoxRef
public import proofs.«01_k».proof.Proof.Gen.Reference4Ideal.Run

@[expose] public section

set_option maxRecDepth 16384

noncomputable section

open Idealize.ShloMosaic Idealize.ShloMosaic.TcCoe Idealize.SL.Sem
open scoped BigOperators

namespace Cert.Reference4Ideal.Value

open Cert.Reference4Ideal Cert.Reference4Ideal.Gen
open Cert.Fox
open Cert.Reference2Ideal.Value (rows gate HD FLAT Z ROWMAX PROB HD_at FLAT_at Z_at ROWMAX_at PROB_at)

section Pieces

variable (q k v : FVec Ideal S8192x1024 .f32) (g : FVec Ideal S8x8192 .f32)

/-- The attention's output. -/
def MIX : FVec Ideal S8x8192x128 .f32 :=
  Host.dotGeneral dot_S8x8192x8192_S8x8192x128_S8x8192x128_2_1_1_2_0_0 none (PROB q k g) (HD v)
theorem MIX_at (h : Fin 8) (i : Fin 8192) (x : Fin 128) : MIX q k v g (ix3 h i x)
    = ∑ j, Ideal.div (weight (rows q) (rows k) (gate g) h i j) (total (rows q) (rows k) (gate g) h i) * rows v h j x := by
  pointwise [MIX, HD_at, PROB_at]
def OUT : FVec Ideal S8192x1024 .f32 := FLAT (MIX q k v g)
theorem OUT_at (h : Fin 8) (i : Fin 8192) (x : Fin 128) : OUT q k v g (ix2 i (col h x))
    = ∑ j, Ideal.div (weight (rows q) (rows k) (gate g) h i j) (total (rows q) (rows k) (gate g) h i) * rows v h j x :=
  (FLAT_at _ i h x).trans (MIX_at q k v g h i x)

/-- A row's greatest score, the sum of its exponentials, and the logarithm of the sum of the scores' own. -/
def TOPS : FVec Ideal S8x8192x1 .f32 := broadcastInDim S8x8192x1 ![0, 1] bcast_S8x8192_S8x8192x1_0_1 (ROWMAX q k g)
theorem TOPS_at (h : Fin 8) (i : Fin 8192) (u : Fin 1) : TOPS q k g (ix3 h i u) = top (rows q) (rows k) (gate g) h i := by
  pointwise [TOPS, ROWMAX_at]
def EXPS : FVec Ideal S8x8192x8192 .f32 :=
  Host.exp (subf (Z q k g) (broadcastInDim S8x8192x8192 ![0, 1, 2] bcast_S8x8192x1_S8x8192x8192_0_1_2 (TOPS q k g)))
theorem EXPS_at (h : Fin 8) (i j : Fin 8192) : EXPS q k g (ix3 h i j) = weight (rows q) (rows k) (gate g) h i j := by
  pointwise [EXPS, TOPS_at, Z_at]
  rfl
def SUMS : FVec Ideal S8x8192x1 .f32 :=
  broadcastInDim S8x8192x1 ![0, 1] bcast_S8x8192_S8x8192x1_0_1
    (Host.reduceAdd (EXPS q k g) (constant S_ .f32 0x00000000#32) reducesTo_S8x8192x8192_S8x8192_d2 h_S_)
theorem SUMS_at (h : Fin 8) (i : Fin 8192) (u : Fin 1) : SUMS q k g (ix3 h i u) = total (rows q) (rows k) (gate g) h i := by
  pointwise [SUMS, EXPS_at]
  rfl
def LOGSUM (t u : FVec Ideal S8x8192x1 .f32) : FVec Ideal S8x8192x1 .f32 :=
  Host.divf (addf t (Host.log u)) (broadcastInDim S8x8192x1 ![] bcast_S_S8x8192x1 (Host.log (constant S_ .f32 0x40000000#32)))
theorem LOGSUM_at (t u : FVec Ideal S8x8192x1 .f32) (h : Fin 8) (i : Fin 8192) (w : Fin 1) :
    LOGSUM t u (ix3 h i w) = Ideal.div (t (ix3 h i w) + Ideal.log (u (ix3 h i w))) (Ideal.log wTwo) := by
  pointwise [LOGSUM]
def LSE : FVec Ideal S8x8192x1 .f32 := LOGSUM (TOPS q k g) (SUMS q k g)
theorem LSE_at (h : Fin 8) (i : Fin 8192) (u : Fin 1) : LSE q k g (ix3 h i u)
    = Ideal.div (top (rows q) (rows k) (gate g) h i + Ideal.log (total (rows q) (rows k) (gate g) h i)) (Ideal.log wTwo) :=
  (LOGSUM_at _ _ h i u).trans (by rw [TOPS_at, SUMS_at])

end Pieces

variable (m : (ℓ : Loc nD τ sig) → Buf (Elt Ideal) ℓ) (c : Dev nD)

/-- The arguments: queries, keys, values, gates' sums. -/
abbrev aQ : FVec Ideal S8192x1024 .f32 := m ((c.tc : Thread nD τ).loc main_arg0)
abbrev aK : FVec Ideal S8192x1024 .f32 := m ((c.tc : Thread nD τ).loc main_arg1)
abbrev aV : FVec Ideal S8192x1024 .f32 := m ((c.tc : Thread nD τ).loc main_arg2)
abbrev aG : FVec Ideal S8x8192 .f32 := m ((c.tc : Thread nD τ).loc main_arg3)

theorem res_out : res_main_v44 m c = OUT (aQ m c) (aK m c) (aV m c) (aG m c) := rfl
theorem res_lse : res_main_v47 m c = LSE (aQ m c) (aK m c) (aG m c) := rfl

end Cert.Reference4Ideal.Value

end
-- ==== Proof.FwdValue.lean ====
/- Hand-written, untrusted. The forgetting attention, forward: the kernel's two results are the reference's on real
   arrays. -/
module

public import proofs.«01_k».proof.Proof.FwdEntry
public import proofs.«01_k».proof.Proof.FwdRef

@[expose] public section

set_option maxRecDepth 16384

noncomputable section

open Idealize.ShloMosaic Idealize.ShloMosaic.TcCoe Idealize.SL.Sem
open scoped BigOperators

namespace Cert.Fwd

open Cert.Fox
open Cert.RowNorm (coe_sum)

section Softmax

variable (s : ℝ) (q k : RRows) (g : RGate) (h : Fin 8) (i : Fin 8192)

/-- The scores in base 2. -/
abbrev two (j : Fin 8192) : ℝ := scoreR s q k g h i j * (1 / L)

/-- A power of two against the reference point `r` is an exponential against `t`, up to one factor. -/
theorem P_eq (t r : ℝ) (j : Fin 8192) : P (two s q k g h i) i.val r j = Real.exp (t - r * L) * W s q k g h i j t := by
  rw [P, W]
  split
  · refine (Real.rpow_def_of_pos (by norm_num) _).trans ?_
    rw [← Real.exp_add]
    refine congrArg Real.exp ?_
    have := L_ne
    show Real.log 2 * (scoreR s q k g h i j * (1 / L) - r) = _
    field_simp
    ring
  · exact (mul_zero _).symm

variable (t T r : ℝ) (hT : 0 < T) (eT : T = ∑ j, W s q k g h i j t)
include eT

theorem sum_P : ∑ j, P (two s q k g h i) i.val r j = Real.exp (t - r * L) * T := by
  rw [eT, Finset.mul_sum]
  exact Finset.sum_congr rfl fun j _ => P_eq s q k g h i t r j

include hT

/-- The weighted values over the weights' sum do not depend on the reference point. -/
theorem mean_eq (v : Fin 8192 → ℝ) :
    Ideal.div ((∑ j, P (two s q k g h i) i.val r j * v j : ℝ) : EReal) ((∑ j, P (two s q k g h i) i.val r j : ℝ) : EReal)
      = ((∑ j, W s q k g h i j t * (1 / T) * v j : ℝ) : EReal) := by
  rw [sum_P s q k g h i t T r eT, Ideal.div_coe (mul_pos (Real.exp_pos _) hT).ne', ← EReal.coe_mul]
  refine congrArg _ ?_
  rw [Finset.sum_mul]
  refine Finset.sum_congr rfl fun j _ => ?_
  rw [P_eq s q k g h i t r j]
  have := Real.exp_pos (t - r * L)
  field_simp

/-- Nor does the logarithm of the sum. -/
theorem log_eq : (r : EReal) + Ideal.log ((∑ j, P (two s q k g h i) i.val r j : ℝ) : EReal) * (((Real.log 2)⁻¹ : ℝ) : EReal)
    = (((t + Real.log T) * (1 / L) : ℝ) : EReal) := by
  have hE := Real.exp_pos (t - r * L)
  rw [sum_P s q k g h i t T r eT, Ideal.log_coe, if_neg (not_le.mpr (mul_pos hE hT)), ← EReal.coe_mul, ← EReal.coe_add]
  refine congrArg _ ?_
  rw [Real.log_mul hE.ne' hT.ne', Real.log_exp]
  have := L_ne
  show r + (t - r * L + Real.log T) * L⁻¹ = _
  field_simp
  ring

end Softmax

end Cert.Fwd

namespace Cert.Kernel4Ideal.Value

open Cert.Kernel4Ideal Cert.Kernel4Ideal.Gen
open Cert.Fox
open Cert.Fwd
open Cert.RowNorm (coe_sum)
open Cert.Kernel2Ideal.Value (QW KW wcol rowsOf gateOf)

variable (m : (ℓ : Loc nD τ sig) → Buf (Elt Ideal) ℓ) (c : Dev nD)

/-- Every entry of the four arguments is a real number. -/
structure Real (m : (ℓ : Loc nD τ sig) → Buf (Elt Ideal) ℓ) (c : Dev nD) : Prop where
  q : ∀ y, Cert.RowNorm.Fin' (aQ m c y)
  k : ∀ y, Cert.RowNorm.Fin' (aK m c y)
  v : ∀ y, Cert.RowNorm.Fin' (aV m c y)
  g : ∀ y, Cert.RowNorm.Fin' (aG m c y)

/-- The reference's two arrays at the same arguments. -/
abbrev ROUT : FVec Ideal S8192x1024 .f32 := Cert.Reference4Ideal.Value.OUT (aQ m c) (aK m c) (aV m c) (aG m c)
abbrev RLSE : FVec Ideal S8x8192x1 .f32 := Cert.Reference4Ideal.Value.LSE (aQ m c) (aK m c) (aG m c)

section Row

open Cert.Reference4Ideal.Value (OUT LSE OUT_at LSE_at)

variable (aq ak av : FVec Ideal Cert.Kernel2Ideal.S8192x1024 .f32) (ag : FVec Ideal Cert.Kernel2Ideal.S8x8192 .f32)
variable (s : ℝ) (hs : wScale = (s : EReal)) (q k v : RRows) (g : RGate)
variable (eq : rowsOf aq = up q) (ek : rowsOf ak = up k) (ev : rowsOf av = up v) (eg : gateOf ag = upG g)
include hs eq ek eg

/-- The reference's row, with powers of two against any reference point `r`. -/
theorem row_value (h : Fin 8) (i : Fin 8192) (r : ℝ) :
    (rowsOf av = up v → ∀ x, Ideal.div ((∑ j, P (two s q k g h i) i.val r j * v h j x : ℝ) : EReal)
        ((∑ j, P (two s q k g h i) i.val r j : ℝ) : EReal) = OUT aq ak av ag (ix2 i (col h x)))
    ∧ (r : EReal) + Ideal.log ((∑ j, P (two s q k g h i) i.val r j : ℝ) : EReal) * (((Real.log 2)⁻¹ : ℝ) : EReal)
      = LSE aq ak ag (ix3 h i 0) := by
  obtain ⟨t, T, hT, eT, et, eTot, ew⟩ := soft s hs q k g h i
  refine ⟨fun ev x => ?_, ?_⟩
  · refine (mean_eq s q k g h i t T r hT eT _).trans (Eq.trans ?_ (OUT_at aq ak av ag h i x).symm)
    rw [show Cert.Reference2Ideal.Value.rows aq = up q from eq, show Cert.Reference2Ideal.Value.rows ak = up k from ek,
      show Cert.Reference2Ideal.Value.rows av = up v from ev, show Cert.Reference2Ideal.Value.gate ag = upG g from eg, ← coe_sum]
    refine Finset.sum_congr rfl fun j _ => ?_
    rw [ew, eTot, Ideal.div_coe hT.ne', ← EReal.coe_mul]
    exact EReal.coe_mul _ _
  · refine (log_eq s q k g h i t T r hT eT).trans (Eq.trans ?_ (LSE_at aq ak ag h i 0).symm)
    rw [show Cert.Reference2Ideal.Value.rows aq = up q from eq, show Cert.Reference2Ideal.Value.rows ak = up k from ek,
      show Cert.Reference2Ideal.Value.gate ag = upG g from eg, et, eTot, Ideal.log_coe, if_neg (not_le.mpr hT), log_two,
      Ideal.div_coe L_ne, ← EReal.coe_add, ← EReal.coe_mul]

end Row

section Lift

variable (s : ℝ) (hs : wScale = (s : EReal)) (q k v : RRows) (g : RGate)
variable (eq : rowsOf (aQ m c) = up q) (ek : rowsOf (aK m c) = up k) (ev : rowsOf (aV m c) = up v) (eg : gateOf (aG m c) = upG g)
include hs eq ek eg

theorem scores_at (x0 : Vec Ideal S1024x256 .bf16) (x1 : Vec Ideal S8192x256 .bf16) (h : Fin 8) (i j : Fin 8192) (a : Fin 1024)
    (h0 : ∀ x, x0 (ix2 a x) = QW (aQ m c) (aG m c) (ix2 i (wcol h x))) (h1 : ∀ x, x1 (ix2 j x) = KW (aK m c) (aG m c) (ix2 j (wcol h x))) :
    (∑ x : Fin 256, x0 (ix2 a x) * x1 (ix2 j x)) = (two s q k g h i j : EReal) :=
  (Finset.sum_congr rfl fun x _ => congrArg₂ (fun u w : EReal => u * w) (h0 x) (h1 x)).trans
    (packed_score (aQ m c) (aK m c) (aG m c) s hs q k g eq ek eg h i j)

include ev

/-- What a launch point stores for a row is the reference's row. -/
theorem row_at (t : Fin cfg0.N) (a : Fin 1024) :
    (∀ x, (outsAt0 m c t).1 (ix2 a x) = ROUT m c (ix2 (rowAt t a) (col (headAt t) x)))
    ∧ (outsAt0 m c t).2 (ix3 0 a 0) = RLSE m c (ix3 (headAt t) (rowAt t a) 0) := by
  obtain ⟨r, h1, h2⟩ := point_at c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (two s q k g (headAt t) (rowAt t a)) (fun j x => v (headAt t) j x) a
    (fun j => scores_at m c s hs q k g eq ek eg (iblk m c 0 t) (iblk m c 1 t) (headAt t) (rowAt t a) j a (blk_query m c t a) (blk_key m c t j))
    (fun j x => (blk_value m c t j x).trans (congrFun (congrFun (congrFun ev _) _) _))
  have e : (grid0.coords t 1).val * 1024 + a.val = (rowAt t a).val := congrArg (fun n => n * 1024 + a.val) (coords_val t)
  rw [e] at h1 h2
  obtain ⟨r1, r2⟩ := row_value (aQ m c) (aK m c) (aV m c) (aG m c) s hs q k v g eq ek eg (headAt t) (rowAt t a) r
  have w1 := fun x => (h1 x).trans (r1 ev x)
  have w2 := h2.trans r2
  clear h1 h2 r1 r2
  rw [outsAt0]
  dsimp only
  refine ⟨fun x => ?_, ?_⟩
  · exact w1 x
  · exact w2

end Lift

variable {m c} in
theorem row_real (H : Real m c) (t : Fin cfg0.N) (a : Fin 1024) :
    (∀ x, (outsAt0 m c t).1 (ix2 a x) = ROUT m c (ix2 (rowAt t a) (col (headAt t) x)))
    ∧ (outsAt0 m c t).2 (ix3 0 a 0) = RLSE m c (ix3 (headAt t) (rowAt t a) 0) := by
  obtain ⟨s, hs⟩ := ofBits_scale
  choose q hq using H.q
  choose k hk using H.k
  choose v hv using H.v
  choose g hg using H.g
  exact row_at m c s hs (fun h i x => q (ix2 i (col h x))) (fun h i x => k (ix2 i (col h x))) (fun h i x => v (ix2 i (col h x)))
    (fun h i => g (ix2 h i)) (funext fun h => funext fun i => funext fun x => hq _) (funext fun h => funext fun i => funext fun x => hk _)
    (funext fun h => funext fun i => funext fun x => hv _) (funext fun h => funext fun i => hg _) t a

variable {m c} in
theorem final_out (H : Real m c) : (dats m 0 c).arrAt 3 cfg0.N = ROUT m c := by
  refine (dats m 0 c).arrAt_eq_of_covers 3 _ (by decide +kernel) fun t hf y => ?_
  blk_simp; rw [after0_3]
  idx_vars y
  have e : ((cfg0.win 3).blk t).view.emb (ix2 y0 y1) = (ix2 (rowAt t y0) (col (headAt t) y1) : S8192x1024.Idx) := by
    blk_ext [idx_val t, rowAt, headAt, col]
  exact ((row_real H t y0).1 y1).trans (congrArg (ROUT m c) e.symm)

variable {m c} in
theorem final_lse (H : Real m c) : (dats m 0 c).arrAt 4 cfg0.N = RLSE m c := by
  refine (dats m 0 c).arrAt_eq_of_covers 4 _ (by decide +kernel) fun t hf y => ?_
  blk_simp; rw [after0_4]
  idx_vars y
  obtain rfl : y0 = 0 := Subsingleton.elim _ _
  obtain rfl : y2 = 0 := Subsingleton.elim _ _
  have e : ((cfg0.win 4).blk t).view.emb (ix3 0 y1 0) = (ix3 (headAt t) (rowAt t y1) 0 : S8x8192x1.Idx) := by
    blk_ext [idx_val t, rowAt, headAt]
  exact (row_real H t y1).2.trans (congrArg (RLSE m c) e.symm)

end Cert.Kernel4Ideal.Value

end
-- ==== Proof.MixValue.lean ====
/- Hand-written, untrusted. The gradient of the branches' gates and of the recurrence's norm: the kernel's six outputs
   are the reference's. -/
module

public import proofs.«01_k».proof.Proof.Mix

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen Cert.RowNorm Cert.Mix
open Cert.Fox (col)
open Cert.Reference3Ideal.Value (orow fz gz df dg dy cot DFOB DELTA DGATE DGO DGAIN FZ GZ DF DG NORMED)

/-- The logistic function of a real number is a real number. -/
theorem sg_real (z : ℝ) : Fin' (sg (z : EReal)) := by
  refine ⟨1 / (1 + Real.exp (-z)), ?_⟩
  have hp : (1 + Real.exp (-z) : ℝ) ≠ 0 := by positivity
  rw [sg, ← EReal.coe_neg, Ideal.exp_coe, ← EReal.coe_one, ← EReal.coe_add, Ideal.div_coe hp, ← EReal.coe_mul, one_mul]
/-- The two spellings of a gate's gradient, on real numbers. -/
theorem gate_eq {z a : EReal} (hz : Fin' z) (ha : Fin' a) : a * dsg z = dsilu z a := by
  obtain ⟨z, rfl⟩ := hz
  obtain ⟨a, rfl⟩ := ha
  obtain ⟨s, hs⟩ := sg_real z
  rw [dsg, dsilu, hs]
  norm_cast
  ring

/-- A column of a branch is a lane of a head. -/
theorem col_split (y : Fin 1024) : ∃ h x, y = col h x :=
  ⟨⟨y.val / 128, by omega⟩, ⟨y.val % 128, by omega⟩, Fin.ext (by simp only [col]; omega)⟩
/-- A choice by the lane's number. -/
theorem sel (n k : ℕ) (hn : n < 128) (hk : k < 128) (a b : EReal) :
    Scalar.select (IntOp.cmpi .eq (BitVec.ofNat 32 n) (BitVec.ofNat 32 k)) a b = if n = k then a else b := by
  have e : BitVec.ofNat 32 n = BitVec.ofNat 32 k ↔ n = k := by
    constructor
    · intro h
      have := congrArg BitVec.toNat h
      simp only [BitVec.toNat_ofNat] at this
      omega
    · rintro rfl; rfl
  by_cases h : n = k
  · subst h; simp [Scalar.select, IntOp.cmpi]
  · rw [if_neg h]
    have f : (BitVec.ofNat 32 n == BitVec.ofNat 32 k) = false := beq_false_of_ne (mt e.1 h)
    simp only [Scalar.select, IntOp.cmpi, f]
    rfl

/-- The row sums, lane by lane. -/
theorem delta_at (z d o : Vec Ideal S512x1024 .f32) (i : Fin 512) (l : Fin 128) :
    k0_pay14 (iota Kind.tc S512x128 32 [1] iota_S512x128_d1_w32) (k0_pay7 z d o)
      (k0_pay11 (iota Kind.tc S512x128 32 [1] iota_S512x128_d1_w32) (k0_pay7 z d o) k0_pay8 (k0_pay9 z d o) k0_pay10)
      (k0_pay12 (k0_pay7 z d o)) (k0_pay13 (iota Kind.tc S512x128 32 [1] iota_S512x128_d1_w32)) (ix2 i l)
    = if hl : l.val < 8 then ∑ x, k0_pay7 z d o (ix2 i (col ⟨l.val, hl⟩ x)) else 0 := by
  pointwise [k0_pay14, k0_pay13, k0_pay12, k0_pay11, k0_pay10, k0_pay9, k0_pay8, col]
  obtain ⟨n, hn⟩ := l
  rw [sel _ _ hn (by norm_num), sel _ _ hn (by norm_num), sel _ _ hn (by norm_num), sel _ _ hn (by norm_num), sel _ _ hn (by norm_num),
    sel _ _ hn (by norm_num), sel _ _ hn (by norm_num), sel _ _ hn (by norm_num)]
  by_cases hl : n < 8
  · interval_cases n <;> simp
  · rw [dif_neg hl, if_neg (by omega), if_neg (by omega), if_neg (by omega), if_neg (by omega), if_neg (by omega), if_neg (by omega),
      if_neg (by omega), if_neg (by omega)]

variable (m : (ℓ : Loc nD τ sig) → Buf (Elt Ideal) ℓ)

/-- What the precondition says of the entries. -/
structure Real (c : Dev nD) : Prop where
  is_m : ∀ j, Fin' (aM m c j)
  is_f : ∀ j, Fin' (aF m c j)
  is_o : ∀ j, Fin' (aO m c j)
  is_fz : ∀ h i x, Fin' (fz (aP m c) h i x)
  is_gz : ∀ h i x, Fin' (gz (aP m c) h i x)
  is_g : ∀ j, Fin' (aG m c j)

theorem mul_real {a b : EReal} (ha : Fin' a) (hb : Fin' b) : Fin' (a * b) := by
  obtain ⟨a, rfl⟩ := ha
  obtain ⟨b, rfl⟩ := hb
  exact ⟨a * b, (EReal.coe_mul a b).symm⟩
theorem nrm_real (o : Fin 128 → EReal) (ho : ∀ k, Fin' (o k)) (x : Fin 128) : Fin' (nrm o x) := by
  choose r hr using ho
  obtain ⟨e, he, hw⟩ := ofBits_eps
  refine mul_real ⟨r x, hr x⟩ ?_
  rw [wN, wE, hw, ofBits_128, funext hr]
  exact ⟨_, rrms_coe 128 e (by norm_num) he r⟩
theorem cot_real {c : Dev nD} (H : Real m c) (h : Fin 8) (i : Fin 8192) (x : Fin 128) :
    Fin' (cot (aM m c) (aP m c) (aG m c) h i x) := by
  refine mul_real (mul_real (H.is_m _) (mul_real (H.is_gz h i x) ?_)) (H.is_g _)
  obtain ⟨r, hr⟩ := H.is_gz h i x
  rw [hr]; exact sg_real r

/-- The block's rectangle in the whole array of an output. -/
theorem emb_6 (t : Fin cfg0.N) (i : Fin 512) (k : Fin 1024) : ((cfg0.win 6).blk t).view.emb (ix2 i k) = (ix2 (rw512 t i) k : S8192x1024.Idx) := by
  blk_ext [idx_val t, rw512]
theorem emb_7 (t : Fin cfg0.N) (i : Fin 512) (k : Fin 128) : ((cfg0.win 7).blk t).view.emb (ix2 i k) = (ix2 (rw512 t i) k : S8192x128.Idx) := by
  blk_ext [idx_val t, rw512]
theorem emb_8 (t : Fin cfg0.N) (i : Fin 512) (k : Fin 1024) : ((cfg0.win 8).blk t).view.emb (ix2 i k) = (ix2 (rw512 t i) k : S8192x1024.Idx) := by
  blk_ext [idx_val t, rw512]
theorem emb_9 (t : Fin cfg0.N) (i : Fin 512) (k : Fin 1024) : ((cfg0.win 9).blk t).view.emb (ix2 i k) = (ix2 (rw512 t i) k : S8192x1024.Idx) := by
  blk_ext [idx_val t, rw512]
theorem emb_10 (t : Fin cfg0.N) (i : Fin 512) (k : Fin 1024) : ((cfg0.win 10).blk t).view.emb (ix2 i k) = (ix2 (rw512 t i) k : S8192x1024.Idx) := by
  blk_ext [idx_val t, rw512]

/-- A point of the attention's output gradient; of its row sums; of the first gate's gradient. The block of the incoming
    gradient is given by its entries. -/
theorem point_6 (c : Dev nD) (t : Fin cfg0.N) (d : Vec Ideal S512x1024 .f32)
    (hd : ∀ i h x, d (ix2 i (col h x)) = df (aM m c) h (rw512 t i) x) (i : Fin 512) (h : Fin 8) (x : Fin 128) :
    k0_pay4 (iblk m c 3 t) d (ix2 i (col h x)) = df (aM m c) h (rw512 t i) x * (fz (aP m c) h (rw512 t i) x * sg (fz (aP m c) h (rw512 t i) x)) := by
  rw [pay4_at, hd, blk_fz]
theorem ld_lo (c : Dev nD) (t : Fin cfg0.N) (i : Fin 512) (h : Fin 8) (x : Fin 128) :
    (iblk m c 0 t : Vec Ideal S512x2048 .f32) (ix2 i (lo h x)) = df (aM m c) h (rw512 t i) x := blk_m m c t i _
theorem ld_hi (c : Dev nD) (t : Fin cfg0.N) (i : Fin 512) (h : Fin 8) (x : Fin 128) :
    (iblk m c 0 t : Vec Ideal S512x2048 .f32) (ix2 i (hi h x)) = dg (aM m c) h (rw512 t i) x := blk_m m c t i _

theorem pay7_at (z d o : Vec Ideal S512x1024 .f32) (y : S512x1024.Idx) : k0_pay7 z d o y = k0_pay4 z d y * o y := by
  pointwise [k0_pay7]
/-- The first gate's gradient at an entry, as the kernel writes it. -/
theorem point_8 (c : Dev nD) (H : Real m c) (t : Fin cfg0.N) (i : Fin 512) (h : Fin 8) (x : Fin 128) :
    DGATE (FZ (aP m c)) (mulf (aF m c) (DF (aM m c))) (ix2 (rw512 t i) (col h x))
      = df (aM m c) h (rw512 t i) x * aF m c (ix2 (rw512 t i) (col h x)) * dsg (fz (aP m c) h (rw512 t i) x) := by
  rw [Cert.Reference3Ideal.Value.DGATE_at, Cert.Reference3Ideal.Value.FZ_at]
  refine Eq.trans (congrArg (dsilu _) ?_) (gate_eq (H.is_fz _ _ _) (mul_real (H.is_m _) (H.is_f _))).symm
  pointwise [Cert.Reference3Ideal.Value.DF_at]
  exact mul_comm _ _
/-- The second gate's, and the recurrence's output's, for a head's row given by its entries. -/
theorem point_9 (c : Dev nD) (H : Real m c) (t : Fin cfg0.N) (i : Fin 512) (h : Fin 8) (x : Fin 128) (d g s : EReal) (o : Fin 128 → EReal)
    (hd : d = dg (aM m c) h (rw512 t i) x) (ho : ∀ k, o k = orow (aO m c) h (rw512 t i) k) (hg : g = aG m c (ix2 0 x))
    (hs : s = dsg (gz (aP m c) h (rw512 t i) x)) :
    dz d (nrm o x) g s = DGATE (GZ (aP m c)) (mulf (NORMED (aO m c) (aG m c)) (DG (aM m c))) (ix2 (rw512 t i) (col h x)) := by
  obtain rfl : o = orow (aO m c) h (rw512 t i) := funext ho
  rw [hd, hg, hs, dz, Cert.Reference3Ideal.Value.DGATE_at, Cert.Reference3Ideal.Value.GZ_at]
  refine (gate_eq (H.is_gz _ _ _) (mul_real (H.is_m _) (mul_real (nrm_real _ (fun _ => H.is_o _) _) (H.is_g _)))).trans (congrArg (dsilu _) ?_)
  refine Eq.symm ?_
  pointwise [Cert.Reference3Ideal.Value.DG_at, Cert.Reference3Ideal.Value.NORMED_at, nrm]
  exact mul_comm _ _
theorem point_10 (c : Dev nD) (H : Real m c) (t : Fin cfg0.N) (i : Fin 512) (h : Fin 8) (x : Fin 128) (o T : Fin 128 → EReal)
    (ho : ∀ k, o k = orow (aO m c) h (rw512 t i) k) (hT : ∀ k, T k = cot (aM m c) (aP m c) (aG m c) h (rw512 t i) k) :
    byHand wN wE o T x = DGO (aM m c) (aO m c) (aP m c) (aG m c) (ix2 (rw512 t i) (col h x)) := by
  obtain rfl : o = orow (aO m c) h (rw512 t i) := funext ho
  obtain rfl : T = cot (aM m c) (aP m c) (aG m c) h (rw512 t i) := funext hT
  obtain ⟨e, he, hw⟩ := ofBits_eps
  rw [Cert.Reference3Ideal.Value.DGO_at, wN, wE, wHalf, hw, ofBits_128, ofBits_neg_half]
  exact byHand_eq 128 e (by norm_num) he _ _ (fun k => H.is_o _) (fun k => cot_real m H _ _ k) x
theorem y_eq (y : S512x1024.Idx) (i : Fin 512) (x : Fin 128) (k : Fin 8) (n : ℕ) (h0 : (y 0).val = i.val) (h1 : (y 1).val = n + x.val)
    (hn : n = k.val * 128) : y = ix2 i (col k x) := by
  funext a; apply Fin.ext
  match a with
  | ⟨0, _⟩ => exact h0
  | ⟨1, _⟩ => exact h1.trans (congrArg (· + _) hn)

theorem final_6 (c : Dev nD) :
    (dats m 0 c).arrAt 6 (cfgs 0).N = DFOB (aM m c) (aP m c) := by
  refine (dats m 0 c).arrAt_eq_of_covers 6 _ (by decide +kernel) fun t hf y => ?_
  idx_vars y
  obtain ⟨l, z, rfl⟩ := col_split y1
  rw [emb_6, Cert.Reference3Ideal.Value.DFOB_at, Cert.Reference3Ideal.Value.DFO_at]
  blk_simp; rw [after0_6]
  by_cases h : t.val % 16 = 0
  on_goal 1 => rw [outsAt0_A m c t h]
  on_goal 2 => rw [outsAt0_B m c t h]
  all_goals
    dsimp only; frame_out
    pointwise [k0_pay5]
    refine point_6 m c t _ (fun i h x => ?_) _ _ _
    rw [← ld_lo]
    pointwise
    blk_ext [lo, col]
theorem final_7 (c : Dev nD) :
    (dats m 0 c).arrAt 7 (cfgs 0).N = DELTA (aM m c) (aF m c) (aP m c) := by
  refine (dats m 0 c).arrAt_eq_of_covers 7 _ (by decide +kernel) fun t hf y => ?_
  idx_vars y
  rw [emb_7, Cert.Reference3Ideal.Value.DELTA_at]
  blk_simp; rw [after0_7]
  by_cases h : t.val % 16 = 0
  on_goal 1 => rw [outsAt0_A m c t h]
  on_goal 2 => rw [outsAt0_B m c t h]
  all_goals
    dsimp only; frame_out
    refine (delta_at _ _ _ y0 y1).trans ?_
    refine dite_congr rfl (fun l => Finset.sum_congr rfl fun z _ => ?_) fun _ => rfl
    refine (pay7_at _ _ _ _).trans ?_
    rw [blk_f]
    refine congrArg (· * _) (point_6 m c t _ (fun i h x => ?_) _ _ _)
    rw [← ld_lo]
    pointwise
    blk_ext [lo, col]
theorem final_8 (c : Dev nD) (H : Real m c) :
    (dats m 0 c).arrAt 8 (cfgs 0).N = DGATE (FZ (aP m c)) (mulf (aF m c) (DF (aM m c))) := by
  refine (dats m 0 c).arrAt_eq_of_covers 8 _ (by decide +kernel) fun t hf y => ?_
  idx_vars y
  obtain ⟨l, z, rfl⟩ := col_split y1
  rw [emb_8, point_8 m c H t y0 l z]
  blk_simp; rw [after0_8]
  by_cases h : t.val % 16 = 0
  on_goal 1 => rw [outsAt0_A m c t h]
  on_goal 2 => rw [outsAt0_B m c t h]
  all_goals
    dsimp only; frame_out
    refine (pay6_at _ _ _ _).trans ?_
    rw [blk_f, blk_fz]
    refine congrArg (· * _ * _) ?_
    rw [← ld_lo]
    pointwise
    blk_ext [lo, col]
/-- The gradient that reaches the norm, gain applied, from its three factors; a row's part of the gains' gradient. -/
theorem cot_of {c : Dev nD} {h : Fin 8} {i : Fin 8192} {x : Fin 128} {d s g : EReal} (hd : d = dg (aM m c) h i x)
    (hs : s = gz (aP m c) h i x * sg (gz (aP m c) h i x)) (hg : g = aG m c (ix2 0 x)) :
    d * s * g = cot (aM m c) (aP m c) (aG m c) h i x := by rw [hd, hs, hg]; rfl
def gpart (c : Dev nD) (x : Fin 128) (h : Fin 8) (i : Fin 8192) : EReal := dy (aM m c) (aP m c) h i x * nrm (orow (aO m c) h i) x
theorem gpart_of {c : Dev nD} {h : Fin 8} {i : Fin 8192} {x : Fin 128} {d s : EReal} {o : Fin 128 → EReal} (hd : d = dg (aM m c) h i x)
    (hs : s = gz (aP m c) h i x * sg (gz (aP m c) h i x)) (ho : ∀ k, o k = orow (aO m c) h i k) :
    d * s * nrm o x = gpart m c x h i := by rw [hd, hs, funext ho]; rfl

end Cert.Kernel3Ideal.Value

end
-- ==== Proof.MixOut.lean ====
/- Hand-written, untrusted. The gradient of the branches' gates and of the recurrence's norm: the recurrence's output. -/
module

public import proofs.«01_k».proof.Proof.MixValue

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen Cert.RowNorm Cert.Mix
open Cert.Fox (col)
open Cert.Reference3Ideal.Value (orow fz gz df dg dy cot DFOB DELTA DGATE DGO DGAIN FZ GZ DF DG NORMED)

variable (m : (ℓ : Loc nD τ sig) → Buf (Elt Ideal) ℓ)

/-- The recurrence's output's gradient, whole. -/
theorem final_10 (c : Dev nD) (H : Real m c) :
    (dats m 0 c).arrAt 10 (cfgs 0).N = DGO (aM m c) (aO m c) (aP m c) (aG m c) := by
  refine (dats m 0 c).arrAt_eq_of_covers 10 _ (by decide +kernel) fun t hf y => ?_
  blk_simp; rw [after0_10]
  by_cases h : t.val % 16 = 0
  on_goal 1 => rw [outsAt0_A m c t h]
  on_goal 2 => rw [outsAt0_B m c t h]
  all_goals
    dsimp only; frame_out
    clear h
    canon_tiles x h
    case' piece0 =>
      rw [y_eq y (x 0) (x 1) 7 896 h0 h1 rfl]
      idx_vars x
      refine (dgo_7 _ _ _ _ x0 x1).trans (Eq.trans (point_10 m c H t x0 7 x1 _ _ (fun k => ?_) fun k => cot_of m ?_ ?_ ?_) (congrArg _ (emb_10 t x0 (col 7 x1))).symm)
    case' piece1 =>
      rw [y_eq y (x 0) (x 1) 6 768 h0 h1 rfl]
      idx_vars x
      refine (dgo_6 _ _ _ _ x0 x1).trans (Eq.trans (point_10 m c H t x0 6 x1 _ _ (fun k => ?_) fun k => cot_of m ?_ ?_ ?_) (congrArg _ (emb_10 t x0 (col 6 x1))).symm)
    case' piece2 =>
      rw [y_eq y (x 0) (x 1) 5 640 h0 h1 rfl]
      idx_vars x
      refine (dgo_5 _ _ _ _ x0 x1).trans (Eq.trans (point_10 m c H t x0 5 x1 _ _ (fun k => ?_) fun k => cot_of m ?_ ?_ ?_) (congrArg _ (emb_10 t x0 (col 5 x1))).symm)
    case' piece3 =>
      rw [y_eq y (x 0) (x 1) 4 512 h0 h1 rfl]
      idx_vars x
      refine (dgo_4 _ _ _ _ x0 x1).trans (Eq.trans (point_10 m c H t x0 4 x1 _ _ (fun k => ?_) fun k => cot_of m ?_ ?_ ?_) (congrArg _ (emb_10 t x0 (col 4 x1))).symm)
    case' piece4 =>
      rw [y_eq y (x 0) (x 1) 3 384 h0 h1 rfl]
      idx_vars x
      refine (dgo_3 _ _ _ _ x0 x1).trans (Eq.trans (point_10 m c H t x0 3 x1 _ _ (fun k => ?_) fun k => cot_of m ?_ ?_ ?_) (congrArg _ (emb_10 t x0 (col 3 x1))).symm)
    case' piece5 =>
      rw [y_eq y (x 0) (x 1) 2 256 h0 h1 rfl]
      idx_vars x
      refine (dgo_2 _ _ _ _ x0 x1).trans (Eq.trans (point_10 m c H t x0 2 x1 _ _ (fun k => ?_) fun k => cot_of m ?_ ?_ ?_) (congrArg _ (emb_10 t x0 (col 2 x1))).symm)
    case' piece6 =>
      rw [y_eq y (x 0) (x 1) 1 128 h0 h1 rfl]
      idx_vars x
      refine (dgo_1 _ _ _ _ x0 x1).trans (Eq.trans (point_10 m c H t x0 1 x1 _ _ (fun k => ?_) fun k => cot_of m ?_ ?_ ?_) (congrArg _ (emb_10 t x0 (col 1 x1))).symm)
    case' piece7 =>
      rw [y_eq y (x 0) (x 1) 0 0 h0 (h1.trans (Nat.zero_add _).symm) rfl]
      idx_vars x
      refine (dgo_0 _ _ _ _ x0 x1).trans (Eq.trans (point_10 m c H t x0 0 x1 _ _ (fun k => ?_) fun k => cot_of m ?_ ?_ ?_) (congrArg _ (emb_10 t x0 (col 0 x1))).symm)
    all_goals first
      | (rw [pay18_at, blk_gz]; done)
      | (rw [pay17_at, blk_gz]; done)
      | (rw [← ld_hi]; pointwise; blk_ext [hi, col]; done)
      | (rw [orow]; refine Eq.trans ?_ (blk_o m c t _ _); pointwise; blk_ext [col]; done)
      | exact blk_gain m c t 0 _
end Cert.Kernel3Ideal.Value

end
-- ==== Proof.MixGate.lean ====
/- Hand-written, untrusted. The gradient of the branches' gates and of the recurrence's norm: the second gate. -/
module

public import proofs.«01_k».proof.Proof.MixValue

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen Cert.RowNorm Cert.Mix
open Cert.Fox (col)
open Cert.Reference3Ideal.Value (orow fz gz df dg dy cot DFOB DELTA DGATE DGO DGAIN FZ GZ DF DG NORMED)

variable (m : (ℓ : Loc nD τ sig) → Buf (Elt Ideal) ℓ)

/-- The second gate's gradient, whole. -/
theorem final_9 (c : Dev nD) (H : Real m c) :
    (dats m 0 c).arrAt 9 (cfgs 0).N = DGATE (GZ (aP m c)) (mulf (NORMED (aO m c) (aG m c)) (DG (aM m c))) := by
  refine (dats m 0 c).arrAt_eq_of_covers 9 _ (by decide +kernel) fun t hf y => ?_
  blk_simp; rw [after0_9]
  by_cases h : t.val % 16 = 0
  on_goal 1 => rw [outsAt0_A m c t h]
  on_goal 2 => rw [outsAt0_B m c t h]
  all_goals
    dsimp only; frame_out
    clear h
    canon_tiles x h
    case' piece0 =>
      rw [y_eq y (x 0) (x 1) 7 896 h0 h1 rfl]
      idx_vars x
      refine (dgz_7 _ _ _ _ x0 x1).trans (Eq.trans (point_9 m c H t x0 7 x1 _ _ _ _ ?_ (fun k => ?_) ?_ ?_) (congrArg _ (emb_9 t x0 (col 7 x1))).symm)
    case' piece1 =>
      rw [y_eq y (x 0) (x 1) 6 768 h0 h1 rfl]
      idx_vars x
      refine (dgz_6 _ _ _ _ x0 x1).trans (Eq.trans (point_9 m c H t x0 6 x1 _ _ _ _ ?_ (fun k => ?_) ?_ ?_) (congrArg _ (emb_9 t x0 (col 6 x1))).symm)
    case' piece2 =>
      rw [y_eq y (x 0) (x 1) 5 640 h0 h1 rfl]
      idx_vars x
      refine (dgz_5 _ _ _ _ x0 x1).trans (Eq.trans (point_9 m c H t x0 5 x1 _ _ _ _ ?_ (fun k => ?_) ?_ ?_) (congrArg _ (emb_9 t x0 (col 5 x1))).symm)
    case' piece3 =>
      rw [y_eq y (x 0) (x 1) 4 512 h0 h1 rfl]
      idx_vars x
      refine (dgz_4 _ _ _ _ x0 x1).trans (Eq.trans (point_9 m c H t x0 4 x1 _ _ _ _ ?_ (fun k => ?_) ?_ ?_) (congrArg _ (emb_9 t x0 (col 4 x1))).symm)
    case' piece4 =>
      rw [y_eq y (x 0) (x 1) 3 384 h0 h1 rfl]
      idx_vars x
      refine (dgz_3 _ _ _ _ x0 x1).trans (Eq.trans (point_9 m c H t x0 3 x1 _ _ _ _ ?_ (fun k => ?_) ?_ ?_) (congrArg _ (emb_9 t x0 (col 3 x1))).symm)
    case' piece5 =>
      rw [y_eq y (x 0) (x 1) 2 256 h0 h1 rfl]
      idx_vars x
      refine (dgz_2 _ _ _ _ x0 x1).trans (Eq.trans (point_9 m c H t x0 2 x1 _ _ _ _ ?_ (fun k => ?_) ?_ ?_) (congrArg _ (emb_9 t x0 (col 2 x1))).symm)
    case' piece6 =>
      rw [y_eq y (x 0) (x 1) 1 128 h0 h1 rfl]
      idx_vars x
      refine (dgz_1 _ _ _ _ x0 x1).trans (Eq.trans (point_9 m c H t x0 1 x1 _ _ _ _ ?_ (fun k => ?_) ?_ ?_) (congrArg _ (emb_9 t x0 (col 1 x1))).symm)
    case' piece7 =>
      rw [y_eq y (x 0) (x 1) 0 0 h0 (h1.trans (Nat.zero_add _).symm) rfl]
      idx_vars x
      refine (dgz_0 _ _ _ _ x0 x1).trans (Eq.trans (point_9 m c H t x0 0 x1 _ _ _ _ ?_ (fun k => ?_) ?_ ?_) (congrArg _ (emb_9 t x0 (col 0 x1))).symm)
    all_goals first
      | (rw [pay18_at, blk_gz]; done)
      | (rw [pay17_at, blk_gz]; done)
      | (rw [← ld_hi]; pointwise; blk_ext [hi, col]; done)
      | (rw [orow]; refine Eq.trans ?_ (blk_o m c t _ _); pointwise; blk_ext [col]; done)
      | exact blk_gain m c t 0 _
end Cert.Kernel3Ideal.Value

end
-- ==== Proof.MixGain.lean ====
/- Hand-written, untrusted. The gradient of the branches' gates and of the recurrence's norm: the norm's gains. -/
module

public import proofs.«01_k».proof.Proof.MixValue

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen Cert.RowNorm Cert.Mix
open Cert.Fox (col)
open Cert.Reference3Ideal.Value (orow fz gz df dg dy cot DFOB DELTA DGATE DGO DGAIN FZ GZ DF DG NORMED)

variable (m : (ℓ : Loc nD τ sig) → Buf (Elt Ideal) ℓ)

/-- The gains' accumulator. -/
theorem fill_1 (j : S1x128.Idx) : k0_pay1 (F := Ideal) j = 0 := by pointwise! [k0_pay1]
theorem fill_19 (j : S1x128.Idx) : k0_pay19 (F := Ideal) j = 0 := by pointwise! [k0_pay19]
theorem sum_heads (a : Fin 8 → EReal) {z s0 s1 s2 s3 s4 s5 s6 s7 : EReal} (hz : z = 0) (e0 : s0 = a 0) (e1 : s1 = a 1) (e2 : s2 = a 2)
    (e3 : s3 = a 3) (e4 : s4 = a 4) (e5 : s5 = a 5) (e6 : s6 = a 6) (e7 : s7 = a 7) :
    z + s0 + s1 + s2 + s3 + s4 + s5 + s6 + s7 = ∑ h, a h := by
  rw [Fin.sum_univ_eight, hz, e0, e1, e2, e3, e4, e5, e6, e7, zero_add]
theorem gsum (c : Dev nD) (x : Fin 128) : ∑ t, ∑ h, ∑ s, gpart m c x h (rw512 t s)
    = ∑ q : Fin 8 × Fin 8192, orow (aO m c) q.1 q.2 x * rrms wN wE (orow (aO m c) q.1 q.2) * dy (aM m c) (aP m c) q.1 q.2 x := by
  rw [Finset.sum_comm, Fintype.sum_prod_type]
  refine Finset.sum_congr rfl fun h _ => ?_
  exact Fin.sum_mul_add_congr fun p s hl => mul_comm (G := EReal) _ _
/-- The gains' gradient, whole. -/
theorem final_11 (c : Dev nD) : (dats m 0 c).arrAt 11 (cfgs 0).N = DGAIN (aM m c) (aO m c) (aP m c) := by
  refine (dats m 0 c).arrAt_eq_of_after_last 11 t0_15 (by decide +kernel) _ fun j => ?_
  blk_simp
  rw [after0_11, Pipeline.eq_sum_fin_of_reset_step_apply_last (fun n h => (outsAt0 m c n h).2.2.2.2.2) 16 (fun _ => 0)
    (fun t (j : S1x128.Idx) => ∑ h, ∑ s, gpart m c (j 1) h (rw512 t s)) ?_ ?_ (le_of_eq N_0) t0_15 rfl j, zero_add]
  · idx_vars j
    rw [Cert.Reference3Ideal.Value.DGAIN_at]
    exact gsum m c j1
  all_goals
    intro t h j
    first | rw [outsAt0_A m c t h] | rw [outsAt0_B m c t h]
    frame_out
    idx_vars j
    refine (dg_7 _ _ _ _ _ _ _).trans ?_
    rw [dg_6, dg_5, dg_4, dg_3, dg_1, dg_0]
    first | rw [fill_1] | skip
    refine congrArg (_ + ·) (sum_heads (fun h => ∑ s, gpart m c j1 h (rw512 t s)) (fill_19 _) ?_ ?_ ?_ ?_ ?_ ?_ ?_ ?_)
    all_goals
      refine Finset.sum_congr rfl fun s _ => gpart_of m ?_ ?_ fun k => ?_
      · rw [← ld_hi]; pointwise; blk_ext [hi, col]
      · exact (pay17_at _ _).trans (congrArg (fun u => u * sg u) (blk_gz m c t _ _ _))
      · refine Eq.trans ?_ (blk_o m c t _ _); pointwise; blk_ext [col]

end Cert.Kernel3Ideal.Value

end
-- ==== Proof.lean ====
/- Hand-written, untrusted: the certificate, from the runs of the programs and the value modules. -/
module

public import proofs.«01_k».proof.Proof.Gen.Kernel15.Frame
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16.Frame
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17.Frame
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel11.Frame
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel13.Frame
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel6.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Pre_finite5
public import proofs.«01_k».proof.Proof.HeadValue
public import proofs.«01_k».proof.Proof.MixFwd
public import proofs.«01_k».proof.Proof.NormMod
public import proofs.«01_k».proof.Proof.AdaGrad
public import proofs.«01_k».proof.Proof.Adamw
public import proofs.«01_k».proof.Proof.InBwd
public import proofs.«01_k».proof.Proof.MatTn
public import proofs.«01_k».proof.Proof.ModShard
public import proofs.«01_k».proof.Proof.Gen.KernelIdeal.Value
public import proofs.«01_k».proof.Proof.Adaln
public import proofs.«01_k».proof.Proof.Finite
public import proofs.«01_k».proof.Proof.FoxValue
public import proofs.«01_k».proof.Proof.Gen.ReferenceIdeal.Run
public import proofs.«01_k».proof.Proof.Gen.Kernel4Ideal.Value
public import proofs.«01_k».proof.Proof.Gen.Reference4Ideal.Run
public import proofs.«01_k».proof.Proof.FwdValue
public import proofs.«01_k».proof.Proof.MixOut
public import proofs.«01_k».proof.Proof.MixGate
public import proofs.«01_k».proof.Proof.MixGain
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite4
public import proofs.«01_k».proof.Proof.Gen.Kernel3Ideal.Value
public import proofs.«01_k».proof.Proof.Gen.Reference3Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite3
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Reference2Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite2
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem Cert.RowNorm

instance : Subsingleton Cert.Pre_finite.S_.Idx := ⟨fun a b => funext fun d => d.elim0⟩

/-- The precondition of the first pair, opened: the four arrays it names hold real numbers. -/
theorem real_of_pre (m : (ℓ : Loc Cert.KernelIdeal.nD Cert.KernelIdeal.τ Cert.KernelIdeal.sig) → Buf (Elt Ideal) ℓ)
    (h : Pre_KernelIdeal_finite m) (c : Dev Cert.KernelIdeal.nD) : Cert.KernelIdeal.Value.Real m c := by
  have e := congrFun (h c) (fun d => d.elim0)
  obtain ⟨e, e4⟩ := IntOp.andi_eq_one.1 e
  obtain ⟨e, e3⟩ := IntOp.andi_eq_one.1 e
  obtain ⟨e1, e2⟩ := IntOp.andi_eq_one.1 e
  exact ⟨fin_of_all _ _ (fun _ => rfl) _ _ _ _ e1, fin_of_all _ _ (fun _ => rfl) _ _ _ _ e2,
    fin_of_all _ _ (fun _ => rfl) _ _ _ _ e3, fin_of_all _ _ (fun _ => rfl) _ _ _ _ e4⟩

/-- The reference's frame, at every memory. -/
theorem frame_reference : Cert.quiescent_ReferenceIdeal := fun m ρ _ =>
  (θ_run Cert.ReferenceIdeal.defs _ _).mono (fun r h => ⟨fun c => (h c).2.2.2.2, sem_eq_zero_of_no_sems rfl r.2⟩)
    (Cert.ReferenceIdeal.Value.run m ρ)

/-- The kernel of the adaptive norm's gradient and the derivative of its forward lines agree on real arrays. -/
theorem adaln : Cert.algebraic_KernelIdeal_ReferenceIdeal_pre_finite := by
  intro m g m' g' hpre hagree
  refine ⟨fun c => _, fun c => _, fun c => _, fun c => _, Cert.KernelIdeal.Value.run_blocks m g, ?_⟩
  refine (θ_run Cert.ReferenceIdeal.defs _ _).mono (fun r h c => ?_) (Cert.ReferenceIdeal.Value.run m' g')
  obtain ⟨r0, r1, r2, r3, ra⟩ := h c
  obtain ⟨h0, h1, h2, h3, h4, h5⟩ := hagree c
  refine ⟨r0.trans ((Cert.AdalnRef.DX_eq m' c).trans ?_), r1.trans ?_,
    r2.trans ?_, r3.trans ?_, ra⟩
  · rw [h0, h1, h2, h3, h4]; exact (Cert.KernelIdeal.Value.final_5 m c (real_of_pre m hpre c)).symm
  · rw [h0]; exact (Cert.KernelIdeal.Value.final_6 m c).symm
  · rw [h0, h1, h3]; exact (Cert.KernelIdeal.Value.final_7 m c).symm
  · rw [h0, h1, h4]; exact (Cert.KernelIdeal.Value.final_8 m c).symm

instance : Subsingleton Cert.Pre_finite2.S_.Idx := ⟨fun a b => funext fun d => d.elim0⟩

/-- The precondition of the second pair, opened: the five arrays hold real numbers. -/
theorem real_of_pre2 (m : (ℓ : Loc Cert.Kernel2Ideal.nD Cert.Kernel2Ideal.τ Cert.Kernel2Ideal.sig) → Buf (Elt Ideal) ℓ)
    (h : Pre_Kernel2Ideal_finite2 m) (c : Dev Cert.Kernel2Ideal.nD) : Cert.Kernel2Ideal.Value.Real m c := by
  have e := congrFun (h c) (fun d => d.elim0)
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨fin_of_all _ _ (fun _ => rfl) _ _ _ _ e1, fin_of_all _ _ (fun _ => rfl) _ _ _ _ e2,
    fin_of_all _ _ (fun _ => rfl) _ _ _ _ e3, fin_of_all _ _ (fun _ => rfl) _ _ _ _ e4, fin_of_all _ _ (fun _ => rfl) _ _ _ _ e5⟩

/-- The second reference's frame, at every memory. -/
theorem frame_reference2 : Cert.quiescent_Reference2Ideal := fun m ρ _ =>
  (θ_run Cert.Reference2Ideal.defs _ _).mono (fun r h => ⟨fun c => (h c).2.2.2.2, sem_eq_zero_of_no_sems rfl r.2⟩)
    (Cert.Reference2Ideal.Value.run m ρ)

/-- The kernel of the forgetting attention's gradient and the derivative of its forward lines agree on real arrays. -/
theorem fox : Cert.algebraic_Kernel2Ideal_Reference2Ideal_pre_finite2 := by
  intro m g m' g' hpre hagree
  refine ⟨Cert.Kernel2Ideal.Value.OQ m, Cert.Kernel2Ideal.Value.OK m, Cert.Kernel2Ideal.Value.OV m, Cert.Kernel2Ideal.Value.OG m,
    Cert.Kernel2Ideal.Value.run_fox m g, ?_⟩
  refine (θ_run Cert.Reference2Ideal.defs _ _).mono (fun r h c => ?_) (Cert.Reference2Ideal.Value.run m' g')
  obtain ⟨r0, r1, r2, r3, ra⟩ := h c
  obtain ⟨h0, h1, h2, h3, h4⟩ := hagree c
  have H := real_of_pre2 m hpre c
  refine ⟨r0.trans ((Cert.Reference2Ideal.Value.res_dq m' c).trans ?_), r1.trans ((Cert.Reference2Ideal.Value.res_dk m' c).trans ?_),
    r2.trans ((Cert.Reference2Ideal.Value.res_dv m' c).trans ?_), r3.trans ((Cert.Reference2Ideal.Value.res_dg m' c).trans ?_), ra⟩
  · unfold Cert.Reference2Ideal.Value.aQ Cert.Reference2Ideal.Value.aK Cert.Reference2Ideal.Value.aV Cert.Reference2Ideal.Value.aD Cert.Reference2Ideal.Value.aG
    rw [h0, h1, h2, h3, h4]; exact (Cert.Kernel2Ideal.Value.OQ_eq m c H).symm
  · unfold Cert.Reference2Ideal.Value.aQ Cert.Reference2Ideal.Value.aK Cert.Reference2Ideal.Value.aV Cert.Reference2Ideal.Value.aD Cert.Reference2Ideal.Value.aG
    rw [h0, h1, h2, h3, h4]; exact (Cert.Kernel2Ideal.Value.OK_eq m c H).symm
  · unfold Cert.Reference2Ideal.Value.aQ Cert.Reference2Ideal.Value.aK Cert.Reference2Ideal.Value.aD Cert.Reference2Ideal.Value.aG
    rw [h0, h1, h3, h4]; exact (Cert.Kernel2Ideal.Value.OV_eq m c H).symm
  · unfold Cert.Reference2Ideal.Value.aQ Cert.Reference2Ideal.Value.aK Cert.Reference2Ideal.Value.aV Cert.Reference2Ideal.Value.aD Cert.Reference2Ideal.Value.aG
    rw [h0, h1, h2, h3, h4]; exact (Cert.Kernel2Ideal.Value.OG_eq m c H).symm

instance : Subsingleton Cert.Pre_finite4.S_.Idx := ⟨fun a b => funext fun d => d.elim0⟩

/-- The precondition of the forward pair, opened: the four arrays hold real numbers. -/
theorem real_of_pre4 (m : (ℓ : Loc Cert.Kernel4Ideal.nD Cert.Kernel4Ideal.τ Cert.Kernel4Ideal.sig) → Buf (Elt Ideal) ℓ)
    (h : Pre_Kernel4Ideal_finite4 m) (c : Dev Cert.Kernel4Ideal.nD) : Cert.Kernel4Ideal.Value.Real m c := by
  have e := congrFun (h c) (fun d => d.elim0)
  obtain ⟨e, e4⟩ := IntOp.andi_eq_one.1 e
  obtain ⟨e, e3⟩ := IntOp.andi_eq_one.1 e
  obtain ⟨e1, e2⟩ := IntOp.andi_eq_one.1 e
  exact ⟨fin_of_all _ _ (fun _ => rfl) _ _ _ _ e1, fin_of_all _ _ (fun _ => rfl) _ _ _ _ e2,
    fin_of_all _ _ (fun _ => rfl) _ _ _ _ e3, fin_of_all _ _ (fun _ => rfl) _ _ _ _ e4⟩

/-- The forward reference's frame, at every memory. -/
theorem frame_reference4 : Cert.quiescent_Reference4Ideal := fun m ρ _ =>
  (θ_run Cert.Reference4Ideal.defs _ _).mono (fun r h => ⟨fun c => (h c).2.2, sem_eq_zero_of_no_sems rfl r.2⟩)
    (Cert.Reference4Ideal.Value.run m ρ)

/-- The forgetting attention's kernel and its forward lines agree on real arrays: the outputs and the rows' log-sums. -/
theorem fwd : Cert.algebraic_Kernel4Ideal_Reference4Ideal_pre_finite4 := by
  intro m g m' g' hpre hagree
  refine ⟨fun c => _, fun c => _, Cert.Kernel4Ideal.Value.run_blocks m g, ?_⟩
  refine (θ_run Cert.Reference4Ideal.defs _ _).mono (fun r h c => ?_) (Cert.Reference4Ideal.Value.run m' g')
  obtain ⟨r0, r1, ra⟩ := h c
  obtain ⟨h0, h1, h2, h3⟩ := hagree c
  have H := real_of_pre4 m hpre c
  refine ⟨r0.trans ((Cert.Reference4Ideal.Value.res_out m' c).trans ?_), r1.trans ((Cert.Reference4Ideal.Value.res_lse m' c).trans ?_), ra⟩
  · unfold Cert.Reference4Ideal.Value.aQ Cert.Reference4Ideal.Value.aK Cert.Reference4Ideal.Value.aV Cert.Reference4Ideal.Value.aG
    rw [h0, h1, h2, h3]; exact (Cert.Kernel4Ideal.Value.final_out H).symm
  · unfold Cert.Reference4Ideal.Value.aQ Cert.Reference4Ideal.Value.aK Cert.Reference4Ideal.Value.aG
    rw [h0, h1, h3]; exact (Cert.Kernel4Ideal.Value.final_lse H).symm

/-- Each named constant of the forward kernel has the value its name stands for. -/
theorem named : Cert.preserves_Kernel4_Kernel4Ideal :=
  ⟨IdealRules.named_const.statement _ _ _ _ _ rfl, IdealRules.named_const.statement _ _ _ _ _ rfl⟩

instance : Subsingleton Cert.Pre_finite3.S_.Idx := ⟨fun a b => funext fun d => d.elim0⟩

/-- The precondition of the gates' pair, opened: the arrays, and the two gate columns of the projection, hold real numbers. -/
theorem real_of_pre3 (m : (ℓ : Loc Cert.Kernel3Ideal.nD Cert.Kernel3Ideal.τ Cert.Kernel3Ideal.sig) → Buf (Elt Ideal) ℓ)
    (h : Pre_Kernel3Ideal_finite3 m) (c : Dev Cert.Kernel3Ideal.nD) : Cert.Kernel3Ideal.Value.Real m c := by
  have e := congrFun (h c) (fun d => d.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨fin_of_all _ _ (fun _ => rfl) _ _ _ _ e1, fin_of_all _ _ (fun _ => rfl) _ _ _ _ e2,
    fin_of_all _ _ (fun _ => rfl) _ _ _ _ e3, fun k i x => ?_, fun k i x => ?_, fin_of_all _ _ (fun _ => rfl) _ _ _ _ e6⟩
  · rw [← Cert.Reference3Ideal.Value.FZ_at]; exact fin_of_all _ _ (fun _ => rfl) _ _ _ _ e4 _
  · rw [← Cert.Reference3Ideal.Value.GZ_at]; exact fin_of_all _ _ (fun _ => rfl) _ _ _ _ e5 _

/-- The gates' reference's frame, at every memory. -/
theorem frame_reference3 : Cert.quiescent_Reference3Ideal := fun m ρ _ =>
  (θ_run Cert.Reference3Ideal.defs _ _).mono (fun r h => ⟨fun c => (h c).2.2.2.2.2.2, sem_eq_zero_of_no_sems rfl r.2⟩)
    (Cert.Reference3Ideal.Value.run m ρ)

/-- The kernel of the gates' and the recurrence norm's gradient and the derivative of its forward lines agree on real arrays. -/
theorem mix : Cert.algebraic_Kernel3Ideal_Reference3Ideal_pre_finite3 := by
  intro m g m' g' hpre hagree
  refine ⟨fun c => _, fun c => _, fun c => _, fun c => _, fun c => _, fun c => _, Cert.Kernel3Ideal.Value.run_blocks m g, ?_⟩
  refine (θ_run Cert.Reference3Ideal.defs _ _).mono (fun r h c => ?_) (Cert.Reference3Ideal.Value.run m' g')
  obtain ⟨r0, r1, r2, r3, r4, r5, ra⟩ := h c
  obtain ⟨h0, h1, h2, h3, h4⟩ := hagree c
  have H := real_of_pre3 m hpre c
  refine ⟨r0.trans ?_, r1.trans ?_, r2.trans ?_, r3.trans ((Cert.Reference3Ideal.Value.res_dgz m' c).trans ?_),
    r4.trans ((Cert.Reference3Ideal.Value.res_dgo m' c).trans ?_), r5.trans ?_, ra⟩
  · rw [h0, h3]; exact (Cert.Kernel3Ideal.Value.final_6 m c).symm
  · rw [h0, h1, h3]; exact (Cert.Kernel3Ideal.Value.final_7 m c).symm
  · rw [h0, h1, h3]; exact (Cert.Kernel3Ideal.Value.final_8 m c H).symm
  · unfold Cert.Reference3Ideal.Value.aM Cert.Reference3Ideal.Value.aO Cert.Reference3Ideal.Value.aP Cert.Reference3Ideal.Value.aG
    rw [h0, h2, h3, h4]; exact (Cert.Kernel3Ideal.Value.final_9 m c H).symm
  · unfold Cert.Reference3Ideal.Value.aM Cert.Reference3Ideal.Value.aO Cert.Reference3Ideal.Value.aP Cert.Reference3Ideal.Value.aG
    rw [h0, h2, h3, h4]; exact (Cert.Kernel3Ideal.Value.final_10 m c H).symm
  · rw [h0, h2, h3]; exact (Cert.Kernel3Ideal.Value.final_11 m c).symm

instance : Subsingleton Cert.Pre_finite5.S_.Idx := ⟨fun a b => funext fun d => d.elim0⟩

/-- The precondition of the head's pair, opened: the six arrays hold real numbers. -/
theorem real_of_pre5 (m : (ℓ : Loc Cert.Kernel5Ideal.nD Cert.Kernel5Ideal.τ Cert.Kernel5Ideal.sig) → Buf (Elt Ideal) ℓ)
    (h : Pre_Kernel5Ideal_finite5 m) (c : Dev Cert.Kernel5Ideal.nD) : Cert.Kernel5Ideal.Value.Real m c := by
  have e := congrFun (h c) (fun d => d.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨fin_of_all _ _ (fun _ => rfl) _ _ _ _ e1, fin_of_all _ _ (fun _ => rfl) _ _ _ _ e2,
    fin_of_all _ _ (fun _ => rfl) _ _ _ _ e3, fin_of_all _ _ (fun _ => rfl) _ _ _ _ e4,
    fin_of_all _ _ (fun _ => rfl) _ _ _ _ e5, fin_of_all _ _ (fun _ => rfl) _ _ _ _ e6⟩

/-- The head's reference's frame, at every memory. -/
theorem frame_reference5 : Cert.quiescent_Reference5Ideal := fun m ρ _ =>
  (θ_run Cert.Reference5Ideal.defs _ _).mono (fun r h => ⟨fun c => (h c).2.2.2.2.2.2, sem_eq_zero_of_no_sems rfl r.2⟩)
    (Cert.Reference5Ideal.Value.run m ρ)

section
open Cert.Reference5Ideal.Value
/-- The head's kernel and the derivative of its forward lines agree on real arrays: the loss and the five gradients. -/
theorem head : Cert.algebraic_Kernel5Ideal_Reference5Ideal_pre_finite5 := by
  intro m g m' g' hpre hagree
  refine ⟨fun c => _, fun c => _, fun c => _, fun c => _, fun c => _, fun c => _, Cert.Kernel5Ideal.Value.run_blocks m g, ?_⟩
  refine (θ_run Cert.Reference5Ideal.defs _ _).mono (fun r h c => ?_) (Cert.Reference5Ideal.Value.run m' g')
  obtain ⟨r0, r1, r2, r3, r4, r5, ra⟩ := h c
  obtain ⟨h0, h1, h2, h3, h4, h5⟩ := hagree c
  have H := real_of_pre5 m hpre c
  refine ⟨r0.trans ((res_loss m' c).trans ?_), r1.trans ((res_dy m' c).trans ?_), r2.trans ((res_dz m' c).trans ?_),
    r3.trans ((res_dmx m' c).trans ?_), r4.trans ((res_dfg m' c).trans ?_), r5.trans ((res_dgt m' c).trans ?_), ra⟩
  all_goals
    unfold aM aW aX aT aG aF
    rw [h0, h1, h2, h3, h4, h5]
  · exact (Cert.Kernel5Ideal.Value.final_6 m c H).symm
  · exact (Cert.Kernel5Ideal.Value.final_7 m c H).symm
  · exact (Cert.Kernel5Ideal.Value.final_8 m c H).symm
  · exact (Cert.Kernel5Ideal.Value.final_9 m c H).symm
  · exact (Cert.Kernel5Ideal.Value.final_10 m c).symm
  · exact (Cert.Kernel5Ideal.Value.final_11 m c H).symm
end

/-- The joined branches' reference's frame, at every memory. -/
theorem frame_reference6 : Cert.quiescent_Reference6Ideal := fun m ρ _ =>
  (θ_run Cert.Reference6Ideal.defs _ _).mono (fun r h => ⟨fun c => (h c).2, sem_eq_zero_of_no_sems rfl r.2⟩)
    (Cert.Reference6Ideal.Value.run m ρ)

/-- The kernel that gates, norms and joins the branches agrees with the forward lines, on all arrays. -/
theorem joined : Cert.algebraic_Kernel6Ideal_Reference6Ideal := by
  intro m g m' g' _ hagree
  refine ⟨fun c => _, Cert.Kernel6Ideal.Value.run_blocks m g, ?_⟩
  refine (θ_run Cert.Reference6Ideal.defs _ _).mono (fun r h c => ?_) (Cert.Reference6Ideal.Value.run m' g')
  obtain ⟨r0, ra⟩ := h c
  obtain ⟨h0, h1, h2, h3⟩ := hagree c
  refine ⟨r0.trans ?_, ra⟩
  rw [h0, h1, h2, h3]; exact (Cert.Kernel6Ideal.Value.final_5 m c).symm

/-- The adaptive norm's reference's frame, at every memory. -/
theorem frame_reference7 : Cert.quiescent_Reference7Ideal := fun m ρ _ =>
  (θ_run Cert.Reference7Ideal.defs _ _).mono (fun r h => ⟨fun c => (h c).2, sem_eq_zero_of_no_sems rfl r.2⟩)
    (Cert.Reference7Ideal.Value.run m ρ)

/-- The adaptive norm's kernel agrees with the forward lines, on all arrays. -/
theorem normed : Cert.algebraic_Kernel7Ideal_Reference7Ideal := by
  intro m g m' g' _ hagree
  refine ⟨fun c => _, Cert.Kernel7Ideal.Value.run_blocks m g, ?_⟩
  refine (θ_run Cert.Reference7Ideal.defs _ _).mono (fun r h c => ?_) (Cert.Reference7Ideal.Value.run m' g')
  obtain ⟨r0, ra⟩ := h c
  obtain ⟨h0, h1, h2, h3⟩ := hagree c
  refine ⟨r0.trans ?_, ra⟩
  rw [h0, h1, h2, h3]; exact (Cert.Kernel7Ideal.Value.final_4 m c).symm

/-- The modulation: the reference's frame, at every memory. -/
theorem frame_reference11 : Cert.quiescent_Reference11Ideal := fun m ρ _ =>
  (θ_run Cert.Reference11Ideal.defs _ _).mono (fun r h => ⟨fun c => (h c).2, sem_eq_zero_of_no_sems rfl r.2⟩)
    (Cert.Reference11Ideal.Value.run m ρ)

/-- The modulation: the kernel agrees with the reference, on all arrays. -/
theorem modulated : Cert.algebraic_Kernel11Ideal_Reference11Ideal := by
  intro m g m' g' _ hagree
  refine ⟨fun c => _, Cert.Kernel11Ideal.Value.run_blocks m g, ?_⟩
  refine (θ_run Cert.Reference11Ideal.defs _ _).mono (fun r h c => ?_) (Cert.Reference11Ideal.Value.run m' g')
  obtain ⟨r0, ra⟩ := h c
  obtain ⟨h0, h1, h2⟩ := hagree c
  refine ⟨r0.trans ?_, ra⟩
  rw [h0, h1, h2]; exact (Cert.Kernel11Ideal.Value.final_3 m c).symm

/-- The weight gradient: the reference's frame, at every memory. -/
theorem frame_reference13 : Cert.quiescent_Reference13Ideal := fun m ρ _ =>
  (θ_run Cert.Reference13Ideal.defs _ _).mono (fun r h => ⟨fun c => (h c).2, sem_eq_zero_of_no_sems rfl r.2⟩)
    (Cert.Reference13Ideal.Value.run m ρ)

/-- The weight gradient: the kernel agrees with the reference, on all arrays. -/
theorem weighed : Cert.algebraic_Kernel13Ideal_Reference13Ideal := by
  intro m g m' g' _ hagree
  refine ⟨fun c => _, Cert.Kernel13Ideal.Value.run_blocks m g, ?_⟩
  refine (θ_run Cert.Reference13Ideal.defs _ _).mono (fun r h c => ?_) (Cert.Reference13Ideal.Value.run m' g')
  obtain ⟨r0, ra⟩ := h c
  obtain ⟨h0, h1⟩ := hagree c
  refine ⟨r0.trans ?_, ra⟩
  rw [h0, h1]; exact (Cert.Kernel13Ideal.Value.final_2 m c).symm

/-- The projection's gradient: the reference's frame, at every memory. -/
theorem frame_reference15 : Cert.quiescent_Reference15Ideal := fun m ρ _ =>
  (θ_run Cert.Reference15Ideal.defs _ _).mono (fun r h => ⟨fun c => (h c).2, sem_eq_zero_of_no_sems rfl r.2⟩)
    (Cert.Reference15Ideal.Value.run m ρ)

/-- The projection's gradient: the kernel agrees with the reference, on all arrays. -/
theorem projected : Cert.algebraic_Kernel15Ideal_Reference15Ideal := by
  intro m g m' g' _ hagree
  refine ⟨fun c => _, Cert.Kernel15Ideal.Value.run_blocks m g, ?_⟩
  refine (θ_run Cert.Reference15Ideal.defs _ _).mono (fun r h c => ?_) (Cert.Reference15Ideal.Value.run m' g')
  obtain ⟨r0, ra⟩ := h c
  obtain ⟨h0, h1, h2, h3, h4, h5, h6, h7⟩ := hagree c
  refine ⟨r0.trans ?_, ra⟩
  rw [h0, h1, h2, h3, h4, h5, h6, h7]; exact (Cert.Kernel15Ideal.Value.final_9 m c).symm

/-- The optimiser's step: the reference's frame, at every memory. -/
theorem frame_reference16 : Cert.quiescent_Reference16Ideal := fun m ρ _ =>
  (θ_run Cert.Reference16Ideal.defs _ _).mono (fun r h => ⟨fun c => (h c).2.2.2.2, sem_eq_zero_of_no_sems rfl r.2⟩)
    (Cert.Reference16Ideal.Value.run m ρ)

/-- The optimiser's step: the kernel agrees with the reference, on all arrays. -/
theorem stepped : Cert.algebraic_Kernel16Ideal_Reference16Ideal := by
  intro m g m' g' _ hagree
  refine ⟨fun c => _, fun c => _, fun c => _, fun c => _, Cert.Kernel16Ideal.Value.run_blocks m g, ?_⟩
  refine (θ_run Cert.Reference16Ideal.defs _ _).mono (fun r h c => ?_) (Cert.Reference16Ideal.Value.run m' g')
  obtain ⟨r0, r1, r2, r3, ra⟩ := h c
  obtain ⟨h0, h1, h2, h3⟩ := hagree c
  refine ⟨r0.trans ?_, r1.trans ?_, r2.trans ?_, r3.trans ?_, ra⟩
  · rw [h1]; exact (Cert.Kernel16Ideal.Value.final_4 m c).symm
  · rw [h0, h1, h2, h3]; exact (Cert.Kernel16Ideal.Value.final_5 m c).symm
  · rw [h1, h2]; exact (Cert.Kernel16Ideal.Value.final_6 m c).symm
  · rw [h1, h3]; exact (Cert.Kernel16Ideal.Value.final_7 m c).symm

/-- The modulation weight's gradient: the reference's frame, at every memory. -/
theorem frame_reference17 : Cert.quiescent_Reference17Ideal := fun m ρ _ =>
  (θ_run Cert.Reference17Ideal.defs _ _).mono (fun r h => ⟨fun c => (h c).2, sem_eq_zero_of_no_sems rfl r.2⟩)
    (Cert.Reference17Ideal.Value.run m ρ)

/-- The modulation weight's gradient: the kernel agrees with the reference, on all arrays. -/
theorem shifted : Cert.algebraic_Kernel17Ideal_Reference17Ideal := by
  intro m g m' g' _ hagree
  refine ⟨fun c => _, Cert.Kernel17Ideal.Value.run_blocks m g, ?_⟩
  refine (θ_run Cert.Reference17Ideal.defs _ _).mono (fun r h c => ?_) (Cert.Reference17Ideal.Value.run m' g')
  obtain ⟨r0, ra⟩ := h c
  obtain ⟨h0, h1⟩ := hagree c
  refine ⟨r0.trans ?_, ra⟩
  rw [h0, h1]; exact (Cert.Kernel17Ideal.Value.final_2 m c).symm

theorem claim : Cert.Claim := ⟨Cert.Kernel4.Gen.facts, Cert.Kernel4Ideal.Gen.facts, Cert.Reference4Ideal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel11.Gen.facts, Cert.Kernel11Ideal.Gen.facts, Cert.Reference11Ideal.Gen.facts,
  Cert.Kernel13.Gen.facts, Cert.Kernel13Ideal.Gen.facts, Cert.Reference13Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel.Gen.facts,
  Cert.KernelIdeal.Gen.facts, Cert.ReferenceIdeal.Gen.facts, Cert.Pre_finite4.Gen.facts, Cert.Pre_finite2.Gen.facts, Cert.Pre_finite3.Gen.facts, Cert.Pre_finite5.Gen.facts, Cert.Pre_finite.Gen.facts,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel11.Gen.frame m ρ, fun m ρ _ => Cert.Kernel11Ideal.Gen.frame m ρ, frame_reference11,
  fun m ρ _ => Cert.Kernel13.Gen.frame m ρ, fun m ρ _ => Cert.Kernel13Ideal.Gen.frame m ρ, frame_reference13,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, named, fwd, trivial, fox, trivial, mix, trivial, head, trivial, joined, trivial, normed, trivial, modulated, trivial, weighed, trivial, projected, trivial, stepped, trivial, shifted, trivial, adaln⟩

end Cert.Proof

end
